-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelZ (m : (ℓ : Loc Cert.KernelZ.nD Cert.KernelZ.τ Cert.KernelZ.sig) → Buf (Elt Bits) ℓ) : Prop :=
  True

def Pre_KernelZIdeal (m : (ℓ : Loc Cert.KernelZIdeal.nD Cert.KernelZIdeal.τ Cert.KernelZIdeal.sig) → Buf (Elt Ideal) ℓ) : Prop :=
  True

def Pre_KernelZIdeal_finite_h [hPre_finite_h : Cert.Pre_finite_h.Facts] (m : (ℓ : Loc Cert.KernelZIdeal.nD Cert.KernelZIdeal.τ Cert.KernelZIdeal.sig) → Buf (Elt Ideal) ℓ) : Prop :=
  ∀ c : Dev Cert.KernelZIdeal.nD,
    (Cert.Pre_finite_h.fn (F := Ideal) (m ((c.tc : Thread Cert.KernelZIdeal.nD Cert.KernelZIdeal.τ).loc Cert.KernelZIdeal.main_arg0)) (m ((c.tc : Thread Cert.KernelZIdeal.nD Cert.KernelZIdeal.τ).loc Cert.KernelZIdeal.main_arg1))).1 = (fun _ => 1#1)
    ∧ (Cert.Pre_finite_h.fn (F := Ideal) (m ((c.tc : Thread Cert.KernelZIdeal.nD Cert.KernelZIdeal.τ).loc Cert.KernelZIdeal.main_arg0)) (m ((c.tc : Thread Cert.KernelZIdeal.nD Cert.KernelZIdeal.τ).loc Cert.KernelZIdeal.main_arg1))).2 = (fun _ => 1#1)

def Pre_ReferenceZIdeal (m : (ℓ : Loc Cert.ReferenceZIdeal.nD Cert.ReferenceZIdeal.τ Cert.ReferenceZIdeal.sig) → Buf (Elt Ideal) ℓ) : Prop :=
  True

def Pre_ReferenceZIdeal_finite_h [hPre_finite_h : Cert.Pre_finite_h.Facts] (m : (ℓ : Loc Cert.ReferenceZIdeal.nD Cert.ReferenceZIdeal.τ Cert.ReferenceZIdeal.sig) → Buf (Elt Ideal) ℓ) : Prop :=
  ∀ c : Dev Cert.ReferenceZIdeal.nD,
    (Cert.Pre_finite_h.fn (F := Ideal) (m ((c.tc : Thread Cert.ReferenceZIdeal.nD Cert.ReferenceZIdeal.τ).loc Cert.ReferenceZIdeal.main_arg0)) (m ((c.tc : Thread Cert.ReferenceZIdeal.nD Cert.ReferenceZIdeal.τ).loc Cert.ReferenceZIdeal.main_arg1))).1 = (fun _ => 1#1)
    ∧ (Cert.Pre_finite_h.fn (F := Ideal) (m ((c.tc : Thread Cert.ReferenceZIdeal.nD Cert.ReferenceZIdeal.τ).loc Cert.ReferenceZIdeal.main_arg0)) (m ((c.tc : Thread Cert.ReferenceZIdeal.nD Cert.ReferenceZIdeal.τ).loc Cert.ReferenceZIdeal.main_arg1))).2 = (fun _ => 1#1)

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_KernelGateIdeal_finite_h [hPre_finite_h : Cert.Pre_finite_h.Facts] (m : (ℓ : Loc Cert.KernelGateIdeal.nD Cert.KernelGateIdeal.τ Cert.KernelGateIdeal.sig) → Buf (Elt Ideal) ℓ) : Prop :=
  ∀ c : Dev Cert.KernelGateIdeal.nD,
    (Cert.Pre_finite_h.fn (F := Ideal) (m ((c.tc : Thread Cert.KernelGateIdeal.nD Cert.KernelGateIdeal.τ).loc Cert.KernelGateIdeal.main_arg0)) (m ((c.tc : Thread Cert.KernelGateIdeal.nD Cert.KernelGateIdeal.τ).loc Cert.KernelGateIdeal.main_arg1))).1 = (fun _ => 1#1)
    ∧ (Cert.Pre_finite_h.fn (F := Ideal) (m ((c.tc : Thread Cert.KernelGateIdeal.nD Cert.KernelGateIdeal.τ).loc Cert.KernelGateIdeal.main_arg0)) (m ((c.tc : Thread Cert.KernelGateIdeal.nD Cert.KernelGateIdeal.τ).loc Cert.KernelGateIdeal.main_arg1))).2 = (fun _ => 1#1)

def Pre_ReferenceGateIdeal (m : (ℓ : Loc Cert.ReferenceGateIdeal.nD Cert.ReferenceGateIdeal.τ Cert.ReferenceGateIdeal.sig) → Buf (Elt Ideal) ℓ) : Prop :=
  True

def Pre_ReferenceGateIdeal_finite_h [hPre_finite_h : Cert.Pre_finite_h.Facts] (m : (ℓ : Loc Cert.ReferenceGateIdeal.nD Cert.ReferenceGateIdeal.τ Cert.ReferenceGateIdeal.sig) → Buf (Elt Ideal) ℓ) : Prop :=
  ∀ c : Dev Cert.ReferenceGateIdeal.nD,
    (Cert.Pre_finite_h.fn (F := Ideal) (m ((c.tc : Thread Cert.ReferenceGateIdeal.nD Cert.ReferenceGateIdeal.τ).loc Cert.ReferenceGateIdeal.main_arg0)) (m ((c.tc : Thread Cert.ReferenceGateIdeal.nD Cert.ReferenceGateIdeal.τ).loc Cert.ReferenceGateIdeal.main_arg1))).1 = (fun _ => 1#1)
    ∧ (Cert.Pre_finite_h.fn (F := Ideal) (m ((c.tc : Thread Cert.ReferenceGateIdeal.nD Cert.ReferenceGateIdeal.τ).loc Cert.ReferenceGateIdeal.main_arg0)) (m ((c.tc : Thread Cert.ReferenceGateIdeal.nD Cert.ReferenceGateIdeal.τ).loc Cert.ReferenceGateIdeal.main_arg1))).2 = (fun _ => 1#1)

def Pre_KernelLn (m : (ℓ : Loc Cert.KernelLn.nD Cert.KernelLn.τ Cert.KernelLn.sig) → Buf (Elt Bits) ℓ) : Prop :=
  True

def Pre_KernelLnIdeal (m : (ℓ : Loc Cert.KernelLnIdeal.nD Cert.KernelLnIdeal.τ Cert.KernelLnIdeal.sig) → Buf (Elt Ideal) ℓ) : Prop :=
  True

def Pre_ReferenceLnIdeal (m : (ℓ : Loc Cert.ReferenceLnIdeal.nD Cert.ReferenceLnIdeal.τ Cert.ReferenceLnIdeal.sig) → Buf (Elt Ideal) ℓ) : Prop :=
  True

def Pre_KernelDt (m : (ℓ : Loc Cert.KernelDt.nD Cert.KernelDt.τ Cert.KernelDt.sig) → Buf (Elt Bits) ℓ) : Prop :=
  True

def Pre_KernelDtIdeal (m : (ℓ : Loc Cert.KernelDtIdeal.nD Cert.KernelDtIdeal.τ Cert.KernelDtIdeal.sig) → Buf (Elt Ideal) ℓ) : Prop :=
  True

def Pre_ReferenceDtIdeal (m : (ℓ : Loc Cert.ReferenceDtIdeal.nD Cert.ReferenceDtIdeal.τ Cert.ReferenceDtIdeal.sig) → Buf (Elt Ideal) ℓ) : Prop :=
  True

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_KernelActIdeal_finite_ln [hPre_finite_ln : Cert.Pre_finite_ln.Facts] (m : (ℓ : Loc Cert.KernelActIdeal.nD Cert.KernelActIdeal.τ Cert.KernelActIdeal.sig) → Buf (Elt Ideal) ℓ) : Prop :=
  ∀ c : Dev Cert.KernelActIdeal.nD,
    (Cert.Pre_finite_ln.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))).1 = (fun _ => 1#1)
    ∧ (Cert.Pre_finite_ln.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))).2 = (fun _ => 1#1)

def Pre_ReferenceActIdeal (m : (ℓ : Loc Cert.ReferenceActIdeal.nD Cert.ReferenceActIdeal.τ Cert.ReferenceActIdeal.sig) → Buf (Elt Ideal) ℓ) : Prop :=
  True

def Pre_ReferenceActIdeal_finite_ln [hPre_finite_ln : Cert.Pre_finite_ln.Facts] (m : (ℓ : Loc Cert.ReferenceActIdeal.nD Cert.ReferenceActIdeal.τ Cert.ReferenceActIdeal.sig) → Buf (Elt Ideal) ℓ) : Prop :=
  ∀ c : Dev Cert.ReferenceActIdeal.nD,
    (Cert.Pre_finite_ln.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))).1 = (fun _ => 1#1)
    ∧ (Cert.Pre_finite_ln.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))).2 = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1)
      ∧ r.2.mem ((c.tc : Thread Cert.KernelGates.nD Cert.KernelGates.τ).loc Cert.KernelGates.main_arg2) = m ((c.tc : Thread Cert.KernelGates.nD Cert.KernelGates.τ).loc Cert.KernelGates.main_arg2))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelZ [hKernelZ : Cert.KernelZ.Facts] : Prop :=
  ∀ (m : (ℓ : Loc Cert.KernelZ.nD Cert.KernelZ.τ Cert.KernelZ.sig) → Buf (Elt Bits) ℓ) (g : Dev Cert.KernelZ.nD → PrngReg), Pre_KernelZ m →
    θ_run (Cert.KernelZ.defs (F := Bits)) (onTc (τ := Cert.KernelZ.τ) (Cert.KernelZ.main (F := Bits))) ⟨m, fun _ => 0, g⟩ (fun r => (∀ c : Dev Cert.KernelZ.nD,
      r.2.mem ((c.tc : Thread Cert.KernelZ.nD Cert.KernelZ.τ).loc Cert.KernelZ.main_arg0) = m ((c.tc : Thread Cert.KernelZ.nD Cert.KernelZ.τ).loc Cert.KernelZ.main_arg0)
      ∧ r.2.mem ((c.tc : Thread Cert.KernelZ.nD Cert.KernelZ.τ).loc Cert.KernelZ.main_arg1) = m ((c.tc : Thread Cert.KernelZ.nD Cert.KernelZ.τ).loc Cert.KernelZ.main_arg1))
      ∧ r.2.sem = fun _ => 0)

def quiescent_KernelZIdeal [hKernelZIdeal : Cert.KernelZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg), Pre_KernelZIdeal m →
    θ_run (Cert.KernelZIdeal.defs (F := Ideal)) (onTc (τ := Cert.KernelZIdeal.τ) (Cert.KernelZIdeal.main (F := Ideal))) ⟨m, fun _ => 0, g⟩ (fun r => (∀ c : Dev Cert.KernelZIdeal.nD,
      r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
      ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ r.2.sem = fun _ => 0)

def quiescent_KernelZIdeal_pre_finite_h [hKernelZIdeal : Cert.KernelZIdeal.Facts] [hPre_finite_h : Cert.Pre_finite_h.Facts] : Prop :=
  ∀ (m : (ℓ : Loc Cert.KernelZIdeal.nD Cert.KernelZIdeal.τ Cert.KernelZIdeal.sig) → Buf (Elt Ideal) ℓ) (g : Dev Cert.KernelZIdeal.nD → PrngReg), Pre_KernelZIdeal_finite_h m →
    θ_run (Cert.KernelZIdeal.defs (F := Ideal)) (onTc (τ := Cert.KernelZIdeal.τ) (Cert.KernelZIdeal.main (F := Ideal))) ⟨m, fun _ => 0, g⟩ (fun r => (∀ c : Dev Cert.KernelZIdeal.nD,
      r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
      ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ r.2.sem = fun _ => 0)

def quiescent_ReferenceZIdeal [hReferenceZIdeal : Cert.ReferenceZIdeal.Facts] : Prop :=
  ∀ (m : (ℓ : Loc Cert.ReferenceZIdeal.nD Cert.ReferenceZIdeal.τ Cert.ReferenceZIdeal.sig) → Buf (Elt Ideal) ℓ) (g : Dev Cert.ReferenceZIdeal.nD → PrngReg), Pre_ReferenceZIdeal m →
    θ_run (Cert.ReferenceZIdeal.defs (F := Ideal)) (onTc (τ := Cert.ReferenceZIdeal.τ) (Cert.ReferenceZIdeal.main (F := Ideal))) ⟨m, fun _ => 0, g⟩ (fun r => (∀ c : Dev Cert.ReferenceZIdeal.nD,
      r.2.mem ((c.tc : Thread Cert.ReferenceZIdeal.nD Cert.ReferenceZIdeal.τ).loc Cert.ReferenceZIdeal.main_arg0) = m ((c.tc : Thread Cert.ReferenceZIdeal.nD Cert.ReferenceZIdeal.τ).loc Cert.ReferenceZIdeal.main_arg0)
      ∧ r.2.mem ((c.tc : Thread Cert.ReferenceZIdeal.nD Cert.ReferenceZIdeal.τ).loc Cert.ReferenceZIdeal.main_arg1) = m ((c.tc : Thread Cert.ReferenceZIdeal.nD Cert.ReferenceZIdeal.τ).loc Cert.ReferenceZIdeal.main_arg1))
      ∧ r.2.sem = fun _ => 0)

def quiescent_ReferenceZIdeal_pre_finite_h [hReferenceZIdeal : Cert.ReferenceZIdeal.Facts] [hPre_finite_h : Cert.Pre_finite_h.Facts] : Prop :=
  ∀ (m : (ℓ : Loc Cert.ReferenceZIdeal.nD Cert.ReferenceZIdeal.τ Cert.ReferenceZIdeal.sig) → Buf (Elt Ideal) ℓ) (g : Dev Cert.ReferenceZIdeal.nD → PrngReg), Pre_ReferenceZIdeal_finite_h m →
    θ_run (Cert.ReferenceZIdeal.defs (F := Ideal)) (onTc (τ := Cert.ReferenceZIdeal.τ) (Cert.ReferenceZIdeal.main (F := Ideal))) ⟨m, fun _ => 0, g⟩ (fun r => (∀ c : Dev Cert.ReferenceZIdeal.nD,
      r.2.mem ((c.tc : Thread Cert.ReferenceZIdeal.nD Cert.ReferenceZIdeal.τ).loc Cert.ReferenceZIdeal.main_arg0) = m ((c.tc : Thread Cert.ReferenceZIdeal.nD Cert.ReferenceZIdeal.τ).loc Cert.ReferenceZIdeal.main_arg0)
      ∧ r.2.mem ((c.tc : Thread Cert.ReferenceZIdeal.nD Cert.ReferenceZIdeal.τ).loc Cert.ReferenceZIdeal.main_arg1) = m ((c.tc : Thread Cert.ReferenceZIdeal.nD Cert.ReferenceZIdeal.τ).loc Cert.ReferenceZIdeal.main_arg1))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_KernelGateIdeal_pre_finite_h [hKernelGateIdeal : Cert.KernelGateIdeal.Facts] [hPre_finite_h : Cert.Pre_finite_h.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal_finite_h m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_ReferenceGateIdeal_pre_finite_h [hReferenceGateIdeal : Cert.ReferenceGateIdeal.Facts] [hPre_finite_h : Cert.Pre_finite_h.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal_finite_h m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_KernelLn [hKernelLn : Cert.KernelLn.Facts] : Prop :=
  ∀ (m : (ℓ : Loc Cert.KernelLn.nD Cert.KernelLn.τ Cert.KernelLn.sig) → Buf (Elt Bits) ℓ) (g : Dev Cert.KernelLn.nD → PrngReg), Pre_KernelLn m →
    θ_run (Cert.KernelLn.defs (F := Bits)) (onTc (τ := Cert.KernelLn.τ) (Cert.KernelLn.main (F := Bits))) ⟨m, fun _ => 0, g⟩ (fun r => (∀ c : Dev Cert.KernelLn.nD,
      r.2.mem ((c.tc : Thread Cert.KernelLn.nD Cert.KernelLn.τ).loc Cert.KernelLn.main_arg0) = m ((c.tc : Thread Cert.KernelLn.nD Cert.KernelLn.τ).loc Cert.KernelLn.main_arg0)
      ∧ r.2.mem ((c.tc : Thread Cert.KernelLn.nD Cert.KernelLn.τ).loc Cert.KernelLn.main_arg1) = m ((c.tc : Thread Cert.KernelLn.nD Cert.KernelLn.τ).loc Cert.KernelLn.main_arg1)
      ∧ r.2.mem ((c.tc : Thread Cert.KernelLn.nD Cert.KernelLn.τ).loc Cert.KernelLn.main_arg2) = m ((c.tc : Thread Cert.KernelLn.nD Cert.KernelLn.τ).loc Cert.KernelLn.main_arg2)
      ∧ r.2.mem ((c.tc : Thread Cert.KernelLn.nD Cert.KernelLn.τ).loc Cert.KernelLn.main_arg3) = m ((c.tc : Thread Cert.KernelLn.nD Cert.KernelLn.τ).loc Cert.KernelLn.main_arg3)
      ∧ r.2.mem ((c.tc : Thread Cert.KernelLn.nD Cert.KernelLn.τ).loc Cert.KernelLn.main_arg4) = m ((c.tc : Thread Cert.KernelLn.nD Cert.KernelLn.τ).loc Cert.KernelLn.main_arg4)
      ∧ r.2.mem ((c.tc : Thread Cert.KernelLn.nD Cert.KernelLn.τ).loc Cert.KernelLn.main_arg5) = m ((c.tc : Thread Cert.KernelLn.nD Cert.KernelLn.τ).loc Cert.KernelLn.main_arg5))
      ∧ r.2.sem = fun _ => 0)

def quiescent_KernelLnIdeal [hKernelLnIdeal : Cert.KernelLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
      ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3)
      ∧ r.2.mem ((c.tc : Thread Cert.KernelLnIdeal.nD Cert.KernelLnIdeal.τ).loc Cert.KernelLnIdeal.main_arg4) = m ((c.tc : Thread Cert.KernelLnIdeal.nD Cert.KernelLnIdeal.τ).loc Cert.KernelLnIdeal.main_arg4)
      ∧ r.2.mem ((c.tc : Thread Cert.KernelLnIdeal.nD Cert.KernelLnIdeal.τ).loc Cert.KernelLnIdeal.main_arg5) = m ((c.tc : Thread Cert.KernelLnIdeal.nD Cert.KernelLnIdeal.τ).loc Cert.KernelLnIdeal.main_arg5))
      ∧ r.2.sem = fun _ => 0)

def quiescent_ReferenceLnIdeal [hReferenceLnIdeal : Cert.ReferenceLnIdeal.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2)
      ∧ r.2.mem ((c.tc : Thread Cert.ReferenceLnIdeal.nD Cert.ReferenceLnIdeal.τ).loc Cert.ReferenceLnIdeal.main_arg3) = m ((c.tc : Thread Cert.ReferenceLnIdeal.nD Cert.ReferenceLnIdeal.τ).loc Cert.ReferenceLnIdeal.main_arg3)
      ∧ r.2.mem ((c.tc : Thread Cert.ReferenceLnIdeal.nD Cert.ReferenceLnIdeal.τ).loc Cert.ReferenceLnIdeal.main_arg4) = m ((c.tc : Thread Cert.ReferenceLnIdeal.nD Cert.ReferenceLnIdeal.τ).loc Cert.ReferenceLnIdeal.main_arg4)
      ∧ r.2.mem ((c.tc : Thread Cert.ReferenceLnIdeal.nD Cert.ReferenceLnIdeal.τ).loc Cert.ReferenceLnIdeal.main_arg5) = m ((c.tc : Thread Cert.ReferenceLnIdeal.nD Cert.ReferenceLnIdeal.τ).loc Cert.ReferenceLnIdeal.main_arg5))
      ∧ r.2.sem = fun _ => 0)

def quiescent_KernelDt [hKernelDt : Cert.KernelDt.Facts] : Prop :=
  ∀ (m : (ℓ : Loc Cert.KernelDt.nD Cert.KernelDt.τ Cert.KernelDt.sig) → Buf (Elt Bits) ℓ) (g : Dev Cert.KernelDt.nD → PrngReg), Pre_KernelDt m →
    θ_run (Cert.KernelDt.defs (F := Bits)) (onTc (τ := Cert.KernelDt.τ) (Cert.KernelDt.main (F := Bits))) ⟨m, fun _ => 0, g⟩ (fun r => (∀ c : Dev Cert.KernelDt.nD,
      r.2.mem ((c.tc : Thread Cert.KernelDt.nD Cert.KernelDt.τ).loc Cert.KernelDt.main_arg0) = m ((c.tc : Thread Cert.KernelDt.nD Cert.KernelDt.τ).loc Cert.KernelDt.main_arg0)
      ∧ r.2.mem ((c.tc : Thread Cert.KernelDt.nD Cert.KernelDt.τ).loc Cert.KernelDt.main_arg1) = m ((c.tc : Thread Cert.KernelDt.nD Cert.KernelDt.τ).loc Cert.KernelDt.main_arg1)
      ∧ r.2.mem ((c.tc : Thread Cert.KernelDt.nD Cert.KernelDt.τ).loc Cert.KernelDt.main_arg2) = m ((c.tc : Thread Cert.KernelDt.nD Cert.KernelDt.τ).loc Cert.KernelDt.main_arg2))
      ∧ r.2.sem = fun _ => 0)

def quiescent_KernelDtIdeal [hKernelDtIdeal : Cert.KernelDtIdeal.Facts] : Prop :=
  ∀ (m : (ℓ : Loc Cert.KernelDtIdeal.nD Cert.KernelDtIdeal.τ Cert.KernelDtIdeal.sig) → Buf (Elt Ideal) ℓ) (g : Dev Cert.KernelDtIdeal.nD → PrngReg), Pre_KernelDtIdeal m →
    θ_run (Cert.KernelDtIdeal.defs (F := Ideal)) (onTc (τ := Cert.KernelDtIdeal.τ) (Cert.KernelDtIdeal.main (F := Ideal))) ⟨m, fun _ => 0, g⟩ (fun r => (∀ c : Dev Cert.KernelDtIdeal.nD,
      r.2.mem ((c.tc : Thread Cert.KernelDtIdeal.nD Cert.KernelDtIdeal.τ).loc Cert.KernelDtIdeal.main_arg0) = m ((c.tc : Thread Cert.KernelDtIdeal.nD Cert.KernelDtIdeal.τ).loc Cert.KernelDtIdeal.main_arg0)
      ∧ r.2.mem ((c.tc : Thread Cert.KernelDtIdeal.nD Cert.KernelDtIdeal.τ).loc Cert.KernelDtIdeal.main_arg1) = m ((c.tc : Thread Cert.KernelDtIdeal.nD Cert.KernelDtIdeal.τ).loc Cert.KernelDtIdeal.main_arg1)
      ∧ r.2.mem ((c.tc : Thread Cert.KernelDtIdeal.nD Cert.KernelDtIdeal.τ).loc Cert.KernelDtIdeal.main_arg2) = m ((c.tc : Thread Cert.KernelDtIdeal.nD Cert.KernelDtIdeal.τ).loc Cert.KernelDtIdeal.main_arg2))
      ∧ r.2.sem = fun _ => 0)

def quiescent_ReferenceDtIdeal [hReferenceDtIdeal : Cert.ReferenceDtIdeal.Facts] : Prop :=
  ∀ (m : (ℓ : Loc Cert.ReferenceDtIdeal.nD Cert.ReferenceDtIdeal.τ Cert.ReferenceDtIdeal.sig) → Buf (Elt Ideal) ℓ) (g : Dev Cert.ReferenceDtIdeal.nD → PrngReg), Pre_ReferenceDtIdeal m →
    θ_run (Cert.ReferenceDtIdeal.defs (F := Ideal)) (onTc (τ := Cert.ReferenceDtIdeal.τ) (Cert.ReferenceDtIdeal.main (F := Ideal))) ⟨m, fun _ => 0, g⟩ (fun r => (∀ c : Dev Cert.ReferenceDtIdeal.nD,
      r.2.mem ((c.tc : Thread Cert.ReferenceDtIdeal.nD Cert.ReferenceDtIdeal.τ).loc Cert.ReferenceDtIdeal.main_arg0) = m ((c.tc : Thread Cert.ReferenceDtIdeal.nD Cert.ReferenceDtIdeal.τ).loc Cert.ReferenceDtIdeal.main_arg0)
      ∧ r.2.mem ((c.tc : Thread Cert.ReferenceDtIdeal.nD Cert.ReferenceDtIdeal.τ).loc Cert.ReferenceDtIdeal.main_arg1) = m ((c.tc : Thread Cert.ReferenceDtIdeal.nD Cert.ReferenceDtIdeal.τ).loc Cert.ReferenceDtIdeal.main_arg1)
      ∧ r.2.mem ((c.tc : Thread Cert.ReferenceDtIdeal.nD Cert.ReferenceDtIdeal.τ).loc Cert.ReferenceDtIdeal.main_arg2) = m ((c.tc : Thread Cert.ReferenceDtIdeal.nD Cert.ReferenceDtIdeal.τ).loc Cert.ReferenceDtIdeal.main_arg2))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2)
      ∧ r.2.mem ((c.tc : Thread Cert.KernelAct.nD Cert.KernelAct.τ).loc Cert.KernelAct.main_arg3) = m ((c.tc : Thread Cert.KernelAct.nD Cert.KernelAct.τ).loc Cert.KernelAct.main_arg3))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_KernelActIdeal_pre_finite_ln [hKernelActIdeal : Cert.KernelActIdeal.Facts] [hPre_finite_ln : Cert.Pre_finite_ln.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal_finite_ln m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_ReferenceActIdeal_pre_finite_ln [hReferenceActIdeal : Cert.ReferenceActIdeal.Facts] [hPre_finite_ln : Cert.Pre_finite_ln.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal_finite_ln m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)
      ∧ m' ((c.tc : Thread Cert.ReferenceGatesIdeal.nD Cert.ReferenceGatesIdeal.τ).loc Cert.ReferenceGatesIdeal.main_arg2) = m ((c.tc : Thread Cert.KernelGatesIdeal.nD Cert.KernelGatesIdeal.τ).loc Cert.KernelGatesIdeal.main_arg2)) →
    ∃ (v0 : (c : Dev Cert.KernelGatesIdeal.nD) → Buf (Elt Ideal) ((c.tc : Thread Cert.KernelGatesIdeal.nD Cert.KernelGatesIdeal.τ).loc Cert.KernelGatesIdeal.main_v6)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v6) = v0 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
          ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v15) = v0 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1)
          ∧ r.2.mem ((c.tc : Thread Cert.ReferenceGatesIdeal.nD Cert.ReferenceGatesIdeal.τ).loc Cert.ReferenceGatesIdeal.main_arg2) = m' ((c.tc : Thread Cert.ReferenceGatesIdeal.nD Cert.ReferenceGatesIdeal.τ).loc Cert.ReferenceGatesIdeal.main_arg2))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)) →
    ∃ (v0 : (c : Dev Cert.KernelConvIdeal.nD) → Buf (Elt Ideal) ((c.tc : Thread Cert.KernelConvIdeal.nD Cert.KernelConvIdeal.τ).loc Cert.KernelConvIdeal.main_v5)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v5) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v6) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v3)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v3) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelZ_KernelZIdeal : Prop :=
  True

def algebraic_KernelZIdeal_ReferenceZIdeal_pre_finite_h [hKernelZIdeal : Cert.KernelZIdeal.Facts] [hReferenceZIdeal : Cert.ReferenceZIdeal.Facts] [hPre_finite_h : Cert.Pre_finite_h.Facts] : Prop :=
  ∀ (m : (ℓ : Loc Cert.KernelZIdeal.nD Cert.KernelZIdeal.τ Cert.KernelZIdeal.sig) → Buf (Elt Ideal) ℓ) (g : Dev Cert.KernelZIdeal.nD → PrngReg)
    (m' : (ℓ : Loc Cert.ReferenceZIdeal.nD Cert.ReferenceZIdeal.τ Cert.ReferenceZIdeal.sig) → Buf (Elt Ideal) ℓ) (g' : Dev Cert.ReferenceZIdeal.nD → PrngReg), Pre_KernelZIdeal_finite_h m →
    (∀ c : Dev Cert.KernelZIdeal.nD,
      m' ((c.tc : Thread Cert.ReferenceZIdeal.nD Cert.ReferenceZIdeal.τ).loc Cert.ReferenceZIdeal.main_arg0) = m ((c.tc : Thread Cert.KernelZIdeal.nD Cert.KernelZIdeal.τ).loc Cert.KernelZIdeal.main_arg0)
      ∧ m' ((c.tc : Thread Cert.ReferenceZIdeal.nD Cert.ReferenceZIdeal.τ).loc Cert.ReferenceZIdeal.main_arg1) = m ((c.tc : Thread Cert.KernelZIdeal.nD Cert.KernelZIdeal.τ).loc Cert.KernelZIdeal.main_arg1)) →
    ∃ (v0 : (c : Dev Cert.KernelZIdeal.nD) → Buf (Elt Ideal) ((c.tc : Thread Cert.KernelZIdeal.nD Cert.KernelZIdeal.τ).loc Cert.KernelZIdeal.main_v4)),
      θ_run (Cert.KernelZIdeal.defs (F := Ideal)) (onTc (τ := Cert.KernelZIdeal.τ) (Cert.KernelZIdeal.main (F := Ideal))) ⟨m, fun _ => 0, g⟩ (fun r => ∀ c : Dev Cert.KernelZIdeal.nD,
          r.2.mem ((c.tc : Thread Cert.KernelZIdeal.nD Cert.KernelZIdeal.τ).loc Cert.KernelZIdeal.main_v4) = v0 c
          ∧ r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
          ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ θ_run (Cert.ReferenceZIdeal.defs (F := Ideal)) (onTc (τ := Cert.ReferenceZIdeal.τ) (Cert.ReferenceZIdeal.main (F := Ideal))) ⟨m', fun _ => 0, g'⟩ (fun r => ∀ c : Dev Cert.ReferenceZIdeal.nD,
          r.2.mem ((c.tc : Thread Cert.ReferenceZIdeal.nD Cert.ReferenceZIdeal.τ).loc Cert.ReferenceZIdeal.main_v6) = v0 c
          ∧ r.2.mem ((c.tc : Thread Cert.ReferenceZIdeal.nD Cert.ReferenceZIdeal.τ).loc Cert.ReferenceZIdeal.main_arg0) = m' ((c.tc : Thread Cert.ReferenceZIdeal.nD Cert.ReferenceZIdeal.τ).loc Cert.ReferenceZIdeal.main_arg0)
          ∧ r.2.mem ((c.tc : Thread Cert.ReferenceZIdeal.nD Cert.ReferenceZIdeal.τ).loc Cert.ReferenceZIdeal.main_arg1) = m' ((c.tc : Thread Cert.ReferenceZIdeal.nD Cert.ReferenceZIdeal.τ).loc Cert.ReferenceZIdeal.main_arg1))

def preserves_KernelGate_KernelGateIdeal : Prop :=
  True

def algebraic_KernelGateIdeal_ReferenceGateIdeal_pre_finite_h [hKernelGateIdeal : Cert.KernelGateIdeal.Facts] [hReferenceGateIdeal : Cert.ReferenceGateIdeal.Facts] [hPre_finite_h : Cert.Pre_finite_h.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal_finite_h m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)) →
    ∃ (v0 : (c : Dev Cert.KernelGateIdeal.nD) → Buf (Elt Ideal) ((c.tc : Thread Cert.KernelGateIdeal.nD Cert.KernelGateIdeal.τ).loc Cert.KernelGateIdeal.main_v4)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v4) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v6) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1))

def preserves_KernelLn_KernelLnIdeal : Prop :=
  True

def algebraic_KernelLnIdeal_ReferenceLnIdeal [hKernelLnIdeal : Cert.KernelLnIdeal.Facts] [hReferenceLnIdeal : Cert.ReferenceLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg)
    (m' : (ℓ : Loc Cert.ReferenceLnIdeal.nD Cert.ReferenceLnIdeal.τ Cert.ReferenceLnIdeal.sig) → Buf (Elt Ideal) ℓ) (g' : Dev Cert.ReferenceLnIdeal.nD → PrngReg), Pre_KernelLnIdeal m →
    (∀ c : Dev Cert.KernelLnIdeal.nD,
      m' ((c.tc : Thread Cert.ReferenceLnIdeal.nD Cert.ReferenceLnIdeal.τ).loc Cert.ReferenceLnIdeal.main_arg0) = m ((c.tc : Thread Cert.KernelLnIdeal.nD Cert.KernelLnIdeal.τ).loc Cert.KernelLnIdeal.main_arg0)
      ∧ m' ((c.tc : Thread Cert.ReferenceLnIdeal.nD Cert.ReferenceLnIdeal.τ).loc Cert.ReferenceLnIdeal.main_arg1) = m ((c.tc : Thread Cert.KernelLnIdeal.nD Cert.KernelLnIdeal.τ).loc Cert.KernelLnIdeal.main_arg1)
      ∧ m' ((c.tc : Thread Cert.ReferenceLnIdeal.nD Cert.ReferenceLnIdeal.τ).loc Cert.ReferenceLnIdeal.main_arg2) = m ((c.tc : Thread Cert.KernelLnIdeal.nD Cert.KernelLnIdeal.τ).loc Cert.KernelLnIdeal.main_arg2)
      ∧ m' ((c.tc : Thread Cert.ReferenceLnIdeal.nD Cert.ReferenceLnIdeal.τ).loc Cert.ReferenceLnIdeal.main_arg3) = m ((c.tc : Thread Cert.KernelLnIdeal.nD Cert.KernelLnIdeal.τ).loc Cert.KernelLnIdeal.main_arg3)
      ∧ m' ((c.tc : Thread Cert.ReferenceLnIdeal.nD Cert.ReferenceLnIdeal.τ).loc Cert.ReferenceLnIdeal.main_arg4) = m ((c.tc : Thread Cert.KernelLnIdeal.nD Cert.KernelLnIdeal.τ).loc Cert.KernelLnIdeal.main_arg4)
      ∧ m' ((c.tc : Thread Cert.ReferenceLnIdeal.nD Cert.ReferenceLnIdeal.τ).loc Cert.ReferenceLnIdeal.main_arg5) = m ((c.tc : Thread Cert.KernelLnIdeal.nD Cert.KernelLnIdeal.τ).loc Cert.KernelLnIdeal.main_arg5)) →
    ∃ (v0 : (c : Dev Cert.KernelLnIdeal.nD) → Buf (Elt Ideal) ((c.tc : Thread Cert.KernelLnIdeal.nD Cert.KernelLnIdeal.τ).loc Cert.KernelLnIdeal.main_v4)),
      θ_run (Cert.KernelLnIdeal.defs (F := Ideal)) (onTc (τ := Cert.KernelLnIdeal.τ) (Cert.KernelLnIdeal.main (F := Ideal))) ⟨m, fun _ => 0, g⟩ (fun r => ∀ c : Dev Cert.KernelLnIdeal.nD,
          r.2.mem ((c.tc : Thread Cert.KernelLnIdeal.nD Cert.KernelLnIdeal.τ).loc Cert.KernelLnIdeal.main_v4) = v0 c
          ∧ r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
          ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
          ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
          ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3)
          ∧ r.2.mem ((c.tc : Thread Cert.KernelLnIdeal.nD Cert.KernelLnIdeal.τ).loc Cert.KernelLnIdeal.main_arg4) = m ((c.tc : Thread Cert.KernelLnIdeal.nD Cert.KernelLnIdeal.τ).loc Cert.KernelLnIdeal.main_arg4)
          ∧ r.2.mem ((c.tc : Thread Cert.KernelLnIdeal.nD Cert.KernelLnIdeal.τ).loc Cert.KernelLnIdeal.main_arg5) = m ((c.tc : Thread Cert.KernelLnIdeal.nD Cert.KernelLnIdeal.τ).loc Cert.KernelLnIdeal.main_arg5))
      ∧ θ_run (Cert.ReferenceLnIdeal.defs (F := Ideal)) (onTc (τ := Cert.ReferenceLnIdeal.τ) (Cert.ReferenceLnIdeal.main (F := Ideal))) ⟨m', fun _ => 0, g'⟩ (fun r => ∀ c : Dev Cert.ReferenceLnIdeal.nD,
          r.2.mem ((c.tc : Thread Cert.ReferenceLnIdeal.nD Cert.ReferenceLnIdeal.τ).loc Cert.ReferenceLnIdeal.main_v50) = v0 c
          ∧ r.2.mem ((c.tc : Thread Cert.ReferenceLnIdeal.nD Cert.ReferenceLnIdeal.τ).loc Cert.ReferenceLnIdeal.main_arg0) = m' ((c.tc : Thread Cert.ReferenceLnIdeal.nD Cert.ReferenceLnIdeal.τ).loc Cert.ReferenceLnIdeal.main_arg0)
          ∧ r.2.mem ((c.tc : Thread Cert.ReferenceLnIdeal.nD Cert.ReferenceLnIdeal.τ).loc Cert.ReferenceLnIdeal.main_arg1) = m' ((c.tc : Thread Cert.ReferenceLnIdeal.nD Cert.ReferenceLnIdeal.τ).loc Cert.ReferenceLnIdeal.main_arg1)
          ∧ r.2.mem ((c.tc : Thread Cert.ReferenceLnIdeal.nD Cert.ReferenceLnIdeal.τ).loc Cert.ReferenceLnIdeal.main_arg2) = m' ((c.tc : Thread Cert.ReferenceLnIdeal.nD Cert.ReferenceLnIdeal.τ).loc Cert.ReferenceLnIdeal.main_arg2)
          ∧ r.2.mem ((c.tc : Thread Cert.ReferenceLnIdeal.nD Cert.ReferenceLnIdeal.τ).loc Cert.ReferenceLnIdeal.main_arg3) = m' ((c.tc : Thread Cert.ReferenceLnIdeal.nD Cert.ReferenceLnIdeal.τ).loc Cert.ReferenceLnIdeal.main_arg3)
          ∧ r.2.mem ((c.tc : Thread Cert.ReferenceLnIdeal.nD Cert.ReferenceLnIdeal.τ).loc Cert.ReferenceLnIdeal.main_arg4) = m' ((c.tc : Thread Cert.ReferenceLnIdeal.nD Cert.ReferenceLnIdeal.τ).loc Cert.ReferenceLnIdeal.main_arg4)
          ∧ r.2.mem ((c.tc : Thread Cert.ReferenceLnIdeal.nD Cert.ReferenceLnIdeal.τ).loc Cert.ReferenceLnIdeal.main_arg5) = m' ((c.tc : Thread Cert.ReferenceLnIdeal.nD Cert.ReferenceLnIdeal.τ).loc Cert.ReferenceLnIdeal.main_arg5))

def preserves_KernelDt_KernelDtIdeal : Prop :=
  True

def algebraic_KernelDtIdeal_ReferenceDtIdeal [hKernelDtIdeal : Cert.KernelDtIdeal.Facts] [hReferenceDtIdeal : Cert.ReferenceDtIdeal.Facts] : Prop :=
  ∀ (m : (ℓ : Loc Cert.KernelDtIdeal.nD Cert.KernelDtIdeal.τ Cert.KernelDtIdeal.sig) → Buf (Elt Ideal) ℓ) (g : Dev Cert.KernelDtIdeal.nD → PrngReg)
    (m' : (ℓ : Loc Cert.ReferenceDtIdeal.nD Cert.ReferenceDtIdeal.τ Cert.ReferenceDtIdeal.sig) → Buf (Elt Ideal) ℓ) (g' : Dev Cert.ReferenceDtIdeal.nD → PrngReg), Pre_KernelDtIdeal m →
    (∀ c : Dev Cert.KernelDtIdeal.nD,
      m' ((c.tc : Thread Cert.ReferenceDtIdeal.nD Cert.ReferenceDtIdeal.τ).loc Cert.ReferenceDtIdeal.main_arg0) = m ((c.tc : Thread Cert.KernelDtIdeal.nD Cert.KernelDtIdeal.τ).loc Cert.KernelDtIdeal.main_arg0)
      ∧ m' ((c.tc : Thread Cert.ReferenceDtIdeal.nD Cert.ReferenceDtIdeal.τ).loc Cert.ReferenceDtIdeal.main_arg1) = m ((c.tc : Thread Cert.KernelDtIdeal.nD Cert.KernelDtIdeal.τ).loc Cert.KernelDtIdeal.main_arg1)
      ∧ m' ((c.tc : Thread Cert.ReferenceDtIdeal.nD Cert.ReferenceDtIdeal.τ).loc Cert.ReferenceDtIdeal.main_arg2) = m ((c.tc : Thread Cert.KernelDtIdeal.nD Cert.KernelDtIdeal.τ).loc Cert.KernelDtIdeal.main_arg2)) →
    ∃ (v0 : (c : Dev Cert.KernelDtIdeal.nD) → Buf (Elt Ideal) ((c.tc : Thread Cert.KernelDtIdeal.nD Cert.KernelDtIdeal.τ).loc Cert.KernelDtIdeal.main_v8_0)) (v1 : (c : Dev Cert.KernelDtIdeal.nD) → Buf (Elt Ideal) ((c.tc : Thread Cert.KernelDtIdeal.nD Cert.KernelDtIdeal.τ).loc Cert.KernelDtIdeal.main_v8_1)),
      θ_run (Cert.KernelDtIdeal.defs (F := Ideal)) (onTc (τ := Cert.KernelDtIdeal.τ) (Cert.KernelDtIdeal.main (F := Ideal))) ⟨m, fun _ => 0, g⟩ (fun r => ∀ c : Dev Cert.KernelDtIdeal.nD,
          r.2.mem ((c.tc : Thread Cert.KernelDtIdeal.nD Cert.KernelDtIdeal.τ).loc Cert.KernelDtIdeal.main_v8_0) = v0 c
          ∧ r.2.mem ((c.tc : Thread Cert.KernelDtIdeal.nD Cert.KernelDtIdeal.τ).loc Cert.KernelDtIdeal.main_v8_1) = v1 c
          ∧ r.2.mem ((c.tc : Thread Cert.KernelDtIdeal.nD Cert.KernelDtIdeal.τ).loc Cert.KernelDtIdeal.main_arg0) = m ((c.tc : Thread Cert.KernelDtIdeal.nD Cert.KernelDtIdeal.τ).loc Cert.KernelDtIdeal.main_arg0)
          ∧ r.2.mem ((c.tc : Thread Cert.KernelDtIdeal.nD Cert.KernelDtIdeal.τ).loc Cert.KernelDtIdeal.main_arg1) = m ((c.tc : Thread Cert.KernelDtIdeal.nD Cert.KernelDtIdeal.τ).loc Cert.KernelDtIdeal.main_arg1)
          ∧ r.2.mem ((c.tc : Thread Cert.KernelDtIdeal.nD Cert.KernelDtIdeal.τ).loc Cert.KernelDtIdeal.main_arg2) = m ((c.tc : Thread Cert.KernelDtIdeal.nD Cert.KernelDtIdeal.τ).loc Cert.KernelDtIdeal.main_arg2))
      ∧ θ_run (Cert.ReferenceDtIdeal.defs (F := Ideal)) (onTc (τ := Cert.ReferenceDtIdeal.τ) (Cert.ReferenceDtIdeal.main (F := Ideal))) ⟨m', fun _ => 0, g'⟩ (fun r => ∀ c : Dev Cert.ReferenceDtIdeal.nD,
          r.2.mem ((c.tc : Thread Cert.ReferenceDtIdeal.nD Cert.ReferenceDtIdeal.τ).loc Cert.ReferenceDtIdeal.main_v9) = v0 c
          ∧ r.2.mem ((c.tc : Thread Cert.ReferenceDtIdeal.nD Cert.ReferenceDtIdeal.τ).loc Cert.ReferenceDtIdeal.main_v10) = v1 c
          ∧ r.2.mem ((c.tc : Thread Cert.ReferenceDtIdeal.nD Cert.ReferenceDtIdeal.τ).loc Cert.ReferenceDtIdeal.main_arg0) = m' ((c.tc : Thread Cert.ReferenceDtIdeal.nD Cert.ReferenceDtIdeal.τ).loc Cert.ReferenceDtIdeal.main_arg0)
          ∧ r.2.mem ((c.tc : Thread Cert.ReferenceDtIdeal.nD Cert.ReferenceDtIdeal.τ).loc Cert.ReferenceDtIdeal.main_arg1) = m' ((c.tc : Thread Cert.ReferenceDtIdeal.nD Cert.ReferenceDtIdeal.τ).loc Cert.ReferenceDtIdeal.main_arg1)
          ∧ r.2.mem ((c.tc : Thread Cert.ReferenceDtIdeal.nD Cert.ReferenceDtIdeal.τ).loc Cert.ReferenceDtIdeal.main_arg2) = m' ((c.tc : Thread Cert.ReferenceDtIdeal.nD Cert.ReferenceDtIdeal.τ).loc Cert.ReferenceDtIdeal.main_arg2))

def preserves_KernelAct_KernelActIdeal : Prop :=
  True

def algebraic_KernelActIdeal_ReferenceActIdeal_pre_finite_ln [hKernelActIdeal : Cert.KernelActIdeal.Facts] [hReferenceActIdeal : Cert.ReferenceActIdeal.Facts] [hPre_finite_ln : Cert.Pre_finite_ln.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal_finite_ln m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)
      ∧ m' ((c.tc : Thread Cert.ReferenceActIdeal.nD Cert.ReferenceActIdeal.τ).loc Cert.ReferenceActIdeal.main_arg3) = m ((c.tc : Thread Cert.KernelActIdeal.nD Cert.KernelActIdeal.τ).loc Cert.KernelActIdeal.main_arg3)) →
    ∃ (v0 : (c : Dev Cert.KernelActIdeal.nD) → Buf (Elt Ideal) ((c.tc : Thread Cert.KernelActIdeal.nD Cert.KernelActIdeal.τ).loc Cert.KernelActIdeal.main_v8)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v8) = v0 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
          ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v30) = v0 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2)
          ∧ r.2.mem ((c.tc : Thread Cert.ReferenceActIdeal.nD Cert.ReferenceActIdeal.τ).loc Cert.ReferenceActIdeal.main_arg3) = m' ((c.tc : Thread Cert.ReferenceActIdeal.nD Cert.ReferenceActIdeal.τ).loc Cert.ReferenceActIdeal.main_arg3))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v28) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def Claim : Prop :=
  ∃ (hKernel : Cert.Kernel.Facts) (hKernelIdeal : Cert.KernelIdeal.Facts) (hReferenceIdeal : Cert.ReferenceIdeal.Facts) (hKernelGates : Cert.KernelGates.Facts) (hKernelGatesIdeal : Cert.KernelGatesIdeal.Facts) (hReferenceGatesIdeal : Cert.ReferenceGatesIdeal.Facts) (hKernelConv : Cert.KernelConv.Facts) (hKernelConvIdeal : Cert.KernelConvIdeal.Facts) (hReferenceConvIdeal : Cert.ReferenceConvIdeal.Facts) (hKernelOut : Cert.KernelOut.Facts) (hKernelOutIdeal : Cert.KernelOutIdeal.Facts) (hReferenceOutIdeal : Cert.ReferenceOutIdeal.Facts) (hKernelZ : Cert.KernelZ.Facts) (hKernelZIdeal : Cert.KernelZIdeal.Facts) (hReferenceZIdeal : Cert.ReferenceZIdeal.Facts) (hKernelGate : Cert.KernelGate.Facts) (hKernelGateIdeal : Cert.KernelGateIdeal.Facts) (hReferenceGateIdeal : Cert.ReferenceGateIdeal.Facts) (hKernelLn : Cert.KernelLn.Facts) (hKernelLnIdeal : Cert.KernelLnIdeal.Facts) (hReferenceLnIdeal : Cert.ReferenceLnIdeal.Facts) (hKernelDt : Cert.KernelDt.Facts) (hKernelDtIdeal : Cert.KernelDtIdeal.Facts) (hReferenceDtIdeal : Cert.ReferenceDtIdeal.Facts) (hKernelAct : Cert.KernelAct.Facts) (hKernelActIdeal : Cert.KernelActIdeal.Facts) (hReferenceActIdeal : Cert.ReferenceActIdeal.Facts) (hKernelIn : Cert.KernelIn.Facts) (hKernelInIdeal : Cert.KernelInIdeal.Facts) (hReferenceInIdeal : Cert.ReferenceInIdeal.Facts) (hPre_finite_h : Cert.Pre_finite_h.Facts) (hPre_finite_ln : Cert.Pre_finite_ln.Facts),
    quiescent_Kernel (hKernel := hKernel)
    ∧ quiescent_KernelIdeal (hKernelIdeal := hKernelIdeal)
    ∧ quiescent_ReferenceIdeal (hReferenceIdeal := hReferenceIdeal)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelZ (hKernelZ := hKernelZ)
    ∧ quiescent_KernelZIdeal (hKernelZIdeal := hKernelZIdeal)
    ∧ quiescent_KernelZIdeal_pre_finite_h (hKernelZIdeal := hKernelZIdeal) (hPre_finite_h := hPre_finite_h)
    ∧ quiescent_ReferenceZIdeal (hReferenceZIdeal := hReferenceZIdeal)
    ∧ quiescent_ReferenceZIdeal_pre_finite_h (hReferenceZIdeal := hReferenceZIdeal) (hPre_finite_h := hPre_finite_h)
    ∧ quiescent_KernelGate (hKernelGate := hKernelGate)
    ∧ quiescent_KernelGateIdeal (hKernelGateIdeal := hKernelGateIdeal)
    ∧ quiescent_KernelGateIdeal_pre_finite_h (hKernelGateIdeal := hKernelGateIdeal) (hPre_finite_h := hPre_finite_h)
    ∧ quiescent_ReferenceGateIdeal (hReferenceGateIdeal := hReferenceGateIdeal)
    ∧ quiescent_ReferenceGateIdeal_pre_finite_h (hReferenceGateIdeal := hReferenceGateIdeal) (hPre_finite_h := hPre_finite_h)
    ∧ quiescent_KernelLn (hKernelLn := hKernelLn)
    ∧ quiescent_KernelLnIdeal (hKernelLnIdeal := hKernelLnIdeal)
    ∧ quiescent_ReferenceLnIdeal (hReferenceLnIdeal := hReferenceLnIdeal)
    ∧ quiescent_KernelDt (hKernelDt := hKernelDt)
    ∧ quiescent_KernelDtIdeal (hKernelDtIdeal := hKernelDtIdeal)
    ∧ quiescent_ReferenceDtIdeal (hReferenceDtIdeal := hReferenceDtIdeal)
    ∧ quiescent_KernelAct (hKernelAct := hKernelAct)
    ∧ quiescent_KernelActIdeal (hKernelActIdeal := hKernelActIdeal)
    ∧ quiescent_KernelActIdeal_pre_finite_ln (hKernelActIdeal := hKernelActIdeal) (hPre_finite_ln := hPre_finite_ln)
    ∧ quiescent_ReferenceActIdeal (hReferenceActIdeal := hReferenceActIdeal)
    ∧ quiescent_ReferenceActIdeal_pre_finite_ln (hReferenceActIdeal := hReferenceActIdeal) (hPre_finite_ln := hPre_finite_ln)
    ∧ quiescent_KernelIn (hKernelIn := hKernelIn)
    ∧ quiescent_KernelInIdeal (hKernelInIdeal := hKernelInIdeal)
    ∧ quiescent_ReferenceInIdeal (hReferenceInIdeal := hReferenceInIdeal)
    ∧ preserves_Kernel_KernelIdeal
    ∧ algebraic_KernelIdeal_ReferenceIdeal (hKernelIdeal := hKernelIdeal) (hReferenceIdeal := hReferenceIdeal)
    ∧ preserves_KernelGates_KernelGatesIdeal
    ∧ algebraic_KernelGatesIdeal_ReferenceGatesIdeal (hKernelGatesIdeal := hKernelGatesIdeal) (hReferenceGatesIdeal := hReferenceGatesIdeal)
    ∧ preserves_KernelConv_KernelConvIdeal
    ∧ algebraic_KernelConvIdeal_ReferenceConvIdeal (hKernelConvIdeal := hKernelConvIdeal) (hReferenceConvIdeal := hReferenceConvIdeal)
    ∧ preserves_KernelOut_KernelOutIdeal
    ∧ algebraic_KernelOutIdeal_ReferenceOutIdeal (hKernelOutIdeal := hKernelOutIdeal) (hReferenceOutIdeal := hReferenceOutIdeal)
    ∧ preserves_KernelZ_KernelZIdeal
    ∧ algebraic_KernelZIdeal_ReferenceZIdeal_pre_finite_h (hKernelZIdeal := hKernelZIdeal) (hReferenceZIdeal := hReferenceZIdeal) (hPre_finite_h := hPre_finite_h)
    ∧ preserves_KernelGate_KernelGateIdeal
    ∧ algebraic_KernelGateIdeal_ReferenceGateIdeal_pre_finite_h (hKernelGateIdeal := hKernelGateIdeal) (hReferenceGateIdeal := hReferenceGateIdeal) (hPre_finite_h := hPre_finite_h)
    ∧ preserves_KernelLn_KernelLnIdeal
    ∧ algebraic_KernelLnIdeal_ReferenceLnIdeal (hKernelLnIdeal := hKernelLnIdeal) (hReferenceLnIdeal := hReferenceLnIdeal)
    ∧ preserves_KernelDt_KernelDtIdeal
    ∧ algebraic_KernelDtIdeal_ReferenceDtIdeal (hKernelDtIdeal := hKernelDtIdeal) (hReferenceDtIdeal := hReferenceDtIdeal)
    ∧ preserves_KernelAct_KernelActIdeal
    ∧ algebraic_KernelActIdeal_ReferenceActIdeal_pre_finite_ln (hKernelActIdeal := hKernelActIdeal) (hReferenceActIdeal := hReferenceActIdeal) (hPre_finite_ln := hPre_finite_ln)
    ∧ preserves_KernelIn_KernelInIdeal
    ∧ algebraic_KernelInIdeal_ReferenceInIdeal (hKernelInIdeal := hKernelInIdeal) (hReferenceInIdeal := hReferenceInIdeal)
-- ==== Pre_finite_h.lean ====
abbrev S4x4112x4096 : Shape := ⟨3, ![4, 4112, 4096]⟩
abbrev S1x4096x39040 : Shape := ⟨3, ![1, 4096, 39040]⟩
abbrev S_ : Shape := ⟨0, ![]⟩

class Facts : Prop where
  bcast_S_S4x4112x4096 : S_.BroadcastsInDim S4x4112x4096 (![] : Fin 0 → Fin S4x4112x4096.rank)
  bcast_S_S1x4096x39040 : S_.BroadcastsInDim S1x4096x39040 (![] : Fin 0 → Fin S1x4096x39040.rank)

variable [Facts]

def fn {F : FTy → Type} [FloatOps F] (main_arg0 : FVec F S4x4112x4096 .f32) (main_arg1 : FVec F S1x4096x39040 .f32) : IVec S4x4112x4096 1 × IVec S1x4096x39040 1 :=
  let main_v0 : FVec F S4x4112x4096 .f32 := Host.absf main_arg0
  let main_cst : FVec F S_ .f32 := constant S_ .f32 0x7F800000#32
  let main_v1 : FVec F S4x4112x4096 .f32 := broadcastInDim S4x4112x4096 ![] bcast_S_S4x4112x4096 main_cst
  let main_v2 : IVec S4x4112x4096 1 := cmpf .olt main_v0 main_v1
  let main_v3 : FVec F S1x4096x39040 .f32 := Host.absf main_arg1
  let main_cst_0 : FVec F S_ .f32 := constant S_ .f32 0x7F800000#32
  let main_v4 : FVec F S1x4096x39040 .f32 := broadcastInDim S1x4096x39040 ![] bcast_S_S1x4096x39040 main_cst_0
  let main_v5 : IVec S1x4096x39040 1 := cmpf .olt main_v3 main_v4
  (main_v2, main_v5)
-- ==== Pre_finite_ln.lean ====
abbrev S4x4112x4096 : Shape := ⟨3, ![4, 4112, 4096]⟩
abbrev S16384x4096 : Shape := ⟨2, ![16384, 4096]⟩
abbrev S1x4096 : Shape := ⟨2, ![1, 4096]⟩
abbrev S_ : Shape := ⟨0, ![]⟩

class Facts : Prop where
  bcast_S_S1x4096 : S_.BroadcastsInDim S1x4096 (![] : Fin 0 → Fin S1x4096.rank)

variable [Facts]

def fn {F : FTy → Type} [FloatOps F] (main_arg0 : FVec F S4x4112x4096 .f32) (main_arg1 : FVec F S16384x4096 .f32) (main_arg2 : FVec F S1x4096 .f32) (main_arg3 : FVec F S1x4096 .f32) : IVec S1x4096 1 × IVec S1x4096 1 :=
  let main_v0 : FVec F S1x4096 .f32 := Host.absf main_arg2
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_v3 : FVec F S1x4096 .f32 := Host.absf main_arg3
  let main_cst_0 : FVec F S_ .f32 := constant S_ .f32 0x7F800000#32
  let main_v4 : FVec F S1x4096 .f32 := broadcastInDim S1x4096 ![] bcast_S_S1x4096 main_cst_0
  let main_v5 : IVec S1x4096 1 := cmpf .olt main_v3 main_v4
  (main_v2, main_v5)
-- ==== Kernel.lean ====
abbrev S4x4112x8192 : Shape := ⟨3, ![4, 4112, 8192]⟩
abbrev S1x8192x4096 : Shape := ⟨3, ![1, 8192, 4096]⟩
abbrev S16384x8192 : Shape := ⟨2, ![16384, 8192]⟩
abbrev S16384x4096 : Shape := ⟨2, ![16384, 4096]⟩
abbrev S_ : Shape := ⟨0, ![]⟩
abbrev S4x4224x8192 : Shape := ⟨3, ![4, 4224, 8192]⟩
abbrev S16896x8192 : Shape := ⟨2, ![16896, 8192]⟩
abbrev S8192x4096 : Shape := ⟨2, ![8192, 4096]⟩
abbrev S512x8192 : Shape := ⟨2, ![512, 8192]⟩
abbrev S256x512 : Shape := ⟨2, ![256, 512]⟩
abbrev S512x512 : Shape := ⟨2, ![512, 512]⟩
abbrev S2x8192x512 : Shape := ⟨3, ![2, 8192, 512]⟩
abbrev S1x256x512 : Shape := ⟨3, ![1, 256, 512]⟩
abbrev S1x8192x512 : Shape := ⟨3, ![1, 8192, 512]⟩
abbrev S8192x512 : Shape := ⟨2, ![8192, 512]⟩

abbrev nBuf : Space → Nat
  | .hbm => 13
  | .vmem => 11
  | .smem => 0
  | _ => 0

abbrev bufTy : (tb : Table) → Fin (tcTables nBuf tb) → BufTy
  | .hbm, ⟨0, _⟩ => ⟨S4x4112x8192, .f32⟩
  | .hbm, ⟨1, _⟩ => ⟨S1x8192x4096, .f32⟩
  | .hbm, ⟨2, _⟩ => ⟨S16384x8192, .f32⟩
  | .hbm, ⟨3, _⟩ => ⟨S16384x4096, .f32⟩
  | .hbm, ⟨4, _⟩ => ⟨S4x4112x8192, .bf16⟩
  | .hbm, ⟨5, _⟩ => ⟨S_, .i32⟩
  | .hbm, ⟨6, _⟩ => ⟨S_, .bf16⟩
  | .hbm, ⟨7, _⟩ => ⟨S4x4224x8192, .bf16⟩
  | .hbm, ⟨8, _⟩ => ⟨S16896x8192, .bf16⟩
  | .hbm, ⟨9, _⟩ => ⟨S8192x4096, .f32⟩
  | .hbm, ⟨10, _⟩ => ⟨S16384x8192, .bf16⟩
  | .hbm, ⟨11, _⟩ => ⟨S16384x4096, .bf16⟩
  | .hbm, ⟨12, _⟩ => ⟨S16384x4096, .bf16⟩
  | .local _ .vmem, ⟨0, _⟩ => ⟨S512x8192, .bf16⟩
  | .local _ .vmem, ⟨1, _⟩ => ⟨S512x8192, .bf16⟩
  | .local _ .vmem, ⟨2, _⟩ => ⟨S256x512, .f32⟩
  | .local _ .vmem, ⟨3, _⟩ => ⟨S256x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S2x8192x512, .bf16⟩
  | _, _ => ⟨S4x4112x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 32], ![false, false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c256_i32 : BitVec 32 := 256#32
  let v7 : BitVec 32 := Scalar.muli arg1 c256_i32
  v7
def k0_off1 (i : grid0.Coords) : Fin 3 → Nat :=
  let arg0 : BitVec 32 := BitVec.ofNat 32 (i 0).val
  let c2_i32 : BitVec 32 := 2#32
  let v6 : BitVec 32 := Scalar.remsi arg0 c2_i32
  let v12 : Index := Scalar.indexCast v6
  let arg1 : BitVec 32 := BitVec.ofNat 32 (i 1).val
  let c256_i32 : BitVec 32 := 256#32
  let v7 : BitVec 32 := Scalar.muli arg1 c256_i32
  let v8 : BitVec 32 := v7
  let v13 : Index := Scalar.indexCast v8
  let c0_3 : Index := 0#32
  ![v12.toNat, v13.toNat, 0]
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let v7 : BitVec 32 := Scalar.remsi v6 c2_i32
  let v10 : Index := Scalar.indexCast v7
  let c0_3 : Index := 0#32
  let c0_4 : Index := 0#32
  ![v10.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c8_i32 : BitVec 32 := 8#32
  let v2 : BitVec 32 := Scalar.divsi v1 c8_i32
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32 c0_i32_3
  let v9 : BitVec 32 := Scalar.extui v8
  let c0_i32_4 : BitVec 32 := 0#32
  let v10 : BitVec 1 := Scalar.cmpi .slt c8_i32 c0_i32_4
  let v11 : BitVec 32 := Scalar.extui v10
  let v12 : BitVec 32 := Scalar.subi v9 v11
  let v13 : BitVec 1 := Scalar.cmpi .ne v7 v12
  let v14 : BitVec 32 := Scalar.remsi v1 c8_i32
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c33_i32 : BitVec 32 := 33#32
  let v19 : BitVec 32 := Scalar.muli v18 c33_i32
  let c1_i32_6 : BitVec 32 := 1#32
  let v20 : BitVec 32 := Scalar.addi v19 c1_i32_6
  let c8_i32_7 : BitVec 32 := 8#32
  let c0_i32_8 : BitVec 32 := 0#32
  let v21 : BitVec 1 := Scalar.cmpi .eq c8_i32_7 c0_i32_8
  let c1_i32_9 : BitVec 32 := 1#32
  let v22 : BitVec 32 := Scalar.select v21 c1_i32_9 c8_i32_7
  let v23 : BitVec 32 := Scalar.remsi v1 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c4_i32 : BitVec 32 := 4#32
  let v31 : BitVec 32 := Scalar.muli v30 c4_i32
  let v32 : BitVec 32 := Scalar.addi v20 v31
  let c128_i32 : BitVec 32 := 128#32
  let v33 : BitVec 32 := Scalar.muli v32 c128_i32
  let c0_i32_13 : BitVec 32 := 0#32
  let c0_i32_14 : BitVec 32 := 0#32
  ![v33.toNat, c0_i32_13.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c7_i32 : BitVec 32 := 7#32
  let v1 : BitVec 32 := Scalar.minsi arg0 c7_i32
  let c4_i32 : BitVec 32 := 4#32
  let v2 : BitVec 32 := Scalar.muli v1 c4_i32
  let c0_i32 : BitVec 32 := 0#32
  let v3 : BitVec 32 := Scalar.addi c0_i32 v2
  let c128_i32 : BitVec 32 := 128#32
  let v4 : BitVec 32 := Scalar.muli v3 c128_i32
  let c0_i32_0 : BitVec 32 := 0#32
  ![v0.toNat, v4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c8_i32 : BitVec 32 := 8#32
  let v4 : BitVec 32 := Scalar.addi v3 c8_i32
  let c0_i32_2 : BitVec 32 := 0#32
  ![v1.toNat, v4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  let v4 : BitVec 32 := Scalar.addi v3 c0_i32_2
  let c0_i32_3 : BitVec 32 := 0#32
  ![v1.toNat, v4.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x4112x8192 : Shape := ⟨3, ![4, 4112, 8192]⟩
abbrev S1x8192x4096 : Shape := ⟨3, ![1, 8192, 4096]⟩
abbrev S16384x8192 : Shape := ⟨2, ![16384, 8192]⟩
abbrev S16384x4096 : Shape := ⟨2, ![16384, 4096]⟩
abbrev S8192x4096 : Shape := ⟨2, ![8192, 4096]⟩
abbrev S4x4112x4096 : Shape := ⟨3, ![4, 4112, 4096]⟩
abbrev S4x4096x4096 : Shape := ⟨3, ![4, 4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x4112x8192, .f32⟩
  | .hbm, ⟨1, _⟩ => ⟨S1x8192x4096, .f32⟩
  | .hbm, ⟨2, _⟩ => ⟨S16384x8192, .f32⟩
  | .hbm, ⟨3, _⟩ => ⟨S16384x4096, .f32⟩
  | .hbm, ⟨4, _⟩ => ⟨S8192x4096, .f32⟩
  | .hbm, ⟨5, _⟩ => ⟨S4x4112x4096, .f32⟩
  | .hbm, ⟨6, _⟩ => ⟨S4x4096x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .bf16⟩
  | _, _ => ⟨S4x4112x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelGates.lean ====
abbrev S4x4112x4096 : Shape := ⟨3, ![4, 4112, 4096]⟩
abbrev S1x4096x39040 : Shape := ⟨3, ![1, 4096, 39040]⟩
abbrev S1x8192 : Shape := ⟨2, ![1, 8192]⟩
abbrev S_ : Shape := ⟨0, ![]⟩
abbrev S4x4224x4096 : Shape := ⟨3, ![4, 4224, 4096]⟩
abbrev S16896x4096 : Shape := ⟨2, ![16896, 4096]⟩
abbrev S4096x39040 : Shape := ⟨2, ![4096, 39040]⟩
abbrev S8192 : Shape := ⟨1, ![8192]⟩
abbrev S16384x8192 : Shape := ⟨2, ![16384, 8192]⟩
abbrev S1024x4096 : Shape := ⟨2, ![1024, 4096]⟩
abbrev S256x1024 : Shape := ⟨2, ![256, 1024]⟩
abbrev S1x1024 : Shape := ⟨2, ![1, 1024]⟩
abbrev S1024x1024 : Shape := ⟨2, ![1024, 1024]⟩
abbrev S2x4096x1024 : Shape := ⟨3, ![2, 4096, 1024]⟩
abbrev S1x256x1024 : Shape := ⟨3, ![1, 256, 1024]⟩
abbrev S1x4096x1024 : Shape := ⟨3, ![1, 4096, 1024]⟩
abbrev S4096x1024 : Shape := ⟨2, ![4096, 1024]⟩

abbrev nBuf : Space → Nat
  | .hbm => 12
  | .vmem => 9
  | .smem => 0
  | _ => 0

abbrev bufTy : (tb : Table) → Fin (tcTables nBuf tb) → BufTy
  | .hbm, ⟨0, _⟩ => ⟨S4x4112x4096, .f32⟩
  | .hbm, ⟨1, _⟩ => ⟨S1x4096x39040, .f32⟩
  | .hbm, ⟨2, _⟩ => ⟨S1x8192, .f32⟩
  | .hbm, ⟨3, _⟩ => ⟨S4x4112x4096, .bf16⟩
  | .hbm, ⟨4, _⟩ => ⟨S_, .i32⟩
  | .hbm, ⟨5, _⟩ => ⟨S_, .bf16⟩
  | .hbm, ⟨6, _⟩ => ⟨S4x4224x4096, .bf16⟩
  | .hbm, ⟨7, _⟩ => ⟨S16896x4096, .bf16⟩
  | .hbm, ⟨8, _⟩ => ⟨S4096x39040, .f32⟩
  | .hbm, ⟨9, _⟩ => ⟨S8192, .f32⟩
  | .hbm, ⟨10, _⟩ => ⟨S1x8192, .f32⟩
  | .hbm, ⟨11, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S2x4096x1024, .bf16⟩
  | _, _ => ⟨S4x4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 16], ![false, false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c256_i32 : BitVec 32 := 256#32
  let v7 : BitVec 32 := Scalar.muli arg1 c256_i32
  v7
def k0_off1 (i : grid0.Coords) : Fin 3 → Nat :=
  let arg0 : BitVec 32 := BitVec.ofNat 32 (i 0).val
  let c2_i32 : BitVec 32 := 2#32
  let v6 : BitVec 32 := Scalar.remsi arg0 c2_i32
  let v12 : Index := Scalar.indexCast v6
  let arg1 : BitVec 32 := BitVec.ofNat 32 (i 1).val
  let c256_i32 : BitVec 32 := 256#32
  let v7 : BitVec 32 := Scalar.muli arg1 c256_i32
  let v8 : BitVec 32 := v7
  let v13 : Index := Scalar.indexCast v8
  let c0_3 : Index := 0#32
  ![v12.toNat, v13.toNat, 0]
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let v7 : BitVec 32 := Scalar.remsi v6 c2_i32
  let v10 : Index := Scalar.indexCast v7
  let c0_3 : Index := 0#32
  let c0_4 : Index := 0#32
  ![v10.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c4_i32 : BitVec 32 := 4#32
  let v2 : BitVec 32 := Scalar.divsi v1 c4_i32
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32 c0_i32_3
  let v9 : BitVec 32 := Scalar.extui v8
  let c0_i32_4 : BitVec 32 := 0#32
  let v10 : BitVec 1 := Scalar.cmpi .slt c4_i32 c0_i32_4
  let v11 : BitVec 32 := Scalar.extui v10
  let v12 : BitVec 32 := Scalar.subi v9 v11
  let v13 : BitVec 1 := Scalar.cmpi .ne v7 v12
  let v14 : BitVec 32 := Scalar.remsi v1 c4_i32
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c33_i32 : BitVec 32 := 33#32
  let v19 : BitVec 32 := Scalar.muli v18 c33_i32
  let c1_i32_6 : BitVec 32 := 1#32
  let v20 : BitVec 32 := Scalar.addi v19 c1_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v1 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c8_i32 : BitVec 32 := 8#32
  let v31 : BitVec 32 := Scalar.muli v30 c8_i32
  let v32 : BitVec 32 := Scalar.addi v20 v31
  let c128_i32 : BitVec 32 := 128#32
  let v33 : BitVec 32 := Scalar.muli v32 c128_i32
  let c0_i32_13 : BitVec 32 := 0#32
  let c0_i32_14 : BitVec 32 := 0#32
  ![v33.toNat, c0_i32_13.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c7_i32 : BitVec 32 := 7#32
  let v1 : BitVec 32 := Scalar.minsi arg0 c7_i32
  let c8_i32 : BitVec 32 := 8#32
  let v2 : BitVec 32 := Scalar.muli v1 c8_i32
  let c241_i32 : BitVec 32 := 241#32
  let v3 : BitVec 32 := Scalar.addi c241_i32 v2
  let c128_i32 : BitVec 32 := 128#32
  let v4 : BitVec 32 := Scalar.muli v3 c128_i32
  let c0_i32 : BitVec 32 := 0#32
  ![v0.toNat, v4.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![c0_i32_1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGatesIdeal.lean ====
abbrev S4x4112x4096 : Shape := ⟨3, ![4, 4112, 4096]⟩
abbrev S1x4096x39040 : Shape := ⟨3, ![1, 4096, 39040]⟩
abbrev S1x8192 : Shape := ⟨2, ![1, 8192]⟩
abbrev S4096x39040 : Shape := ⟨2, ![4096, 39040]⟩
abbrev S4x4112x39040 : Shape := ⟨3, ![4, 4112, 39040]⟩
abbrev S4x4112x8192 : Shape := ⟨3, ![4, 4112, 8192]⟩
abbrev S8192 : Shape := ⟨1, ![8192]⟩
abbrev S1x1x8192 : Shape := ⟨3, ![1, 1, 8192]⟩
abbrev S_ : Shape := ⟨0, ![]⟩
abbrev S4x4096x8192 : Shape := ⟨3, ![4, 4096, 8192]⟩
abbrev S16384x8192 : Shape := ⟨2, ![16384, 8192]⟩

abbrev nBuf : Space → Nat
  | .hbm => 21
  | .vmem => 0
  | .smem => 0
  | _ => 0

abbrev bufTy : (tb : Table) → Fin (tcTables nBuf tb) → BufTy
  | .hbm, ⟨0, _⟩ => ⟨S4x4112x4096, .f32⟩
  | .hbm, ⟨1, _⟩ => ⟨S1x4096x39040, .f32⟩
  | .hbm, ⟨2, _⟩ => ⟨S1x8192, .f32⟩
  | .hbm, ⟨3, _⟩ => ⟨S4096x39040, .f32⟩
  | .hbm, ⟨4, _⟩ => ⟨S4x4112x39040, .f32⟩
  | .hbm, ⟨5, _⟩ => ⟨S4x4112x8192, .f32⟩
  | .hbm, ⟨6, _⟩ => ⟨S8192, .f32⟩
  | .hbm, ⟨7, _⟩ => ⟨S1x1x8192, .f32⟩
  | .hbm, ⟨8, _⟩ => ⟨S4x4112x8192, .f32⟩
  | .hbm, ⟨9, _⟩ => ⟨S4x4112x8192, .f32⟩
  | .hbm, ⟨10, _⟩ => ⟨S4x4112x8192, .f32⟩
  | .hbm, ⟨11, _⟩ => ⟨S4x4112x8192, .f32⟩
  | .hbm, ⟨12, _⟩ => ⟨S_, .f32⟩
  | .hbm, ⟨13, _⟩ => ⟨S4x4112x8192, .f32⟩
  | .hbm, ⟨14, _⟩ => ⟨S4x4112x8192, .f32⟩
  | .hbm, ⟨15, _⟩ => ⟨S_, .f32⟩
  | .hbm, ⟨16, _⟩ => ⟨S4x4112x8192, .f32⟩
  | .hbm, ⟨17, _⟩ => ⟨S4x4112x8192, .f32⟩
  | .hbm, ⟨18, _⟩ => ⟨S4x4096x8192, .f32⟩
  | .hbm, ⟨19, _⟩ => ⟨S16384x8192, .f32⟩
  | .hbm, ⟨20, _⟩ => ⟨S16384x8192, .bf16⟩
  | _, _ => ⟨S4x4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== KernelConv.lean ====
abbrev S4x4112x4096 : Shape := ⟨3, ![4, 4112, 4096]⟩
abbrev S1x4096x4096 : Shape := ⟨3, ![1, 4096, 4096]⟩
abbrev S16384x8192 : Shape := ⟨2, ![16384, 8192]⟩
abbrev S4x4096x4096 : Shape := ⟨3, ![4, 4096, 4096]⟩
abbrev S16384x4096 : Shape := ⟨2, ![16384, 4096]⟩
abbrev S4096x4096 : Shape := ⟨2, ![4096, 4096]⟩
abbrev S1024x4096 : Shape := ⟨2, ![1024, 4096]⟩
abbrev S256x1024 : Shape := ⟨2, ![256, 1024]⟩
abbrev S1024x1024 : Shape := ⟨2, ![1024, 1024]⟩
abbrev S2x4096x1024 : Shape := ⟨3, ![2, 4096, 1024]⟩
abbrev S1x256x1024 : Shape := ⟨3, ![1, 256, 1024]⟩
abbrev S1x4096x1024 : Shape := ⟨3, ![1, 4096, 1024]⟩
abbrev S4096x1024 : Shape := ⟨2, ![4096, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4x4112x4096, .f32⟩
  | .hbm, ⟨1, _⟩ => ⟨S1x4096x4096, .f32⟩
  | .hbm, ⟨2, _⟩ => ⟨S16384x8192, .f32⟩
  | .hbm, ⟨3, _⟩ => ⟨S4x4096x4096, .f32⟩
  | .hbm, ⟨4, _⟩ => ⟨S16384x4096, .f32⟩
  | .hbm, ⟨5, _⟩ => ⟨S16384x4096, .bf16⟩
  | .hbm, ⟨6, _⟩ => ⟨S4096x4096, .f32⟩
  | .hbm, ⟨7, _⟩ => ⟨S16384x8192, .bf16⟩
  | .hbm, ⟨8, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2x4096x1024, .bf16⟩
  | _, _ => ⟨S4x4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 16], ![false, false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c256_i32 : BitVec 32 := 256#32
  let v7 : BitVec 32 := Scalar.muli arg1 c256_i32
  v7
def k0_off1 (i : grid0.Coords) : Fin 3 → Nat :=
  let arg0 : BitVec 32 := BitVec.ofNat 32 (i 0).val
  let c2_i32 : BitVec 32 := 2#32
  let v6 : BitVec 32 := Scalar.remsi arg0 c2_i32
  let v12 : Index := Scalar.indexCast v6
  let arg1 : BitVec 32 := BitVec.ofNat 32 (i 1).val
  let c256_i32 : BitVec 32 := 256#32
  let v7 : BitVec 32 := Scalar.muli arg1 c256_i32
  let v8 : BitVec 32 := v7
  let v13 : Index := Scalar.indexCast v8
  let c0_3 : Index := 0#32
  ![v12.toNat, v13.toNat, 0]
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let v7 : BitVec 32 := Scalar.remsi v6 c2_i32
  let v10 : Index := Scalar.indexCast v7
  let c0_3 : Index := 0#32
  let c0_4 : Index := 0#32
  ![v10.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c3_i32 : BitVec 32 := 3#32
  let v1 : BitVec 32 := Scalar.minsi arg0 c3_i32
  let c8_i32 : BitVec 32 := 8#32
  let v2 : BitVec 32 := Scalar.muli v1 c8_i32
  let c0_i32 : BitVec 32 := 0#32
  let v3 : BitVec 32 := Scalar.addi c0_i32 v2
  let c128_i32 : BitVec 32 := 128#32
  let v4 : BitVec 32 := Scalar.muli v3 c128_i32
  let c0_i32_0 : BitVec 32 := 0#32
  ![v0.toNat, v4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  let v4 : BitVec 32 := Scalar.addi v3 c0_i32_2
  let c0_i32_3 : BitVec 32 := 0#32
  ![v1.toNat, v4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceConvIdeal.lean ====
abbrev S4x4112x4096 : Shape := ⟨3, ![4, 4112, 4096]⟩
abbrev S1x4096x4096 : Shape := ⟨3, ![1, 4096, 4096]⟩
abbrev S16384x8192 : Shape := ⟨2, ![16384, 8192]⟩
abbrev S4096x4096 : Shape := ⟨2, ![4096, 4096]⟩
abbrev S4x4096x4096 : Shape := ⟨3, ![4, 4096, 4096]⟩
abbrev S16384x4096 : Shape := ⟨2, ![16384, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4x4112x4096, .f32⟩
  | .hbm, ⟨1, _⟩ => ⟨S1x4096x4096, .f32⟩
  | .hbm, ⟨2, _⟩ => ⟨S16384x8192, .f32⟩
  | .hbm, ⟨3, _⟩ => ⟨S4096x4096, .f32⟩
  | .hbm, ⟨4, _⟩ => ⟨S4x4112x4096, .f32⟩
  | .hbm, ⟨5, _⟩ => ⟨S4x4096x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .bf16⟩
  | _, _ => ⟨S4x4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelOut.lean ====
abbrev S4x4096x4096 : Shape := ⟨3, ![4, 4096, 4096]⟩
abbrev S1x4096x4096 : Shape := ⟨3, ![1, 4096, 4096]⟩
abbrev S16384x4096 : Shape := ⟨2, ![16384, 4096]⟩
abbrev S4096x4096 : Shape := ⟨2, ![4096, 4096]⟩
abbrev S1024x4096 : Shape := ⟨2, ![1024, 4096]⟩
abbrev S256x1024 : Shape := ⟨2, ![256, 1024]⟩
abbrev S1024x1024 : Shape := ⟨2, ![1024, 1024]⟩
abbrev S2x4096x1024 : Shape := ⟨3, ![2, 4096, 1024]⟩
abbrev S1x256x1024 : Shape := ⟨3, ![1, 256, 1024]⟩
abbrev S1x4096x1024 : Shape := ⟨3, ![1, 4096, 1024]⟩
abbrev S4096x1024 : Shape := ⟨2, ![4096, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S1x4096x4096, .f32⟩
  | .hbm, ⟨2, _⟩ => ⟨S16384x4096, .f32⟩
  | .hbm, ⟨3, _⟩ => ⟨S16384x4096, .bf16⟩
  | .hbm, ⟨4, _⟩ => ⟨S4096x4096, .f32⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S256x1024, .f32⟩
  | .local _ .vmem, ⟨3, _⟩ => ⟨S256x1024, .f32⟩
  | .local _ .vmem, ⟨4, _⟩ => ⟨S1024x1024, .f32⟩
  | .local _ .vmem, ⟨5, _⟩ => ⟨S1024x1024, .f32⟩
  | .local _ .vmem, ⟨6, _⟩ => ⟨S2x4096x1024, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 16], ![false, false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c256_i32 : BitVec 32 := 256#32
  let v7 : BitVec 32 := Scalar.muli arg1 c256_i32
  v7
def k0_off1 (i : grid0.Coords) : Fin 3 → Nat :=
  let arg0 : BitVec 32 := BitVec.ofNat 32 (i 0).val
  let c2_i32 : BitVec 32 := 2#32
  let v6 : BitVec 32 := Scalar.remsi arg0 c2_i32
  let v12 : Index := Scalar.indexCast v6
  let arg1 : BitVec 32 := BitVec.ofNat 32 (i 1).val
  let c256_i32 : BitVec 32 := 256#32
  let v7 : BitVec 32 := Scalar.muli arg1 c256_i32
  let v8 : BitVec 32 := v7
  let v13 : Index := Scalar.indexCast v8
  let c0_3 : Index := 0#32
  ![v12.toNat, v13.toNat, 0]
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let v7 : BitVec 32 := Scalar.remsi v6 c2_i32
  let v10 : Index := Scalar.indexCast v7
  let c0_3 : Index := 0#32
  let c0_4 : Index := 0#32
  ![v10.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c3_i32 : BitVec 32 := 3#32
  let v1 : BitVec 32 := Scalar.minsi arg0 c3_i32
  let c8_i32 : BitVec 32 := 8#32
  let v2 : BitVec 32 := Scalar.muli v1 c8_i32
  let c0_i32 : BitVec 32 := 0#32
  let v3 : BitVec 32 := Scalar.addi c0_i32 v2
  let c128_i32 : BitVec 32 := 128#32
  let v4 : BitVec 32 := Scalar.muli v3 c128_i32
  let c0_i32_0 : BitVec 32 := 0#32
  ![v0.toNat, v4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOutIdeal.lean ====
abbrev S4x4096x4096 : Shape := ⟨3, ![4, 4096, 4096]⟩
abbrev S1x4096x4096 : Shape := ⟨3, ![1, 4096, 4096]⟩
abbrev S4096x4096 : Shape := ⟨2, ![4096, 4096]⟩
abbrev S16384x4096 : Shape := ⟨2, ![16384, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096x4096, .f32⟩
  | .hbm, ⟨2, _⟩ => ⟨S4096x4096, .f32⟩
  | .hbm, ⟨3, _⟩ => ⟨S4x4096x4096, .f32⟩
  | .hbm, ⟨4, _⟩ => ⟨S16384x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelZ.lean ====
abbrev S4x4112x4096 : Shape := ⟨3, ![4, 4112, 4096]⟩
abbrev S1x4096x39040 : Shape := ⟨3, ![1, 4096, 39040]⟩
abbrev S_ : Shape := ⟨0, ![]⟩
abbrev S4x4224x4096 : Shape := ⟨3, ![4, 4224, 4096]⟩
abbrev S16896x4096 : Shape := ⟨2, ![16896, 4096]⟩
abbrev S4096x39040 : Shape := ⟨2, ![4096, 39040]⟩
abbrev S16384x8192 : Shape := ⟨2, ![16384, 8192]⟩
abbrev S1024x4096 : Shape := ⟨2, ![1024, 4096]⟩
abbrev S256x1024 : Shape := ⟨2, ![256, 1024]⟩
abbrev S1024x1024 : Shape := ⟨2, ![1024, 1024]⟩
abbrev S2x4096x1024 : Shape := ⟨3, ![2, 4096, 1024]⟩
abbrev S1x256x1024 : Shape := ⟨3, ![1, 256, 1024]⟩
abbrev S1x4096x1024 : Shape := ⟨3, ![1, 4096, 1024]⟩
abbrev S4096x1024 : Shape := ⟨2, ![4096, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4x4112x4096, .f32⟩
  | .hbm, ⟨1, _⟩ => ⟨S1x4096x39040, .f32⟩
  | .hbm, ⟨2, _⟩ => ⟨S4x4112x4096, .bf16⟩
  | .hbm, ⟨3, _⟩ => ⟨S_, .i32⟩
  | .hbm, ⟨4, _⟩ => ⟨S_, .bf16⟩
  | .hbm, ⟨5, _⟩ => ⟨S4x4224x4096, .bf16⟩
  | .hbm, ⟨6, _⟩ => ⟨S16896x4096, .bf16⟩
  | .hbm, ⟨7, _⟩ => ⟨S4096x39040, .f32⟩
  | .hbm, ⟨8, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | .local _ .vmem, ⟨6, _⟩ => ⟨S2x4096x1024, .bf16⟩
  | _, _ => ⟨S4x4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 16], ![false, false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c256_i32 : BitVec 32 := 256#32
  let v7 : BitVec 32 := Scalar.muli arg1 c256_i32
  v7
def k0_off1 (i : grid0.Coords) : Fin 3 → Nat :=
  let arg0 : BitVec 32 := BitVec.ofNat 32 (i 0).val
  let c2_i32 : BitVec 32 := 2#32
  let v6 : BitVec 32 := Scalar.remsi arg0 c2_i32
  let v12 : Index := Scalar.indexCast v6
  let arg1 : BitVec 32 := BitVec.ofNat 32 (i 1).val
  let c256_i32 : BitVec 32 := 256#32
  let v7 : BitVec 32 := Scalar.muli arg1 c256_i32
  let v8 : BitVec 32 := v7
  let v13 : Index := Scalar.indexCast v8
  let c0_3 : Index := 0#32
  ![v12.toNat, v13.toNat, 0]
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let v7 : BitVec 32 := Scalar.remsi v6 c2_i32
  let v10 : Index := Scalar.indexCast v7
  let c0_3 : Index := 0#32
  let c0_4 : Index := 0#32
  ![v10.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c4_i32 : BitVec 32 := 4#32
  let v2 : BitVec 32 := Scalar.divsi v1 c4_i32
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32 c0_i32_3
  let v9 : BitVec 32 := Scalar.extui v8
  let c0_i32_4 : BitVec 32 := 0#32
  let v10 : BitVec 1 := Scalar.cmpi .slt c4_i32 c0_i32_4
  let v11 : BitVec 32 := Scalar.extui v10
  let v12 : BitVec 32 := Scalar.subi v9 v11
  let v13 : BitVec 1 := Scalar.cmpi .ne v7 v12
  let v14 : BitVec 32 := Scalar.remsi v1 c4_i32
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c33_i32 : BitVec 32 := 33#32
  let v19 : BitVec 32 := Scalar.muli v18 c33_i32
  let c1_i32_6 : BitVec 32 := 1#32
  let v20 : BitVec 32 := Scalar.addi v19 c1_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v1 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c8_i32 : BitVec 32 := 8#32
  let v31 : BitVec 32 := Scalar.muli v30 c8_i32
  let v32 : BitVec 32 := Scalar.addi v20 v31
  let c128_i32 : BitVec 32 := 128#32
  let v33 : BitVec 32 := Scalar.muli v32 c128_i32
  let c0_i32_13 : BitVec 32 := 0#32
  let c0_i32_14 : BitVec 32 := 0#32
  ![v33.toNat, c0_i32_13.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c7_i32 : BitVec 32 := 7#32
  let v1 : BitVec 32 := Scalar.minsi arg0 c7_i32
  let c8_i32 : BitVec 32 := 8#32
  let v2 : BitVec 32 := Scalar.muli v1 c8_i32
  let c96_i32 : BitVec 32 := 96#32
  let v3 : BitVec 32 := Scalar.addi c96_i32 v2
  let c128_i32 : BitVec 32 := 128#32
  let v4 : BitVec 32 := Scalar.muli v3 c128_i32
  let c0_i32 : BitVec 32 := 0#32
  ![v0.toNat, v4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZIdeal.lean ====
abbrev S4x4112x4096 : Shape := ⟨3, ![4, 4112, 4096]⟩
abbrev S1x4096x39040 : Shape := ⟨3, ![1, 4096, 39040]⟩
abbrev S4096x39040 : Shape := ⟨2, ![4096, 39040]⟩
abbrev S4x4112x39040 : Shape := ⟨3, ![4, 4112, 39040]⟩
abbrev S4x4112x8192 : Shape := ⟨3, ![4, 4112, 8192]⟩
abbrev S_ : Shape := ⟨0, ![]⟩
abbrev S4x4096x8192 : Shape := ⟨3, ![4, 4096, 8192]⟩
abbrev S16384x8192 : Shape := ⟨2, ![16384, 8192]⟩

abbrev nBuf : Space → Nat
  | .hbm => 17
  | .vmem => 0
  | .smem => 0
  | _ => 0

abbrev bufTy : (tb : Table) → Fin (tcTables nBuf tb) → BufTy
  | .hbm, ⟨0, _⟩ => ⟨S4x4112x4096, .f32⟩
  | .hbm, ⟨1, _⟩ => ⟨S1x4096x39040, .f32⟩
  | .hbm, ⟨2, _⟩ => ⟨S4096x39040, .f32⟩
  | .hbm, ⟨3, _⟩ => ⟨S4x4112x39040, .f32⟩
  | .hbm, ⟨4, _⟩ => ⟨S4x4112x8192, .f32⟩
  | .hbm, ⟨5, _⟩ => ⟨S4x4112x8192, .f32⟩
  | .hbm, ⟨6, _⟩ => ⟨S4x4112x8192, .f32⟩
  | .hbm, ⟨7, _⟩ => ⟨S_, .f32⟩
  | .hbm, ⟨8, _⟩ => ⟨S4x4112x8192, .f32⟩
  | .hbm, ⟨9, _⟩ => ⟨S4x4112x8192, .f32⟩
  | .hbm, ⟨10, _⟩ => ⟨S_, .f32⟩
  | .hbm, ⟨11, _⟩ => ⟨S4x4112x8192, .f32⟩
  | .hbm, ⟨12, _⟩ => ⟨S4x4112x8192, .f32⟩
  | .hbm, ⟨13, _⟩ => ⟨S4x4112x8192, .f32⟩
  | .hbm, ⟨14, _⟩ => ⟨S4x4096x8192, .f32⟩
  | .hbm, ⟨15, _⟩ => ⟨S16384x8192, .f32⟩
  | .hbm, ⟨16, _⟩ => ⟨S16384x8192, .bf16⟩
  | _, _ => ⟨S4x4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== KernelGate.lean ====
abbrev S4x4112x4096 : Shape := ⟨3, ![4, 4112, 4096]⟩
abbrev S1x4096x39040 : Shape := ⟨3, ![1, 4096, 39040]⟩
abbrev S_ : Shape := ⟨0, ![]⟩
abbrev S4x4224x4096 : Shape := ⟨3, ![4, 4224, 4096]⟩
abbrev S16896x4096 : Shape := ⟨2, ![16896, 4096]⟩
abbrev S4096x39040 : Shape := ⟨2, ![4096, 39040]⟩
abbrev S16384x4096 : Shape := ⟨2, ![16384, 4096]⟩
abbrev S1024x4096 : Shape := ⟨2, ![1024, 4096]⟩
abbrev S256x1024 : Shape := ⟨2, ![256, 1024]⟩
abbrev S1024x1024 : Shape := ⟨2, ![1024, 1024]⟩
abbrev S2x4096x1024 : Shape := ⟨3, ![2, 4096, 1024]⟩
abbrev S1x256x1024 : Shape := ⟨3, ![1, 256, 1024]⟩
abbrev S1x4096x1024 : Shape := ⟨3, ![1, 4096, 1024]⟩
abbrev S4096x1024 : Shape := ⟨2, ![4096, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4x4112x4096, .f32⟩
  | .hbm, ⟨1, _⟩ => ⟨S1x4096x39040, .f32⟩
  | .hbm, ⟨2, _⟩ => ⟨S4x4112x4096, .bf16⟩
  | .hbm, ⟨3, _⟩ => ⟨S_, .i32⟩
  | .hbm, ⟨4, _⟩ => ⟨S_, .bf16⟩
  | .hbm, ⟨5, _⟩ => ⟨S4x4224x4096, .bf16⟩
  | .hbm, ⟨6, _⟩ => ⟨S16896x4096, .bf16⟩
  | .hbm, ⟨7, _⟩ => ⟨S4096x39040, .f32⟩
  | .hbm, ⟨8, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | .local _ .vmem, ⟨6, _⟩ => ⟨S2x4096x1024, .bf16⟩
  | _, _ => ⟨S4x4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 16], ![false, false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c256_i32 : BitVec 32 := 256#32
  let v7 : BitVec 32 := Scalar.muli arg1 c256_i32
  v7
def k0_off1 (i : grid0.Coords) : Fin 3 → Nat :=
  let arg0 : BitVec 32 := BitVec.ofNat 32 (i 0).val
  let c2_i32 : BitVec 32 := 2#32
  let v6 : BitVec 32 := Scalar.remsi arg0 c2_i32
  let v12 : Index := Scalar.indexCast v6
  let arg1 : BitVec 32 := BitVec.ofNat 32 (i 1).val
  let c256_i32 : BitVec 32 := 256#32
  let v7 : BitVec 32 := Scalar.muli arg1 c256_i32
  let v8 : BitVec 32 := v7
  let v13 : Index := Scalar.indexCast v8
  let c0_3 : Index := 0#32
  ![v12.toNat, v13.toNat, 0]
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let v7 : BitVec 32 := Scalar.remsi v6 c2_i32
  let v10 : Index := Scalar.indexCast v7
  let c0_3 : Index := 0#32
  let c0_4 : Index := 0#32
  ![v10.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c4_i32 : BitVec 32 := 4#32
  let v2 : BitVec 32 := Scalar.divsi v1 c4_i32
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32 c0_i32_3
  let v9 : BitVec 32 := Scalar.extui v8
  let c0_i32_4 : BitVec 32 := 0#32
  let v10 : BitVec 1 := Scalar.cmpi .slt c4_i32 c0_i32_4
  let v11 : BitVec 32 := Scalar.extui v10
  let v12 : BitVec 32 := Scalar.subi v9 v11
  let v13 : BitVec 1 := Scalar.cmpi .ne v7 v12
  let v14 : BitVec 32 := Scalar.remsi v1 c4_i32
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c33_i32 : BitVec 32 := 33#32
  let v19 : BitVec 32 := Scalar.muli v18 c33_i32
  let c1_i32_6 : BitVec 32 := 1#32
  let v20 : BitVec 32 := Scalar.addi v19 c1_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v1 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c8_i32 : BitVec 32 := 8#32
  let v31 : BitVec 32 := Scalar.muli v30 c8_i32
  let v32 : BitVec 32 := Scalar.addi v20 v31
  let c128_i32 : BitVec 32 := 128#32
  let v33 : BitVec 32 := Scalar.muli v32 c128_i32
  let c0_i32_13 : BitVec 32 := 0#32
  let c0_i32_14 : BitVec 32 := 0#32
  ![v33.toNat, c0_i32_13.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c3_i32 : BitVec 32 := 3#32
  let v1 : BitVec 32 := Scalar.minsi arg0 c3_i32
  let c8_i32 : BitVec 32 := 8#32
  let v2 : BitVec 32 := Scalar.muli v1 c8_i32
  let c64_i32 : BitVec 32 := 64#32
  let v3 : BitVec 32 := Scalar.addi c64_i32 v2
  let c128_i32 : BitVec 32 := 128#32
  let v4 : BitVec 32 := Scalar.muli v3 c128_i32
  let c0_i32 : BitVec 32 := 0#32
  ![v0.toNat, v4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGateIdeal.lean ====
abbrev S4x4112x4096 : Shape := ⟨3, ![4, 4112, 4096]⟩
abbrev S1x4096x39040 : Shape := ⟨3, ![1, 4096, 39040]⟩
abbrev S4096x39040 : Shape := ⟨2, ![4096, 39040]⟩
abbrev S4x4112x39040 : Shape := ⟨3, ![4, 4112, 39040]⟩
abbrev S_ : Shape := ⟨0, ![]⟩
abbrev S4x4096x4096 : Shape := ⟨3, ![4, 4096, 4096]⟩
abbrev S16384x4096 : Shape := ⟨2, ![16384, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4x4112x4096, .f32⟩
  | .hbm, ⟨1, _⟩ => ⟨S1x4096x39040, .f32⟩
  | .hbm, ⟨2, _⟩ => ⟨S4096x39040, .f32⟩
  | .hbm, ⟨3, _⟩ => ⟨S4x4112x39040, .f32⟩
  | .hbm, ⟨4, _⟩ => ⟨S4x4112x4096, .f32⟩
  | .hbm, ⟨5, _⟩ => ⟨S4x4112x4096, .f32⟩
  | .hbm, ⟨6, _⟩ => ⟨S4x4112x4096, .f32⟩
  | .hbm, ⟨7, _⟩ => ⟨S_, .f32⟩
  | .hbm, ⟨8, _⟩ => ⟨S4x4112x4096, .f32⟩
  | .hbm, ⟨9, _⟩ => ⟨S4x4112x4096, .f32⟩
  | .hbm, ⟨10, _⟩ => ⟨S_, .f32⟩
  | .hbm, ⟨11, _⟩ => ⟨S4x4112x4096, .f32⟩
  | .hbm, ⟨12, _⟩ => ⟨S4x4112x4096, .f32⟩
  | .hbm, ⟨13, _⟩ => ⟨S4x4112x4096, .f32⟩
  | .hbm, ⟨14, _⟩ => ⟨S4x4096x4096, .f32⟩
  | .hbm, ⟨15, _⟩ => ⟨S16384x4096, .f32⟩
  | .hbm, ⟨16, _⟩ => ⟨S16384x4096, .bf16⟩
  | _, _ => ⟨S4x4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== KernelLn.lean ====
abbrev S4x4096x4096 : Shape := ⟨3, ![4, 4096, 4096]⟩
abbrev S4096 : Shape := ⟨1, ![4096]⟩
abbrev S1x4096 : Shape := ⟨2, ![1, 4096]⟩
abbrev S3x1x128x4096 : Shape := ⟨4, ![3, 1, 128, 4096]⟩
abbrev S3 : Shape := ⟨1, ![3]⟩
abbrev S2x1x128x4096 : Shape := ⟨4, ![2, 1, 128, 4096]⟩
abbrev S2 : Shape := ⟨1, ![2]⟩
abbrev S1 : Shape := ⟨1, ![1]⟩
abbrev S_ : Shape := ⟨0, ![]⟩
abbrev S1x1x128x4096 : Shape := ⟨4, ![1, 1, 128, 4096]⟩
abbrev S1x128x4096 : Shape := ⟨3, ![1, 128, 4096]⟩
abbrev S128x4096 : Shape := ⟨2, ![128, 4096]⟩
abbrev S128 : Shape := ⟨1, ![128]⟩
abbrev S128x1 : Shape := ⟨2, ![128, 1]⟩

abbrev nBuf : Space → Nat
  | .hbm => 11
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S4x4096x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S3x1x128x4096, .f32⟩
  | .local _ .vmem, ⟨5, _⟩ => ⟨S3x1x128x4096, .f32⟩
  | .local _ .vmem, ⟨6, _⟩ => ⟨S2x1x128x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scoped0 : Ref sig .tc := ⟨.vmem, 4, rfl⟩
abbrev cc0_scoped2 : Ref sig .tc := ⟨.vmem, 5, rfl⟩
abbrev cc0_scoped4 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 : Fin 1 → Nat :=
  let c0_i32_34_r0 : BitVec 32 := 0#32
  let c3_i32_35_r0 : BitVec 32 := 3#32
  let v39_r0 : BitVec 32 := Scalar.remui c0_i32_34_r0 c3_i32_35_r0
  ![v39_r0.toNat]
def k0_off2 : Fin 4 → Nat :=
  let c0_i32_34_r0 : BitVec 32 := 0#32
  let c3_i32_35_r0 : BitVec 32 := 3#32
  let v39_r0 : BitVec 32 := Scalar.remui c0_i32_34_r0 c3_i32_35_r0
  let c0_i32_36_r0 : BitVec 32 := 0#32
  let c0_i32_37_r0 : BitVec 32 := 0#32
  let c0_i32_38_r0 : BitVec 32 := 0#32
  ![v39_r0.toNat, 0, 0, 0]
def k0_cond1 : BitVec 1 :=
  let true_56_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c32_i32_r0 : BitVec 32 := 32#32
  let v12_r0 : BitVec 1 := Scalar.cmpi .eq v11_r0 c32_i32_r0
  let c1_i32_12_r0 : BitVec 32 := 1#32
  let c0_i32_11_r0 : BitVec 32 := 0#32
  let v14_r0 : BitVec 32 := Scalar.select v12_r0 c1_i32_12_r0 c0_i32_11_r0
  let c4_i32_r0 : BitVec 32 := 4#32
  let v15_r0 : BitVec 1 := Scalar.cmpi .eq v14_r0 c4_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let c0_i32_54_r0 : BitVec 32 := 0#32
  let v53_r0 : BitVec 1 := Scalar.cmpi .ne v17_r0 c0_i32_54_r0
  let c0_i32_10_r0 : BitVec 32 := 0#32
  let v13_r0 : BitVec 32 := Scalar.select v12_r0 c0_i32_10_r0 v11_r0
  let c0_i32_15_r0 : BitVec 32 := 0#32
  let v18_r0 : BitVec 32 := Scalar.addi v13_r0 c0_i32_15_r0
  let c0_i32_55_r0 : BitVec 32 := 0#32
  let v54_r0 : BitVec 1 := Scalar.cmpi .ne v18_r0 c0_i32_55_r0
  let v55_r0 : BitVec 1 := Scalar.ori v53_r0 v54_r0
  let v56_r0 : BitVec 1 := Scalar.andi true_56_r0 v55_r0
  let true_57_r0 : BitVec 1 := 1#1
  let v57_r0 : BitVec 1 := Scalar.andi v56_r0 true_57_r0
  let v58_r0 : BitVec 32 := Scalar.extui v57_r0
  let c0_i32_58_r0 : BitVec 32 := 0#32
  let v59_r0 : BitVec 1 := Scalar.cmpi .ne v58_r0 c0_i32_58_r0
  v59_r0

def k0_off3 : Fin 1 → Nat :=
  let c0_i32_42_r0 : BitVec 32 := 0#32
  let c1_i32_43_r0 : BitVec 32 := 1#32
  let v45_r0 : BitVec 32 := Scalar.addi c0_i32_42_r0 c1_i32_43_r0
  let c3_i32_126_r0 : BitVec 32 := 3#32
  let v131_r0 : BitVec 32 := Scalar.remui v45_r0 c3_i32_126_r0
  ![v131_r0.toNat]
def k0_off4 : Fin 4 → Nat :=
  let c0_i32_42_r0 : BitVec 32 := 0#32
  let c1_i32_43_r0 : BitVec 32 := 1#32
  let v45_r0 : BitVec 32 := Scalar.addi c0_i32_42_r0 c1_i32_43_r0
  let c3_i32_126_r0 : BitVec 32 := 3#32
  let v131_r0 : BitVec 32 := Scalar.remui v45_r0 c3_i32_126_r0
  let c0_i32_129_r0 : BitVec 32 := 0#32
  let c0_i32_130_r0 : BitVec 32 := 0#32
  let c0_i32_131_r0 : BitVec 32 := 0#32
  ![v131_r0.toNat, 0, 0, 0]
def k0_off5 : Fin 3 → Nat :=
  let c1_i32_127_r0 : BitVec 32 := 1#32
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c32_i32_r0 : BitVec 32 := 32#32
  let v12_r0 : BitVec 1 := Scalar.cmpi .eq v11_r0 c32_i32_r0
  let c1_i32_12_r0 : BitVec 32 := 1#32
  let c0_i32_11_r0 : BitVec 32 := 0#32
  let v14_r0 : BitVec 32 := Scalar.select v12_r0 c1_i32_12_r0 c0_i32_11_r0
  let c4_i32_r0 : BitVec 32 := 4#32
  let v15_r0 : BitVec 1 := Scalar.cmpi .eq v14_r0 c4_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let v132_r0 : BitVec 32 := Scalar.muli c1_i32_127_r0 v17_r0
  let c128_i32_128_r0 : BitVec 32 := 128#32
  let c0_i32_10_r0 : BitVec 32 := 0#32
  let v13_r0 : BitVec 32 := Scalar.select v12_r0 c0_i32_10_r0 v11_r0
  let c0_i32_15_r0 : BitVec 32 := 0#32
  let v18_r0 : BitVec 32 := Scalar.addi v13_r0 c0_i32_15_r0
  let v133_r0 : BitVec 32 := Scalar.muli c128_i32_128_r0 v18_r0
  let c0_i32_132_r0 : BitVec 32 := 0#32
  ![v132_r0.toNat, v133_r0.toNat, 0]
def k0_cond2 : BitVec 1 :=
  let true_62_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c32_i32_r0 : BitVec 32 := 32#32
  let v12_r0 : BitVec 1 := Scalar.cmpi .eq v11_r0 c32_i32_r0
  let c1_i32_12_r0 : BitVec 32 := 1#32
  let c0_i32_11_r0 : BitVec 32 := 0#32
  let v14_r0 : BitVec 32 := Scalar.select v12_r0 c1_i32_12_r0 c0_i32_11_r0
  let c4_i32_r0 : BitVec 32 := 4#32
  let v15_r0 : BitVec 1 := Scalar.cmpi .eq v14_r0 c4_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let c0_i32_60_r0 : BitVec 32 := 0#32
  let v62_r0 : BitVec 1 := Scalar.cmpi .ne v17_r0 c0_i32_60_r0
  let c0_i32_10_r0 : BitVec 32 := 0#32
  let v13_r0 : BitVec 32 := Scalar.select v12_r0 c0_i32_10_r0 v11_r0
  let c0_i32_15_r0 : BitVec 32 := 0#32
  let v18_r0 : BitVec 32 := Scalar.addi v13_r0 c0_i32_15_r0
  let c0_i32_61_r0 : BitVec 32 := 0#32
  let v63_r0 : BitVec 1 := Scalar.cmpi .ne v18_r0 c0_i32_61_r0
  let v64_r0 : BitVec 1 := Scalar.ori v62_r0 v63_r0
  let v65_r0 : BitVec 1 := Scalar.andi true_62_r0 v64_r0
  let true_63_r0 : BitVec 1 := 1#1
  let v66_r0 : BitVec 1 := Scalar.andi v65_r0 true_63_r0
  let v67_r0 : BitVec 32 := Scalar.extui v66_r0
  let c0_i32_64_r0 : BitVec 32 := 0#32
  let v68_r0 : BitVec 1 := Scalar.cmpi .ne v67_r0 c0_i32_64_r0
  v68_r0

def k0_off6 : Fin 1 → Nat :=
  let c0_i32_52_r0 : BitVec 32 := 0#32
  let c1_i32_53_r0 : BitVec 32 := 1#32
  let v52_r0 : BitVec 32 := Scalar.addi c0_i32_52_r0 c1_i32_53_r0
  let c3_i32_126_r0 : BitVec 32 := 3#32
  let v131_r0 : BitVec 32 := Scalar.remui v52_r0 c3_i32_126_r0
  ![v131_r0.toNat]
def k0_off7 : Fin 4 → Nat :=
  let c0_i32_52_r0 : BitVec 32 := 0#32
  let c1_i32_53_r0 : BitVec 32 := 1#32
  let v52_r0 : BitVec 32 := Scalar.addi c0_i32_52_r0 c1_i32_53_r0
  let c3_i32_126_r0 : BitVec 32 := 3#32
  let v131_r0 : BitVec 32 := Scalar.remui v52_r0 c3_i32_126_r0
  let c0_i32_129_r0 : BitVec 32 := 0#32
  let c0_i32_130_r0 : BitVec 32 := 0#32
  let c0_i32_131_r0 : BitVec 32 := 0#32
  ![v131_r0.toNat, 0, 0, 0]
def k0_off8 : Fin 3 → Nat :=
  let c1_i32_127_r0 : BitVec 32 := 1#32
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c32_i32_r0 : BitVec 32 := 32#32
  let v12_r0 : BitVec 1 := Scalar.cmpi .eq v11_r0 c32_i32_r0
  let c1_i32_12_r0 : BitVec 32 := 1#32
  let c0_i32_11_r0 : BitVec 32 := 0#32
  let v14_r0 : BitVec 32 := Scalar.select v12_r0 c1_i32_12_r0 c0_i32_11_r0
  let c4_i32_r0 : BitVec 32 := 4#32
  let v15_r0 : BitVec 1 := Scalar.cmpi .eq v14_r0 c4_i32_r0
  let c0_i32_13_r0 : BitVec 32 := 0#32
  let v16_r0 : BitVec 32 := Scalar.select v15_r0 c0_i32_13_r0 v14_r0
  let c0_i32_14_r0 : BitVec 32 := 0#32
  let v17_r0 : BitVec 32 := Scalar.addi v16_r0 c0_i32_14_r0
  let v132_r0 : BitVec 32 := Scalar.muli c1_i32_127_r0 v17_r0
  let c128_i32_128_r0 : BitVec 32 := 128#32
  let c0_i32_10_r0 : BitVec 32 := 0#32
  let v13_r0 : BitVec 32 := Scalar.select v12_r0 c0_i32_10_r0 v11_r0
  let c0_i32_15_r0 : BitVec 32 := 0#32
  let v18_r0 : BitVec 32 := Scalar.addi v13_r0 c0_i32_15_r0
  let v133_r0 : BitVec 32 := Scalar.muli c128_i32_128_r0 v18_r0
  let c0_i32_132_r0 : BitVec 32 := 0#32
  ![v132_r0.toNat, v133_r0.toNat, 0]
@[reducible] def k0_t1_loop : Scf.Loop 32 :=
  let c0_i32_72_r0 : BitVec 32 := 0#32
  let c128_i32_r0 : BitVec 32 := 128#32
  let v71_r0 : BitVec 32 := Scalar.addi c0_i32_72_r0 c128_i32_r0
  let c1_i32_73_r0 : BitVec 32 := 1#32
  ⟨c0_i32_72_r0, v71_r0, c1_i32_73_r0⟩
def k0_off9 (arg8_r0 : BitVec 32) : Fin 1 → Nat :=
  let c3_i32_247_r0 : BitVec 32 := 3#32
  let v365_r0 : BitVec 32 := Scalar.remui arg8_r0 c3_i32_247_r0
  ![v365_r0.toNat]
def k0_cond3 (k0_t1 : Fin k0_t1_loop.trips) (arg14_r0 : BitVec 32) (arg15_r0 : BitVec 32) : BitVec 1 :=
  let true_139_r0 : BitVec 1 := 1#1
  let c1_i32_138_r0 : BitVec 32 := 1#32
  let v145_r0 : BitVec 32 := Scalar.addi arg15_r0 c1_i32_138_r0
  let v146_r0 : BitVec 32 := Scalar.select true_139_r0 v145_r0 arg15_r0
  let c32_i32_140_r0 : BitVec 32 := 32#32
  let v147_r0 : BitVec 1 := Scalar.cmpi .eq v146_r0 c32_i32_140_r0
  let c1_i32_142_r0 : BitVec 32 := 1#32
  let v149_r0 : BitVec 32 := Scalar.addi arg14_r0 c1_i32_142_r0
  let v150_r0 : BitVec 32 := Scalar.select v147_r0 v149_r0 arg14_r0
  let c4_i32_143_r0 : BitVec 32 := 4#32
  let v151_r0 : BitVec 1 := Scalar.cmpi .eq v150_r0 c4_i32_143_r0
  let c0_i32_144_r0 : BitVec 32 := 0#32
  let v152_r0 : BitVec 32 := Scalar.select v151_r0 c0_i32_144_r0 v150_r0
  let c0_i32_145_r0 : BitVec 32 := 0#32
  let v153_r0 : BitVec 32 := Scalar.addi v152_r0 c0_i32_145_r0
  let true_148_r0 : BitVec 1 := 1#1
  let c0_i32_141_r0 : BitVec 32 := 0#32
  let v148_r0 : BitVec 32 := Scalar.select v147_r0 c0_i32_141_r0 v146_r0
  let c1_i32_147_r0 : BitVec 32 := 1#32
  let v155_r0 : BitVec 32 := Scalar.addi v148_r0 c1_i32_147_r0
  let v156_r0 : BitVec 32 := Scalar.select true_148_r0 v155_r0 v148_r0
  let c32_i32_149_r0 : BitVec 32 := 32#32
  let v157_r0 : BitVec 1 := Scalar.cmpi .eq v156_r0 c32_i32_149_r0
  let c1_i32_151_r0 : BitVec 32 := 1#32
  let v159_r0 : BitVec 32 := Scalar.addi v152_r0 c1_i32_151_r0
  let v160_r0 : BitVec 32 := Scalar.select v157_r0 v159_r0 v152_r0
  let c4_i32_152_r0 : BitVec 32 := 4#32
  let v161_r0 : BitVec 1 := Scalar.cmpi .eq v160_r0 c4_i32_152_r0
  let c0_i32_153_r0 : BitVec 32 := 0#32
  let v162_r0 : BitVec 32 := Scalar.select v161_r0 c0_i32_153_r0 v160_r0
  let c0_i32_154_r0 : BitVec 32 := 0#32
  let v163_r0 : BitVec 32 := Scalar.addi v162_r0 c0_i32_154_r0
  let v175_r0 : BitVec 1 := Scalar.cmpi .ne v153_r0 v163_r0
  let c0_i32_146_r0 : BitVec 32 := 0#32
  let v154_r0 : BitVec 32 := Scalar.addi v148_r0 c0_i32_146_r0
  let c0_i32_150_r0 : BitVec 32 := 0#32
  let v158_r0 : BitVec 32 := Scalar.select v157_r0 c0_i32_150_r0 v156_r0
  let c0_i32_155_r0 : BitVec 32 := 0#32
  let v164_r0 : BitVec 32 := Scalar.addi v158_r0 c0_i32_155_r0
  let v176_r0 : BitVec 1 := Scalar.cmpi .ne v154_r0 v164_r0
  let v177_r0 : BitVec 1 := Scalar.ori v175_r0 v176_r0
  let c0_i32_72_r0 : BitVec 32 := 0#32
  let c1_i32_73_r0 : BitVec 32 := 1#32
  let arg7_r0 : BitVec 32 := Scf.iv c0_i32_72_r0 c1_i32_73_r0 k0_t1
  let c126_i32_r0 : BitVec 32 := 126#32
  let v178_r0 : BitVec 1 := Scalar.cmpi .sge arg7_r0 c126_i32_r0
  let true_165_r0 : BitVec 1 := 1#1
  let v179_r0 : BitVec 1 := Scalar.xori v178_r0 true_165_r0
  let v180_r0 : BitVec 1 := Scalar.andi v177_r0 v179_r0
  let true_166_r0 : BitVec 1 := 1#1
  let v181_r0 : BitVec 1 := Scalar.andi v180_r0 true_166_r0
  let v182_r0 : BitVec 32 := Scalar.extui v181_r0
  let c0_i32_167_r0 : BitVec 32 := 0#32
  let v183_r0 : BitVec 1 := Scalar.cmpi .ne v182_r0 c0_i32_167_r0
  v183_r0

def k0_off10 (arg8_r0 : BitVec 32) : Fin 4 → Nat :=
  let c3_i32_247_r0 : BitVec 32 := 3#32
  let v365_r0 : BitVec 32 := Scalar.remui arg8_r0 c3_i32_247_r0
  let c0_i32_250_r0 : BitVec 32 := 0#32
  let c0_i32_251_r0 : BitVec 32 := 0#32
  let c0_i32_252_r0 : BitVec 32 := 0#32
  ![v365_r0.toNat, 0, 0, 0]
def k0_off11 (arg14_r0 : BitVec 32) (arg15_r0 : BitVec 32) : Fin 3 → Nat :=
  let c1_i32_248_r0 : BitVec 32 := 1#32
  let true_148_r0 : BitVec 1 := 1#1
  let true_139_r0 : BitVec 1 := 1#1
  let c1_i32_138_r0 : BitVec 32 := 1#32
  let v145_r0 : BitVec 32 := Scalar.addi arg15_r0 c1_i32_138_r0
  let v146_r0 : BitVec 32 := Scalar.select true_139_r0 v145_r0 arg15_r0
  let c32_i32_140_r0 : BitVec 32 := 32#32
  let v147_r0 : BitVec 1 := Scalar.cmpi .eq v146_r0 c32_i32_140_r0
  let c0_i32_141_r0 : BitVec 32 := 0#32
  let v148_r0 : BitVec 32 := Scalar.select v147_r0 c0_i32_141_r0 v146_r0
  let c1_i32_147_r0 : BitVec 32 := 1#32
  let v155_r0 : BitVec 32 := Scalar.addi v148_r0 c1_i32_147_r0
  let v156_r0 : BitVec 32 := Scalar.select true_148_r0 v155_r0 v148_r0
  let c32_i32_149_r0 : BitVec 32 := 32#32
  let v157_r0 : BitVec 1 := Scalar.cmpi .eq v156_r0 c32_i32_149_r0
  let c1_i32_142_r0 : BitVec 32 := 1#32
  let v149_r0 : BitVec 32 := Scalar.addi arg14_r0 c1_i32_142_r0
  let v150_r0 : BitVec 32 := Scalar.select v147_r0 v149_r0 arg14_r0
  let c4_i32_143_r0 : BitVec 32 := 4#32
  let v151_r0 : BitVec 1 := Scalar.cmpi .eq v150_r0 c4_i32_143_r0
  let c0_i32_144_r0 : BitVec 32 := 0#32
  let v152_r0 : BitVec 32 := Scalar.select v151_r0 c0_i32_144_r0 v150_r0
  let c1_i32_151_r0 : BitVec 32 := 1#32
  let v159_r0 : BitVec 32 := Scalar.addi v152_r0 c1_i32_151_r0
  let v160_r0 : BitVec 32 := Scalar.select v157_r0 v159_r0 v152_r0
  let c4_i32_152_r0 : BitVec 32 := 4#32
  let v161_r0 : BitVec 1 := Scalar.cmpi .eq v160_r0 c4_i32_152_r0
  let c0_i32_153_r0 : BitVec 32 := 0#32
  let v162_r0 : BitVec 32 := Scalar.select v161_r0 c0_i32_153_r0 v160_r0
  let c0_i32_154_r0 : BitVec 32 := 0#32
  let v163_r0 : BitVec 32 := Scalar.addi v162_r0 c0_i32_154_r0
  let v366_r0 : BitVec 32 := Scalar.muli c1_i32_248_r0 v163_r0
  let c128_i32_249_r0 : BitVec 32 := 128#32
  let c0_i32_150_r0 : BitVec 32 := 0#32
  let v158_r0 : BitVec 32 := Scalar.select v157_r0 c0_i32_150_r0 v156_r0
  let c0_i32_155_r0 : BitVec 32 := 0#32
  let v164_r0 : BitVec 32 := Scalar.addi v158_r0 c0_i32_155_r0
  let v367_r0 : BitVec 32 := Scalar.muli c128_i32_249_r0 v164_r0
  let c0_i32_253_r0 : BitVec 32 := 0#32
  ![v366_r0.toNat, v367_r0.toNat, 0]
def k0_off12 (arg10_r0 : BitVec 32) : Fin 1 → Nat :=
  let c3_i32_247_r0 : BitVec 32 := 3#32
  let v365_r0 : BitVec 32 := Scalar.remui arg10_r0 c3_i32_247_r0
  ![v365_r0.toNat]
def k0_cond4 (k0_t1 : Fin k0_t1_loop.trips) (arg14_r0 : BitVec 32) (arg15_r0 : BitVec 32) : BitVec 1 :=
  let true_139_r0 : BitVec 1 := 1#1
  let c1_i32_138_r0 : BitVec 32 := 1#32
  let v145_r0 : BitVec 32 := Scalar.addi arg15_r0 c1_i32_138_r0
  let v146_r0 : BitVec 32 := Scalar.select true_139_r0 v145_r0 arg15_r0
  let c32_i32_140_r0 : BitVec 32 := 32#32
  let v147_r0 : BitVec 1 := Scalar.cmpi .eq v146_r0 c32_i32_140_r0
  let c1_i32_142_r0 : BitVec 32 := 1#32
  let v149_r0 : BitVec 32 := Scalar.addi arg14_r0 c1_i32_142_r0
  let v150_r0 : BitVec 32 := Scalar.select v147_r0 v149_r0 arg14_r0
  let c4_i32_143_r0 : BitVec 32 := 4#32
  let v151_r0 : BitVec 1 := Scalar.cmpi .eq v150_r0 c4_i32_143_r0
  let c0_i32_144_r0 : BitVec 32 := 0#32
  let v152_r0 : BitVec 32 := Scalar.select v151_r0 c0_i32_144_r0 v150_r0
  let c0_i32_145_r0 : BitVec 32 := 0#32
  let v153_r0 : BitVec 32 := Scalar.addi v152_r0 c0_i32_145_r0
  let true_148_r0 : BitVec 1 := 1#1
  let c0_i32_141_r0 : BitVec 32 := 0#32
  let v148_r0 : BitVec 32 := Scalar.select v147_r0 c0_i32_141_r0 v146_r0
  let c1_i32_147_r0 : BitVec 32 := 1#32
  let v155_r0 : BitVec 32 := Scalar.addi v148_r0 c1_i32_147_r0
  let v156_r0 : BitVec 32 := Scalar.select true_148_r0 v155_r0 v148_r0
  let c32_i32_149_r0 : BitVec 32 := 32#32
  let v157_r0 : BitVec 1 := Scalar.cmpi .eq v156_r0 c32_i32_149_r0
  let c1_i32_151_r0 : BitVec 32 := 1#32
  let v159_r0 : BitVec 32 := Scalar.addi v152_r0 c1_i32_151_r0
  let v160_r0 : BitVec 32 := Scalar.select v157_r0 v159_r0 v152_r0
  let c4_i32_152_r0 : BitVec 32 := 4#32
  let v161_r0 : BitVec 1 := Scalar.cmpi .eq v160_r0 c4_i32_152_r0
  let c0_i32_153_r0 : BitVec 32 := 0#32
  let v162_r0 : BitVec 32 := Scalar.select v161_r0 c0_i32_153_r0 v160_r0
  let c0_i32_154_r0 : BitVec 32 := 0#32
  let v163_r0 : BitVec 32 := Scalar.addi v162_r0 c0_i32_154_r0
  let v187_r0 : BitVec 1 := Scalar.cmpi .ne v153_r0 v163_r0
  let c0_i32_146_r0 : BitVec 32 := 0#32
  let v154_r0 : BitVec 32 := Scalar.addi v148_r0 c0_i32_146_r0
  let c0_i32_150_r0 : BitVec 32 := 0#32
  let v158_r0 : BitVec 32 := Scalar.select v157_r0 c0_i32_150_r0 v156_r0
  let c0_i32_155_r0 : BitVec 32 := 0#32
  let v164_r0 : BitVec 32 := Scalar.addi v158_r0 c0_i32_155_r0
  let v188_r0 : BitVec 1 := Scalar.cmpi .ne v154_r0 v164_r0
  let v189_r0 : BitVec 1 := Scalar.ori v187_r0 v188_r0
  let c0_i32_72_r0 : BitVec 32 := 0#32
  let c1_i32_73_r0 : BitVec 32 := 1#32
  let arg7_r0 : BitVec 32 := Scf.iv c0_i32_72_r0 c1_i32_73_r0 k0_t1
  let c126_i32_170_r0 : BitVec 32 := 126#32
  let v190_r0 : BitVec 1 := Scalar.cmpi .sge arg7_r0 c126_i32_170_r0
  let true_171_r0 : BitVec 1 := 1#1
  let v191_r0 : BitVec 1 := Scalar.xori v190_r0 true_171_r0
  let v192_r0 : BitVec 1 := Scalar.andi v189_r0 v191_r0
  let true_172_r0 : BitVec 1 := 1#1
  let v193_r0 : BitVec 1 := Scalar.andi v192_r0 true_172_r0
  let v194_r0 : BitVec 32 := Scalar.extui v193_r0
  let c0_i32_173_r0 : BitVec 32 := 0#32
  let v195_r0 : BitVec 1 := Scalar.cmpi .ne v194_r0 c0_i32_173_r0
  v195_r0

def k0_off13 (arg10_r0 : BitVec 32) : Fin 4 → Nat :=
  let c3_i32_247_r0 : BitVec 32 := 3#32
  let v365_r0 : BitVec 32 := Scalar.remui arg10_r0 c3_i32_247_r0
  let c0_i32_250_r0 : BitVec 32 := 0#32
  let c0_i32_251_r0 : BitVec 32 := 0#32
  let c0_i32_252_r0 : BitVec 32 := 0#32
  ![v365_r0.toNat, 0, 0, 0]
def k0_off14 (arg14_r0 : BitVec 32) (arg15_r0 : BitVec 32) : Fin 3 → Nat :=
  let c1_i32_248_r0 : BitVec 32 := 1#32
  let true_148_r0 : BitVec 1 := 1#1
  let true_139_r0 : BitVec 1 := 1#1
  let c1_i32_138_r0 : BitVec 32 := 1#32
  let v145_r0 : BitVec 32 := Scalar.addi arg15_r0 c1_i32_138_r0
  let v146_r0 : BitVec 32 := Scalar.select true_139_r0 v145_r0 arg15_r0
  let c32_i32_140_r0 : BitVec 32 := 32#32
  let v147_r0 : BitVec 1 := Scalar.cmpi .eq v146_r0 c32_i32_140_r0
  let c0_i32_141_r0 : BitVec 32 := 0#32
  let v148_r0 : BitVec 32 := Scalar.select v147_r0 c0_i32_141_r0 v146_r0
  let c1_i32_147_r0 : BitVec 32 := 1#32
  let v155_r0 : BitVec 32 := Scalar.addi v148_r0 c1_i32_147_r0
  let v156_r0 : BitVec 32 := Scalar.select true_148_r0 v155_r0 v148_r0
  let c32_i32_149_r0 : BitVec 32 := 32#32
  let v157_r0 : BitVec 1 := Scalar.cmpi .eq v156_r0 c32_i32_149_r0
  let c1_i32_142_r0 : BitVec 32 := 1#32
  let v149_r0 : BitVec 32 := Scalar.addi arg14_r0 c1_i32_142_r0
  let v150_r0 : BitVec 32 := Scalar.select v147_r0 v149_r0 arg14_r0
  let c4_i32_143_r0 : BitVec 32 := 4#32
  let v151_r0 : BitVec 1 := Scalar.cmpi .eq v150_r0 c4_i32_143_r0
  let c0_i32_144_r0 : BitVec 32 := 0#32
  let v152_r0 : BitVec 32 := Scalar.select v151_r0 c0_i32_144_r0 v150_r0
  let c1_i32_151_r0 : BitVec 32 := 1#32
  let v159_r0 : BitVec 32 := Scalar.addi v152_r0 c1_i32_151_r0
  let v160_r0 : BitVec 32 := Scalar.select v157_r0 v159_r0 v152_r0
  let c4_i32_152_r0 : BitVec 32 := 4#32
  let v161_r0 : BitVec 1 := Scalar.cmpi .eq v160_r0 c4_i32_152_r0
  let c0_i32_153_r0 : BitVec 32 := 0#32
  let v162_r0 : BitVec 32 := Scalar.select v161_r0 c0_i32_153_r0 v160_r0
  let c0_i32_154_r0 : BitVec 32 := 0#32
  let v163_r0 : BitVec 32 := Scalar.addi v162_r0 c0_i32_154_r0
  let v366_r0 : BitVec 32 := Scalar.muli c1_i32_248_r0 v163_r0
  let c128_i32_249_r0 : BitVec 32 := 128#32
  let c0_i32_150_r0 : BitVec 32 := 0#32
  let v158_r0 : BitVec 32 := Scalar.select v157_r0 c0_i32_150_r0 v156_r0
  let c0_i32_155_r0 : BitVec 32 := 0#32
  let v164_r0 : BitVec 32 := Scalar.addi v158_r0 c0_i32_155_r0
  let v367_r0 : BitVec 32 := Scalar.muli c128_i32_249_r0 v164_r0
  let c0_i32_253_r0 : BitVec 32 := 0#32
  ![v366_r0.toNat, v367_r0.toNat, 0]
def k0_off15 (arg9_r0 : BitVec 32) : Fin 1 → Nat :=
  let c3_i32_249_r0 : BitVec 32 := 3#32
  let v367_r0 : BitVec 32 := Scalar.remui arg9_r0 c3_i32_249_r0
  ![v367_r0.toNat]
def k0_cond5 (k0_t1 : Fin k0_t1_loop.trips) (arg14_r0 : BitVec 32) (arg15_r0 : BitVec 32) : BitVec 1 :=
  let c0_i32_127_r0 : BitVec 32 := 0#32
  let v133_r0 : BitVec 32 := Scalar.addi arg14_r0 c0_i32_127_r0
  let true_130_r0 : BitVec 1 := 1#1
  let c1_i32_129_r0 : BitVec 32 := 1#32
  let v135_r0 : BitVec 32 := Scalar.subi arg15_r0 c1_i32_129_r0
  let v136_r0 : BitVec 32 := Scalar.select true_130_r0 v135_r0 arg15_r0
  let c_m1_i32_131_r0 : BitVec 32 := 4294967295#32
  let v137_r0 : BitVec 1 := Scalar.cmpi .eq v136_r0 c_m1_i32_131_r0
  let c1_i32_133_r0 : BitVec 32 := 1#32
  let v139_r0 : BitVec 32 := Scalar.subi arg14_r0 c1_i32_133_r0
  let v140_r0 : BitVec 32 := Scalar.select v137_r0 v139_r0 arg14_r0
  let c_m1_i32_134_r0 : BitVec 32 := 4294967295#32
  let v141_r0 : BitVec 1 := Scalar.cmpi .eq v140_r0 c_m1_i32_134_r0
  let c3_i32_135_r0 : BitVec 32 := 3#32
  let v142_r0 : BitVec 32 := Scalar.select v141_r0 c3_i32_135_r0 v140_r0
  let c0_i32_136_r0 : BitVec 32 := 0#32
  let v143_r0 : BitVec 32 := Scalar.addi v142_r0 c0_i32_136_r0
  let v205_r0 : BitVec 1 := Scalar.cmpi .ne v133_r0 v143_r0
  let c0_i32_128_r0 : BitVec 32 := 0#32
  let v134_r0 : BitVec 32 := Scalar.addi arg15_r0 c0_i32_128_r0
  let c31_i32_132_r0 : BitVec 32 := 31#32
  let v138_r0 : BitVec 32 := Scalar.select v137_r0 c31_i32_132_r0 v136_r0
  let c0_i32_137_r0 : BitVec 32 := 0#32
  let v144_r0 : BitVec 32 := Scalar.addi v138_r0 c0_i32_137_r0
  let v206_r0 : BitVec 1 := Scalar.cmpi .ne v134_r0 v144_r0
  let v207_r0 : BitVec 1 := Scalar.ori v205_r0 v206_r0
  let c0_i32_72_r0 : BitVec 32 := 0#32
  let c1_i32_73_r0 : BitVec 32 := 1#32
  let arg7_r0 : BitVec 32 := Scf.iv c0_i32_72_r0 c1_i32_73_r0 k0_t1
  let c0_i32_126_r0 : BitVec 32 := 0#32
  let v131_r0 : BitVec 1 := Scalar.cmpi .eq arg7_r0 c0_i32_126_r0
  let v208_r0 : BitVec 1 := Scalar.ori v207_r0 v131_r0
  let c0_i32_178_r0 : BitVec 32 := 0#32
  let v209_r0 : BitVec 1 := Scalar.cmpi .sge arg7_r0 c0_i32_178_r0
  let v210_r0 : BitVec 1 := Scalar.andi v208_r0 v209_r0
  let v211_r0 : BitVec 32 := Scalar.extui v210_r0
  let c0_i32_179_r0 : BitVec 32 := 0#32
  let v212_r0 : BitVec 1 := Scalar.cmpi .ne v211_r0 c0_i32_179_r0
  v212_r0

def k0_off16 (arg9_r0 : BitVec 32) : Fin 4 → Nat :=
  let c3_i32_249_r0 : BitVec 32 := 3#32
  let v367_r0 : BitVec 32 := Scalar.remui arg9_r0 c3_i32_249_r0
  let c0_i32_250_r0 : BitVec 32 := 0#32
  let c0_i32_251_r0 : BitVec 32 := 0#32
  let c0_i32_252_r0 : BitVec 32 := 0#32
  ![v367_r0.toNat, 0, 0, 0]
def k0_off17 (arg14_r0 : BitVec 32) (arg15_r0 : BitVec 32) : Fin 3 → Nat :=
  let c1_i32_247_r0 : BitVec 32 := 1#32
  let c0_i32_127_r0 : BitVec 32 := 0#32
  let v133_r0 : BitVec 32 := Scalar.addi arg14_r0 c0_i32_127_r0
  let v365_r0 : BitVec 32 := Scalar.muli c1_i32_247_r0 v133_r0
  let c128_i32_248_r0 : BitVec 32 := 128#32
  let c0_i32_128_r0 : BitVec 32 := 0#32
  let v134_r0 : BitVec 32 := Scalar.addi arg15_r0 c0_i32_128_r0
  let v366_r0 : BitVec 32 := Scalar.muli c128_i32_248_r0 v134_r0
  let c0_i32_253_r0 : BitVec 32 := 0#32
  ![v365_r0.toNat, v366_r0.toNat, 0]
def k0_off18 (arg11_r0 : BitVec 32) : Fin 1 → Nat :=
  let c3_i32_249_r0 : BitVec 32 := 3#32
  let v367_r0 : BitVec 32 := Scalar.remui arg11_r0 c3_i32_249_r0
  ![v367_r0.toNat]
def k0_cond6 (k0_t1 : Fin k0_t1_loop.trips) (arg14_r0 : BitVec 32) (arg15_r0 : BitVec 32) : BitVec 1 :=
  let c0_i32_127_r0 : BitVec 32 := 0#32
  let v133_r0 : BitVec 32 := Scalar.addi arg14_r0 c0_i32_127_r0
  let true_130_r0 : BitVec 1 := 1#1
  let c1_i32_129_r0 : BitVec 32 := 1#32
  let v135_r0 : BitVec 32 := Scalar.subi arg15_r0 c1_i32_129_r0
  let v136_r0 : BitVec 32 := Scalar.select true_130_r0 v135_r0 arg15_r0
  let c_m1_i32_131_r0 : BitVec 32 := 4294967295#32
  let v137_r0 : BitVec 1 := Scalar.cmpi .eq v136_r0 c_m1_i32_131_r0
  let c1_i32_133_r0 : BitVec 32 := 1#32
  let v139_r0 : BitVec 32 := Scalar.subi arg14_r0 c1_i32_133_r0
  let v140_r0 : BitVec 32 := Scalar.select v137_r0 v139_r0 arg14_r0
  let c_m1_i32_134_r0 : BitVec 32 := 4294967295#32
  let v141_r0 : BitVec 1 := Scalar.cmpi .eq v140_r0 c_m1_i32_134_r0
  let c3_i32_135_r0 : BitVec 32 := 3#32
  let v142_r0 : BitVec 32 := Scalar.select v141_r0 c3_i32_135_r0 v140_r0
  let c0_i32_136_r0 : BitVec 32 := 0#32
  let v143_r0 : BitVec 32 := Scalar.addi v142_r0 c0_i32_136_r0
  let v213_r0 : BitVec 1 := Scalar.cmpi .ne v133_r0 v143_r0
  let c0_i32_128_r0 : BitVec 32 := 0#32
  let v134_r0 : BitVec 32 := Scalar.addi arg15_r0 c0_i32_128_r0
  let c31_i32_132_r0 : BitVec 32 := 31#32
  let v138_r0 : BitVec 32 := Scalar.select v137_r0 c31_i32_132_r0 v136_r0
  let c0_i32_137_r0 : BitVec 32 := 0#32
  let v144_r0 : BitVec 32 := Scalar.addi v138_r0 c0_i32_137_r0
  let v214_r0 : BitVec 1 := Scalar.cmpi .ne v134_r0 v144_r0
  let v215_r0 : BitVec 1 := Scalar.ori v213_r0 v214_r0
  let c0_i32_72_r0 : BitVec 32 := 0#32
  let c1_i32_73_r0 : BitVec 32 := 1#32
  let arg7_r0 : BitVec 32 := Scf.iv c0_i32_72_r0 c1_i32_73_r0 k0_t1
  let c0_i32_126_r0 : BitVec 32 := 0#32
  let v131_r0 : BitVec 1 := Scalar.cmpi .eq arg7_r0 c0_i32_126_r0
  let v216_r0 : BitVec 1 := Scalar.ori v215_r0 v131_r0
  let c0_i32_180_r0 : BitVec 32 := 0#32
  let v217_r0 : BitVec 1 := Scalar.cmpi .sge arg7_r0 c0_i32_180_r0
  let v218_r0 : BitVec 1 := Scalar.andi v216_r0 v217_r0
  let v219_r0 : BitVec 32 := Scalar.extui v218_r0
  let c0_i32_181_r0 : BitVec 32 := 0#32
  let v220_r0 : BitVec 1 := Scalar.cmpi .ne v219_r0 c0_i32_181_r0
  v220_r0

def k0_off19 (arg11_r0 : BitVec 32) : Fin 4 → Nat :=
  let c3_i32_249_r0 : BitVec 32 := 3#32
  let v367_r0 : BitVec 32 := Scalar.remui arg11_r0 c3_i32_249_r0
  let c0_i32_250_r0 : BitVec 32 := 0#32
  let c0_i32_251_r0 : BitVec 32 := 0#32
  let c0_i32_252_r0 : BitVec 32 := 0#32
  ![v367_r0.toNat, 0, 0, 0]
def k0_off20 (arg14_r0 : BitVec 32) (arg15_r0 : BitVec 32) : Fin 3 → Nat :=
  let c1_i32_247_r0 : BitVec 32 := 1#32
  let c0_i32_127_r0 : BitVec 32 := 0#32
  let v133_r0 : BitVec 32 := Scalar.addi arg14_r0 c0_i32_127_r0
  let v365_r0 : BitVec 32 := Scalar.muli c1_i32_247_r0 v133_r0
  let c128_i32_248_r0 : BitVec 32 := 128#32
  let c0_i32_128_r0 : BitVec 32 := 0#32
  let v134_r0 : BitVec 32 := Scalar.addi arg15_r0 c0_i32_128_r0
  let v366_r0 : BitVec 32 := Scalar.muli c128_i32_248_r0 v134_r0
  let c0_i32_253_r0 : BitVec 32 := 0#32
  ![v365_r0.toNat, v366_r0.toNat, 0]
def k0_off21 (arg9_r0 : BitVec 32) : Fin 4 → Nat :=
  let c3_i32_184_r0 : BitVec 32 := 3#32
  let v229_r0 : BitVec 32 := Scalar.remui arg9_r0 c3_i32_184_r0
  let c0_i32_187_r0 : BitVec 32 := 0#32
  let c0_i32_188_r0 : BitVec 32 := 0#32
  let c0_i32_189_r0 : BitVec 32 := 0#32
  ![v229_r0.toNat, 0, 0, 0]

def k0_chk2 (arg9_r0 : BitVec 32) : Prop :=
  (∀ a, (k0_off21 arg9_r0) a + S1x1x128x4096.size a ≤ S3x1x128x4096.size a)
theorem k0_off21_inb : ∀ (arg9_r0 : BitVec 32) (k0_hw2 : k0_chk2 arg9_r0), ∀ a, (k0_off21 arg9_r0) a + S1x1x128x4096.size a ≤ S3x1x128x4096.size a := fun arg9_r0 k0_hw2 => k0_hw2

def k0_off22 (arg11_r0 : BitVec 32) : Fin 4 → Nat :=
  let c3_i32_185_r0 : BitVec 32 := 3#32
  let v230_r0 : BitVec 32 := Scalar.remui arg11_r0 c3_i32_185_r0
  let c0_i32_201_r0 : BitVec 32 := 0#32
  let c0_i32_202_r0 : BitVec 32 := 0#32
  let c0_i32_203_r0 : BitVec 32 := 0#32
  ![v230_r0.toNat, 0, 0, 0]

def k0_chk3 (arg11_r0 : BitVec 32) : Prop :=
  (∀ a, (k0_off22 arg11_r0) a + S1x1x128x4096.size a ≤ S3x1x128x4096.size a)
theorem k0_off22_inb : ∀ (arg11_r0 : BitVec 32) (k0_hw3 : k0_chk3 arg11_r0), ∀ a, (k0_off22 arg11_r0) a + S1x1x128x4096.size a ≤ S3x1x128x4096.size a := fun arg11_r0 k0_hw3 => k0_hw3

def k0_off23 (arg12_r0 : BitVec 32) : Fin 4 → Nat :=
  let c2_i32_186_r0 : BitVec 32 := 2#32
  let v231_r0 : BitVec 32 := Scalar.remui arg12_r0 c2_i32_186_r0
  let c0_i32_216_r0 : BitVec 32 := 0#32
  let c0_i32_217_r0 : BitVec 32 := 0#32
  let c0_i32_218_r0 : BitVec 32 := 0#32
  ![v231_r0.toNat, 0, 0, 0]

def k0_chk4 (arg12_r0 : BitVec 32) : Prop :=
  (∀ a, (k0_off23 arg12_r0) a + S1x1x128x4096.size a ≤ S2x1x128x4096.size a)
theorem k0_off23_inb : ∀ (arg12_r0 : BitVec 32) (k0_hw4 : k0_chk4 arg12_r0), ∀ a, (k0_off23 arg12_r0) a + S1x1x128x4096.size a ≤ S2x1x128x4096.size a := fun arg12_r0 k0_hw4 => k0_hw4

def k0_off24 (arg12_r0 : BitVec 32) : Fin 1 → Nat :=
  let c2_i32_247_r0 : BitVec 32 := 2#32
  let v365_r0 : BitVec 32 := Scalar.remui arg12_r0 c2_i32_247_r0
  ![v365_r0.toNat]
def k0_cond10 (k0_t1 : Fin k0_t1_loop.trips) (arg14_r0 : BitVec 32) (arg15_r0 : BitVec 32) : BitVec 1 :=
  let c0_i32_127_r0 : BitVec 32 := 0#32
  let v133_r0 : BitVec 32 := Scalar.addi arg14_r0 c0_i32_127_r0
  let true_139_r0 : BitVec 1 := 1#1
  let c1_i32_138_r0 : BitVec 32 := 1#32
  let v145_r0 : BitVec 32 := Scalar.addi arg15_r0 c1_i32_138_r0
  let v146_r0 : BitVec 32 := Scalar.select true_139_r0 v145_r0 arg15_r0
  let c32_i32_140_r0 : BitVec 32 := 32#32
  let v147_r0 : BitVec 1 := Scalar.cmpi .eq v146_r0 c32_i32_140_r0
  let c1_i32_142_r0 : BitVec 32 := 1#32
  let v149_r0 : BitVec 32 := Scalar.addi arg14_r0 c1_i32_142_r0
  let v150_r0 : BitVec 32 := Scalar.select v147_r0 v149_r0 arg14_r0
  let c4_i32_143_r0 : BitVec 32 := 4#32
  let v151_r0 : BitVec 1 := Scalar.cmpi .eq v150_r0 c4_i32_143_r0
  let c0_i32_144_r0 : BitVec 32 := 0#32
  let v152_r0 : BitVec 32 := Scalar.select v151_r0 c0_i32_144_r0 v150_r0
  let c0_i32_145_r0 : BitVec 32 := 0#32
  let v153_r0 : BitVec 32 := Scalar.addi v152_r0 c0_i32_145_r0
  let v310_r0 : BitVec 1 := Scalar.cmpi .ne v133_r0 v153_r0
  let c0_i32_128_r0 : BitVec 32 := 0#32
  let v134_r0 : BitVec 32 := Scalar.addi arg15_r0 c0_i32_128_r0
  let c0_i32_141_r0 : BitVec 32 := 0#32
  let v148_r0 : BitVec 32 := Scalar.select v147_r0 c0_i32_141_r0 v146_r0
  let c0_i32_146_r0 : BitVec 32 := 0#32
  let v154_r0 : BitVec 32 := Scalar.addi v148_r0 c0_i32_146_r0
  let v311_r0 : BitVec 1 := Scalar.cmpi .ne v134_r0 v154_r0
  let v312_r0 : BitVec 1 := Scalar.ori v310_r0 v311_r0
  let c0_i32_72_r0 : BitVec 32 := 0#32
  let c1_i32_73_r0 : BitVec 32 := 1#32
  let arg7_r0 : BitVec 32 := Scf.iv c0_i32_72_r0 c1_i32_73_r0 k0_t1
  let c127_i32_r0 : BitVec 32 := 127#32
  let v132_r0 : BitVec 1 := Scalar.cmpi .eq arg7_r0 c127_i32_r0
  let v313_r0 : BitVec 1 := Scalar.ori v312_r0 v132_r0
  let v314_r0 : BitVec 32 := Scalar.extui v313_r0
  let c0_i32_225_r0 : BitVec 32 := 0#32
  let v315_r0 : BitVec 1 := Scalar.cmpi .ne v314_r0 c0_i32_225_r0
  v315_r0

def k0_off25 (arg14_r0 : BitVec 32) (arg15_r0 : BitVec 32) : Fin 3 → Nat :=
  let c1_i32_248_r0 : BitVec 32 := 1#32
  let c0_i32_127_r0 : BitVec 32 := 0#32
  let v133_r0 : BitVec 32 := Scalar.addi arg14_r0 c0_i32_127_r0
  let v366_r0 : BitVec 32 := Scalar.muli c1_i32_248_r0 v133_r0
  let c128_i32_249_r0 : BitVec 32 := 128#32
  let c0_i32_128_r0 : BitVec 32 := 0#32
  let v134_r0 : BitVec 32 := Scalar.addi arg15_r0 c0_i32_128_r0
  let v367_r0 : BitVec 32 := Scalar.muli c128_i32_249_r0 v134_r0
  let c0_i32_250_r0 : BitVec 32 := 0#32
  ![v366_r0.toNat, v367_r0.toNat, 0]
def k0_off26 (arg12_r0 : BitVec 32) : Fin 4 → Nat :=
  let c2_i32_247_r0 : BitVec 32 := 2#32
  let v365_r0 : BitVec 32 := Scalar.remui arg12_r0 c2_i32_247_r0
  let c0_i32_251_r0 : BitVec 32 := 0#32
  let c0_i32_252_r0 : BitVec 32 := 0#32
  let c0_i32_253_r0 : BitVec 32 := 0#32
  ![v365_r0.toNat, 0, 0, 0]
def k0_off27 (arg13_r0 : BitVec 32) : Fin 1 → Nat :=
  let c2_i32_247_r0 : BitVec 32 := 2#32
  let v365_r0 : BitVec 32 := Scalar.remui arg13_r0 c2_i32_247_r0
  ![v365_r0.toNat]
def k0_cond13 (k0_t1 : Fin k0_t1_loop.trips) (arg14_r0 : BitVec 32) (arg15_r0 : BitVec 32) : BitVec 1 :=
  let c0_i32_127_r0 : BitVec 32 := 0#32
  let v133_r0 : BitVec 32 := Scalar.addi arg14_r0 c0_i32_127_r0
  let true_130_r0 : BitVec 1 := 1#1
  let c1_i32_129_r0 : BitVec 32 := 1#32
  let v135_r0 : BitVec 32 := Scalar.subi arg15_r0 c1_i32_129_r0
  let v136_r0 : BitVec 32 := Scalar.select true_130_r0 v135_r0 arg15_r0
  let c_m1_i32_131_r0 : BitVec 32 := 4294967295#32
  let v137_r0 : BitVec 1 := Scalar.cmpi .eq v136_r0 c_m1_i32_131_r0
  let c1_i32_133_r0 : BitVec 32 := 1#32
  let v139_r0 : BitVec 32 := Scalar.subi arg14_r0 c1_i32_133_r0
  let v140_r0 : BitVec 32 := Scalar.select v137_r0 v139_r0 arg14_r0
  let c_m1_i32_134_r0 : BitVec 32 := 4294967295#32
  let v141_r0 : BitVec 1 := Scalar.cmpi .eq v140_r0 c_m1_i32_134_r0
  let c3_i32_135_r0 : BitVec 32 := 3#32
  let v142_r0 : BitVec 32 := Scalar.select v141_r0 c3_i32_135_r0 v140_r0
  let c0_i32_136_r0 : BitVec 32 := 0#32
  let v143_r0 : BitVec 32 := Scalar.addi v142_r0 c0_i32_136_r0
  let v335_r0 : BitVec 1 := Scalar.cmpi .ne v133_r0 v143_r0
  let c0_i32_128_r0 : BitVec 32 := 0#32
  let v134_r0 : BitVec 32 := Scalar.addi arg15_r0 c0_i32_128_r0
  let c31_i32_132_r0 : BitVec 32 := 31#32
  let v138_r0 : BitVec 32 := Scalar.select v137_r0 c31_i32_132_r0 v136_r0
  let c0_i32_137_r0 : BitVec 32 := 0#32
  let v144_r0 : BitVec 32 := Scalar.addi v138_r0 c0_i32_137_r0
  let v336_r0 : BitVec 1 := Scalar.cmpi .ne v134_r0 v144_r0
  let v337_r0 : BitVec 1 := Scalar.ori v335_r0 v336_r0
  let c0_i32_72_r0 : BitVec 32 := 0#32
  let c1_i32_73_r0 : BitVec 32 := 1#32
  let arg7_r0 : BitVec 32 := Scf.iv c0_i32_72_r0 c1_i32_73_r0 k0_t1
  let c0_i32_126_r0 : BitVec 32 := 0#32
  let v131_r0 : BitVec 1 := Scalar.cmpi .eq arg7_r0 c0_i32_126_r0
  let true_234_r0 : BitVec 1 := 1#1
  let v338_r0 : BitVec 1 := Scalar.xori v131_r0 true_234_r0
  let v339_r0 : BitVec 1 := Scalar.andi v337_r0 v338_r0
  let v340_r0 : BitVec 32 := Scalar.extui v339_r0
  let c0_i32_235_r0 : BitVec 32 := 0#32
  let v341_r0 : BitVec 1 := Scalar.cmpi .ne v340_r0 c0_i32_235_r0
  v341_r0

def k0_off28 (arg14_r0 : BitVec 32) (arg15_r0 : BitVec 32) : Fin 3 → Nat :=
  let c1_i32_248_r0 : BitVec 32 := 1#32
  let true_130_r0 : BitVec 1 := 1#1
  let c1_i32_129_r0 : BitVec 32 := 1#32
  let v135_r0 : BitVec 32 := Scalar.subi arg15_r0 c1_i32_129_r0
  let v136_r0 : BitVec 32 := Scalar.select true_130_r0 v135_r0 arg15_r0
  let c_m1_i32_131_r0 : BitVec 32 := 4294967295#32
  let v137_r0 : BitVec 1 := Scalar.cmpi .eq v136_r0 c_m1_i32_131_r0
  let c1_i32_133_r0 : BitVec 32 := 1#32
  let v139_r0 : BitVec 32 := Scalar.subi arg14_r0 c1_i32_133_r0
  let v140_r0 : BitVec 32 := Scalar.select v137_r0 v139_r0 arg14_r0
  let c_m1_i32_134_r0 : BitVec 32 := 4294967295#32
  let v141_r0 : BitVec 1 := Scalar.cmpi .eq v140_r0 c_m1_i32_134_r0
  let c3_i32_135_r0 : BitVec 32 := 3#32
  let v142_r0 : BitVec 32 := Scalar.select v141_r0 c3_i32_135_r0 v140_r0
  let c0_i32_136_r0 : BitVec 32 := 0#32
  let v143_r0 : BitVec 32 := Scalar.addi v142_r0 c0_i32_136_r0
  let v366_r0 : BitVec 32 := Scalar.muli c1_i32_248_r0 v143_r0
  let c128_i32_249_r0 : BitVec 32 := 128#32
  let c31_i32_132_r0 : BitVec 32 := 31#32
  let v138_r0 : BitVec 32 := Scalar.select v137_r0 c31_i32_132_r0 v136_r0
  let c0_i32_137_r0 : BitVec 32 := 0#32
  let v144_r0 : BitVec 32 := Scalar.addi v138_r0 c0_i32_137_r0
  let v367_r0 : BitVec 32 := Scalar.muli c128_i32_249_r0 v144_r0
  let c0_i32_250_r0 : BitVec 32 := 0#32
  ![v366_r0.toNat, v367_r0.toNat, 0]
def k0_off29 (arg13_r0 : BitVec 32) : Fin 4 → Nat :=
  let c2_i32_247_r0 : BitVec 32 := 2#32
  let v365_r0 : BitVec 32 := Scalar.remui arg13_r0 c2_i32_247_r0
  let c0_i32_251_r0 : BitVec 32 := 0#32
  let c0_i32_252_r0 : BitVec 32 := 0#32
  let c0_i32_253_r0 : BitVec 32 := 0#32
  ![v365_r0.toNat, 0, 0, 0]

def k0_chk1 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) : Prop :=
  (∀ (k0_h3 : k0_cond3 k0_t1 arg14_r0 arg15_r0 = 1#1), ∀ a, (k0_off9 arg8_r0) a + S1.size a ≤ S3.size a) ∧
  (∀ (k0_h3 : k0_cond3 k0_t1 arg14_r0 arg15_r0 = 1#1), ∀ a, (k0_off10 arg8_r0) a + S1x1x128x4096.size a ≤ S3x1x128x4096.size a) ∧
  (∀ (k0_h3 : k0_cond3 k0_t1 arg14_r0 arg15_r0 = 1#1), ∀ a, (k0_off11 arg14_r0 arg15_r0) a + S1x128x4096.size a ≤ S4x4096x4096.size a) ∧
  (∀ (k0_h4 : k0_cond4 k0_t1 arg14_r0 arg15_r0 = 1#1), ∀ a, (k0_off12 arg10_r0) a + S1.size a ≤ S3.size a) ∧
  (∀ (k0_h4 : k0_cond4 k0_t1 arg14_r0 arg15_r0 = 1#1), ∀ a, (k0_off13 arg10_r0) a + S1x1x128x4096.size a ≤ S3x1x128x4096.size a) ∧
  (∀ (k0_h4 : k0_cond4 k0_t1 arg14_r0 arg15_r0 = 1#1), ∀ a, (k0_off14 arg14_r0 arg15_r0) a + S1x128x4096.size a ≤ S4x4096x4096.size a) ∧
  (∀ (k0_h5 : k0_cond5 k0_t1 arg14_r0 arg15_r0 = 1#1), ∀ a, (k0_off15 arg9_r0) a + S1.size a ≤ S3.size a) ∧
  (∀ (k0_h5 : k0_cond5 k0_t1 arg14_r0 arg15_r0 = 1#1), ∀ a, (k0_off16 arg9_r0) a + S1x1x128x4096.size a ≤ S3x1x128x4096.size a) ∧
  (∀ (k0_h5 : k0_cond5 k0_t1 arg14_r0 arg15_r0 = 1#1), ∀ a, (k0_off17 arg14_r0 arg15_r0) a + S1x128x4096.size a ≤ S4x4096x4096.size a) ∧
  (∀ (k0_h6 : k0_cond6 k0_t1 arg14_r0 arg15_r0 = 1#1), ∀ a, (k0_off18 arg11_r0) a + S1.size a ≤ S3.size a) ∧
  (∀ (k0_h6 : k0_cond6 k0_t1 arg14_r0 arg15_r0 = 1#1), ∀ a, (k0_off19 arg11_r0) a + S1x1x128x4096.size a ≤ S3x1x128x4096.size a) ∧
  (∀ (k0_h6 : k0_cond6 k0_t1 arg14_r0 arg15_r0 = 1#1), ∀ a, (k0_off20 arg14_r0 arg15_r0) a + S1x128x4096.size a ≤ S4x4096x4096.size a) ∧
  (∀ (k0_h10 : k0_cond10 k0_t1 arg14_r0 arg15_r0 = 1#1), ∀ a, (k0_off24 arg12_r0) a + S1.size a ≤ S2.size a) ∧
  (∀ (k0_h10 : k0_cond10 k0_t1 arg14_r0 arg15_r0 = 1#1), ∀ a, (k0_off25 arg14_r0 arg15_r0) a + S1x128x4096.size a ≤ S4x4096x4096.size a) ∧
  (∀ (k0_h10 : k0_cond10 k0_t1 arg14_r0 arg15_r0 = 1#1), ∀ a, (k0_off26 arg12_r0) a + S1x1x128x4096.size a ≤ S2x1x128x4096.size a) ∧
  (∀ (k0_h13 : k0_cond13 k0_t1 arg14_r0 arg15_r0 = 1#1), ∀ a, (k0_off27 arg13_r0) a + S1.size a ≤ S2.size a) ∧
  (∀ (k0_h13 : k0_cond13 k0_t1 arg14_r0 arg15_r0 = 1#1), ∀ a, (k0_off28 arg14_r0 arg15_r0) a + S1x128x4096.size a ≤ S4x4096x4096.size a) ∧
  (∀ (k0_h13 : k0_cond13 k0_t1 arg14_r0 arg15_r0 = 1#1), ∀ a, (k0_off29 arg13_r0) a + S1x1x128x4096.size a ≤ S2x1x128x4096.size a)
theorem k0_off9_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg8_r0 arg9_r0 arg10_r0 arg11_r0 arg12_r0 arg13_r0 arg14_r0 arg15_r0), ∀ (k0_h3 : k0_cond3 k0_t1 arg14_r0 arg15_r0 = 1#1), ∀ a, (k0_off9 arg8_r0) a + S1.size a ≤ S3.size a := fun k0_t1 arg8_r0 arg9_r0 arg10_r0 arg11_r0 arg12_r0 arg13_r0 arg14_r0 arg15_r0 k0_hw1 k0_h3 => k0_hw1.1 k0_h3
theorem k0_off10_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg8_r0 arg9_r0 arg10_r0 arg11_r0 arg12_r0 arg13_r0 arg14_r0 arg15_r0), ∀ (k0_h3 : k0_cond3 k0_t1 arg14_r0 arg15_r0 = 1#1), ∀ a, (k0_off10 arg8_r0) a + S1x1x128x4096.size a ≤ S3x1x128x4096.size a := fun k0_t1 arg8_r0 arg9_r0 arg10_r0 arg11_r0 arg12_r0 arg13_r0 arg14_r0 arg15_r0 k0_hw1 k0_h3 => k0_hw1.2.1 k0_h3
theorem k0_off11_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg8_r0 arg9_r0 arg10_r0 arg11_r0 arg12_r0 arg13_r0 arg14_r0 arg15_r0), ∀ (k0_h3 : k0_cond3 k0_t1 arg14_r0 arg15_r0 = 1#1), ∀ a, (k0_off11 arg14_r0 arg15_r0) a + S1x128x4096.size a ≤ S4x4096x4096.size a := fun k0_t1 arg8_r0 arg9_r0 arg10_r0 arg11_r0 arg12_r0 arg13_r0 arg14_r0 arg15_r0 k0_hw1 k0_h3 => k0_hw1.2.2.1 k0_h3
theorem k0_off12_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg8_r0 arg9_r0 arg10_r0 arg11_r0 arg12_r0 arg13_r0 arg14_r0 arg15_r0), ∀ (k0_h4 : k0_cond4 k0_t1 arg14_r0 arg15_r0 = 1#1), ∀ a, (k0_off12 arg10_r0) a + S1.size a ≤ S3.size a := fun k0_t1 arg8_r0 arg9_r0 arg10_r0 arg11_r0 arg12_r0 arg13_r0 arg14_r0 arg15_r0 k0_hw1 k0_h4 => k0_hw1.2.2.2.1 k0_h4
theorem k0_off13_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg8_r0 arg9_r0 arg10_r0 arg11_r0 arg12_r0 arg13_r0 arg14_r0 arg15_r0), ∀ (k0_h4 : k0_cond4 k0_t1 arg14_r0 arg15_r0 = 1#1), ∀ a, (k0_off13 arg10_r0) a + S1x1x128x4096.size a ≤ S3x1x128x4096.size a := fun k0_t1 arg8_r0 arg9_r0 arg10_r0 arg11_r0 arg12_r0 arg13_r0 arg14_r0 arg15_r0 k0_hw1 k0_h4 => k0_hw1.2.2.2.2.1 k0_h4
theorem k0_off14_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg8_r0 arg9_r0 arg10_r0 arg11_r0 arg12_r0 arg13_r0 arg14_r0 arg15_r0), ∀ (k0_h4 : k0_cond4 k0_t1 arg14_r0 arg15_r0 = 1#1), ∀ a, (k0_off14 arg14_r0 arg15_r0) a + S1x128x4096.size a ≤ S4x4096x4096.size a := fun k0_t1 arg8_r0 arg9_r0 arg10_r0 arg11_r0 arg12_r0 arg13_r0 arg14_r0 arg15_r0 k0_hw1 k0_h4 => k0_hw1.2.2.2.2.2.1 k0_h4
theorem k0_off15_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg8_r0 arg9_r0 arg10_r0 arg11_r0 arg12_r0 arg13_r0 arg14_r0 arg15_r0), ∀ (k0_h5 : k0_cond5 k0_t1 arg14_r0 arg15_r0 = 1#1), ∀ a, (k0_off15 arg9_r0) a + S1.size a ≤ S3.size a := fun k0_t1 arg8_r0 arg9_r0 arg10_r0 arg11_r0 arg12_r0 arg13_r0 arg14_r0 arg15_r0 k0_hw1 k0_h5 => k0_hw1.2.2.2.2.2.2.1 k0_h5
theorem k0_off16_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg8_r0 arg9_r0 arg10_r0 arg11_r0 arg12_r0 arg13_r0 arg14_r0 arg15_r0), ∀ (k0_h5 : k0_cond5 k0_t1 arg14_r0 arg15_r0 = 1#1), ∀ a, (k0_off16 arg9_r0) a + S1x1x128x4096.size a ≤ S3x1x128x4096.size a := fun k0_t1 arg8_r0 arg9_r0 arg10_r0 arg11_r0 arg12_r0 arg13_r0 arg14_r0 arg15_r0 k0_hw1 k0_h5 => k0_hw1.2.2.2.2.2.2.2.1 k0_h5
theorem k0_off17_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg8_r0 arg9_r0 arg10_r0 arg11_r0 arg12_r0 arg13_r0 arg14_r0 arg15_r0), ∀ (k0_h5 : k0_cond5 k0_t1 arg14_r0 arg15_r0 = 1#1), ∀ a, (k0_off17 arg14_r0 arg15_r0) a + S1x128x4096.size a ≤ S4x4096x4096.size a := fun k0_t1 arg8_r0 arg9_r0 arg10_r0 arg11_r0 arg12_r0 arg13_r0 arg14_r0 arg15_r0 k0_hw1 k0_h5 => k0_hw1.2.2.2.2.2.2.2.2.1 k0_h5
theorem k0_off18_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg8_r0 arg9_r0 arg10_r0 arg11_r0 arg12_r0 arg13_r0 arg14_r0 arg15_r0), ∀ (k0_h6 : k0_cond6 k0_t1 arg14_r0 arg15_r0 = 1#1), ∀ a, (k0_off18 arg11_r0) a + S1.size a ≤ S3.size a := fun k0_t1 arg8_r0 arg9_r0 arg10_r0 arg11_r0 arg12_r0 arg13_r0 arg14_r0 arg15_r0 k0_hw1 k0_h6 => k0_hw1.2.2.2.2.2.2.2.2.2.1 k0_h6
theorem k0_off19_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg8_r0 arg9_r0 arg10_r0 arg11_r0 arg12_r0 arg13_r0 arg14_r0 arg15_r0), ∀ (k0_h6 : k0_cond6 k0_t1 arg14_r0 arg15_r0 = 1#1), ∀ a, (k0_off19 arg11_r0) a + S1x1x128x4096.size a ≤ S3x1x128x4096.size a := fun k0_t1 arg8_r0 arg9_r0 arg10_r0 arg11_r0 arg12_r0 arg13_r0 arg14_r0 arg15_r0 k0_hw1 k0_h6 => k0_hw1.2.2.2.2.2.2.2.2.2.2.1 k0_h6
theorem k0_off20_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg8_r0 arg9_r0 arg10_r0 arg11_r0 arg12_r0 arg13_r0 arg14_r0 arg15_r0), ∀ (k0_h6 : k0_cond6 k0_t1 arg14_r0 arg15_r0 = 1#1), ∀ a, (k0_off20 arg14_r0 arg15_r0) a + S1x128x4096.size a ≤ S4x4096x4096.size a := fun k0_t1 arg8_r0 arg9_r0 arg10_r0 arg11_r0 arg12_r0 arg13_r0 arg14_r0 arg15_r0 k0_hw1 k0_h6 => k0_hw1.2.2.2.2.2.2.2.2.2.2.2.1 k0_h6
theorem k0_off24_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg8_r0 arg9_r0 arg10_r0 arg11_r0 arg12_r0 arg13_r0 arg14_r0 arg15_r0), ∀ (k0_h10 : k0_cond10 k0_t1 arg14_r0 arg15_r0 = 1#1), ∀ a, (k0_off24 arg12_r0) a + S1.size a ≤ S2.size a := fun k0_t1 arg8_r0 arg9_r0 arg10_r0 arg11_r0 arg12_r0 arg13_r0 arg14_r0 arg15_r0 k0_hw1 k0_h10 => k0_hw1.2.2.2.2.2.2.2.2.2.2.2.2.1 k0_h10
theorem k0_off25_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg8_r0 arg9_r0 arg10_r0 arg11_r0 arg12_r0 arg13_r0 arg14_r0 arg15_r0), ∀ (k0_h10 : k0_cond10 k0_t1 arg14_r0 arg15_r0 = 1#1), ∀ a, (k0_off25 arg14_r0 arg15_r0) a + S1x128x4096.size a ≤ S4x4096x4096.size a := fun k0_t1 arg8_r0 arg9_r0 arg10_r0 arg11_r0 arg12_r0 arg13_r0 arg14_r0 arg15_r0 k0_hw1 k0_h10 => k0_hw1.2.2.2.2.2.2.2.2.2.2.2.2.2.1 k0_h10
theorem k0_off26_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg8_r0 arg9_r0 arg10_r0 arg11_r0 arg12_r0 arg13_r0 arg14_r0 arg15_r0), ∀ (k0_h10 : k0_cond10 k0_t1 arg14_r0 arg15_r0 = 1#1), ∀ a, (k0_off26 arg12_r0) a + S1x1x128x4096.size a ≤ S2x1x128x4096.size a := fun k0_t1 arg8_r0 arg9_r0 arg10_r0 arg11_r0 arg12_r0 arg13_r0 arg14_r0 arg15_r0 k0_hw1 k0_h10 => k0_hw1.2.2.2.2.2.2.2.2.2.2.2.2.2.2.1 k0_h10
theorem k0_off27_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg8_r0 arg9_r0 arg10_r0 arg11_r0 arg12_r0 arg13_r0 arg14_r0 arg15_r0), ∀ (k0_h13 : k0_cond13 k0_t1 arg14_r0 arg15_r0 = 1#1), ∀ a, (k0_off27 arg13_r0) a + S1.size a ≤ S2.size a := fun k0_t1 arg8_r0 arg9_r0 arg10_r0 arg11_r0 arg12_r0 arg13_r0 arg14_r0 arg15_r0 k0_hw1 k0_h13 => k0_hw1.2.2.2.2.2.2.2.2.2.2.2.2.2.2.2.1 k0_h13
theorem k0_off28_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg8_r0 arg9_r0 arg10_r0 arg11_r0 arg12_r0 arg13_r0 arg14_r0 arg15_r0), ∀ (k0_h13 : k0_cond13 k0_t1 arg14_r0 arg15_r0 = 1#1), ∀ a, (k0_off28 arg14_r0 arg15_r0) a + S1x128x4096.size a ≤ S4x4096x4096.size a := fun k0_t1 arg8_r0 arg9_r0 arg10_r0 arg11_r0 arg12_r0 arg13_r0 arg14_r0 arg15_r0 k0_hw1 k0_h13 => k0_hw1.2.2.2.2.2.2.2.2.2.2.2.2.2.2.2.2.1 k0_h13
theorem k0_off29_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg8_r0 arg9_r0 arg10_r0 arg11_r0 arg12_r0 arg13_r0 arg14_r0 arg15_r0), ∀ (k0_h13 : k0_cond13 k0_t1 arg14_r0 arg15_r0 = 1#1), ∀ a, (k0_off29 arg13_r0) a + S1x1x128x4096.size a ≤ S2x1x128x4096.size a := fun k0_t1 arg8_r0 arg9_r0 arg10_r0 arg11_r0 arg12_r0 arg13_r0 arg14_r0 arg15_r0 k0_hw1 k0_h13 => k0_hw1.2.2.2.2.2.2.2.2.2.2.2.2.2.2.2.2.2 k0_h13

def k0_off30 (v72_5_r0 : BitVec 32) : Fin 1 → Nat :=
  let c2_i32_r0 : BitVec 32 := 2#32
  let v123_r0 : BitVec 32 := Scalar.remui v72_5_r0 c2_i32_r0
  ![v123_r0.toNat]

def k0_off31 (v72_7_r0 : BitVec 32) (v72_6_r0 : BitVec 32) : Fin 3 → Nat :=
  let c1_i32_120_r0 : BitVec 32 := 1#32
  let true_76_r0 : BitVec 1 := 1#1
  let c1_i32_75_r0 : BitVec 32 := 1#32
  let v73_r0 : BitVec 32 := Scalar.subi v72_7_r0 c1_i32_75_r0
  let v74_r0 : BitVec 32 := Scalar.select true_76_r0 v73_r0 v72_7_r0
  let c_m1_i32_77_r0 : BitVec 32 := 4294967295#32
  let v75_r0 : BitVec 1 := Scalar.cmpi .eq v74_r0 c_m1_i32_77_r0
  let c1_i32_79_r0 : BitVec 32 := 1#32
  let v77_r0 : BitVec 32 := Scalar.subi v72_6_r0 c1_i32_79_r0
  let v78_r0 : BitVec 32 := Scalar.select v75_r0 v77_r0 v72_6_r0
  let c_m1_i32_80_r0 : BitVec 32 := 4294967295#32
  let v79_r0 : BitVec 1 := Scalar.cmpi .eq v78_r0 c_m1_i32_80_r0
  let c3_i32_81_r0 : BitVec 32 := 3#32
  let v80_r0 : BitVec 32 := Scalar.select v79_r0 c3_i32_81_r0 v78_r0
  let c0_i32_82_r0 : BitVec 32 := 0#32
  let v81_r0 : BitVec 32 := Scalar.addi v80_r0 c0_i32_82_r0
  let v124_r0 : BitVec 32 := Scalar.muli c1_i32_120_r0 v81_r0
  let c128_i32_121_r0 : BitVec 32 := 128#32
  let c31_i32_78_r0 : BitVec 32 := 31#32
  let v76_r0 : BitVec 32 := Scalar.select v75_r0 c31_i32_78_r0 v74_r0
  let c0_i32_83_r0 : BitVec 32 := 0#32
  let v82_r0 : BitVec 32 := Scalar.addi v76_r0 c0_i32_83_r0
  let v125_r0 : BitVec 32 := Scalar.muli c128_i32_121_r0 v82_r0
  let c0_i32_122_r0 : BitVec 32 := 0#32
  ![v124_r0.toNat, v125_r0.toNat, 0]

def k0_chk6 (v72_7_r0 : BitVec 32) (v72_6_r0 : BitVec 32) : Prop :=
  (∀ a, (k0_off31 v72_7_r0 v72_6_r0) a + S1x128x4096.size a ≤ S4x4096x4096.size a)
theorem k0_off31_inb : ∀ (v72_7_r0 : BitVec 32) (v72_6_r0 : BitVec 32) (k0_hw6 : k0_chk6 v72_7_r0 v72_6_r0), ∀ a, (k0_off31 v72_7_r0 v72_6_r0) a + S1x128x4096.size a ≤ S4x4096x4096.size a := fun v72_7_r0 v72_6_r0 k0_hw6 => k0_hw6

def k0_off32 (v72_5_r0 : BitVec 32) : Fin 4 → Nat :=
  let c2_i32_r0 : BitVec 32 := 2#32
  let v123_r0 : BitVec 32 := Scalar.remui v72_5_r0 c2_i32_r0
  let c0_i32_123_r0 : BitVec 32 := 0#32
  let c0_i32_124_r0 : BitVec 32 := 0#32
  let c0_i32_125_r0 : BitVec 32 := 0#32
  ![v123_r0.toNat, 0, 0, 0]

def k0_chk5 (v72_5_r0 : BitVec 32) : Prop :=
  (∀ a, (k0_off30 v72_5_r0) a + S1.size a ≤ S2.size a) ∧
  (∀ a, (k0_off32 v72_5_r0) a + S1x1x128x4096.size a ≤ S2x1x128x4096.size a)
theorem k0_off30_inb : ∀ (v72_5_r0 : BitVec 32) (k0_hw5 : k0_chk5 v72_5_r0), ∀ a, (k0_off30 v72_5_r0) a + S1.size a ≤ S2.size a := fun v72_5_r0 k0_hw5 => k0_hw5.1
theorem k0_off32_inb : ∀ (v72_5_r0 : BitVec 32) (k0_hw5 : k0_chk5 v72_5_r0), ∀ a, (k0_off32 v72_5_r0) a + S1x1x128x4096.size a ≤ S2x1x128x4096.size a := fun v72_5_r0 k0_hw5 => k0_hw5.2

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceLnIdeal.lean ====
abbrev S4x4096x4096 : Shape := ⟨3, ![4, 4096, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 68
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x4096, .f32⟩
  | .hbm, ⟨28, _⟩ => ⟨S4x4096x4096, .f32⟩
  | .hbm, ⟨29, _⟩ => ⟨S1x1x4096, .f32⟩
  | .hbm, ⟨30, _⟩ => ⟨S4x4096x4096, .f32⟩
  | .hbm, ⟨31, _⟩ => ⟨S4x4096x4096, .f32⟩
  | .hbm, ⟨32, _⟩ => ⟨S1x1x4096, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x4096, .f32⟩
  | .hbm, ⟨46, _⟩ => ⟨S4x4096x4096, .f32⟩
  | .hbm, ⟨47, _⟩ => ⟨S4x4096x4096, .f32⟩
  | .hbm, ⟨48, _⟩ => ⟨S_, .f32⟩
  | .hbm, ⟨49, _⟩ => ⟨S4x4096, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S4x4096x4096, .f32⟩
  | .hbm, ⟨55, _⟩ => ⟨S4x4096x4096, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1, .f32⟩
  | .hbm, ⟨60, _⟩ => ⟨S4x4096x4096, .f32⟩
  | .hbm, ⟨61, _⟩ => ⟨S4x4096x4096, .f32⟩
  | .hbm, ⟨62, _⟩ => ⟨S1x1x4096, .f32⟩
  | .hbm, ⟨63, _⟩ => ⟨S4x4096x4096, .f32⟩
  | .hbm, ⟨64, _⟩ => ⟨S4x4096x4096, .f32⟩
  | .hbm, ⟨65, _⟩ => ⟨S1x1x4096, .f32⟩
  | .hbm, ⟨66, _⟩ => ⟨S4x4096x4096, .f32⟩
  | .hbm, ⟨67, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== KernelDt.lean ====
abbrev S4x4112x4096 : Shape := ⟨3, ![4, 4112, 4096]⟩
abbrev S1x4096x39040 : Shape := ⟨3, ![1, 4096, 39040]⟩
abbrev S1x128 : Shape := ⟨2, ![1, 128]⟩
abbrev S_ : Shape := ⟨0, ![]⟩
abbrev S4x4224x4096 : Shape := ⟨3, ![4, 4224, 4096]⟩
abbrev S16896x4096 : Shape := ⟨2, ![16896, 4096]⟩
abbrev S4096x39040 : Shape := ⟨2, ![4096, 39040]⟩
abbrev S4096x128 : Shape := ⟨2, ![4096, 128]⟩
abbrev S128 : Shape := ⟨1, ![128]⟩
abbrev S16896x128 : Shape := ⟨2, ![16896, 128]⟩
abbrev S128x16896 : Shape := ⟨2, ![128, 16896]⟩
abbrev S1408x4096 : Shape := ⟨2, ![1408, 4096]⟩
abbrev S1408x128 : Shape := ⟨2, ![1408, 128]⟩
abbrev S128x1408 : Shape := ⟨2, ![128, 1408]⟩

abbrev nBuf : Space → Nat
  | .hbm => 15
  | .vmem => 8
  | .smem => 0
  | _ => 0

abbrev bufTy : (tb : Table) → Fin (tcTables nBuf tb) → BufTy
  | .hbm, ⟨0, _⟩ => ⟨S4x4112x4096, .f32⟩
  | .hbm, ⟨1, _⟩ => ⟨S1x4096x39040, .f32⟩
  | .hbm, ⟨2, _⟩ => ⟨S1x128, .f32⟩
  | .hbm, ⟨3, _⟩ => ⟨S4x4112x4096, .bf16⟩
  | .hbm, ⟨4, _⟩ => ⟨S_, .i32⟩
  | .hbm, ⟨5, _⟩ => ⟨S_, .bf16⟩
  | .hbm, ⟨6, _⟩ => ⟨S4x4224x4096, .bf16⟩
  | .hbm, ⟨7, _⟩ => ⟨S16896x4096, .bf16⟩
  | .hbm, ⟨8, _⟩ => ⟨S4096x39040, .f32⟩
  | .hbm, ⟨9, _⟩ => ⟨S4096x128, .f32⟩
  | .hbm, ⟨10, _⟩ => ⟨S4096x128, .bf16⟩
  | .hbm, ⟨11, _⟩ => ⟨S128, .f32⟩
  | .hbm, ⟨12, _⟩ => ⟨S1x128, .f32⟩
  | .hbm, ⟨13, _⟩ => ⟨S16896x128, .f32⟩
  | .hbm, ⟨14, _⟩ => ⟨S128x16896, .f32⟩
  | .local _ .vmem, ⟨0, _⟩ => ⟨S1408x4096, .bf16⟩
  | .local _ .vmem, ⟨1, _⟩ => ⟨S1408x4096, .bf16⟩
  | .local _ .vmem, ⟨2, _⟩ => ⟨S4096x128, .bf16⟩
  | .local _ .vmem, ⟨3, _⟩ => ⟨S1x128, .f32⟩
  | .local _ .vmem, ⟨4, _⟩ => ⟨S1408x128, .f32⟩
  | .local _ .vmem, ⟨5, _⟩ => ⟨S1408x128, .f32⟩
  | .local _ .vmem, ⟨6, _⟩ => ⟨S128x1408, .f32⟩
  | .local _ .vmem, ⟨7, _⟩ => ⟨S128x1408, .f32⟩
  | _, _ => ⟨S4x4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1408x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceDtIdeal.lean ====
abbrev S4x4112x4096 : Shape := ⟨3, ![4, 4112, 4096]⟩
abbrev S1x4096x39040 : Shape := ⟨3, ![1, 4096, 39040]⟩
abbrev S1x128 : Shape := ⟨2, ![1, 128]⟩
abbrev S4096x39040 : Shape := ⟨2, ![4096, 39040]⟩
abbrev S4x4112x39040 : Shape := ⟨3, ![4, 4112, 39040]⟩
abbrev S4x4112x128 : Shape := ⟨3, ![4, 4112, 128]⟩
abbrev S128 : Shape := ⟨1, ![128]⟩
abbrev S1x1x128 : Shape := ⟨3, ![1, 1, 128]⟩
abbrev S_ : Shape := ⟨0, ![]⟩
abbrev S4x4224x128 : Shape := ⟨3, ![4, 4224, 128]⟩
abbrev S16896x128 : Shape := ⟨2, ![16896, 128]⟩
abbrev S128x16896 : Shape := ⟨2, ![128, 16896]⟩

abbrev nBuf : Space → Nat
  | .hbm => 29
  | .vmem => 0
  | .smem => 0
  | _ => 0

abbrev bufTy : (tb : Table) → Fin (tcTables nBuf tb) → BufTy
  | .hbm, ⟨0, _⟩ => ⟨S4x4112x4096, .f32⟩
  | .hbm, ⟨1, _⟩ => ⟨S1x4096x39040, .f32⟩
  | .hbm, ⟨2, _⟩ => ⟨S1x128, .f32⟩
  | .hbm, ⟨3, _⟩ => ⟨S4096x39040, .f32⟩
  | .hbm, ⟨4, _⟩ => ⟨S4x4112x39040, .f32⟩
  | .hbm, ⟨5, _⟩ => ⟨S4x4112x128, .f32⟩
  | .hbm, ⟨6, _⟩ => ⟨S128, .f32⟩
  | .hbm, ⟨7, _⟩ => ⟨S1x1x128, .f32⟩
  | .hbm, ⟨8, _⟩ => ⟨S4x4112x128, .f32⟩
  | .hbm, ⟨9, _⟩ => ⟨S4x4112x128, .f32⟩
  | .hbm, ⟨10, _⟩ => ⟨S_, .f32⟩
  | .hbm, ⟨11, _⟩ => ⟨S4x4112x128, .f32⟩
  | .hbm, ⟨12, _⟩ => ⟨S4x4112x128, .f32⟩
  | .hbm, ⟨13, _⟩ => ⟨S4x4112x128, .f32⟩
  | .hbm, ⟨14, _⟩ => ⟨S4x4112x128, .f32⟩
  | .hbm, ⟨15, _⟩ => ⟨S4x4112x128, .i1⟩
  | .hbm, ⟨16, _⟩ => ⟨S4x4112x128, .f32⟩
  | .hbm, ⟨17, _⟩ => ⟨S4x4112x128, .f32⟩
  | .hbm, ⟨18, _⟩ => ⟨S4x4112x128, .f32⟩
  | .hbm, ⟨19, _⟩ => ⟨S4x4112x128, .f32⟩
  | .hbm, ⟨20, _⟩ => ⟨S4x4112x128, .f32⟩
  | .hbm, ⟨21, _⟩ => ⟨S4x4112x128, .f32⟩
  | .hbm, ⟨22, _⟩ => ⟨S4x4112x128, .f32⟩
  | .hbm, ⟨23, _⟩ => ⟨S4x4112x128, .f32⟩
  | .hbm, ⟨24, _⟩ => ⟨S_, .i32⟩
  | .hbm, ⟨25, _⟩ => ⟨S_, .f32⟩
  | .hbm, ⟨26, _⟩ => ⟨S4x4224x128, .f32⟩
  | .hbm, ⟨27, _⟩ => ⟨S16896x128, .f32⟩
  | .hbm, ⟨28, _⟩ => ⟨S128x16896, .f32⟩
  | _, _ => ⟨S4x4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v7 : Ref sig .tc := ⟨.hbm, 23, rfl⟩
abbrev main_c : Ref sig .tc := ⟨.hbm, 24, rfl⟩
abbrev main_call1_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== KernelAct.lean ====
abbrev S4x4112x4096 : Shape := ⟨3, ![4, 4112, 4096]⟩
abbrev S16384x4096 : Shape := ⟨2, ![16384, 4096]⟩
abbrev S1x4096 : Shape := ⟨2, ![1, 4096]⟩
abbrev S_ : Shape := ⟨0, ![]⟩
abbrev S4x4224x4096 : Shape := ⟨3, ![4, 4224, 4096]⟩
abbrev S16896x4096 : Shape := ⟨2, ![16896, 4096]⟩
abbrev S4096 : Shape := ⟨1, ![4096]⟩
abbrev S256x4096 : Shape := ⟨2, ![256, 4096]⟩
abbrev S16x4096 : Shape := ⟨2, ![16, 4096]⟩
abbrev S16 : Shape := ⟨1, ![16]⟩
abbrev S16x1 : Shape := ⟨2, ![16, 1]⟩

abbrev nBuf : Space → Nat
  | .hbm => 15
  | .vmem => 8
  | .smem => 0
  | _ => 0

abbrev bufTy : (tb : Table) → Fin (tcTables nBuf tb) → BufTy
  | .hbm, ⟨0, _⟩ => ⟨S4x4112x4096, .f32⟩
  | .hbm, ⟨1, _⟩ => ⟨S16384x4096, .f32⟩
  | .hbm, ⟨2, _⟩ => ⟨S1x4096, .f32⟩
  | .hbm, ⟨3, _⟩ => ⟨S1x4096, .f32⟩
  | .hbm, ⟨4, _⟩ => ⟨S4x4112x4096, .bf16⟩
  | .hbm, ⟨5, _⟩ => ⟨S_, .i32⟩
  | .hbm, ⟨6, _⟩ => ⟨S_, .bf16⟩
  | .hbm, ⟨7, _⟩ => ⟨S4x4224x4096, .bf16⟩
  | .hbm, ⟨8, _⟩ => ⟨S16896x4096, .bf16⟩
  | .hbm, ⟨9, _⟩ => ⟨S16384x4096, .bf16⟩
  | .hbm, ⟨10, _⟩ => ⟨S4096, .f32⟩
  | .hbm, ⟨11, _⟩ => ⟨S4096, .f32⟩
  | .hbm, ⟨12, _⟩ => ⟨S1x4096, .f32⟩
  | .hbm, ⟨13, _⟩ => ⟨S1x4096, .f32⟩
  | .hbm, ⟨14, _⟩ => ⟨S16384x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S256x4096, .bf16⟩
  | .local _ .vmem, ⟨7, _⟩ => ⟨S256x4096, .bf16⟩
  | _, _ => ⟨S4x4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c33_i32 : BitVec 32 := 33#32
  let v17 : BitVec 32 := Scalar.muli v16 c33_i32
  let c1_i32_4 : BitVec 32 := 1#32
  let v18 : BitVec 32 := Scalar.addi v17 c1_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c2_i32 : BitVec 32 := 2#32
  let v29 : BitVec 32 := Scalar.muli v28 c2_i32
  let v30 : BitVec 32 := Scalar.addi v18 v29
  let c128_i32 : BitVec 32 := 128#32
  let v31 : BitVec 32 := Scalar.muli v30 c128_i32
  let c0_i32_11 : BitVec 32 := 0#32
  let c0_i32_12 : BitVec 32 := 0#32
  ![v31.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceActIdeal.lean ====
abbrev S4x4112x4096 : Shape := ⟨3, ![4, 4112, 4096]⟩
abbrev S16384x4096 : Shape := ⟨2, ![16384, 4096]⟩
abbrev S1x4096 : Shape := ⟨2, ![1, 4096]⟩
abbrev S4096 : Shape := ⟨1, ![4096]⟩
abbrev S_ : Shape := ⟨0, ![]⟩
abbrev S4x4112 : Shape := ⟨2, ![4, 4112]⟩
abbrev S4x4112x1 : Shape := ⟨3, ![4, 4112, 1]⟩
abbrev S1x1x4096 : Shape := ⟨3, ![1, 1, 4096]⟩
abbrev S4x4096x4096 : Shape := ⟨3, ![4, 4096, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4x4112x4096, .f32⟩
  | .hbm, ⟨1, _⟩ => ⟨S16384x4096, .f32⟩
  | .hbm, ⟨2, _⟩ => ⟨S1x4096, .f32⟩
  | .hbm, ⟨3, _⟩ => ⟨S1x4096, .f32⟩
  | .hbm, ⟨4, _⟩ => ⟨S4096, .f32⟩
  | .hbm, ⟨5, _⟩ => ⟨S4096, .f32⟩
  | .hbm, ⟨6, _⟩ => ⟨S_, .f32⟩
  | .hbm, ⟨7, _⟩ => ⟨S4x4112, .f32⟩
  | .hbm, ⟨8, _⟩ => ⟨S4x4112x1, .f32⟩
  | .hbm, ⟨9, _⟩ => ⟨S_, .f32⟩
  | .hbm, ⟨10, _⟩ => ⟨S4x4112x1, .f32⟩
  | .hbm, ⟨11, _⟩ => ⟨S4x4112x1, .f32⟩
  | .hbm, ⟨12, _⟩ => ⟨S4x4112x4096, .f32⟩
  | .hbm, ⟨13, _⟩ => ⟨S4x4112x4096, .f32⟩
  | .hbm, ⟨14, _⟩ => ⟨S4x4112x4096, .f32⟩
  | .hbm, ⟨15, _⟩ => ⟨S_, .f32⟩
  | .hbm, ⟨16, _⟩ => ⟨S4x4112, .f32⟩
  | .hbm, ⟨17, _⟩ => ⟨S4x4112x1, .f32⟩
  | .hbm, ⟨18, _⟩ => ⟨S_, .f32⟩
  | .hbm, ⟨19, _⟩ => ⟨S4x4112x1, .f32⟩
  | .hbm, ⟨20, _⟩ => ⟨S4x4112x1, .f32⟩
  | .hbm, ⟨21, _⟩ => ⟨S4x4112x4096, .f32⟩
  | .hbm, ⟨22, _⟩ => ⟨S4x4112x4096, .f32⟩
  | .hbm, ⟨23, _⟩ => ⟨S_, .f32⟩
  | .hbm, ⟨24, _⟩ => ⟨S4x4112x1, .f32⟩
  | .hbm, ⟨25, _⟩ => ⟨S4x4112x1, .f32⟩
  | .hbm, ⟨26, _⟩ => ⟨S4x4112x1, .f32⟩
  | .hbm, ⟨27, _⟩ => ⟨S4x4112x4096, .f32⟩
  | .hbm, ⟨28, _⟩ => ⟨S4x4112x4096, .f32⟩
  | .hbm, ⟨29, _⟩ => ⟨S1x1x4096, .f32⟩
  | .hbm, ⟨30, _⟩ => ⟨S4x4112x4096, .f32⟩
  | .hbm, ⟨31, _⟩ => ⟨S4x4112x4096, .f32⟩
  | .hbm, ⟨32, _⟩ => ⟨S1x1x4096, .f32⟩
  | .hbm, ⟨33, _⟩ => ⟨S4x4112x4096, .f32⟩
  | .hbm, ⟨34, _⟩ => ⟨S4x4112x4096, .f32⟩
  | .hbm, ⟨35, _⟩ => ⟨S4x4112x4096, .f32⟩
  | .hbm, ⟨36, _⟩ => ⟨S4x4112x4096, .f32⟩
  | .hbm, ⟨37, _⟩ => ⟨S_, .f32⟩
  | .hbm, ⟨38, _⟩ => ⟨S4x4112x4096, .f32⟩
  | .hbm, ⟨39, _⟩ => ⟨S4x4112x4096, .f32⟩
  | .hbm, ⟨40, _⟩ => ⟨S_, .f32⟩
  | .hbm, ⟨41, _⟩ => ⟨S4x4112x4096, .f32⟩
  | .hbm, ⟨42, _⟩ => ⟨S4x4112x4096, .f32⟩
  | .hbm, ⟨43, _⟩ => ⟨S4x4112x4096, .f32⟩
  | .hbm, ⟨44, _⟩ => ⟨S4x4096x4096, .f32⟩
  | .hbm, ⟨45, _⟩ => ⟨S16384x4096, .f32⟩
  | .hbm, ⟨46, _⟩ => ⟨S16384x4096, .f32⟩
  | .hbm, ⟨47, _⟩ => ⟨S16384x4096, .bf16⟩
  | _, _ => ⟨S4x4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== KernelIn.lean ====
abbrev S4x4096x4096 : Shape := ⟨3, ![4, 4096, 4096]⟩
abbrev S16x4096 : Shape := ⟨2, ![16, 4096]⟩
abbrev S4096 : Shape := ⟨1, ![4096]⟩
abbrev S1x4096 : Shape := ⟨2, ![1, 4096]⟩
abbrev S4x4224x4096 : Shape := ⟨3, ![4, 4224, 4096]⟩
abbrev S1x128x4096 : Shape := ⟨3, ![1, 128, 4096]⟩
abbrev S112x4096 : Shape := ⟨2, ![112, 4096]⟩
abbrev S1x112x4096 : Shape := ⟨3, ![1, 112, 4096]⟩
abbrev S16 : Shape := ⟨1, ![16]⟩
abbrev S16x1 : Shape := ⟨2, ![16, 1]⟩
abbrev S1x16x4096 : Shape := ⟨3, ![1, 16, 4096]⟩

abbrev nBuf : Space → Nat
  | .hbm => 7
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S16x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S4x4224x4096, .bf16⟩
  | .local _ .vmem, ⟨0, _⟩ => ⟨S1x128x4096, .f32⟩
  | .local _ .vmem, ⟨1, _⟩ => ⟨S1x128x4096, .f32⟩
  | .local _ .vmem, ⟨2, _⟩ => ⟨S16x4096, .f32⟩
  | .local _ .vmem, ⟨3, _⟩ => ⟨S1x4096, .f32⟩
  | .local _ .vmem, ⟨4, _⟩ => ⟨S1x4096, .f32⟩
  | .local _ .vmem, ⟨5, _⟩ => ⟨S1x128x4096, .bf16⟩
  | .local _ .vmem, ⟨6, _⟩ => ⟨S1x128x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 33], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceInIdeal.lean ====
abbrev S4x4096x4096 : Shape := ⟨3, ![4, 4096, 4096]⟩
abbrev S16x4096 : Shape := ⟨2, ![16, 4096]⟩
abbrev S4096 : Shape := ⟨1, ![4096]⟩
abbrev S1x16x4096 : Shape := ⟨3, ![1, 16, 4096]⟩
abbrev S4x16x4096 : Shape := ⟨3, ![4, 16, 4096]⟩
abbrev S4x4112x4096 : Shape := ⟨3, ![4, 4112, 4096]⟩
abbrev S_ : Shape := ⟨0, ![]⟩
abbrev S4x4112 : Shape := ⟨2, ![4, 4112]⟩
abbrev S4x4112x1 : Shape := ⟨3, ![4, 4112, 1]⟩
abbrev S1x1x4096 : Shape := ⟨3, ![1, 1, 4096]⟩
abbrev S4x4224x4096 : Shape := ⟨3, ![4, 4224, 4096]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S16x4096, .f32⟩
  | .hbm, ⟨2, _⟩ => ⟨S4096, .f32⟩
  | .hbm, ⟨3, _⟩ => ⟨S4096, .f32⟩
  | .hbm, ⟨4, _⟩ => ⟨S1x16x4096, .f32⟩
  | .hbm, ⟨5, _⟩ => ⟨S4x16x4096, .f32⟩
  | .hbm, ⟨6, _⟩ => ⟨S4x4112x4096, .f32⟩
  | .hbm, ⟨7, _⟩ => ⟨S_, .f32⟩
  | .hbm, ⟨8, _⟩ => ⟨S4x4112, .f32⟩
  | .hbm, ⟨9, _⟩ => ⟨S4x4112x1, .f32⟩
  | .hbm, ⟨10, _⟩ => ⟨S_, .f32⟩
  | .hbm, ⟨11, _⟩ => ⟨S4x4112x1, .f32⟩
  | .hbm, ⟨12, _⟩ => ⟨S4x4112x1, .f32⟩
  | .hbm, ⟨13, _⟩ => ⟨S4x4112x4096, .f32⟩
  | .hbm, ⟨14, _⟩ => ⟨S4x4112x4096, .f32⟩
  | .hbm, ⟨15, _⟩ => ⟨S4x4112x4096, .f32⟩
  | .hbm, ⟨16, _⟩ => ⟨S_, .f32⟩
  | .hbm, ⟨17, _⟩ => ⟨S4x4112, .f32⟩
  | .hbm, ⟨18, _⟩ => ⟨S4x4112x1, .f32⟩
  | .hbm, ⟨19, _⟩ => ⟨S_, .f32⟩
  | .hbm, ⟨20, _⟩ => ⟨S4x4112x1, .f32⟩
  | .hbm, ⟨21, _⟩ => ⟨S4x4112x1, .f32⟩
  | .hbm, ⟨22, _⟩ => ⟨S4x4112x4096, .f32⟩
  | .hbm, ⟨23, _⟩ => ⟨S4x4112x4096, .f32⟩
  | .hbm, ⟨24, _⟩ => ⟨S_, .f32⟩
  | .hbm, ⟨25, _⟩ => ⟨S4x4112x1, .f32⟩
  | .hbm, ⟨26, _⟩ => ⟨S4x4112x1, .f32⟩
  | .hbm, ⟨27, _⟩ => ⟨S4x4112x1, .f32⟩
  | .hbm, ⟨28, _⟩ => ⟨S4x4112x4096, .f32⟩
  | .hbm, ⟨29, _⟩ => ⟨S4x4112x4096, .f32⟩
  | .hbm, ⟨30, _⟩ => ⟨S1x1x4096, .f32⟩
  | .hbm, ⟨31, _⟩ => ⟨S4x4112x4096, .f32⟩
  | .hbm, ⟨32, _⟩ => ⟨S4x4112x4096, .f32⟩
  | .hbm, ⟨33, _⟩ => ⟨S1x1x4096, .f32⟩
  | .hbm, ⟨34, _⟩ => ⟨S4x4112x4096, .f32⟩
  | .hbm, ⟨35, _⟩ => ⟨S4x4112x4096, .f32⟩
  | .hbm, ⟨36, _⟩ => ⟨S_, .i32⟩
  | .hbm, ⟨37, _⟩ => ⟨S_, .f32⟩
  | .hbm, ⟨38, _⟩ => ⟨S4x4224x4096, .f32⟩
  | .hbm, ⟨39, _⟩ => ⟨S4x4224x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.MergeBody.lean ====
/- The body of the gated-merge call, run once on any staging buffers: what it leaves in the weight scratch and in the
   output tile. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One slot of the weight scratch lies inside it. -/
theorem slot_inb (a : Nat) : ∀ b, (![(a + 1) % 2, 0, 0] : Fin 3 → Nat) b + S1x8192x512.size b ≤ S2x8192x512.size b := fun b =>
  match b with
  | ⟨0, _⟩ => by show (a + 1) % 2 + 1 ≤ 2; omega
  | ⟨1, _⟩ => by show 0 + 8192 ≤ 8192; omega
  | ⟨2, _⟩ => by show 0 + 512 ≤ 512; omega
  | ⟨n + 3, h⟩ => absurd h (Nat.not_lt.2 (Nat.le_add_left _ _))

/-- The weight scratch after the body: at a filling point, the cast weight chunk put into slot `a % 2` at row `256 * r`. -/
def fillOf (i : grid0.Coords) (a r : Nat) (x1 : Vec F S256x512 .f32) (x5 : Vec F S2x8192x512 .bf16) : Vec F S2x8192x512 .bf16 :=
  if k0_cond1 i = 1#1 then VecWindow.put x5 ![a % 2, 256 * r, 0] S1x256x512.size (k0_pay1 x1) else x5

/-- The output tile after the body: at a multiplying point, the product with the other slot and the merge. -/
def outOf (i : grid0.Coords) (a : Nat) (x0 : Vec F S512x8192 .bf16) (x2 x3 x4 : Vec F S512x512 .bf16) (x5 : Vec F S2x8192x512 .bf16) :
    Vec F S512x512 .bf16 :=
  if k0_cond2 i = 1#1 then k0_pay2 x0 (VecWindow.window x5 ![(a + 1) % 2, 0, 0] S1x8192x512.size (slot_inb a)) x2 x3 else x4

set_option maxHeartbeats 600000 in
/-- The body on any whole staging buffers: the inputs as they were, the scratch at `fillOf`, the output tile at `outOf`
    of the scratch just left. -/
theorem run_body (c : Dev nD) (i : grid0.Coords) (arg2 : Memref sig .tc .vmem S512x8192 .bf16) (harg2 : arg2.IsWhole) (arg3 : Memref sig .tc .vmem S256x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S2x8192x512 .bf16) (harg7 : arg7.IsWhole)
    (x0 : Vec F S512x8192 .bf16) (x1 : Vec F S256x512 .f32) (x2 x3 x4 : Vec F S512x512 .bf16) (x5 : Vec F S2x8192x512 .bf16)
    (a r : Nat) (h1 : k0_cond1 i = 1#1 → k0_off1 i = ![a % 2, 256 * r, 0]) (h2 : k0_cond2 i = 1#1 → k0_off2 i = ![(a + 1) % 2, 0, 0])
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outOf i a x0 x2 x3 x4 (fillOf i a r x1 x5)) ∗ owns (c : Thread nD τ) arg7 fullShare (fillOf i a r x1 x5)) -∗ K ⟨⟩))
          ⊢ wp frame (wpE (defs₀ (F := F)) Variants.none c none) E (cc0_ssd_out_proj_merge i arg2 harg2 arg3 harg3 arg4 harg4 arg5 harg5 arg6 harg6 arg7 harg7) K := by
    simp only [cc0_ssd_out_proj_merge_eq_skeleton]; unfold cc0_ssd_out_proj_merge_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    by_cases hc0 : k0_cond1 i = 1#1 <;> by_cases hc1 : k0_cond2 i = 1#1
    all_goals
      try letI i1 : ClosedOff (k0_off1 i) := ⟨![a % 2, 256 * r, 0], h1 hc0⟩
      try letI i2 : ClosedOff (k0_off2 i) := ⟨![(a + 1) % 2, 0, 0], h2 hc1⟩
      sl_exec (disch := first | sl_exact hc0 | sl_exact hc1)
      sl_step
      iapply Hk
      isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr; · ipureintro; exact hf3
        iexact H3
      isplitl [H4]
      · iexists _; isplitr; swap; · iexact H4
        ipureintro
        unfold outOf fillOf
        first | rw [if_pos hc0, if_pos hc1] | rw [if_pos hc0, if_neg hc1] | rw [if_neg hc0, if_pos hc1] | rw [if_neg hc0, if_neg hc1]
        first
          | with_reducible exact hf4
          | rw [View.read_writes_full, View.readAt_full, View.readAt_full, View.readAt_full, hf0, hf2, hf3,
              View.readAt_unit _ _ _ (h2 hc1) (slot_inb a)]
            unfold run_body.sl.HS0_1
            rw [View.readAt_full, hf1, View.read_writes_cons_put _ _ _ _ _ (h1 hc0),
              View.writes_nil, hfs]
          | rw [View.read_writes_full, View.readAt_full, View.readAt_full, View.readAt_full, hf0, hf2, hf3,
              View.readAt_unit _ _ _ (h2 hc1) (slot_inb a), hfs]
      iexists _; isplitr; swap; · iexact HS0
      ipureintro
      unfold fillOf
      first | rw [if_pos hc0] | rw [if_neg hc0]
      first
        | with_reducible exact hfs
        | unfold run_body.sl.HS0_1
          rw [View.readAt_full, hf1, View.read_writes_cons_put _ _ _ _ _ (h1 hc0), View.writes_nil, hfs]
        | rw [View.readAt_full, hf1, View.read_writes_cons_put _ _ _ _ _ (h1 hc0), View.writes_nil, hfs]

end Cert.KernelIdeal.Hand
end
-- ==== Proof.Slots.lean ====
/- A two-slot cache of weight column tiles, filled a chunk of rows per grid point: which entries hold which weights
   before a point, and that a point's store keeps the account. Over any extents: every matrix product of the layer
   caches its weights this way. -/
module

public import Idealize.ShloMosaic.Lib.VecWindow

@[expose] public section

namespace Cert.Hand

open Idealize.ShloMosaic

variable {α : Type}

/-- Before point `t` (tile `t / ni`, chunk `t % ni`) the entry in slot `j % 2`, row `r` holds column tile `j`'s weight
    of that row, if the point that stored it (`j * ni + r / kc`) is past and the next to overwrite it is not. -/
def Filled (ni nj kc k tn : Nat) (W : Nat → Nat → α) (t : Nat) (f : (⟨3, ![2, k, tn]⟩ : Shape).Idx → α) : Prop :=
  ∀ (j : Nat) (y : (⟨3, ![2, k, tn]⟩ : Shape).Idx), j < nj → (y (0 : Fin 3)).val = j % 2 →
    j * ni + (y (1 : Fin 3)).val / kc < t → t ≤ j * ni + (y (1 : Fin 3)).val / kc + 2 * ni →
    f y = W (y (1 : Fin 3)).val (j * tn + (y (2 : Fin 3)).val)

/-- Nothing is claimed before the first point. -/
theorem Filled.zero (ni nj kc k tn : Nat) (W : Nat → Nat → α) (f : (⟨3, ![2, k, tn]⟩ : Shape).Idx → α) :
    Filled ni nj kc k tn W 0 f := fun _ _ _ _ h => absurd h (Nat.not_lt_zero _)

/-- A point's tile and chunk are its only ones. -/
theorem row_inj {ni a q b i : Nat} (h : a * ni + q = b * ni + i) (hq : q < ni) (hi : i < ni) : a = b ∧ q = i := by
  rcases Nat.lt_trichotomy a b with hl | rfl | hg
  · have h2 : (a + 1) * ni ≤ b * ni := Nat.mul_le_mul_right ni hl
    rw [Nat.add_mul] at h2; omega
  · exact ⟨rfl, by omega⟩
  · have h2 : (b + 1) * ni ≤ a * ni := Nat.mul_le_mul_right ni hg
    rw [Nat.add_mul] at h2; omega

/-- A filling point: chunk `i` of tile `jj` is put into slot `jj % 2`. -/
theorem Filled.put {ni nj kc k tn : Nat} {W : Nat → Nat → α} {t : Nat} {f : (⟨3, ![2, k, tn]⟩ : Shape).Idx → α}
    (h : Filled ni nj kc k tn W t f) (jj i : Nat) (hkc : 0 < kc) (hk : k = kc * ni) (hi : i < ni) (ht : t = jj * ni + i)
    (w : ((a : Fin 3) → Fin ((![1, kc, tn] : Fin 3 → Nat) a)) → α)
    (hw : ∀ x, w x = W (kc * i + (x (1 : Fin 3)).val) (jj * tn + (x (2 : Fin 3)).val)) :
    Filled ni nj kc k tn W (t + 1) (VecWindow.put f ![jj % 2, kc * i, 0] ![1, kc, tn] w) := by
  intro j y hj h0 hlt hle
  unfold VecWindow.put
  have hy2 : (y (2 : Fin 3)).val < tn := (y (2 : Fin 3)).isLt
  split
  · rename_i hin
    have a0 := hin (0 : Fin 3); have a1 := hin (1 : Fin 3)
    change jj % 2 ≤ (y (0 : Fin 3)).val ∧ (y (0 : Fin 3)).val < jj % 2 + 1 at a0
    change kc * i ≤ (y (1 : Fin 3)).val ∧ (y (1 : Fin 3)).val < kc * i + kc at a1
    have hdiv : (y (1 : Fin 3)).val / kc = i := by
      apply Nat.div_eq_of_lt_le
      · rw [Nat.mul_comm]; exact a1.1
      · rw [Nat.mul_comm, Nat.mul_add, Nat.mul_one]; exact a1.2
    rw [hdiv] at hlt hle
    have hjj : j = jj := by
      by_contra hne
      rcases Nat.lt_or_ge j jj with hl | hg
      · have h2 : (j + 2) * ni ≤ jj * ni := Nat.mul_le_mul_right ni (by omega)
        rw [Nat.add_mul] at h2
        omega
      · have h2 : (jj + 1) * ni ≤ j * ni := Nat.mul_le_mul_right ni (by omega)
        rw [Nat.add_mul] at h2
        omega
    subst hjj
    rw [hw]
    have e1 : kc * i + ((Rect.unitLocal (s := ⟨3, ![2, k, tn]⟩) (off := ![j % 2, kc * i, 0]) (size := ![1, kc, tn]) y hin) (1 : Fin 3)).val
        = (y (1 : Fin 3)).val := by
      show kc * i + ((y (1 : Fin 3)).val - kc * i) = _
      omega
    have e2 : ((Rect.unitLocal (s := ⟨3, ![2, k, tn]⟩) (off := ![j % 2, kc * i, 0]) (size := ![1, kc, tn]) y hin) (2 : Fin 3)).val
        = (y (2 : Fin 3)).val := by
      show (y (2 : Fin 3)).val - 0 = _
      omega
    rw [e1, e2]
  · rename_i hout
    refine h j y hj h0 ?_ (by omega)
    rcases Nat.lt_or_ge (j * ni + (y (1 : Fin 3)).val / kc) t with hl | hg
    · exact hl
    · exfalso
      have hp : j * ni + (y (1 : Fin 3)).val / kc = jj * ni + i := by omega
      have hq : (y (1 : Fin 3)).val / kc < ni := by
        rw [Nat.div_lt_iff_lt_mul hkc, Nat.mul_comm, ← hk]; exact (y (1 : Fin 3)).isLt
      obtain ⟨rfl, hqi⟩ := row_inj hp hq hi
      have b1 : kc * ((y (1 : Fin 3)).val / kc) ≤ (y (1 : Fin 3)).val := Nat.mul_div_le _ _
      have b2 : (y (1 : Fin 3)).val < kc * ((y (1 : Fin 3)).val / kc) + kc := Nat.lt_mul_div_succ _ hkc
      rw [hqi] at b1 b2
      apply hout
      intro b
      match b with
      | ⟨0, _⟩ => show j % 2 ≤ (y (0 : Fin 3)).val ∧ (y (0 : Fin 3)).val < j % 2 + 1; omega
      | ⟨1, _⟩ => show kc * i ≤ (y (1 : Fin 3)).val ∧ (y (1 : Fin 3)).val < kc * i + kc; exact ⟨b1, b2⟩
      | ⟨2, _⟩ => show 0 ≤ (y (2 : Fin 3)).val ∧ (y (2 : Fin 3)).val < 0 + tn; omega

/-- A point past the filling ones keeps the account: nothing is stored. -/
theorem Filled.skip {ni nj kc k tn : Nat} {W : Nat → Nat → α} {t : Nat} {f : (⟨3, ![2, k, tn]⟩ : Shape).Idx → α}
    (h : Filled ni nj kc k tn W t f) (hkc : 0 < kc) (hk : k = kc * ni) (ht : nj * ni ≤ t) : Filled ni nj kc k tn W (t + 1) f := by
  intro j y hj h0 hlt hle
  have hq : (y (1 : Fin 3)).val / kc < ni := by
    rw [Nat.div_lt_iff_lt_mul hkc, Nat.mul_comm, ← hk]; exact (y (1 : Fin 3)).isLt
  have h2 : (j + 1) * ni ≤ nj * ni := Nat.mul_le_mul_right ni (by omega)
  rw [Nat.add_mul] at h2
  exact h j y hj h0 (by omega) (by omega)

/-- After the filling store of tile `jj` the other slot holds the whole of tile `jj - 1`. -/
theorem Filled.read {ni nj kc k tn : Nat} {W : Nat → Nat → α} {t : Nat} {f : (⟨3, ![2, k, tn]⟩ : Shape).Idx → α}
    (h : Filled ni nj kc k tn W (t + 1) f) (jj i : Nat) (hkc : 0 < kc) (hk : k = kc * ni) (hi : i < ni) (hjj : jj < nj)
    (ht : t = (jj + 1) * ni + i) (y : (⟨3, ![2, k, tn]⟩ : Shape).Idx) (hy : (y (0 : Fin 3)).val = jj % 2) :
    f y = W (y (1 : Fin 3)).val (jj * tn + (y (2 : Fin 3)).val) := by
  have hq : (y (1 : Fin 3)).val / kc < ni := by
    rw [Nat.div_lt_iff_lt_mul hkc, Nat.mul_comm, ← hk]; exact (y (1 : Fin 3)).isLt
  rw [Nat.add_mul] at ht
  exact h jj y hjj hy (by omega) (by generalize (y (1 : Fin 3)).val / kc = q at hq ⊢; omega)

end Cert.Hand
-- ==== Proof.Read2.lean ====
/- Arrays read at natural-number coordinates, so that two reads agree as soon as their coordinates do. -/
module

public import Idealize.ShloMosaic.Lib.MatmulPlain
public import Idealize.ShloMosaic.Lib.ValueIdxCore
public import Idealize.ShloMosaic.Lib.Pipeline.Value

@[expose] public section

noncomputable section

namespace Cert.Hand

open Idealize.ShloMosaic Idealize.ShloMosaic.ValueIdx

/-- A matrix read at row `r`, column `n` (past its extents, at the remainders). -/
def at2 {α : Type} {M N : Nat} [NeZero M] [NeZero N] (A : (⟨2, ![M, N]⟩ : Shape).Idx → α) (r n : Nat) : α :=
  A (ix2 (Fin.ofNat M r) (Fin.ofNat N n))

theorem at2_lt {α : Type} {M N : Nat} [NeZero M] [NeZero N] (A : (⟨2, ![M, N]⟩ : Shape).Idx → α) (r n : Nat) (hr : r < M) (hn : n < N) :
    at2 A r n = A (ix2 ⟨r, hr⟩ ⟨n, hn⟩) := by
  unfold at2
  rw [show Fin.ofNat M r = ⟨r, hr⟩ from Fin.ext (Nat.mod_eq_of_lt hr), show Fin.ofNat N n = ⟨n, hn⟩ from Fin.ext (Nat.mod_eq_of_lt hn)]

theorem at2_of {α : Type} {M N : Nat} [NeZero M] [NeZero N] (A : (⟨2, ![M, N]⟩ : Shape).Idx → α) (y : (⟨2, ![M, N]⟩ : Shape).Idx) (r n : Nat)
    (hr : (y (0 : Fin 2)).val = r) (hn : (y (1 : Fin 2)).val = n) : A y = at2 A r n := by
  subst hr hn
  rw [at2_lt A _ _ (y (0 : Fin 2)).isLt (y (1 : Fin 2)).isLt]
  exact congrArg A (funext fun a => match a with | ⟨0, _⟩ => rfl | ⟨1, _⟩ => rfl)

/-- A matrix product into zeros, read at an index, with both operands' factors named at natural-number coordinates. -/
theorem matmul_at {M K N : Nat} {φ₁ φ₂ : FTy} (prec : Option ContractPrecision)
    (lhs : FVec Ideal ⟨2, ![M, K]⟩ φ₁) (rhs : FVec Ideal ⟨2, ![K, N]⟩ φ₂) (j : (⟨2, ![M, N]⟩ : Shape).Idx) (L R : Nat → EReal)
    (hl : ∀ y : (⟨2, ![M, K]⟩ : Shape).Idx, (y (0 : Fin 2)).val = (j (0 : Fin 2)).val → lhs y = L (y (1 : Fin 2)).val)
    (hr : ∀ y : (⟨2, ![K, N]⟩ : Shape).Idx, (y (1 : Fin 2)).val = (j (1 : Fin 2)).val → rhs y = R (y (0 : Fin 2)).val) :
    FloatOps.matmul (DotDims.plain M K N) prec lhs rhs (constant ⟨2, ![M, N]⟩ .f32 0x00000000#32) j = ∑ k : Fin K, L k.val * R k.val := by
  have hj : j = ix2 (j (0 : Fin 2)) (j (1 : Fin 2)) := funext fun a => match a with | ⟨0, _⟩ => rfl | ⟨1, _⟩ => rfl
  rw [hj]
  refine (Ideal.matmul_plain_apply prec lhs rhs _ _ _).trans ?_
  show Ideal.ofBits .f32 0x00000000#32 + _ = _
  rw [Ideal.ofBits_zero_f32, zero_add]
  refine Finset.sum_congr rfl fun k _ => ?_
  rw [hl _ rfl, hr _ rfl]

/-- The host's product of a stack of matrices with one matrix, read at an index. -/
theorem dot3_at {B M K N : Nat} {φ₁ φ₂ : FTy}
    (w : DotDims.WF ⟨3, ![B, M, K]⟩ ⟨2, ![K, N]⟩ ⟨3, ![B, M, N]⟩ [2] [0] [0, 1] [1] [] [])
    (prec : Option ContractPrecision) (lhs : FVec Ideal ⟨3, ![B, M, K]⟩ φ₁) (rhs : FVec Ideal ⟨2, ![K, N]⟩ φ₂)
    (b : Fin B) (r : Fin M) (n : Fin N) :
    Host.dotGeneral (⟨[2], [0], [0, 1], [1], [], [], w⟩ : DotDims _ _ _) prec lhs rhs (ix3 b r n)
      = ∑ k : Fin K, lhs (ix3 b r k) * rhs (ix2 k n) := by
  show FloatOps.dotGeneral _ prec _ lhs rhs (ix3 b r n) = _
  rw [Ideal.dotGeneral_apply, ← Equiv.sum_comp (contrEquiv1 _ K rfl rfl).symm]
  refine Finset.sum_congr rfl fun k _ => ?_
  have ek := contrEquiv1_symm_val (⟨[2], [0], [0, 1], [1], [], [], w⟩ : DotDims _ _ _) K rfl rfl k
  refine congrArg₂ (· * ·) (congrArg lhs ?_) (congrArg rhs ?_)
  · funext a; apply Fin.ext
    match a with
    | ⟨0, _⟩ => simp [DotDims.lhsIdx]; rfl
    | ⟨1, _⟩ => simp [DotDims.lhsIdx]; rfl
    | ⟨2, _⟩ => simp [DotDims.lhsIdx]; exact ek
  · funext a; apply Fin.ext
    match a with
    | ⟨0, _⟩ => simp [DotDims.rhsIdx]; exact ek
    | ⟨1, _⟩ => simp [DotDims.rhsIdx]; rfl

end Cert.Hand
end
-- ==== Proof.MergeRun.lean ====
/- The gated-merge call run, over any float values: the account of the weight scratch kept point by point, and what every
   output tile is written with. -/
module

public import proofs.«01_k».proof.Proof.MergeBody
public import proofs.«01_k».proof.Proof.Slots
public import proofs.«01_k».proof.Proof.Read2
public import Idealize.ShloMosaic.Lib.Pipeline.ValueKit.Geometry
public import Idealize.ShloMosaic.Lib.Claim

@[expose] public section

set_option maxRecDepth 16384

noncomputable section

namespace Cert.KernelIdeal.Hand

open Cert.KernelIdeal.Gen Cert.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points in closed form -/

theorem fills (t : Fin cfg0.N) : k0_cond1 (grid0.coords t) = 1#1 ↔ t.val < 256 :=
  (by decide +kernel : ∀ t : Fin grid0.N, k0_cond1 (grid0.coords t) = 1#1 ↔ t.val < 256) t
theorem multiplies (t : Fin cfg0.N) : k0_cond2 (grid0.coords t) = 1#1 ↔ 32 ≤ t.val :=
  (by decide +kernel : ∀ t : Fin grid0.N, k0_cond2 (grid0.coords t) = 1#1 ↔ 32 ≤ t.val) t
theorem fill_off (t : Fin cfg0.N) : t.val < 256 → k0_off1 (grid0.coords t) = ![t.val / 32 % 2, 256 * (t.val % 32), 0] :=
  (by decide +kernel : ∀ t : Fin grid0.N, t.val < 256 → k0_off1 (grid0.coords t) = ![t.val / 32 % 2, 256 * (t.val % 32), 0]) t
theorem read_off (t : Fin cfg0.N) : 32 ≤ t.val → k0_off2 (grid0.coords t) = ![(t.val / 32 + 1) % 2, 0, 0] :=
  (by decide +kernel : ∀ t : Fin grid0.N, 32 ≤ t.val → k0_off2 (grid0.coords t) = ![(t.val / 32 + 1) % 2, 0, 0]) t
theorem writes_back (t : Fin cfg0.N) : (cfg0.win 4).flush t = true ↔ 32 ≤ t.val :=
  (by decide +kernel : ∀ t : Fin grid0.N, win0_4.flush t = true ↔ 32 ≤ t.val) t

/-- The first padded row of row block `i`. -/
def rowStart (i : Nat) : Nat := i / 8 * 4224 + 128 + i % 8 * 512

theorem at_x (t : Fin cfg0.N) : 32 ≤ t.val → cc0_transform_0 (grid0.coords t) = ![rowStart (t.val % 32), 0] :=
  (by unfold rowStart; decide +kernel : ∀ t : Fin grid0.N, 32 ≤ t.val → cc0_transform_0 (grid0.coords t) = ![rowStart (t.val % 32), 0]) t
theorem at_w (t : Fin cfg0.N) : t.val < 256 → cc0_transform_1 (grid0.coords t) = ![256 * (t.val % 32), t.val / 32 * 512] :=
  (by decide +kernel : ∀ t : Fin grid0.N, t.val < 256 → cc0_transform_1 (grid0.coords t) = ![256 * (t.val % 32), t.val / 32 * 512]) t
theorem at_gate (t : Fin cfg0.N) : 32 ≤ t.val → win0_2.index t = ![t.val % 32, t.val / 32 + 7] :=
  (by decide +kernel : ∀ t : Fin grid0.N, 32 ≤ t.val → win0_2.index t = ![t.val % 32, t.val / 32 + 7]) t
theorem at_conv (t : Fin cfg0.N) : 32 ≤ t.val → win0_3.index t = ![t.val % 32, t.val / 32 - 1] :=
  (by decide +kernel : ∀ t : Fin grid0.N, 32 ≤ t.val → win0_3.index t = ![t.val % 32, t.val / 32 - 1]) t
theorem at_out (t : Fin cfg0.N) : 32 ≤ t.val → win0_4.index t = ![t.val % 32, t.val / 32 - 1] :=
  (by decide +kernel : ∀ t : Fin grid0.N, 32 ≤ t.val → win0_4.index t = ![t.val % 32, t.val / 32 - 1]) t

/-! ## The cached weight -/

/-- The weight, cast as the scratch holds it, read at row and column. -/
def wAt (c : Dev nD) : Nat → Nat → F .bf16 :=
  at2 (M := 8192) (N := 4096) (truncf .bf16 (V m c main_v3 : Vec F S8192x4096 .f32) bitsLt_bf16_f32)

/-- Column tile `j` of the weight. -/
def wTile (c : Dev nD) (j : Nat) : Vec F S1x8192x512 .bf16 :=
  fun y => wAt m c (y (1 : Fin 3)).val (j * 512 + (y (2 : Fin 3)).val)

theorem wblk (c : Dev nD) (t : Fin cfg0.N) (ht : t.val < 256) (j : S256x512.Idx) :
    truncf .bf16 (iblk m c 1 t : Vec F S256x512 .f32) bitsLt_bf16_f32 j = wAt m c (256 * (t.val % 32) + (j (0 : Fin 2)).val) (t.val / 32 * 512 + (j (1 : Fin 2)).val) := by
  refine at2_of (M := 8192) (N := 4096) (truncf .bf16 (V m c main_v3 : Vec F S8192x4096 .f32) bitsLt_bf16_f32)
    (((cfg0.win 1).blk t).view.emb j) _ _ ?_ ?_
  · show cc0_transform_1 (grid0.coords t) 0 + 1 * (j (0 : Fin 2)).val = _
    rw [at_w t ht]; show 256 * (t.val % 32) + 1 * _ = _; omega
  · show cc0_transform_1 (grid0.coords t) 1 + 1 * (j (1 : Fin 2)).val = _
    rw [at_w t ht]; show t.val / 32 * 512 + 1 * _ = _; omega

/-- The block of the result at a point that multiplies. -/
def outBlk (c : Dev nD) (t : Fin cfg0.N) : Vec F S512x512 .bf16 :=
  k0_pay2 (iblk m c 0 t) (wTile m c (t.val / 32 - 1)) (iblk m c 2 t) (iblk m c 3 t)

theorem pay1_apply (x1 : Vec F S256x512 .f32) (y : S1x256x512.Idx) :
    k0_pay1 x1 y = truncf .bf16 x1 bitsLt_bf16_f32 (ix2 (n0 := 256) (n1 := 512) (y (1 : Fin 3)) (y (2 : Fin 3))) := by
  unfold k0_pay1
  rw [shapeCast_self]
  refine (shapeCast_addUnit_apply (![256, 512] : Fin 2 → Nat) _ shapeCasts_S256x512_S1x256x512 y).trans ?_
  exact congrArg (truncf .bf16 x1 bitsLt_bf16_f32) (funext fun a => match a with | ⟨0, _⟩ => rfl | ⟨1, _⟩ => rfl)

/-! ## The proof data -/

/-- The weight scratch. -/
abbrev scM : Memref sig .tc .vmem S2x8192x512 .bf16 := Memref.whole cc0_scratch0

/-- The launch's own invariant: the scratch at anything, and the generator register. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The invariant before point `n`: the scratch holds the weight chunks put into it so far. -/
def Inv (c : Dev nD) (n : Nat) : sProp 𝕄 :=
  iprop(∃ f : Vec F S2x8192x512 .bf16, ⌜Filled 32 8 256 8192 512 (wAt m c) n f⌝ ∗ owns (c : Thread nD τ) scM fullShare f
    ∗ (∃ r, prngReg c r))

/-- The proof data: each input's buffer at its block, the output's at the block of the result, the scratch's account. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t
  Φ t := Inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outBlk m c t := by dsimp only [dats]
theorem Phi_eq (c : Dev nD) (t : Fin (cfg0.N + 1)) : (dats m 0 c).Φ t = Inv m c t.val := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## One point -/

/-- The account of the scratch, one point further. -/
theorem filled_succ (c : Dev nD) (t : Fin cfg0.N) (f : Vec F S2x8192x512 .bf16)
    (hf : Filled 32 8 256 8192 512 (wAt m c) t.val f) :
    Filled 32 8 256 8192 512 (wAt m c) (t.val + 1)
      (fillOf (grid0.coords t) (t.val / 32) (t.val % 32) (iblk m c 1 t) f) := by
  unfold fillOf
  by_cases h : t.val < 256
  · rw [if_pos ((fills t).mpr h)]
    refine hf.put (t.val / 32) (t.val % 32) (by omega) (by omega) (by omega) (by omega) _ fun x => ?_
    rw [pay1_apply, wblk m c t h]
  · rw [if_neg (mt (fills t).mp h)]
    exact hf.skip (by omega) (by omega) (by omega)

/-- At a point that multiplies, the tile left is the result's block. -/
theorem out_eq (c : Dev nD) (t : Fin cfg0.N) (ht : 32 ≤ t.val) (x4 : Vec F S512x512 .bf16) (f : Vec F S2x8192x512 .bf16)
    (hf : Filled 32 8 256 8192 512 (wAt m c) (t.val + 1) f) :
    outOf (grid0.coords t) (t.val / 32) (iblk m c 0 t) (iblk m c 2 t) (iblk m c 3 t) x4 f = outBlk m c t := by
  have hN : t.val < 288 := lt_of_lt_of_eq t.isLt (show cfg0.N = 288 from N_0)
  unfold outOf outBlk
  rw [if_pos ((multiplies t).mpr ht)]
  refine congrArg (fun v => k0_pay2 (iblk m c 0 t) v (iblk m c 2 t) (iblk m c 3 t)) (funext fun y => ?_)
  unfold VecWindow.window wTile
  rw [hf.read (t.val / 32 - 1) (t.val % 32) (by omega) (by omega) (by omega) (by omega) (by omega)]
  · have e1 : ((Rect.unit (s := S2x8192x512) ![(t.val / 32 + 1) % 2, 0, 0] S1x8192x512.size (slot_inb (t.val / 32))).emb y (1 : Fin 3)).val
        = (y (1 : Fin 3)).val := by
      rw [ValueKit.rect_emb_unit_val]; show 0 + _ = _; omega
    have e2 : ((Rect.unit (s := S2x8192x512) ![(t.val / 32 + 1) % 2, 0, 0] S1x8192x512.size (slot_inb (t.val / 32))).emb y (2 : Fin 3)).val
        = (y (2 : Fin 3)).val := by
      rw [ValueKit.rect_emb_unit_val]; show 0 + _ = _; omega
    rw [e1, e2]
  · rw [ValueKit.rect_emb_unit_val]
    have : (y (0 : Fin 3)).val < 1 := (y (0 : Fin 3)).isLt
    show (t.val / 32 + 1) % 2 + (y (0 : Fin 3)).val = _; omega

/-- At a point that only fills, the output's buffer is left as found. -/
theorem out_idle (i : grid0.Coords) (h : ¬ k0_cond2 i = 1#1) (a : Nat) (x0 : Vec F S512x8192 .bf16) (x2 x3 x4 : Vec F S512x512 .bf16)
    (f : Vec F S2x8192x512 .bf16) : outOf i a x0 x2 x3 x4 f = x4 := by
  unfold outOf; rw [if_neg h]

abbrev m0 (t : Fin cfg0.N) : Memref sig .tc .vmem S512x8192 .bf16 := win0_0.stage (cfg0.slots t 0)
abbrev m1 (t : Fin cfg0.N) : Memref sig .tc .vmem S256x512 .f32 := win0_1.stage (cfg0.slots t 1)
abbrev m2 (t : Fin cfg0.N) : Memref sig .tc .vmem S512x512 .bf16 := win0_2.stage (cfg0.slots t 2)
abbrev m3 (t : Fin cfg0.N) : Memref sig .tc .vmem S512x512 .bf16 := win0_3.stage (cfg0.slots t 3)
abbrev m4 (t : Fin cfg0.N) : Memref sig .tc .vmem S512x512 .bf16 := win0_4.stage (cfg0.slots t 4)

/-- What a point's body is run with. -/
def pointPre (c : Dev nD) (t : Fin cfg0.N) : sProp 𝕄 :=
  iprop(Inv m c t.val ∗ (dats m 0 c).owesAt () t.castSucc
    ∗ (∃ d, owns (c : Thread nD τ) (m0 t) fullShare ((dats m 0 c).before 0 t d))
    ∗ (∃ d, owns (c : Thread nD τ) (m1 t) fullShare ((dats m 0 c).before 1 t d))
    ∗ (∃ d, owns (c : Thread nD τ) (m2 t) fullShare ((dats m 0 c).before 2 t d))
    ∗ (∃ d, owns (c : Thread nD τ) (m3 t) fullShare ((dats m 0 c).before 3 t d))
    ∗ (∃ d, owns (c : Thread nD τ) (m4 t) fullShare ((dats m 0 c).before 4 t d)))

/-- What it leaves. -/
def pointPost (c : Dev nD) (t : Fin cfg0.N) : sProp 𝕄 :=
  iprop(Inv m c (t.val + 1) ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_0 (c : Dev nD) (t : Fin cfg0.N) : (dats m 0 c).leavesExact 0 t = owns (c : Thread nD τ) (m0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (m1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (m2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (m3 t) fullShare (iblk m c 3 t) := by
  unfold Dat.leavesExact; rw [show cfg0.idle 3 (grid0.coords t) = false from rfl, after_3]
theorem leaves_4 (c : Dev nD) (t : Fin cfg0.N) (ht : 32 ≤ t.val) :
    (dats m 0 c).leavesExact 4 t = owns (c : Thread nD τ) (m4 t) fullShare (outBlk m c t) := by
  have hi : cfg0.idle 4 (grid0.coords t) = false := by
    show (!(k0_cond2 (grid0.coords t) == 1#1)) = false
    rw [(multiplies t).mpr ht]; rfl
  unfold Dat.leavesExact; rw [hi, after_4]
theorem leaves_4_idle (c : Dev nD) (t : Fin cfg0.N) (ht : ¬ 32 ≤ t.val) :
    (dats m 0 c).leavesExact 4 t = iprop(∃ d, owns (c : Thread nD τ) (m4 t) fullShare ((dats m 0 c).before 4 t d)) := by
  have hi : cfg0.idle 4 (grid0.coords t) = true := by
    show (!(k0_cond2 (grid0.coords t) == 1#1)) = true
    rw [Bool.not_eq_true', beq_eq_false_iff_ne]; exact mt (multiplies t).mp ht
  exact Dat.leavesExact_idle _ 4 t hi (Bool.eq_false_iff.mpr (mt (writes_back t).mp ht))

set_option maxHeartbeats 600000 in
theorem point_body (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2, before_3]
  rw [show (dats m 0 c).owesAt () t.succ = (dats m 0 c).owesAt () t.castSucc from rfl]
  rw [leaves_0, leaves_1, leaves_2, leaves_3]
  unfold Inv
  iintro ⟨⟨%f, %hf, HS, Hg⟩, Ho, ⟨%d0, H0⟩, ⟨%d1, H1⟩, ⟨%d2, H2⟩, ⟨%d3, H3⟩, ⟨%d4, H4⟩⟩
  iapply (run_body c (grid0.coords t) _ _ _ _ _ _ _ _ _ _ _ _ (iblk m c 0 t) (iblk m c 1 t) (iblk m c 2 t) (iblk m c 3 t)
    ((dats m 0 c).before 4 t d4) f (t.val / 32) (t.val % 32) (fun h => fill_off t ((fills t).mp h)) (fun h => read_off t ((multiplies t).mp h)) Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · iexists _
    isplitr
    · ipureintro; exact filled_succ m c t f hf
    isplitl [HS]; · iexact HS
    iexact Hg
  isplitl [Ho]; · iexact Ho
  isplitl [H0]; · iexact H0
  isplitl [H1]; · iexact H1
  isplitl [H2]; · iexact H2
  isplitl [H3]; · iexact H3
  by_cases ht : 32 ≤ t.val
  · rw [leaves_4 m c t ht, out_eq m c t ht _ _ (filled_succ m c t f hf)]
    iexact H4
  · rw [leaves_4_idle m c t ht, out_idle _ (mt (multiplies t).mp ht)]
    iexists _; iexact H4

theorem row (t : Fin cfg0.N) : defs₀ (F := F) .tc cfg0.body (cfg0.bodyArgs t (cfg0.slots t)) = bodyAt0 (F := F) t := by
  unfold defs₀; rw [Defs.onTc_tc]

theorem obligation (c : Dev nD) : BodyObligation (dats m 0 c) (defs₀ (F := F)) Variants.none () Set.univ := fun t => by
  rw [bigSep_W0, bigSep_W0, row]
  rw [Phi_eq, Phi_eq]
  exact triple_restated (point_body m c t) rfl .rfl fun _ => .rfl

/-! ## The launch -/

theorem inv_in (c : Dev nD) : (Pipeline.ΦA spec0 c : sProp 𝕄) ⊢ (dats m 0 c).Φ 0 := by
  rw [PhiA_eq, Phi_eq]; unfold Inv
  iintro ⟨⟨%d, HS⟩, Hg⟩
  iexists d
  isplitr
  · ipureintro; exact Filled.zero 32 8 256 8192 512 _ _
  isplitl [HS]; · iexact HS
  iexact Hg

theorem inv_out (c : Dev nD) : (dats m 0 c).Φ (Fin.last cfg0.N) ⊢ (Pipeline.ΦA spec0 c : sProp 𝕄) := by
  rw [PhiA_eq, Phi_eq]; unfold Inv
  iintro ⟨%f, -, HS, Hg⟩
  isplitl [HS]; · iexists _; iexact HS
  iexact Hg

set_option backward.isDefEq.respectTransparency.types false in
/-- Every fair run ends, with the arrays as the proof data has them and every counter at zero. -/
theorem runs : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

/-- The arguments end as they began and every counter at zero. -/
theorem frame_run : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  θ_run_and (frame_of m ρ (dats m) (A_eq m) ((θ_run defs _ _).mono (fun _ h => h.1) (runs m ρ)))
    ((θ_run defs _ _).mono (fun _ h => h.2) (runs m ρ))

end Cert.KernelIdeal.Hand
end
-- ==== Proof.MergeValue.lean ====
/- The gated-merge call against the reference: the two results agree entry by entry. -/
module

public import proofs.«01_k».proof.Proof.MergeRun
public import proofs.«01_k».proof.Proof.Gen.ReferenceIdeal.Run
public import proofs.«01_k».proof.Defs
public import Idealize.ShloMosaic.Lib.KernelVsHost

@[expose] public section

set_option maxRecDepth 16384

noncomputable section

namespace Cert.KernelIdeal.Hand

open Cert.KernelIdeal.Gen Cert.Hand
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-! ## The arrays the call finds, and the array it leaves -/

/-- The padded activations, the gates and the gated convolution branch, read at row and column. -/
def xAt (c : Dev nD) : Nat → Nat → EReal := at2 (M := 16896) (N := 8192) (V m c main_v2)
def gAt (c : Dev nD) : Nat → Nat → EReal := at2 (M := 16384) (N := 8192) (V m c main_v4)
def vAt (c : Dev nD) : Nat → Nat → EReal := at2 (M := 16384) (N := 4096) (V m c main_v5)

/-- Row `r`, column `n` of the result: the product's row, from the padded rows, gated and added to the other branch. -/
def merged (c : Dev nD) (r n : Nat) : EReal :=
  (∑ k : Fin 8192, xAt m c (rowStart (r / 512) + r % 512) k.val * wAt m c k.val n) * gAt m c r (4096 + n) + vAt m c r n

/-- The result array. -/
def G (c : Dev nD) : Buf (Elt Ideal) ((c : Thread nD τ).loc main_v6) :=
  fun o : S16384x4096.Idx => merged m c (o (0 : Fin 2)).val (o (1 : Fin 2)).val

theorem xblk (c : Dev nD) (t : Fin cfg0.N) (ht : 32 ≤ t.val) (j : S512x8192.Idx) :
    (iblk m c 0 t : S512x8192.Idx → EReal) j = xAt m c (rowStart (t.val % 32) + (j (0 : Fin 2)).val) (j (1 : Fin 2)).val := by
  unfold iblk
  rw [View.read_apply]
  refine at2_of (M := 16896) (N := 8192) (V m c main_v2) _ _ _ ?_ ?_
  · show cc0_transform_0 (grid0.coords t) 0 + 1 * (j (0 : Fin 2)).val = _
    rw [at_x t ht]; show rowStart (t.val % 32) + 1 * _ = _; omega
  · show cc0_transform_0 (grid0.coords t) 1 + 1 * (j (1 : Fin 2)).val = _
    rw [at_x t ht]; show 0 + 1 * _ = _; omega

theorem gblk (c : Dev nD) (t : Fin cfg0.N) (ht : 32 ≤ t.val) (j : S512x512.Idx) :
    (iblk m c 2 t : S512x512.Idx → EReal) j
      = gAt m c (t.val % 32 * 512 + (j (0 : Fin 2)).val) (4096 + ((t.val / 32 - 1) * 512 + (j (1 : Fin 2)).val)) := by
  unfold iblk
  rw [View.read_apply]
  refine at2_of (M := 16384) (N := 8192) (V m c main_v4) _ _ _ ?_ ?_
  · show win0_2.index t 0 * 512 + 1 * (j (0 : Fin 2)).val = _
    rw [at_gate t ht]; show t.val % 32 * 512 + 1 * _ = _; omega
  · show win0_2.index t 1 * 512 + 1 * (j (1 : Fin 2)).val = _
    rw [at_gate t ht]; show (t.val / 32 + 7) * 512 + 1 * _ = _; omega

theorem vblk (c : Dev nD) (t : Fin cfg0.N) (ht : 32 ≤ t.val) (j : S512x512.Idx) :
    (iblk m c 3 t : S512x512.Idx → EReal) j
      = vAt m c (t.val % 32 * 512 + (j (0 : Fin 2)).val) ((t.val / 32 - 1) * 512 + (j (1 : Fin 2)).val) := by
  unfold iblk
  rw [View.read_apply]
  refine at2_of (M := 16384) (N := 4096) (V m c main_v5) _ _ _ ?_ ?_
  · show win0_3.index t 0 * 512 + 1 * (j (0 : Fin 2)).val = _
    rw [at_conv t ht]; show t.val % 32 * 512 + 1 * _ = _; omega
  · show win0_3.index t 1 * 512 + 1 * (j (1 : Fin 2)).val = _
    rw [at_conv t ht]; show (t.val / 32 - 1) * 512 + 1 * _ = _; omega

theorem pay2_apply (x0 : S512x8192.Idx → EReal) (v : S1x8192x512.Idx → EReal) (x2 x3 : S512x512.Idx → EReal) (j : S512x512.Idx)
    (L R : Nat → EReal)
    (hl : ∀ y : S512x8192.Idx, (y (0 : Fin 2)).val = (j (0 : Fin 2)).val → x0 y = L (y (1 : Fin 2)).val)
    (hr : ∀ y : S1x8192x512.Idx, (y (2 : Fin 3)).val = (j (1 : Fin 2)).val → v y = R (y (1 : Fin 3)).val) :
    k0_pay2 (F := Ideal) x0 v x2 x3 j = (∑ k : Fin 8192, L k.val * R k.val) * x2 j + x3 j := by
  unfold k0_pay2
  rw [shapeCast_self, shapeCast_self, shapeCast_self]
  show (FloatOps.matmul (F := Ideal) (φ₁ := .bf16) (φ₂ := .bf16) (DotDims.plain 512 8192 512) none x0
    (shapeCast S8192x512 v shapeCasts_S1x8192x512_S8192x512) (constant S512x512 .f32 0x00000000#32) j : EReal) * x2 j + x3 j = _
  rw [matmul_at (φ₁ := .bf16) (φ₂ := .bf16) none x0 _ j L R hl ?_]
  intro y hy
  refine (shapeCast_dropUnit_apply (![8192, 512] : Fin 2 → Nat) v shapeCasts_S1x8192x512_S8192x512 y).trans ?_
  exact hr _ hy

/-- The block of the result at a point that multiplies, read. -/
theorem outBlk_apply (c : Dev nD) (t : Fin cfg0.N) (ht : 32 ≤ t.val) (j : S512x512.Idx) : (outBlk m c t : S512x512.Idx → EReal) j
    = merged m c (t.val % 32 * 512 + (j (0 : Fin 2)).val) ((t.val / 32 - 1) * 512 + (j (1 : Fin 2)).val) := by
  have hj : (j (0 : Fin 2)).val < 512 := (j (0 : Fin 2)).isLt
  unfold outBlk
  refine (pay2_apply _ _ _ _ j (fun k => xAt m c (rowStart (t.val % 32) + (j (0 : Fin 2)).val) k)
    (fun k => wAt m c k ((t.val / 32 - 1) * 512 + (j (1 : Fin 2)).val)) ?_ ?_).trans ?_
  · intro y hy
    rw [xblk m c t ht, hy]
  · intro y hy
    unfold wTile
    rw [hy]
  · rw [gblk m c t ht, vblk m c t ht]
    unfold merged
    rw [show (t.val % 32 * 512 + (j (0 : Fin 2)).val) / 512 = t.val % 32 by omega,
      show (t.val % 32 * 512 + (j (0 : Fin 2)).val) % 512 = (j (0 : Fin 2)).val by omega]

/-- The result array at the end. -/
theorem final (c : Dev nD) : (dats m 0 c).arrAt 4 cfg0.N = G m c := by
  refine (dats m 0 c).arrAt_eq_of_covers 4 (G m c) (by decide +kernel) fun t hf y => ?_
  have ht : 32 ≤ t.val := (writes_back t).mp hf
  rw [after_4]
  have e0 : (((cfg0.win 4).blk t).view.emb y (0 : Fin 2)).val = t.val % 32 * 512 + (y (0 : Fin 2)).val := by
    show win0_4.index t 0 * 512 + 1 * (y (0 : Fin 2)).val = _
    rw [at_out t ht]; show t.val % 32 * 512 + 1 * _ = _; omega
  have e1 : (((cfg0.win 4).blk t).view.emb y (1 : Fin 2)).val = (t.val / 32 - 1) * 512 + (y (1 : Fin 2)).val := by
    show win0_4.index t 1 * 512 + 1 * (y (1 : Fin 2)).val = _
    rw [at_out t ht]; show (t.val / 32 - 1) * 512 + 1 * _ = _; omega
  show (outBlk m c t : S512x512.Idx → EReal) y
    = merged m c (((cfg0.win 4).blk t).view.emb y (0 : Fin 2)).val (((cfg0.win 4).blk t).view.emb y (1 : Fin 2)).val
  rw [outBlk_apply m c t ht, e0, e1]

/-! ## What the host prepares -/

theorem V_x (c : Dev nD) : (V m c main_v2 : S16896x8192.Idx → EReal)
    = shapeCast S16896x8192 (pad S4x4224x8192 ![0, 112, 0] ![0, 0, 0] ![0, 0, 0] (m ((c : Thread nD τ).loc main_arg0) : S4x4112x8192.Idx → EReal)
        (sitofp (F := Ideal) .bf16 (constantI S_ 32 0#32)) pads_S4x4112x8192_S4x4224x8192_000_11200_000 h_S_) shapeCasts_S4x4224x8192_S16896x8192 := by
  show after (List.flatten [hostOps0, hostOps0_1, hostOps0_2]) (fun b => m (c, b)) main_v2 = _
  simp only [hostOps0, hostOps0_1, hostOps0_2, List.flatten_cons, List.flatten_nil, List.append_nil, List.cons_append, List.nil_append]
  after_results <;> rfl

theorem V_w (c : Dev nD) : (V m c main_v3 : S8192x4096.Idx → EReal)
    = shapeCast S8192x4096 (m ((c : Thread nD τ).loc main_arg1) : S1x8192x4096.Idx → EReal) shapeCasts_S1x8192x4096_S8192x4096 := by
  show after (List.flatten [hostOps0, hostOps0_1, hostOps0_2]) (fun b => m (c, b)) main_v3 = _
  simp only [hostOps0, hostOps0_1, hostOps0_2, List.flatten_cons, List.flatten_nil, List.append_nil, List.cons_append, List.nil_append]
  after_results <;> rfl

theorem V_g (c : Dev nD) : (V m c main_v4 : S16384x8192.Idx → EReal) = m ((c : Thread nD τ).loc main_arg2) := by
  show after (List.flatten [hostOps0, hostOps0_1, hostOps0_2]) (fun b => m (c, b)) main_v4 = _
  simp only [hostOps0, hostOps0_1, hostOps0_2, List.flatten_cons, List.flatten_nil, List.append_nil, List.cons_append, List.nil_append]
  after_results <;> rfl

theorem V_v (c : Dev nD) : (V m c main_v5 : S16384x4096.Idx → EReal) = m ((c : Thread nD τ).loc main_arg3) := by
  show after (List.flatten [hostOps0, hostOps0_1, hostOps0_2]) (fun b => m (c, b)) main_v5 = _
  simp only [hostOps0, hostOps0_1, hostOps0_2, List.flatten_cons, List.flatten_nil, List.append_nil, List.cons_append, List.nil_append]
  after_results <;> rfl

/-- Result row `r` multiplies row `16 + r % 4096` of batch member `r / 4096`. -/
theorem xAt_eq (c : Dev nD) (r k : Nat) (hr : r < 16384) (hk : k < 8192) :
    xAt m c (rowStart (r / 512) + r % 512) k
      = (m ((c : Thread nD τ).loc main_arg0) : S4x4112x8192.Idx → EReal)
          (ix3 (n0 := 4) (n1 := 4112) (n2 := 8192) ⟨r / 4096, by omega⟩ ⟨16 + r % 4096, by omega⟩ ⟨k, hk⟩) := by
  have e : rowStart (r / 512) + r % 512 = r / 4096 * 4224 + (128 + r % 4096) := by unfold rowStart; omega
  rw [e]
  unfold xAt
  rw [at2_lt _ _ _ (by omega) hk, V_x]
  refine (shapeCast_apply _ shapeCasts_S4x4224x8192_S16896x8192 _
    (ix3 (n0 := 4) (n1 := 4224) (n2 := 8192) ⟨r / 4096, by omega⟩ ⟨128 + r % 4096, by omega⟩ ⟨k, hk⟩) ?_).trans ?_
  · rw [Shape.rowMajor_val_three, Shape.rowMajor_val_two]
    show (r / 4096 * 4224 + (128 + r % 4096)) * 8192 + k = (r / 4096 * 4224 + (128 + r % 4096)) * 8192 + k
    rfl
  · refine pad_apply_of_inside _ _ _ _ _ _ _ _ _ fun a => ?_
    match a with
    | ⟨0, _⟩ => show r / 4096 = 0 + r / 4096 * (0 + 1); omega
    | ⟨1, _⟩ => show 128 + r % 4096 = 112 + (16 + r % 4096) * (0 + 1); omega
    | ⟨2, _⟩ => show k = 0 + k * (0 + 1); omega

theorem wAt_eq (c : Dev nD) (k n : Nat) (hk : k < 8192) (hn : n < 4096) :
    wAt m c k n = (m ((c : Thread nD τ).loc main_arg1) : S1x8192x4096.Idx → EReal)
      (ix3 (n0 := 1) (n1 := 8192) (n2 := 4096) ⟨0, Nat.one_pos⟩ ⟨k, hk⟩ ⟨n, hn⟩) := by
  unfold wAt
  rw [at2_lt _ _ _ hk hn]
  show (V m c main_v3 : S8192x4096.Idx → EReal) _ = _
  rw [V_w]
  exact (shapeCast_dropUnit_apply (![8192, 4096] : Fin 2 → Nat) _ shapeCasts_S1x8192x4096_S8192x4096 _).trans
    (congrArg _ (funext fun a => match a with | ⟨0, _⟩ => rfl | ⟨1, _⟩ => rfl | ⟨2, _⟩ => rfl))

theorem gAt_eq (c : Dev nD) (r n : Nat) (hr : r < 16384) (hn : n < 8192) :
    gAt m c r n = (m ((c : Thread nD τ).loc main_arg2) : S16384x8192.Idx → EReal) (ix2 (n0 := 16384) (n1 := 8192) ⟨r, hr⟩ ⟨n, hn⟩) := by
  unfold gAt
  rw [at2_lt _ _ _ hr hn, V_g]

theorem vAt_eq (c : Dev nD) (r n : Nat) (hr : r < 16384) (hn : n < 4096) :
    vAt m c r n = (m ((c : Thread nD τ).loc main_arg3) : S16384x4096.Idx → EReal) (ix2 (n0 := 16384) (n1 := 4096) ⟨r, hr⟩ ⟨n, hn⟩) := by
  unfold vAt
  rw [at2_lt _ _ _ hr hn, V_v]

/-! ## The reference's result -/

/-- The reference's composed term, over its four arguments. -/
def refOut (y : S4x4112x8192.Idx → EReal) (w : S1x8192x4096.Idx → EReal) (g : S16384x8192.Idx → EReal) (v : S16384x4096.Idx → EReal) :
    S16384x4096.Idx → EReal :=
  truncf (F := Ideal) .bf16 (addf (F := Ideal) (φ := .f32) v (mulf (F := Ideal) (φ := .f32)
    (extractStridedSlice S16384x4096 ![0, 4096] g Cert.ReferenceIdeal.Gen.slices_S16384x8192_S16384x4096_0_4096)
    (shapeCast S16384x4096 (extractStridedSlice Cert.ReferenceIdeal.S4x4096x4096 ![0, 16, 0]
      (Host.dotGeneral (F := Ideal) (φ₁ := .f32) (φ₂ := .f32) Cert.ReferenceIdeal.dot_S4x4112x8192_S8192x4096_S4x4112x4096_2_0_01_1_n_n none y
        (shapeCast S8192x4096 w Cert.ReferenceIdeal.Gen.shapeCasts_S1x8192x4096_S8192x4096))
      Cert.ReferenceIdeal.Gen.slices_S4x4112x4096_S4x4096x4096_0_16_0) Cert.ReferenceIdeal.Gen.shapeCasts_S4x4096x4096_S16384x4096)))
    Cert.ReferenceIdeal.Gen.bitsLt_bf16_f32

/-- Read at an entry: the row's product, gated, added to the other branch. -/
theorem refOut_apply (y : S4x4112x8192.Idx → EReal) (w : S1x8192x4096.Idx → EReal) (g : S16384x8192.Idx → EReal) (v : S16384x4096.Idx → EReal)
    (r : Fin 16384) (n : Fin 4096) :
    refOut y w g v (ix2 r n) = v (ix2 r n) + g (ix2 (n0 := 16384) (n1 := 8192) r ⟨4096 + n.val, by omega⟩)
      * ∑ k : Fin 8192, y (ix3 (n0 := 4) (n1 := 4112) (n2 := 8192) ⟨r.val / 4096, by omega⟩ ⟨16 + r.val % 4096, by omega⟩ k)
          * w (ix3 (n0 := 1) (n1 := 8192) (n2 := 4096) ⟨0, Nat.one_pos⟩ k n) := by
  show v (ix2 r n) + extractStridedSlice S16384x4096 ![0, 4096] g _ (ix2 r n) * shapeCast S16384x4096 _ _ (ix2 r n) = _
  refine congrArg₂ (· + ·) rfl (congrArg₂ (· * ·) ?_ ?_)
  · refine extractStridedSlice_apply _ _ _ _ _ fun a => ?_
    match a with
    | ⟨0, _⟩ => show r.val = 0 + r.val; omega
    | ⟨1, _⟩ => show 4096 + n.val = 4096 + n.val; rfl
  · refine (shapeCast_apply _ Cert.ReferenceIdeal.Gen.shapeCasts_S4x4096x4096_S16384x4096 _
      (ix3 (n0 := 4) (n1 := 4096) (n2 := 4096) ⟨r.val / 4096, by omega⟩ ⟨r.val % 4096, by omega⟩ n) ?_).trans ?_
    · rw [Shape.rowMajor_val_three, Shape.rowMajor_val_two]
      show (r.val / 4096 * 4096 + r.val % 4096) * 4096 + n.val = r.val * 4096 + n.val
      omega
    refine (extractStridedSlice_apply _ _ _ _
      (ix3 (n0 := 4) (n1 := 4112) (n2 := 4096) ⟨r.val / 4096, by omega⟩ ⟨16 + r.val % 4096, by omega⟩ n) fun a => ?_).trans ?_
    · match a with
      | ⟨0, _⟩ => show r.val / 4096 = 0 + r.val / 4096; omega
      | ⟨1, _⟩ => show 16 + r.val % 4096 = 16 + r.val % 4096; rfl
      | ⟨2, _⟩ => show n.val = 0 + n.val; omega
    refine (dot3_at (φ₁ := .f32) (φ₂ := .f32) _ none y _ _ _ n).trans (Finset.sum_congr rfl fun k _ => congrArg₂ (· * ·) rfl ?_)
    exact (shapeCast_dropUnit_apply (![8192, 4096] : Fin 2 → Nat) w _ _).trans
      (congrArg w (funext fun a => match a with | ⟨0, _⟩ => rfl | ⟨1, _⟩ => rfl | ⟨2, _⟩ => rfl))

/-- The kernel's result is the reference's. -/
theorem G_eq (c : Dev nD) : (G m c : S16384x4096.Idx → EReal)
    = refOut (m ((c : Thread nD τ).loc main_arg0)) (m ((c : Thread nD τ).loc main_arg1)) (m ((c : Thread nD τ).loc main_arg2))
        (m ((c : Thread nD τ).loc main_arg3)) := by
  funext o
  obtain ⟨r, n, rfl⟩ : ∃ (r : Fin 16384) (n : Fin 4096), o = ix2 r n := ⟨o (0 : Fin 2), o (1 : Fin 2), eq_ix2 o⟩
  rw [refOut_apply]
  show merged m c r.val n.val = _
  unfold merged
  rw [gAt_eq m c r.val (4096 + n.val) r.isLt (by omega), vAt_eq m c r.val n.val r.isLt n.isLt]
  rw [add_comm, mul_comm]
  refine congrArg₂ (· + ·) rfl (congrArg₂ (· * ·) rfl (Finset.sum_congr rfl fun k _ => ?_))
  rw [xAt_eq m c r.val k.val r.isLt k.isLt, wAt_eq m c k.val n.val k.isLt n.isLt]

/-! ## The claims -/

/-- The run of the call over the ideal values, read: the result, the arguments, the counters. -/
theorem result : θ_run (defs (F := Ideal)) (onTc (τ := τ) (main (F := Ideal))) ⟨m, fun _ => 0, ρ⟩ fun r => ∀ c : Dev nD,
    r.2.mem ((c.tc : Thread nD τ).loc main_v6) = G m c :=
  (θ_run defs _ _).mono (fun _ h c => ((h.1 c).1 4).trans (final m c)) (runs m ρ)

theorem frame : Cert.quiescent_KernelIdeal := fun m ρ _ => frame_run m ρ

theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

theorem algebraic : Cert.algebraic_KernelIdeal_ReferenceIdeal := by
  intro m ρ m' ρ' _ hargs
  refine ⟨fun c => G m c, ?_, ?_⟩
  · exact (θ_run defs _ _).mono (fun _ h c => ⟨h.1 c, h.2.1 c⟩) (θ_run_and (result m ρ) (frame_run m ρ))
  · refine (θ_run Cert.ReferenceIdeal.defs _ _).mono (fun r h c => ⟨(h c).1.trans ?_, (h c).2⟩)
      (Cert.ReferenceIdeal.Value.run (F := Ideal) m' ρ')
    obtain ⟨e0, e1, e2, e3⟩ := hargs c
    rw [e0, e1, e2, e3]
    exact (G_eq m c).symm

end Cert.KernelIdeal.Hand
end
-- ==== Proof.SameText.lean ====
/- The kernel over bits and its reading over the extended reals are one text: one run serves both. -/
module

public import proofs.«01_k».proof.Proof.MergeRun
public import proofs.«01_k».proof.Proof.Gen.Kernel
public import proofs.«01_k».proof.Defs

@[expose] public section

set_option maxRecDepth 16384

noncomputable section

namespace Cert.KernelIdeal.Hand

open Cert.Kernel.Gen Cert.KernelIdeal.Gen
open Idealize.ShloMosaic Idealize.ShloMosaic.TcCoe Idealize.SL.Sem

variable {F : FTy → Type} [FloatOps F]

theorem bodies_same : Cert.Kernel.defs₀ (F := F) = Cert.KernelIdeal.defs₀ := by
  unfold Cert.Kernel.defs₀ Cert.KernelIdeal.defs₀
  refine congrArg Defs.onTc (funext fun l => ?_)
  match l with
  | ⟨0, _⟩ => rfl

theorem tables_same : Cert.Kernel.defs (F := F) = Cert.KernelIdeal.defs := by
  unfold Cert.Kernel.defs Cert.KernelIdeal.defs
  rw [bodies_same]; rfl

/-- The kernel's frame over bits. -/
theorem frame_kernel : Cert.quiescent_Kernel := fun m ρ _ => by
  have h := frame_run (F := Bits) m ρ
  rw [← tables_same] at h
  exact h

end Cert.KernelIdeal.Hand
end
-- ==== Proof.Tiles.lean ====
/- One grid point of the products with 4096 weight rows and tiles of 1024: the chunk cast into the cache, the cached tile read
   back, and the product of a row block with it. -/
module

public import proofs.«01_k».proof.Proof.Slots
public import proofs.«01_k».proof.Proof.Read2
public import Idealize.ShloMosaic.Lib.Pipeline.ValueKit.Geometry

@[expose] public section

noncomputable section

namespace Cert.Hand

open Idealize.ShloMosaic Idealize.ShloMosaic.ValueIdx

/-- One slot of the cache lies inside it. -/
theorem slot_inb (a : Nat) : ∀ b, (![(a + 1) % 2, 0, 0] : Fin 3 → Nat) b + (⟨3, ![1, 4096, 1024]⟩ : Shape).size b
    ≤ (⟨3, ![2, 4096, 1024]⟩ : Shape).size b := fun b =>
  match b with
  | ⟨0, _⟩ => by show (a + 1) % 2 + 1 ≤ 2; omega
  | ⟨1, _⟩ => by show 0 + 4096 ≤ 4096; omega
  | ⟨2, _⟩ => by show 0 + 1024 ≤ 1024; omega
  | ⟨n + 3, h⟩ => absurd h (Nat.not_lt.2 (Nat.le_add_left _ _))

/-- Tile `j` of the weight `W`. -/
def tile {α : Type} (W : Nat → Nat → α) (j : Nat) : (⟨3, ![1, 4096, 1024]⟩ : Shape).Idx → α :=
  fun y => W (y (1 : Fin 3)).val (j * 1024 + (y (2 : Fin 3)).val)

/-- A multiplying point reads the tile before its own. -/
theorem tile_read {α : Type} {nj : Nat} {W : Nat → Nat → α} {t : Nat} {f : (⟨3, ![2, 4096, 1024]⟩ : Shape).Idx → α}
    (h : Filled 16 nj 256 4096 1024 W (t + 1) f) (h1 : 16 ≤ t) (h2 : t < nj * 16 + 16) :
    VecWindow.window f ![(t / 16 + 1) % 2, 0, 0] (⟨3, ![1, 4096, 1024]⟩ : Shape).size (slot_inb (t / 16)) = tile W (t / 16 - 1) := by
  funext y
  unfold VecWindow.window tile
  rw [h.read (t / 16 - 1) (t % 16) (by omega) (by omega) (by omega) (by omega) (by omega)]
  · have e1 : ((Rect.unit (s := ⟨3, ![2, 4096, 1024]⟩) ![(t / 16 + 1) % 2, 0, 0] (⟨3, ![1, 4096, 1024]⟩ : Shape).size (slot_inb (t / 16))).emb y
        (1 : Fin 3)).val = (y (1 : Fin 3)).val := by
      rw [ValueKit.rect_emb_unit_val]; show 0 + _ = _; omega
    have e2 : ((Rect.unit (s := ⟨3, ![2, 4096, 1024]⟩) ![(t / 16 + 1) % 2, 0, 0] (⟨3, ![1, 4096, 1024]⟩ : Shape).size (slot_inb (t / 16))).emb y
        (2 : Fin 3)).val = (y (2 : Fin 3)).val := by
      rw [ValueKit.rect_emb_unit_val]; show 0 + _ = _; omega
    rw [e1, e2]
  · rw [ValueKit.rect_emb_unit_val]
    have : (y (0 : Fin 3)).val < 1 := (y (0 : Fin 3)).isLt
    show (t / 16 + 1) % 2 + (y (0 : Fin 3)).val = _; omega

variable {F : FTy → Type} [FloatOps F]

/-- The chunk as it is put into the cache: cast, under a unit axis. -/
theorem chunk_at (x : Vec F ⟨2, ![256, 1024]⟩ .f32) (h1 h2 h3) (y : (⟨3, ![1, 256, 1024]⟩ : Shape).Idx) :
    shapeCast ⟨3, ![1, 256, 1024]⟩ (truncf .bf16 (shapeCast ⟨2, ![256, 1024]⟩ x h1 : FVec F ⟨2, ![256, 1024]⟩ .f32) h2) h3 y
      = truncf .bf16 x h2 (ix2 (y (1 : Fin 3)) (y (2 : Fin 3))) := by
  rw [shapeCast_self]
  refine (shapeCast_addUnit_apply (![256, 1024] : Fin 2 → Nat) _ h3 y).trans ?_
  exact congrArg (truncf .bf16 x h2) (funext fun a => match a with | ⟨0, _⟩ => rfl | ⟨1, _⟩ => rfl)

/-- A row block times a cached tile. -/
theorem block_at (x : FVec Ideal ⟨2, ![1024, 4096]⟩ .bf16) (h1 h2) (W : Nat → Nat → EReal) (q : Nat) (j : (⟨2, ![1024, 1024]⟩ : Shape).Idx)
    (L : Nat → EReal) (hl : ∀ y : (⟨2, ![1024, 4096]⟩ : Shape).Idx, (y (0 : Fin 2)).val = (j (0 : Fin 2)).val → x y = L (y (1 : Fin 2)).val) :
    FloatOps.matmul (F := Ideal) (φ₁ := .bf16) (φ₂ := .bf16) (DotDims.plain 1024 4096 1024) none (shapeCast ⟨2, ![1024, 4096]⟩ x h1)
        (shapeCast ⟨2, ![4096, 1024]⟩ (tile W q) h2) (constant ⟨2, ![1024, 1024]⟩ .f32 0x00000000#32) j
      = ∑ k : Fin 4096, L k.val * W k.val (q * 1024 + (j (1 : Fin 2)).val) := by
  rw [shapeCast_self]
  refine matmul_at (φ₁ := .bf16) (φ₂ := .bf16) none x _ j L (fun k => W k (q * 1024 + (j (1 : Fin 2)).val)) hl fun y hy => ?_
  refine (shapeCast_dropUnit_apply (![4096, 1024] : Fin 2 → Nat) (tile W q) h2 y).trans ?_
  show W (y (0 : Fin 2)).val (q * 1024 + (y (1 : Fin 2)).val) = _
  rw [hy]

end Cert.Hand
end
-- ==== Proof.Step.lean ====
/- One grid point of the products with 4096 weight rows and tiles of 1024, run once for all of them: a region that puts a cast
   chunk of the weight into the two-slot cache, then a region that multiplies a row block with the tile in the other slot and
   stores the epilogue of the product. Over any signature, body table and epilogue. -/
module

public import proofs.«01_k».proof.Proof.Tiles
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Λ : Labels} {F : FTy → Type} [FloatOps F]

local notation "𝕄" => MT nD τ sig Unit (Elt F) ℕ (UR sig nD τ) ℕ

/-- The shapes of a point: a row block, a chunk of the weight, the chunk in the cache, one slot, the cache, an output tile. -/
abbrev Rows : Shape := ⟨2, ![1024, 4096]⟩
abbrev Chunk : Shape := ⟨2, ![256, 1024]⟩
abbrev Put : Shape := ⟨3, ![1, 256, 1024]⟩
abbrev Slot : Shape := ⟨3, ![1, 4096, 1024]⟩
abbrev Cache : Shape := ⟨3, ![2, 4096, 1024]⟩
abbrev Out : Shape := ⟨2, ![1024, 1024]⟩

/-- A point's body: the filling region under its condition, then the multiplying region under its own. -/
def point (p1 p2 : Prop) [Decidable p1] [Decidable p2] (A : p1 → Prog (TpuEff nD τ sig (Elt F) Λ .tc) PUnit)
    (B : p2 → Prog (TpuEff nD τ sig (Elt F) Λ .tc) PUnit) : Prog (TpuEff nD τ sig (Elt F) Λ .tc) PUnit :=
  (if h : p1 then A h else pure ⟨⟩) >>= fun _ => (if h : p2 then B h else pure ⟨⟩) >>= fun _ => pure ⟨⟩

/-- The filling region. -/
def fill (w : Memref sig .tc .vmem Chunk .f32) (sc : Memref sig .tc .vmem Cache .bf16) (off : Fin 3 → Nat)
    (hw : ∀ a, (![0, 0] : Fin 2 → Nat) a + Chunk.size a ≤ Chunk.size a) (hi : ∀ a, off a + Put.size a ≤ Cache.size a)
    (h1 : w.view.LoadsAt (Rect.unit (s := Chunk) ![0, 0] Chunk.size hw).toLoadRect)
    (h2 : sc.view.LoadsAt (Rect.unit (s := Cache) off Put.size hi).toLoadRect)
    (h3 : (sc.access (Rect.unit (s := Cache) off Put.size hi)).Stores Finset.univ)
    (pay : Vec F Chunk .f32 → Vec F Put .bf16) : Prog (TpuEff nD τ sig (Elt F) Λ .tc) PUnit := do
  let v : Vec F Chunk .f32 ← Prog.lift (.load w (Rect.unit (s := Chunk) ![0, 0] Chunk.size hw).toLoadRect h1)
  let _u : Vec F Put .bf16 ← Prog.lift (.load sc (Rect.unit (s := Cache) off Put.size hi).toLoadRect h2)
  Prog.lift (.store sc (Rect.unit (s := Cache) off Put.size hi) (pay v) Finset.univ h3 (.inl rfl))
  pure ⟨⟩

/-- The multiplying region with no further operand. -/
def mul {φ : EltTy} (x : Memref sig .tc .vmem Rows .bf16) (o : Memref sig .tc .vmem Out φ) (sc : Memref sig .tc .vmem Cache .bf16) (off : Fin 3 → Nat)
    (hx : ∀ a, (![0, 0] : Fin 2 → Nat) a + Rows.size a ≤ Rows.size a) (ho : ∀ a, (![0, 0] : Fin 2 → Nat) a + Out.size a ≤ Out.size a)
    (hi : ∀ a, off a + Slot.size a ≤ Cache.size a)
    (h1 : x.view.LoadsAt (Rect.unit (s := Rows) ![0, 0] Rows.size hx).toLoadRect)
    (h2 : sc.view.LoadsAt (Rect.unit (s := Cache) off Slot.size hi).toLoadRect)
    (h3 : o.view.LoadsAt (Rect.unit (s := Out) ![0, 0] Out.size ho).toLoadRect)
    (h4 : (o.access (Rect.unit (s := Out) ![0, 0] Out.size ho)).Stores Finset.univ)
    (pay : Vec F Rows .bf16 → Vec F Slot .bf16 → Vec F Out φ) : Prog (TpuEff nD τ sig (Elt F) Λ .tc) PUnit := do
  let v : Vec F Rows .bf16 ← Prog.lift (.load x (Rect.unit (s := Rows) ![0, 0] Rows.size hx).toLoadRect h1)
  let t : Vec F Slot .bf16 ← Prog.lift (.load sc (Rect.unit (s := Cache) off Slot.size hi).toLoadRect h2)
  let _u : Vec F Out φ ← Prog.lift (.load o (Rect.unit (s := Out) ![0, 0] Out.size ho).toLoadRect h3)
  Prog.lift (.store o (Rect.unit (s := Out) ![0, 0] Out.size ho) (pay v t) Finset.univ h4 (.inl rfl))
  pure ⟨⟩

/-- The multiplying region with an operand more for its epilogue. -/
def mulWith {φ ψ : EltTy} {M N : Nat} (x : Memref sig .tc .vmem Rows .bf16) (e : Memref sig .tc .vmem ⟨2, ![M, N]⟩ ψ) (o : Memref sig .tc .vmem Out φ)
    (sc : Memref sig .tc .vmem Cache .bf16) (off : Fin 3 → Nat)
    (hx : ∀ a, (![0, 0] : Fin 2 → Nat) a + Rows.size a ≤ Rows.size a)
    (he : ∀ a, (![0, 0] : Fin 2 → Nat) a + (⟨2, ![M, N]⟩ : Shape).size a ≤ (⟨2, ![M, N]⟩ : Shape).size a)
    (ho : ∀ a, (![0, 0] : Fin 2 → Nat) a + Out.size a ≤ Out.size a) (hi : ∀ a, off a + Slot.size a ≤ Cache.size a)
    (h1 : x.view.LoadsAt (Rect.unit (s := Rows) ![0, 0] Rows.size hx).toLoadRect)
    (h2 : sc.view.LoadsAt (Rect.unit (s := Cache) off Slot.size hi).toLoadRect)
    (h3 : e.view.LoadsAt (Rect.unit (s := ⟨2, ![M, N]⟩) ![0, 0] (⟨2, ![M, N]⟩ : Shape).size he).toLoadRect)
    (h4 : o.view.LoadsAt (Rect.unit (s := Out) ![0, 0] Out.size ho).toLoadRect)
    (h5 : (o.access (Rect.unit (s := Out) ![0, 0] Out.size ho)).Stores Finset.univ)
    (pay : Vec F Rows .bf16 → Vec F Slot .bf16 → Vec F ⟨2, ![M, N]⟩ ψ → Vec F Out φ) : Prog (TpuEff nD τ sig (Elt F) Λ .tc) PUnit := do
  let v : Vec F Rows .bf16 ← Prog.lift (.load x (Rect.unit (s := Rows) ![0, 0] Rows.size hx).toLoadRect h1)
  let t : Vec F Slot .bf16 ← Prog.lift (.load sc (Rect.unit (s := Cache) off Slot.size hi).toLoadRect h2)
  let z : Vec F ⟨2, ![M, N]⟩ ψ ← Prog.lift (.load e (Rect.unit (s := ⟨2, ![M, N]⟩) ![0, 0] (⟨2, ![M, N]⟩ : Shape).size he).toLoadRect h3)
  let _u : Vec F Out φ ← Prog.lift (.load o (Rect.unit (s := Out) ![0, 0] Out.size ho).toLoadRect h4)
  Prog.lift (.store o (Rect.unit (s := Out) ![0, 0] Out.size ho) (pay v t z) Finset.univ h5 (.inl rfl))
  pure ⟨⟩

variable (D : Defs nD τ sig (Elt F) Λ) (c : Dev nD)

/-- The filling region puts the chunk into the cache. -/
theorem fill_run (w : Memref sig .tc .vmem Chunk .f32) (sc : Memref sig .tc .vmem Cache .bf16) (w_whole : w.IsWhole) (sc_whole : sc.IsWhole)
    (off : Fin 3 → Nat) (hw hi h1 h2 h3) (pay : Vec F Chunk .f32 → Vec F Put .bf16)
    (x : Vec F Chunk .f32) (f : Vec F Cache .bf16) (E : Set ℕ) (K : PUnit → sProp 𝕄) :
    iprop(owns (c : Thread nD τ) w fullShare x ∗ owns (c : Thread nD τ) sc fullShare f
        ∗ (iprop(owns (c : Thread nD τ) w fullShare x ∗ owns (c : Thread nD τ) sc fullShare (VecWindow.put f off Put.size (pay x))) -∗ K ⟨⟩))
      ⊢ wp frame (wpE D Variants.none c none) E (fill w sc off hw hi h1 h2 h3 pay) K := by
  unfold fill owns
  iintro ⟨⟨%fw, %hfw, Hw⟩, ⟨%fs, %hfs, Hs⟩, Hk⟩
  obtain rfl := w_whole.eq_unread hfw; obtain rfl := sc_whole.eq_unread hfs
  sl_exec
  sl_step
  iapply Hk
  isplitl [Hw]
  · iexists _; isplitr; · ipureintro; exact hfw
    iexact Hw
  iexists _; isplitr; swap; · iexact Hs
  ipureintro
  rw [View.readAt_full, hfw, View.read_writes_cons_put _ _ _ _ _ rfl, View.writes_nil, hfs]

/-- The multiplying region stores the epilogue of the product with the slot at `off`. -/
theorem mul_run {φ : EltTy} (x : Memref sig .tc .vmem Rows .bf16) (o : Memref sig .tc .vmem Out φ) (sc : Memref sig .tc .vmem Cache .bf16)
    (x_whole : x.IsWhole) (o_whole : o.IsWhole) (sc_whole : sc.IsWhole) (off : Fin 3 → Nat) (hx ho hi h1 h2 h3 h4)
    (pay : Vec F Rows .bf16 → Vec F Slot .bf16 → Vec F Out φ)
    (v : Vec F Rows .bf16) (u : Vec F Out φ) (f : Vec F Cache .bf16) (E : Set ℕ) (K : PUnit → sProp 𝕄) :
    iprop(owns (c : Thread nD τ) x fullShare v ∗ owns (c : Thread nD τ) o fullShare u ∗ owns (c : Thread nD τ) sc fullShare f
        ∗ (iprop(owns (c : Thread nD τ) x fullShare v ∗ owns (c : Thread nD τ) o fullShare (pay v (VecWindow.window f off Slot.size hi))
            ∗ owns (c : Thread nD τ) sc fullShare f) -∗ K ⟨⟩))
      ⊢ wp frame (wpE D Variants.none c none) E (mul x o sc off hx ho hi h1 h2 h3 h4 pay) K := by
  unfold mul owns
  iintro ⟨⟨%fx, %hfx, Hx⟩, ⟨%fo, %hfo, Ho⟩, ⟨%fs, %hfs, Hs⟩, Hk⟩
  obtain rfl := x_whole.eq_unread hfx; obtain rfl := o_whole.eq_unread hfo; obtain rfl := sc_whole.eq_unread hfs
  sl_exec
  sl_step
  iapply Hk
  isplitl [Hx]
  · iexists _; isplitr; · ipureintro; exact hfx
    iexact Hx
  isplitl [Ho]
  · iexists _; isplitr; swap; · iexact Ho
    ipureintro
    rw [View.read_writes_full, View.readAt_full, hfx, View.readAt_unit _ _ _ rfl hi, hfs]
  iexists _; isplitr; swap; · iexact Hs
  ipureintro; exact hfs

/-- The same with the operand more. -/
theorem mulWith_run {φ ψ : EltTy} {M N : Nat} (x : Memref sig .tc .vmem Rows .bf16) (e : Memref sig .tc .vmem ⟨2, ![M, N]⟩ ψ)
    (o : Memref sig .tc .vmem Out φ) (sc : Memref sig .tc .vmem Cache .bf16)
    (x_whole : x.IsWhole) (e_whole : e.IsWhole) (o_whole : o.IsWhole) (sc_whole : sc.IsWhole) (off : Fin 3 → Nat) (hx he ho hi h1 h2 h3 h4 h5)
    (pay : Vec F Rows .bf16 → Vec F Slot .bf16 → Vec F ⟨2, ![M, N]⟩ ψ → Vec F Out φ)
    (v : Vec F Rows .bf16) (z : Vec F ⟨2, ![M, N]⟩ ψ) (u : Vec F Out φ) (f : Vec F Cache .bf16) (E : Set ℕ) (K : PUnit → sProp 𝕄) :
    iprop(owns (c : Thread nD τ) x fullShare v ∗ owns (c : Thread nD τ) e fullShare z ∗ owns (c : Thread nD τ) o fullShare u
        ∗ owns (c : Thread nD τ) sc fullShare f
        ∗ (iprop(owns (c : Thread nD τ) x fullShare v ∗ owns (c : Thread nD τ) e fullShare z
            ∗ owns (c : Thread nD τ) o fullShare (pay v (VecWindow.window f off Slot.size hi) z) ∗ owns (c : Thread nD τ) sc fullShare f) -∗ K ⟨⟩))
      ⊢ wp frame (wpE D Variants.none c none) E (mulWith x e o sc off hx he ho hi h1 h2 h3 h4 h5 pay) K := by
  unfold mulWith owns
  iintro ⟨⟨%fx, %hfx, Hx⟩, ⟨%fe, %hfe, He⟩, ⟨%fo, %hfo, Ho⟩, ⟨%fs, %hfs, Hs⟩, Hk⟩
  obtain rfl := x_whole.eq_unread hfx; obtain rfl := e_whole.eq_unread hfe
  obtain rfl := o_whole.eq_unread hfo; obtain rfl := sc_whole.eq_unread hfs
  sl_exec
  sl_step
  iapply Hk
  isplitl [Hx]
  · iexists _; isplitr; · ipureintro; exact hfx
    iexact Hx
  isplitl [He]
  · iexists _; isplitr; · ipureintro; exact hfe
    iexact He
  isplitl [Ho]
  · iexists _; isplitr; swap; · iexact Ho
    ipureintro
    unfold mulWith_run.sl.z
    rw [View.read_writes_full, View.readAt_full, View.readAt_full, hfx, hfe, View.readAt_unit _ _ _ rfl hi, hfs]
  iexists _; isplitr; swap; · iexact Hs
  ipureintro; exact hfs

/-! ## A point, with the account of the cache -/

/-- The launch's own state before point `n`: the cache holds the chunks of `W` put into it so far; the generator register. -/
def Held (sc : Memref sig .tc .vmem Cache .bf16) (nj : Nat) (W : Nat → Nat → F .bf16) (n : Nat) : sProp 𝕄 :=
  iprop(∃ f : Vec F Cache .bf16, ⌜Filled 16 nj 256 4096 1024 W n f⌝ ∗ owns (c : Thread nD τ) sc fullShare f ∗ (∃ r, prngReg c r))

theorem held_in (sc : Memref sig .tc .vmem Cache .bf16) (nj : Nat) (W : Nat → Nat → F .bf16) :
    (iprop((∃ d, owns (c : Thread nD τ) sc fullShare d) ∗ (∃ r, prngReg c r)) : sProp 𝕄) ⊢ Held c sc nj W 0 := by
  unfold Held
  iintro ⟨⟨%d, HS⟩, Hg⟩
  iexists d
  isplitr
  · ipureintro; exact Filled.zero 16 nj 256 4096 1024 _ _
  isplitl [HS]; · iexact HS
  iexact Hg

theorem held_out (sc : Memref sig .tc .vmem Cache .bf16) (nj : Nat) (W : Nat → Nat → F .bf16) (n : Nat) :
    Held c sc nj W n ⊢ (iprop((∃ d, owns (c : Thread nD τ) sc fullShare d) ∗ (∃ r, prngReg c r)) : sProp 𝕄) := by
  unfold Held
  iintro ⟨%f, -, HS, Hg⟩
  isplitl [HS]; · iexists _; iexact HS
  iexact Hg

/-- The filling half of a point: the account goes one point further. -/
theorem filled_succ {nj : Nat} {W : Nat → Nat → F .bf16} {t : Nat} {f : Vec F Cache .bf16} (hf : Filled 16 nj 256 4096 1024 W t f)
    (p1 : Prop) [Decidable p1] (fills : p1 ↔ t < nj * 16) (off : Fin 3 → Nat) (at1 : t < nj * 16 → off = ![t / 16 % 2, 256 * (t % 16), 0])
    (y : Vec F Put .bf16)
    (hy : t < nj * 16 → ∀ j, y j = W (256 * (t % 16) + (j (1 : Fin 3)).val) (t / 16 * 1024 + (j (2 : Fin 3)).val)) :
    Filled 16 nj 256 4096 1024 W (t + 1) (if p1 then VecWindow.put f off Put.size y else f) := by
  by_cases h : p1
  · rw [if_pos h, at1 (fills.mp h)]
    exact hf.put (t / 16) (t % 16) (by omega) (by omega) (by omega) (by omega) y (hy (fills.mp h))
  · rw [if_neg h]
    exact hf.skip (by omega) (by omega) (Nat.le_of_not_lt (mt fills.mpr h))

/-- A point of the grid: the account one point further, the row block, the chunk and the further operands `R` as they were, and
    the output tile at `blk` of the weight's tile where the point multiplies, else as it was. -/
theorem point_run {φ : EltTy} (p1 p2 : Prop) [Decidable p1] [Decidable p2]
    (w : Memref sig .tc .vmem Chunk .f32) (o : Memref sig .tc .vmem Out φ) (sc : Memref sig .tc .vmem Cache .bf16)
    (w_whole : w.IsWhole) (sc_whole : sc.IsWhole)
    (off1 off2 : Fin 3 → Nat) (hw) (hi : p1 → _) (h1) (h2 : ∀ h, _) (h3 : ∀ h, _) (pay : Vec F Chunk .f32 → Vec F Put .bf16)
    (B : p2 → Prog (TpuEff nD τ sig (Elt F) Λ .tc) PUnit) (R : sProp 𝕄) (blk : Vec F Slot .bf16 → Vec F Out φ) (u : Vec F Out φ)
    (hi2 : p2 → ∀ a, off2 a + Slot.size a ≤ Cache.size a)
    (hB : ∀ (h : p2) (f : Vec F Cache .bf16) (K : PUnit → sProp 𝕄),
      iprop(R ∗ owns (c : Thread nD τ) o fullShare u ∗ owns (c : Thread nD τ) sc fullShare f
        ∗ (iprop(R ∗ owns (c : Thread nD τ) o fullShare (blk (VecWindow.window f off2 Slot.size (hi2 h)))
            ∗ owns (c : Thread nD τ) sc fullShare f) -∗ K ⟨⟩))
      ⊢ wp frame (wpE D Variants.none c none) Set.univ (B h) K)
    (nj t : Nat) (W : Nat → Nat → F .bf16) (ht : t < nj * 16 + 16) (fills : p1 ↔ t < nj * 16) (muls : p2 ↔ 16 ≤ t)
    (at1 : t < nj * 16 → off1 = ![t / 16 % 2, 256 * (t % 16), 0]) (at2 : 16 ≤ t → off2 = ![(t / 16 + 1) % 2, 0, 0])
    (x : Vec F Chunk .f32)
    (hx : t < nj * 16 → ∀ j, pay x j = W (256 * (t % 16) + (j (1 : Fin 3)).val) (t / 16 * 1024 + (j (2 : Fin 3)).val))
    (K : PUnit → sProp 𝕄) :
    iprop(Held c sc nj W t ∗ owns (c : Thread nD τ) w fullShare x ∗ R ∗ owns (c : Thread nD τ) o fullShare u
        ∗ (iprop(Held c sc nj W (t + 1) ∗ owns (c : Thread nD τ) w fullShare x ∗ R
            ∗ owns (c : Thread nD τ) o fullShare (if 16 ≤ t then blk (tile W (t / 16 - 1)) else u)) -∗ K ⟨⟩))
      ⊢ wp frame (wpE D Variants.none c none) Set.univ
          (point p1 p2 (fun h => fill w sc off1 hw (hi h) h1 (h2 h) (h3 h) pay) B) K := by
  have second : ∀ (f : Vec F Cache .bf16), Filled 16 nj 256 4096 1024 W (t + 1) f →
      iprop(owns (c : Thread nD τ) sc fullShare f ∗ (∃ r, prngReg c r) ∗ owns (c : Thread nD τ) w fullShare x ∗ R
        ∗ owns (c : Thread nD τ) o fullShare u
        ∗ (iprop(Held c sc nj W (t + 1) ∗ owns (c : Thread nD τ) w fullShare x ∗ R
            ∗ owns (c : Thread nD τ) o fullShare (if 16 ≤ t then blk (tile W (t / 16 - 1)) else u)) -∗ K ⟨⟩))
      ⊢ wp frame (wpE D Variants.none c none) Set.univ ((if h : p2 then B h else pure ⟨⟩) >>= fun _ => pure ⟨⟩) K := by
    intro f hf
    by_cases h : p2
    · rw [dif_pos h, wp_bind, if_pos (muls.mp h)]
      iintro ⟨HS, Hg, Hw, HR, Ho, Hk⟩
      iapply (hB h f _)
      isplitl [HR]; · iexact HR
      isplitl [Ho]; · iexact Ho
      isplitl [HS]; · iexact HS
      iintro ⟨HR, Ho, HS⟩
      sl_step
      iapply Hk
      have e : VecWindow.window f off2 Slot.size (hi2 h) = tile W (t / 16 - 1) := by
        rw [← tile_read hf (muls.mp h) ht]
        have e2 := at2 (muls.mp h); subst e2; rfl
      rw [e]
      isplitl [HS Hg]
      · unfold Held; iexists f
        isplitr; · ipureintro; exact hf
        isplitl [HS]; · iexact HS
        iexact Hg
      isplitl [Hw]; · iexact Hw
      isplitl [HR]; · iexact HR
      iexact Ho
    · rw [dif_neg h, wp_bind, if_neg (mt muls.mpr h)]
      iintro ⟨HS, Hg, Hw, HR, Ho, Hk⟩
      sl_step
      sl_step
      iapply Hk
      isplitl [HS Hg]
      · unfold Held; iexists f
        isplitr; · ipureintro; exact hf
        isplitl [HS]; · iexact HS
        iexact Hg
      isplitl [Hw]; · iexact Hw
      isplitl [HR]; · iexact HR
      iexact Ho
  unfold point
  rw [wp_bind]
  conv_lhs => unfold Held
  iintro ⟨⟨%f, %hf, HS, Hg⟩, Hw, HR, Ho, Hk⟩
  have hs := filled_succ hf p1 fills off1 at1 (pay x) hx
  by_cases h : p1
  · rw [dif_pos h]
    rw [if_pos h] at hs
    iapply (fill_run D c w sc w_whole sc_whole off1 hw (hi h) h1 (h2 h) (h3 h) pay x f Set.univ _)
    isplitl [Hw]; · iexact Hw
    isplitl [HS]; · iexact HS
    iintro ⟨Hw, HS⟩
    iapply (second _ hs)
    isplitl [HS]; · iexact HS
    isplitl [Hg]; · iexact Hg
    isplitl [Hw]; · iexact Hw
    isplitl [HR]; · iexact HR
    isplitl [Ho]; · iexact Ho
    iexact Hk
  · rw [dif_neg h]
    rw [if_neg h] at hs
    sl_step
    iapply (second _ hs)
    isplitl [HS]; · iexact HS
    isplitl [Hg]; · iexact Hg
    isplitl [Hw]; · iexact Hw
    isplitl [HR]; · iexact HR
    isplitl [Ho]; · iexact Ho
    iexact Hk

/-- A point whose epilogue takes no further operand. -/
theorem pointMul_run {φ : EltTy} (p1 p2 : Prop) [Decidable p1] [Decidable p2]
    (x : Memref sig .tc .vmem Rows .bf16) (w : Memref sig .tc .vmem Chunk .f32) (o : Memref sig .tc .vmem Out φ)
    (sc : Memref sig .tc .vmem Cache .bf16) (x_whole : x.IsWhole) (w_whole : w.IsWhole) (o_whole : o.IsWhole) (sc_whole : sc.IsWhole)
    (off1 off2 : Fin 3 → Nat) (hw) (hi : p1 → _) (h1) (h2 : ∀ h, _) (h3 : ∀ h, _) (pay : Vec F Chunk .f32 → Vec F Put .bf16)
    (kx ko) (k0 : p2 → _) (k1) (k2 : ∀ h, _) (k3 k4) (epi : Vec F Rows .bf16 → Vec F Slot .bf16 → Vec F Out φ)
    (v : Vec F Rows .bf16) (u : Vec F Out φ)
    (nj t : Nat) (W : Nat → Nat → F .bf16) (ht : t < nj * 16 + 16) (fills : p1 ↔ t < nj * 16) (muls : p2 ↔ 16 ≤ t)
    (at1 : t < nj * 16 → off1 = ![t / 16 % 2, 256 * (t % 16), 0]) (at2 : 16 ≤ t → off2 = ![(t / 16 + 1) % 2, 0, 0])
    (y : Vec F Chunk .f32)
    (hy : t < nj * 16 → ∀ j, pay y j = W (256 * (t % 16) + (j (1 : Fin 3)).val) (t / 16 * 1024 + (j (2 : Fin 3)).val))
    (K : PUnit → sProp 𝕄) :
    iprop(Held c sc nj W t ∗ owns (c : Thread nD τ) w fullShare y ∗ owns (c : Thread nD τ) x fullShare v ∗ owns (c : Thread nD τ) o fullShare u
        ∗ (iprop(Held c sc nj W (t + 1) ∗ owns (c : Thread nD τ) w fullShare y ∗ owns (c : Thread nD τ) x fullShare v
            ∗ owns (c : Thread nD τ) o fullShare (if 16 ≤ t then epi v (tile W (t / 16 - 1)) else u)) -∗ K ⟨⟩))
      ⊢ wp frame (wpE D Variants.none c none) Set.univ
          (point p1 p2 (fun h => fill w sc off1 hw (hi h) h1 (h2 h) (h3 h) pay)
            (fun h => mul x o sc off2 kx ko (k0 h) k1 (k2 h) k3 k4 epi)) K :=
  point_run D c p1 p2 w o sc w_whole sc_whole off1 off2 hw hi h1 h2 h3 pay _ (owns (c : Thread nD τ) x fullShare v) (epi v) u k0
    (fun h f K => mul_run D c x o sc x_whole o_whole sc_whole off2 kx ko (k0 h) k1 (k2 h) k3 k4 epi v u f Set.univ K)
    nj t W ht fills muls at1 at2 y hy K

/-- A point whose epilogue takes an operand more. -/
theorem pointWith_run {φ ψ : EltTy} {M N : Nat} (p1 p2 : Prop) [Decidable p1] [Decidable p2]
    (x : Memref sig .tc .vmem Rows .bf16) (w : Memref sig .tc .vmem Chunk .f32) (e : Memref sig .tc .vmem ⟨2, ![M, N]⟩ ψ)
    (o : Memref sig .tc .vmem Out φ) (sc : Memref sig .tc .vmem Cache .bf16)
    (x_whole : x.IsWhole) (w_whole : w.IsWhole) (e_whole : e.IsWhole) (o_whole : o.IsWhole) (sc_whole : sc.IsWhole)
    (off1 off2 : Fin 3 → Nat) (hw) (hi : p1 → _) (h1) (h2 : ∀ h, _) (h3 : ∀ h, _) (pay : Vec F Chunk .f32 → Vec F Put .bf16)
    (kx ke ko) (k0 : p2 → _) (k1) (k2 : ∀ h, _) (k3 k4 k5)
    (epi : Vec F Rows .bf16 → Vec F Slot .bf16 → Vec F ⟨2, ![M, N]⟩ ψ → Vec F Out φ)
    (v : Vec F Rows .bf16) (z : Vec F ⟨2, ![M, N]⟩ ψ) (u : Vec F Out φ)
    (nj t : Nat) (W : Nat → Nat → F .bf16) (ht : t < nj * 16 + 16) (fills : p1 ↔ t < nj * 16) (muls : p2 ↔ 16 ≤ t)
    (at1 : t < nj * 16 → off1 = ![t / 16 % 2, 256 * (t % 16), 0]) (at2 : 16 ≤ t → off2 = ![(t / 16 + 1) % 2, 0, 0])
    (y : Vec F Chunk .f32)
    (hy : t < nj * 16 → ∀ j, pay y j = W (256 * (t % 16) + (j (1 : Fin 3)).val) (t / 16 * 1024 + (j (2 : Fin 3)).val))
    (K : PUnit → sProp 𝕄) :
    iprop(Held c sc nj W t ∗ owns (c : Thread nD τ) w fullShare y
        ∗ (owns (c : Thread nD τ) x fullShare v ∗ owns (c : Thread nD τ) e fullShare z) ∗ owns (c : Thread nD τ) o fullShare u
        ∗ (iprop(Held c sc nj W (t + 1) ∗ owns (c : Thread nD τ) w fullShare y
            ∗ (owns (c : Thread nD τ) x fullShare v ∗ owns (c : Thread nD τ) e fullShare z)
            ∗ owns (c : Thread nD τ) o fullShare (if 16 ≤ t then epi v (tile W (t / 16 - 1)) z else u)) -∗ K ⟨⟩))
      ⊢ wp frame (wpE D Variants.none c none) Set.univ
          (point p1 p2 (fun h => fill w sc off1 hw (hi h) h1 (h2 h) (h3 h) pay)
            (fun h => mulWith x e o sc off2 kx ke ko (k0 h) k1 (k2 h) k3 k4 k5 epi)) K := by
  refine point_run D c p1 p2 w o sc w_whole sc_whole off1 off2 hw hi h1 h2 h3 pay _
    (iprop(owns (c : Thread nD τ) x fullShare v ∗ owns (c : Thread nD τ) e fullShare z)) (fun a => epi v a z) u k0
    (fun h f K => ?_) nj t W ht fills muls at1 at2 y hy K
  iintro ⟨⟨Hx, He⟩, Ho, HS, Hk⟩
  iapply (mulWith_run D c x e o sc x_whole e_whole o_whole sc_whole off2 kx ke ko (k0 h) k1 (k2 h) k3 k4 k5 epi v z u f Set.univ K)
  isplitl [Hx]; · iexact Hx
  isplitl [He]; · iexact He
  isplitl [Ho]; · iexact Ho
  isplitl [HS]; · iexact HS
  iintro ⟨Hx, He, Ho, HS⟩
  iapply Hk
  isplitl [Hx He]
  · isplitl [Hx]; · iexact Hx
    iexact He
  isplitl [Ho]; · iexact Ho
  iexact HS

/-! ## What a point leaves, in a launch's own words -/

section
open Idealize.ShloMosaic.Pipeline (Dat Cfg)
variable {D c} {cfg : Cfg sig Λ} (dat : Dat τ (Elt F) Unit ℕ (UR sig nD τ) ℕ cfg c) (w : Fin cfg.W) (t : Fin cfg.N)

/-- An input's buffer, at its block. -/
theorem left_in (hi : cfg.idle w (cfg.grid.coords t) = false) {b} (ha : dat.after w t = b) :
    dat.leavesExact w t = owns (c : Thread nD τ) ((cfg.win w).stage (cfg.slots t w)) fullShare b := by
  unfold Dat.leavesExact; rw [hi, ha]

/-- The output's buffer, at the result's block where the point multiplies, else as found. -/
theorem left_out (p2 : Prop) [Decidable p2] (hi : cfg.idle w (cfg.grid.coords t) = !decide p2) (muls : p2 ↔ 16 ≤ t.val) {b}
    (ha : dat.after w t = b) (hf : (cfg.win w).flush t = true ↔ 16 ≤ t.val) (d) :
    owns (c : Thread nD τ) ((cfg.win w).stage (cfg.slots t w)) fullShare (if 16 ≤ t.val then b else dat.before w t d) ⊢ dat.leavesExact w t := by
  by_cases ht : 16 ≤ t.val
  · rw [left_in dat w t (by rw [hi, decide_eq_true (muls.mpr ht)]; rfl) ha, if_pos ht]
  · rw [if_neg ht, Dat.leavesExact_idle _ w t (by rw [hi, decide_eq_false (mt muls.mp ht)]; rfl) (Bool.eq_false_iff.mpr (mt hf.mp ht))]
    iintro H; iexists d; iexact H

end

end Cert.Hand
end
-- ==== Proof.GatesRun.lean ====
/- The launch of the merge-gates projection, over any float values: its body as a `point`, the proof data, the run, both
   frames. -/
module

public import proofs.«01_k».proof.Proof.Gen.KernelGatesIdeal.Launch
public import proofs.«01_k».proof.Proof.Gen.KernelGatesIdeal.Skeleton
public import proofs.«01_k».proof.Proof.Gen.KernelGatesIdeal.Points
public import proofs.«01_k».proof.Proof.Gen.KernelGatesIdeal.Frame
public import proofs.«01_k».proof.Proof.Gen.KernelGates
public import proofs.«01_k».proof.Proof.Step
public import proofs.«01_k».proof.Defs
public import Idealize.ShloMosaic.Lib.Claim

@[expose] public section

set_option maxRecDepth 16384

noncomputable section

namespace Cert.KernelGatesIdeal.Hand

open Cert.KernelGatesIdeal.Gen Cert.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The body is a `point`, its epilogue with the bias. -/
theorem body_eq (i : grid0.Coords) (a2 h2 a3 h3 a4 h4 a5 h5 a6 h6) :
    cc0_in_proj_merge_gates (F := F) i a2 h2 a3 h3 a4 h4 a5 h5 a6 h6
      = point (k0_cond1 i = 1#1) (k0_cond2 i = 1#1)
          (fun h => fill a3 a6 (k0_off1 i) inb_S256x1024_S256x1024_0_0 (k0_off1_inb i h) (View.loadsAt_vmem h_S256x1024)
            (View.loadsAt_vmem h_S1x256x1024)
            (View.stores_vmem h_S1x256x1024 (h6.storeExact_slice rfl _ (k0_off1_packedbf16 i h)) (fun _ => rfl)) k0_pay1)
          (fun h => mulWith a2 a4 a5 a6 (k0_off2 i) inb_S1024x4096_S1024x4096_0_0 inb_S1x1024_S1x1024_0_0 inb_S1024x1024_S1024x1024_0_0
            (k0_off2_inb i h) (View.loadsAt_vmem h_S1024x4096) (View.loadsAt_vmem h_S1x4096x1024) (View.loadsAt_vmem h_S1x1024)
            (View.loadsAt_vmem h_S1024x1024)
            (View.stores_vmem h_S1024x1024 (h5.storeExact_slice rfl _ packedbf16_S1024x1024_S1024x1024_0_0) (fun _ => rfl)) k0_pay2) := by
  rw [cc0_in_proj_merge_gates_eq_skeleton]
  unfold cc0_in_proj_merge_gates_skel point
  by_cases p1 : k0_cond1 i = 1#1 <;> by_cases p2 : k0_cond2 i = 1#1 <;> simp only [p1, p2, ↓reduceDIte] <;> rfl

variable (m : (ℓ : Loc nD τ sig) → Buf (Elt F) ℓ) (ρ : Dev nD → PrngReg)

/-! ## The grid's points in closed form -/

theorem fills (t : Fin cfg0.N) : k0_cond1 (grid0.coords t) = 1#1 ↔ t.val < 8 * 16 :=
  (by decide +kernel : ∀ t : Fin grid0.N, k0_cond1 (grid0.coords t) = 1#1 ↔ t.val < 8 * 16) t
theorem multiplies (t : Fin cfg0.N) : k0_cond2 (grid0.coords t) = 1#1 ↔ 16 ≤ t.val :=
  (by decide +kernel : ∀ t : Fin grid0.N, k0_cond2 (grid0.coords t) = 1#1 ↔ 16 ≤ t.val) t
theorem fill_off (t : Fin cfg0.N) : t.val < 8 * 16 → k0_off1 (grid0.coords t) = ![t.val / 16 % 2, 256 * (t.val % 16), 0] :=
  (by decide +kernel : ∀ t : Fin grid0.N, t.val < 8 * 16 → k0_off1 (grid0.coords t) = ![t.val / 16 % 2, 256 * (t.val % 16), 0]) t
theorem read_off (t : Fin cfg0.N) : 16 ≤ t.val → k0_off2 (grid0.coords t) = ![(t.val / 16 + 1) % 2, 0, 0] :=
  (by decide +kernel : ∀ t : Fin grid0.N, 16 ≤ t.val → k0_off2 (grid0.coords t) = ![(t.val / 16 + 1) % 2, 0, 0]) t
theorem writes_back (t : Fin cfg0.N) : (cfg0.win 3).flush t = true ↔ 16 ≤ t.val :=
  (by decide +kernel : ∀ t : Fin grid0.N, win0_3.flush t = true ↔ 16 ≤ t.val) t
theorem at_w (t : Fin cfg0.N) : t.val < 8 * 16 → cc0_transform_1 (grid0.coords t) = ![256 * (t.val % 16), 30848 + t.val / 16 * 1024] :=
  (by decide +kernel : ∀ t : Fin grid0.N, t.val < 8 * 16 →
    cc0_transform_1 (grid0.coords t) = ![256 * (t.val % 16), 30848 + t.val / 16 * 1024]) t

/-! ## The cached weight and the proof data -/

/-- The gates' columns of the weight, cast as the cache holds them. -/
def wAt (c : Dev nD) (r n : Nat) : F .bf16 :=
  at2 (M := 4096) (N := 39040) (truncf .bf16 (V m c main_v3 : Vec F S4096x39040 .f32) bitsLt_bf16_f32) r (30848 + n)

theorem chunk (c : Dev nD) (t : Fin cfg0.N) (ht : t.val < 8 * 16) (j : Put.Idx) :
    k0_pay1 (iblk m c 1 t) j = wAt m c (256 * (t.val % 16) + (j (1 : Fin 3)).val) (t.val / 16 * 1024 + (j (2 : Fin 3)).val) := by
  refine (chunk_at (iblk m c 1 t) _ _ _ j).trans (at2_of (M := 4096) (N := 39040)
    (truncf .bf16 (V m c main_v3 : Vec F S4096x39040 .f32) bitsLt_bf16_f32) (((cfg0.win 1).blk t).view.emb _) _ _ ?_ ?_)
  · show cc0_transform_1 (grid0.coords t) 0 + 1 * (j (1 : Fin 3)).val = _
    rw [at_w t ht]; show 256 * (t.val % 16) + 1 * _ = _; omega
  · show cc0_transform_1 (grid0.coords t) 1 + 1 * (j (2 : Fin 3)).val = _
    rw [at_w t ht]; show 30848 + t.val / 16 * 1024 + 1 * _ = _; omega

/-- The block of the result at a point that multiplies. -/
def outBlk (c : Dev nD) (t : Fin cfg0.N) : Vec F S1024x1024 .bf16 :=
  k0_pay2 (iblk m c 0 t) (tile (wAt m c) (t.val / 16 - 1)) (iblk m c 2 t)

/-- The weight cache. -/
abbrev scM : Memref sig .tc .vmem S2x4096x1024 .bf16 := Memref.whole cc0_scratch0

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
  Φ t := Held c scM 8 (wAt m c) t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outBlk m c t := by dsimp only [dats]
theorem Phi_eq (c : Dev nD) (t : Fin (cfg0.N + 1)) : (dats m 0 c).Φ t = Held c scM 8 (wAt m c) t.val := by dsimp only [dats]

abbrev m0 (t : Fin cfg0.N) : Memref sig .tc .vmem S1024x4096 .bf16 := win0_0.stage (cfg0.slots t 0)
abbrev m1 (t : Fin cfg0.N) : Memref sig .tc .vmem S256x1024 .f32 := win0_1.stage (cfg0.slots t 1)
abbrev m2 (t : Fin cfg0.N) : Memref sig .tc .vmem S1x1024 .f32 := win0_2.stage (cfg0.slots t 2)
abbrev m3 (t : Fin cfg0.N) : Memref sig .tc .vmem S1024x1024 .bf16 := win0_3.stage (cfg0.slots t 3)

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## One point -/

/-- What a point's body is run with, and what it leaves. -/
def pointPre (c : Dev nD) (t : Fin cfg0.N) : sProp 𝕄 :=
  iprop(Held c scM 8 (wAt m c) t.val ∗ (dats m 0 c).owesAt () t.castSucc
    ∗ (∃ d, owns (c : Thread nD τ) (m0 t) fullShare ((dats m 0 c).before 0 t d))
    ∗ (∃ d, owns (c : Thread nD τ) (m1 t) fullShare ((dats m 0 c).before 1 t d))
    ∗ (∃ d, owns (c : Thread nD τ) (m2 t) fullShare ((dats m 0 c).before 2 t d))
    ∗ (∃ d, owns (c : Thread nD τ) (m3 t) fullShare ((dats m 0 c).before 3 t d)))
def pointPost (c : Dev nD) (t : Fin cfg0.N) : sProp 𝕄 :=
  iprop(Held c scM 8 (wAt m c) (t.val + 1) ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 600000 in
theorem point_body (c : Dev nD) (t : Fin cfg0.N) :
    pointPre m c t ⊢ wp frame (wpE (defs₀ (F := F)) Variants.none c none) Set.univ (bodyAt0 t) (fun _ => pointPost m c t) := by
  have hN : t.val < 8 * 16 + 16 := lt_of_lt_of_eq t.isLt (show cfg0.N = 144 from N_0)
  unfold pointPre pointPost bodyAt0
  rw [body_eq]
  simp only [before_0, before_1, before_2]
  rw [show (dats m 0 c).owesAt () t.succ = (dats m 0 c).owesAt () t.castSucc from rfl, left_in _ 0 t rfl (after_0 m c t),
    left_in _ 1 t rfl (after_1 m c t), left_in _ 2 t rfl (after_2 m c t)]
  iintro ⟨HS, Hd, ⟨%d0, H0⟩, ⟨%d1, H1⟩, ⟨%d2, H2⟩, ⟨%d3, H3⟩⟩
  iapply (pointWith_run (defs₀ (F := F)) c _ _ (m0 t) (m1 t) (m2 t) (m3 t) scM (hstage0_0 _) (hstage0_1 _) (hstage0_2 _) (hstage0_3 _)
    (Memref.isWhole_whole _) _ _ _ _ _ _ _ k0_pay1 _ _ _ _ _ _ _ _ _ k0_pay2 (iblk m c 0 t) (iblk m c 2 t) ((dats m 0 c).before 3 t d3)
    8 t.val (wAt m c) hN (fills t) (multiplies t) (fill_off t) (read_off t) (iblk m c 1 t) (chunk m c t) _)
  isplitl [HS]; · iexact HS
  isplitl [H1]; · iexact H1
  isplitl [H0 H2]
  · isplitl [H0]; · iexact H0
    iexact H2
  isplitl [H3]; · iexact H3
  iintro ⟨HS, H1, ⟨H0, H2⟩, H3⟩
  isplitl [HS]; · iexact HS
  isplitl [Hd]; · iexact Hd
  isplitl [H0]; · iexact H0
  isplitl [H1]; · iexact H1
  isplitl [H2]; · iexact H2
  iapply (left_out (dats m 0 c) 3 t (k0_cond2 (grid0.coords t) = 1#1) rfl (multiplies t) (after_3 m c t) (writes_back t) d3)
  iexact H3

theorem row (t : Fin cfg0.N) : defs₀ (F := F) .tc cfg0.body (cfg0.bodyArgs t (cfg0.slots t)) = bodyAt0 (F := F) t := by
  unfold defs₀; rw [Defs.onTc_tc]

theorem obligation (c : Dev nD) : BodyObligation (dats m 0 c) (defs₀ (F := F)) Variants.none () Set.univ := fun t => by
  rw [bigSep_W0, bigSep_W0, row]
  rw [Phi_eq, Phi_eq]
  exact triple_restated (point_body m c t) rfl .rfl fun _ => .rfl

/-! ## The launch -/

theorem inv_in (c : Dev nD) : (Pipeline.ΦA spec0 c : sProp 𝕄) ⊢ (dats m 0 c).Φ 0 := by
  rw [PhiA_eq, Phi_eq]; exact held_in c scM 8 (wAt m c)
theorem inv_out (c : Dev nD) : (dats m 0 c).Φ (Fin.last cfg0.N) ⊢ (Pipeline.ΦA spec0 c : sProp 𝕄) := by
  rw [PhiA_eq, Phi_eq]; exact held_out c scM 8 (wAt m c) _

set_option backward.isDefEq.respectTransparency.types false in
/-- Every fair run ends, with the arrays as the proof data has them and every counter at zero. -/
theorem runs : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

/-- The arguments end as they began and every counter at zero. -/
theorem frame_run : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  θ_run_and (frame_of m ρ (dats m) (A_eq m) ((θ_run defs _ _).mono (fun _ h => h.1) (runs m ρ)))
    ((θ_run defs _ _).mono (fun _ h => h.2) (runs m ρ))

theorem frame : Cert.quiescent_KernelGatesIdeal := fun m ρ _ => frame_run m ρ

/-! ## The kernel over bits: the same text -/

theorem bodies_same : Cert.KernelGates.defs₀ (F := F) = defs₀ := by
  unfold Cert.KernelGates.defs₀ defs₀
  refine congrArg Defs.onTc (funext fun l => ?_)
  match l with
  | ⟨0, _⟩ => rfl

theorem tables_same : Cert.KernelGates.defs (F := F) = defs := by
  unfold Cert.KernelGates.defs defs
  rw [bodies_same]; rfl

theorem frame_bits : Cert.quiescent_KernelGates := fun m ρ _ => by
  have h := frame_run (F := Bits) m ρ
  rw [← tables_same] at h
  exact h

end Cert.KernelGatesIdeal.Hand
end
-- ==== Proof.Rows.lean ====
/- The rows of the layer's sequences as the calls meet them: each of the four sequences has 16 leading rows that the results
   leave out, and the host may put 112 more before them. What the host's reshapes, pads and slices read, and the reference's
   product of a sequence's row, over any widths. -/
module

public import proofs.«01_k».proof.Proof.Read2
public import Idealize.ShloMosaic.Lib.KernelVsHost

@[expose] public section

noncomputable section

namespace Cert.Hand

open Idealize.ShloMosaic Idealize.ShloMosaic.ValueIdx

variable {α : Type}

/-- The first padded row of the 1024-row block `i`: blocks of the live rows, which start at row 128 of each padded sequence. -/
def liveStart (i : Nat) : Nat := i / 4 * 4224 + 128 + i % 4 * 1024

theorem liveStart_row (r : Nat) : liveStart (r / 1024) + r % 1024 = r / 4096 * 4224 + (128 + r % 4096) := by
  unfold liveStart; omega

/-- Entry `(r, k)` of the live rows of the sequences `x`: row `16 + r % 4096` of sequence `r / 4096`. -/
def live {K : Nat} (x : (⟨3, ![4, 4112, K]⟩ : Shape).Idx → α) (r : Fin 16384) (k : Fin K) : α :=
  x (ix3 ⟨r.val / 4096, by omega⟩ ⟨16 + r.val % 4096, by omega⟩ k)

/-- The padded sequences, flattened, at a live row. -/
theorem padded_at {K : Nat} [NeZero K] {u : Shape} (x : (⟨3, ![4, 4112, K]⟩ : Shape).Idx → α) (v : u.Idx → α)
    (hp : (⟨3, ![4, 4112, K]⟩ : Shape).Pads ![0, 112, 0] ![0, 0, 0] ![0, 0, 0] ⟨3, ![4, 4224, K]⟩) (hu : 0 < u.numel)
    (hs : (⟨3, ![4, 4224, K]⟩ : Shape).ShapeCasts ⟨2, ![16896, K]⟩) (r : Fin 16384) (k : Fin K) :
    at2 (shapeCast ⟨2, ![16896, K]⟩ (pad ⟨3, ![4, 4224, K]⟩ ![0, 112, 0] ![0, 0, 0] ![0, 0, 0] x v hp hu) hs)
      (r.val / 4096 * 4224 + (128 + r.val % 4096)) k.val = live x r k := by
  rw [at2_lt _ _ _ (by omega) k.isLt]
  refine (shapeCast_apply _ hs _ (ix3 (n0 := 4) (n1 := 4224) (n2 := K) ⟨r.val / 4096, by omega⟩ ⟨128 + r.val % 4096, by omega⟩ k) ?_).trans ?_
  · rw [Shape.rowMajor_val_three, Shape.rowMajor_val_two]; rfl
  · refine pad_apply_of_inside _ _ _ _ _ _ _ _ _ fun a => ?_
    match a with
    | ⟨0, _⟩ => show r.val / 4096 = 0 + r.val / 4096 * (0 + 1); omega
    | ⟨1, _⟩ => show 128 + r.val % 4096 = 112 + (16 + r.val % 4096) * (0 + 1); omega
    | ⟨2, _⟩ => show k.val = 0 + k.val * (0 + 1); omega

/-- A stack of four matrices of 4096 rows, flattened. -/
theorem flat_at {N : Nat} (x : (⟨3, ![4, 4096, N]⟩ : Shape).Idx → α)
    (hs : (⟨3, ![4, 4096, N]⟩ : Shape).ShapeCasts ⟨2, ![16384, N]⟩) (r : Fin 16384) (n : Fin N) :
    shapeCast ⟨2, ![16384, N]⟩ x hs (ix2 r n) = x (ix3 ⟨r.val / 4096, by omega⟩ ⟨r.val % 4096, by omega⟩ n) := by
  refine shapeCast_apply _ hs _ _ ?_
  rw [Shape.rowMajor_val_three, Shape.rowMajor_val_two]
  show (r.val / 4096 * 4096 + r.val % 4096) * N + n.val = r.val * N + n.val
  rw [show r.val / 4096 * 4096 + r.val % 4096 = r.val by omega]

/-- The live rows cut from the sequences and flattened. -/
theorem sliced_at {N : Nat} (x : (⟨3, ![4, 4112, N]⟩ : Shape).Idx → α)
    (hc : (⟨3, ![4, 4112, N]⟩ : Shape).Slices ![0, 16, 0] ⟨3, ![4, 4096, N]⟩)
    (hs : (⟨3, ![4, 4096, N]⟩ : Shape).ShapeCasts ⟨2, ![16384, N]⟩) (r : Fin 16384) (n : Fin N) :
    shapeCast ⟨2, ![16384, N]⟩ (extractStridedSlice ⟨3, ![4, 4096, N]⟩ ![0, 16, 0] x hc) hs (ix2 r n) = live x r n := by
  rw [flat_at]
  refine extractStridedSlice_apply _ _ _ _ _ fun a => ?_
  match a with
  | ⟨0, _⟩ => show r.val / 4096 = 0 + r.val / 4096; omega
  | ⟨1, _⟩ => show 16 + r.val % 4096 = 16 + r.val % 4096; rfl
  | ⟨2, _⟩ => show n.val = 0 + n.val; omega

/-- Columns `o ..` cut from a stack of matrices. -/
theorem cols_at {B M N N' : Nat} (o : Nat) (x : (⟨3, ![B, M, N]⟩ : Shape).Idx → α)
    (hc : (⟨3, ![B, M, N]⟩ : Shape).Slices ![0, 0, o] ⟨3, ![B, M, N']⟩) (b : Fin B) (r : Fin M) (n : Fin N') (hn : o + n.val < N) :
    extractStridedSlice ⟨3, ![B, M, N']⟩ ![0, 0, o] x hc (ix3 b r n) = x (ix3 b r ⟨o + n.val, hn⟩) := by
  refine extractStridedSlice_apply _ _ _ _ _ fun a => ?_
  match a with
  | ⟨0, _⟩ => show b.val = 0 + b.val; omega
  | ⟨1, _⟩ => show r.val = 0 + r.val; omega
  | ⟨2, _⟩ => show o + n.val = o + n.val; rfl

/-- The one matrix of a stack of one. -/
theorem only_at {K N : Nat} (w : (⟨3, ![1, K, N]⟩ : Shape).Idx → α) (hs : (⟨3, ![1, K, N]⟩ : Shape).ShapeCasts ⟨2, ![K, N]⟩)
    (k : Fin K) (n : Fin N) : shapeCast ⟨2, ![K, N]⟩ w hs (ix2 k n) = w (ix3 0 k n) :=
  (shapeCast_dropUnit_apply (![K, N] : Fin 2 → Nat) w hs _).trans
    (congrArg w (funext fun a => match a with | ⟨0, _⟩ => rfl | ⟨1, _⟩ => rfl | ⟨2, _⟩ => rfl))

/-- Row `(b, r)` of the stack `x` times column `n` of the matrix `w`. -/
def rowDot {B M K N : Nat} (x : (⟨3, ![B, M, K]⟩ : Shape).Idx → EReal) (w : (⟨3, ![1, K, N]⟩ : Shape).Idx → EReal) (b : Fin B) (r : Fin M)
    (n : Fin N) : EReal := ∑ k : Fin K, x (ix3 b r k) * w (ix3 0 k n)

/-- The reference's product of a stack with the one matrix of a stack of one. -/
theorem rowDot_at {B M K N : Nat}
    (d : DotDims.WF ⟨3, ![B, M, K]⟩ ⟨2, ![K, N]⟩ ⟨3, ![B, M, N]⟩ [2] [0] [0, 1] [1] [] [])
    (prec : Option ContractPrecision) (x : FVec Ideal ⟨3, ![B, M, K]⟩ .f32) (w : FVec Ideal ⟨3, ![1, K, N]⟩ .f32)
    (hs : (⟨3, ![1, K, N]⟩ : Shape).ShapeCasts ⟨2, ![K, N]⟩) (b : Fin B) (r : Fin M) (n : Fin N) :
    Host.dotGeneral (⟨[2], [0], [0, 1], [1], [], [], d⟩ : DotDims _ _ _) prec x (shapeCast ⟨2, ![K, N]⟩ w hs) (ix3 b r n)
      = rowDot x w b r n :=
  (dot3_at d prec x _ b r n).trans (Finset.sum_congr rfl fun k _ => congrArg₂ (· * ·) rfl (only_at w hs k n))

/-- Row `r` of the live rows times column `n` of the matrix. -/
def liveDot {K N : Nat} (x : (⟨3, ![4, 4112, K]⟩ : Shape).Idx → EReal) (w : (⟨3, ![1, K, N]⟩ : Shape).Idx → EReal) (r : Fin 16384)
    (n : Fin N) : EReal := rowDot x w ⟨r.val / 4096, by omega⟩ ⟨16 + r.val % 4096, by omega⟩ n

end Cert.Hand
end
-- ==== Proof.Act.lean ====
/- The two activations, as the kernel writes them with the hyperbolic tangent and as the reference with the exponential. -/
module

public import Idealize.ShloMosaic.Lib.IdealHost

@[expose] public section

noncomputable section

namespace Cert.Hand

open Idealize.ShloMosaic

/-- The pattern of one half. -/
theorem half_f32 : Ideal.ofBits .f32 0x3F000000#32 = (((1 : ℝ) / 2 : ℝ) : EReal) := by
  simp [Ideal.ofBits, Ideal.ieee, -EReal.coe_mul]; norm_num

/-- The pattern of plus infinity. -/
theorem inf_f32 : Ideal.ofBits .f32 0x7F800000#32 = ⊤ := by simp [Ideal.ofBits, Ideal.ieee]

theorem logistic_real (r : ℝ) : 1 / 2 * Real.tanh (1 / 2 * r) + 1 / 2 = (1 + Real.exp (-r))⁻¹ := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, h1]
  generalize Real.exp (1 / 2 * r) = a at *
  generalize Real.exp (-(1 / 2 * r)) = b at *
  have hne : a + b ≠ 0 := by positivity
  have hne2 : 1 + b * b ≠ 0 := by positivity
  field_simp
  nlinarith

/-- The sigmoid of an extended real, infinities included. -/
theorem sigmoid_eq (x : EReal) :
    Ideal.ofBits .f32 0x3F000000#32 * Ideal.tanh (Ideal.ofBits .f32 0x3F000000#32 * x) + Ideal.ofBits .f32 0x3F000000#32
      = Ideal.logistic x := by
  rw [half_f32]
  induction x with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, ← EReal.coe_mul, ← EReal.coe_add, Ideal.logistic_coe, logistic_real]

/-- The product with the sigmoid, as the kernel writes it. -/
def silu (x : EReal) : EReal :=
  Ideal.ofBits .f32 0x3F000000#32 * x + Ideal.ofBits .f32 0x3F000000#32 * x * Ideal.tanh (Ideal.ofBits .f32 0x3F000000#32 * x)

/-- It is the product with the sigmoid, of a real. -/
theorem silu_eq (x : EReal) (hx : ∃ r : ℝ, x = (r : EReal)) : silu x = x * Ideal.logistic x := by
  obtain ⟨r, rfl⟩ := hx
  unfold silu
  rw [half_f32, ← EReal.coe_mul, Ideal.tanh_coe, ← EReal.coe_mul, ← EReal.coe_add, Ideal.logistic_coe, ← EReal.coe_mul, ← logistic_real]
  congr 1; ring

/-- An entry whose magnitude is below infinity is a real. -/
theorem real_of_abs (x : EReal) (h : Ideal.cmp .olt (max x (-x)) (Ideal.ofBits .f32 0x7F800000#32) = 1#1) : ∃ r : ℝ, x = (r : EReal) := by
  rw [inf_f32] at h
  induction x with
  | bot => simp [Ideal.cmp] at h
  | top => simp [Ideal.cmp] at h
  | coe r => exact ⟨r, rfl⟩

/-- A finite sum of products of reals is a real. -/
theorem real_sum {n : Nat} (f g : Fin n → EReal) (hf : ∀ k, ∃ r : ℝ, f k = (r : EReal)) (hg : ∀ k, ∃ r : ℝ, g k = (r : EReal)) :
    ∃ r : ℝ, ∑ k, f k * g k = (r : EReal) := by
  choose a ha using hf
  choose b hb using hg
  refine ⟨∑ k, a k * b k, ?_⟩
  have hc : ∀ s : Finset (Fin n), ∑ k ∈ s, f k * g k = ((∑ k ∈ s, a k * b k : ℝ) : EReal) := by
    intro s
    induction s using Finset.induction_on with
    | empty => simp
    | insert k s hk ih => rw [Finset.sum_insert hk, Finset.sum_insert hk, ih, ha, hb, ← EReal.coe_mul, ← EReal.coe_add]
  exact hc _

end Cert.Hand
end
-- ==== Proof.Product.lean ====
/- What the projections compute, over any widths: the kernels' product of a live row with a column of the weight, and the
   reference's, with its activations. -/
module

public import proofs.«01_k».proof.Proof.Rows
public import proofs.«01_k».proof.Proof.Act

@[expose] public section

noncomputable section

namespace Cert.Hand

open Idealize.ShloMosaic Idealize.ShloMosaic.ValueIdx

/-- Over the ideal values a cast changes no entry. -/
theorem cast_at {s : Shape} {φ ψ : FTy} (x : FVec Ideal s φ) (h) (i : s.Idx) : (truncf ψ x h i : EReal) = x i := rfl

/-- Row `r` of `X` times column `n` of `W`, 4096 products. -/
def prod (X W : Nat → Nat → EReal) (r n : Nat) : EReal := ∑ k : Fin 4096, X r k.val * W k.val n

/-- The one matrix of a stack of one, read at natural-number coordinates. -/
theorem mat_at {K N : Nat} [NeZero K] [NeZero N] (w : (⟨3, ![1, K, N]⟩ : Shape).Idx → EReal)
    (hs : (⟨3, ![1, K, N]⟩ : Shape).ShapeCasts ⟨2, ![K, N]⟩) (k : Fin K) (n : Fin N) :
    at2 (shapeCast ⟨2, ![K, N]⟩ w hs) k.val n.val = w (ix3 0 k n) :=
  (at2_lt _ _ _ k.isLt n.isLt).trans (only_at w hs k n)

/-- A product of a named row of a stack with a named column of the weight. -/
theorem prod_rows {B M N : Nat} (X W : Nat → Nat → EReal) (x : (⟨3, ![B, M, 4096]⟩ : Shape).Idx → EReal)
    (w : (⟨3, ![1, 4096, N]⟩ : Shape).Idx → EReal) (ρ n : Nat) (b : Fin B) (r : Fin M) (p : Fin N)
    (hx : ∀ k : Fin 4096, X ρ k.val = x (ix3 b r k)) (hw : ∀ k : Fin 4096, W k.val n = w (ix3 0 k p)) :
    prod X W ρ n = rowDot x w b r p :=
  Finset.sum_congr rfl fun k _ => congrArg₂ (· * ·) (hx k) (hw k)

/-- A product with the padded live rows is one with the sequences' own rows. -/
theorem prod_live {N : Nat} (X W : Nat → Nat → EReal) (x : (⟨3, ![4, 4112, 4096]⟩ : Shape).Idx → EReal)
    (w : (⟨3, ![1, 4096, N]⟩ : Shape).Idx → EReal) (r : Fin 16384) (n : Nat) (p : Fin N)
    (hx : ∀ k : Fin 4096, X (r.val / 4096 * 4224 + (128 + r.val % 4096)) k.val = live x r k) (hw : ∀ k : Fin 4096, W k.val n = w (ix3 0 k p)) :
    prod X W (liveStart (r.val / 1024) + r.val % 1024) n = liveDot x w r p := by
  rw [liveStart_row]
  exact prod_rows X W x w _ n _ _ p hx hw

/-- A product of real entries is real. -/
theorem liveDot_real {K N : Nat} (x : (⟨3, ![4, 4112, K]⟩ : Shape).Idx → EReal) (w : (⟨3, ![1, K, N]⟩ : Shape).Idx → EReal)
    (hx : ∀ i, ∃ a : ℝ, x i = (a : EReal)) (hw : ∀ i, ∃ a : ℝ, w i = (a : EReal)) (r : Fin 16384) (n : Fin N) :
    ∃ a : ℝ, liveDot x w r n = (a : EReal) := real_sum _ _ (fun _ => hx _) (fun _ => hw _)

/-- An array all of whose magnitudes compare below infinity has real entries. -/
theorem finite_at {s : Shape} (x : FVec Ideal s .f32) (hb : (⟨0, ![]⟩ : Shape).BroadcastsInDim s ![])
    (h : cmpf .olt (Host.absf x) (broadcastInDim s ![] hb (constant (F := Ideal) ⟨0, ![]⟩ .f32 0x7F800000#32)) = fun _ => 1#1) (i : s.Idx) :
    ∃ a : ℝ, x i = (a : EReal) := by
  refine real_of_abs (x i) ?_
  have e := congrFun h i
  rw [← e]
  show _ = Ideal.cmp .olt (max (x i) (-(x i))) (broadcastInDim s ![] hb (constant (F := Ideal) ⟨0, ![]⟩ .f32 0x7F800000#32) i)
  rw [broadcastInDim_scalar_apply]; rfl

/-- The reference's sigmoid, read at an entry. -/
theorem sigmoid_ref {s : Shape} (z : FVec Ideal s .f32) (hb : (⟨0, ![]⟩ : Shape).BroadcastsInDim s ![]) (i : s.Idx) :
    (Host.divf (broadcastInDim s ![] hb (constant (F := Ideal) ⟨0, ![]⟩ .f32 0x3F800000#32))
      (addf (broadcastInDim s ![] hb (constant (F := Ideal) ⟨0, ![]⟩ .f32 0x3F800000#32)) (Host.exp (Host.negf z))) : FVec Ideal s .f32) i
      = Ideal.logistic (z i) := by
  show Ideal.div (broadcastInDim s ![] hb (constant (F := Ideal) ⟨0, ![]⟩ .f32 0x3F800000#32) i)
    (broadcastInDim s ![] hb (constant (F := Ideal) ⟨0, ![]⟩ .f32 0x3F800000#32) i + Ideal.exp (-(z i))) = _
  rw [broadcastInDim_scalar_apply]
  show Ideal.div (Ideal.ofBits .f32 0x3F800000#32) (Ideal.ofBits .f32 0x3F800000#32 + Ideal.exp (-(z i))) = _
  rw [Ideal.ofBits_one_f32]; rfl

/-- Some columns of the reference's product, at a live row. -/
theorem colsDot_at {N N' : Nat} (o : Nat)
    (d : DotDims.WF ⟨3, ![4, 4112, 4096]⟩ ⟨2, ![4096, N]⟩ ⟨3, ![4, 4112, N]⟩ [2] [0] [0, 1] [1] [] [])
    (x : FVec Ideal ⟨3, ![4, 4112, 4096]⟩ .f32) (w : FVec Ideal ⟨3, ![1, 4096, N]⟩ .f32)
    (hs : (⟨3, ![1, 4096, N]⟩ : Shape).ShapeCasts ⟨2, ![4096, N]⟩)
    (hc : (⟨3, ![4, 4112, N]⟩ : Shape).Slices ![0, 0, o] ⟨3, ![4, 4112, N']⟩) (r : Fin 16384) (n : Fin N') (hn : o + n.val < N) :
    live (extractStridedSlice ⟨3, ![4, 4112, N']⟩ ![0, 0, o] (Host.dotGeneral (φ₁ := .f32) (φ₂ := .f32)
      (⟨[2], [0], [0, 1], [1], [], [], d⟩ : DotDims _ _ _) none x (shapeCast ⟨2, ![4096, N]⟩ w hs)) hc) r n = liveDot x w r ⟨o + n.val, hn⟩ :=
  (cols_at o _ hc _ _ n hn).trans (rowDot_at d none x w hs _ _ _)

/-- The reference's product times its sigmoid, at an entry of the result. -/
theorem silu_ref {N N' : Nat} (o : Nat)
    (d : DotDims.WF ⟨3, ![4, 4112, 4096]⟩ ⟨2, ![4096, N]⟩ ⟨3, ![4, 4112, N]⟩ [2] [0] [0, 1] [1] [] [])
    (x : FVec Ideal ⟨3, ![4, 4112, 4096]⟩ .f32) (w : FVec Ideal ⟨3, ![1, 4096, N]⟩ .f32)
    (hs : (⟨3, ![1, 4096, N]⟩ : Shape).ShapeCasts ⟨2, ![4096, N]⟩)
    (hc : (⟨3, ![4, 4112, N]⟩ : Shape).Slices ![0, 0, o] ⟨3, ![4, 4112, N']⟩)
    (hb : (⟨0, ![]⟩ : Shape).BroadcastsInDim ⟨3, ![4, 4112, N']⟩ ![])
    (hc' : (⟨3, ![4, 4112, N']⟩ : Shape).Slices ![0, 16, 0] ⟨3, ![4, 4096, N']⟩)
    (hs' : (⟨3, ![4, 4096, N']⟩ : Shape).ShapeCasts ⟨2, ![16384, N']⟩) (z : FVec Ideal ⟨3, ![4, 4112, N']⟩ .f32)
    (hz : z = extractStridedSlice ⟨3, ![4, 4112, N']⟩ ![0, 0, o] (Host.dotGeneral (φ₁ := .f32) (φ₂ := .f32)
      (⟨[2], [0], [0, 1], [1], [], [], d⟩ : DotDims _ _ _) none x (shapeCast ⟨2, ![4096, N]⟩ w hs)) hc)
    (r : Fin 16384) (n : Fin N') (hn : o + n.val < N) :
    shapeCast ⟨2, ![16384, N']⟩ (extractStridedSlice ⟨3, ![4, 4096, N']⟩ ![0, 16, 0] (mulf z
      (Host.divf (broadcastInDim _ ![] hb (constant (F := Ideal) ⟨0, ![]⟩ .f32 0x3F800000#32))
        (addf (broadcastInDim _ ![] hb (constant (F := Ideal) ⟨0, ![]⟩ .f32 0x3F800000#32)) (Host.exp (Host.negf z)))) :
          FVec Ideal ⟨3, ![4, 4112, N']⟩ .f32) hc') hs' (ix2 r n)
      = liveDot x w r ⟨o + n.val, hn⟩ * Ideal.logistic (liveDot x w r ⟨o + n.val, hn⟩) := by
  have e : live z r n = liveDot x w r ⟨o + n.val, hn⟩ := by rw [hz]; exact colsDot_at o d x w hs hc r n hn
  rw [sliced_at, ← e]
  exact congrArg₂ (· * ·) rfl (sigmoid_ref z hb _)

end Cert.Hand
end
-- ==== Proof.GatesValue.lean ====
/- The merge-gates projection against the reference: the two results agree entry by entry. -/
module

public import proofs.«01_k».proof.Proof.GatesRun
public import proofs.«01_k».proof.Proof.Product
public import proofs.«01_k».proof.Proof.Gen.ReferenceGatesIdeal.Run
public import Idealize.ShloMosaic.Lib.ValueLayout

@[expose] public section

set_option maxRecDepth 16384

noncomputable section

namespace Cert.KernelGatesIdeal.Hand

open Cert.KernelGatesIdeal.Gen Cert.Hand
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The padded activations and the bias, read at row and column. -/
def xAt (c : Dev nD) : Nat → Nat → EReal := at2 (M := 16896) (N := 4096) (V m c main_v2)
def bAt (c : Dev nD) : Nat → Nat → EReal := at2 (M := 1) (N := 8192) (V m c main_v5)

/-- Row `r`, column `n` of the result. -/
def gates (c : Dev nD) (r n : Nat) : EReal :=
  Ideal.logistic (prod (xAt m c) (wAt m c) (liveStart (r / 1024) + r % 1024) n + bAt m c 0 n)

/-- The result array. -/
def G (c : Dev nD) : Buf (Elt Ideal) ((c : Thread nD τ).loc main_v6) :=
  fun o : S16384x8192.Idx => gates m c (o (0 : Fin 2)).val (o (1 : Fin 2)).val

theorem at_x (t : Fin cfg0.N) : 16 ≤ t.val → cc0_transform_0 (grid0.coords t) = ![liveStart (t.val % 16), 0] :=
  (by decide +kernel : ∀ t : Fin grid0.N, 16 ≤ t.val → cc0_transform_0 (grid0.coords t) = ![liveStart (t.val % 16), 0]) t
theorem at_b (t : Fin cfg0.N) : 16 ≤ t.val → win0_2.index t = ![0, t.val / 16 - 1] :=
  (by decide +kernel : ∀ t : Fin grid0.N, 16 ≤ t.val → win0_2.index t = ![0, t.val / 16 - 1]) t
theorem at_out (t : Fin cfg0.N) : 16 ≤ t.val → win0_3.index t = ![t.val % 16, t.val / 16 - 1] :=
  (by decide +kernel : ∀ t : Fin grid0.N, 16 ≤ t.val → win0_3.index t = ![t.val % 16, t.val / 16 - 1]) t

theorem xblk (c : Dev nD) (t : Fin cfg0.N) (ht : 16 ≤ t.val) (j : S1024x4096.Idx) :
    (iblk m c 0 t : S1024x4096.Idx → EReal) j = xAt m c (liveStart (t.val % 16) + (j (0 : Fin 2)).val) (j (1 : Fin 2)).val := by
  unfold iblk
  rw [View.read_apply]
  refine at2_of (M := 16896) (N := 4096) (V m c main_v2) _ _ _ ?_ ?_
  · show cc0_transform_0 (grid0.coords t) 0 + 1 * (j (0 : Fin 2)).val = _
    rw [at_x t ht]; show liveStart (t.val % 16) + 1 * _ = _; omega
  · show cc0_transform_0 (grid0.coords t) 1 + 1 * (j (1 : Fin 2)).val = _
    rw [at_x t ht]; show 0 + 1 * _ = _; omega

theorem bblk (c : Dev nD) (t : Fin cfg0.N) (ht : 16 ≤ t.val) (j : S1x1024.Idx) :
    (iblk m c 2 t : S1x1024.Idx → EReal) j = bAt m c 0 ((t.val / 16 - 1) * 1024 + (j (1 : Fin 2)).val) := by
  have hj : (j (0 : Fin 2)).val < 1 := (j (0 : Fin 2)).isLt
  unfold iblk
  rw [View.read_apply]
  refine at2_of (M := 1) (N := 8192) (V m c main_v5) _ _ _ ?_ ?_
  · show win0_2.index t 0 * 1 + 1 * (j (0 : Fin 2)).val = _
    rw [at_b t ht]; show 0 * 1 + 1 * _ = _; omega
  · show win0_2.index t 1 * 1024 + 1 * (j (1 : Fin 2)).val = _
    rw [at_b t ht]; show (t.val / 16 - 1) * 1024 + 1 * _ = _; omega

/-- The multiplying payload at an entry. -/
theorem pay2_apply (x : S1024x4096.Idx → EReal) (W : Nat → Nat → EReal) (q : Nat) (b : S1x1024.Idx → EReal) (p n : Fin 1024) (L : Nat → EReal)
    (hl : ∀ y : S1024x4096.Idx, (y (0 : Fin 2)).val = p.val → x y = L (y (1 : Fin 2)).val) :
    k0_pay2 (F := Ideal) x (tile W q) b (ix2 p n)
      = Ideal.logistic ((∑ k : Fin 4096, L k.val * W k.val (q * 1024 + n.val)) + b (ix2 0 n)) := by
  unfold k0_pay2
  rw [← sigmoid_eq, ← block_at x shapeCasts_S1024x4096_S1024x4096 shapeCasts_S1x4096x1024_S4096x1024 W q (ix2 p n) L hl,
    ← broadcastTo_1b_ab_apply b broadcasts_S1x1024_S1024x1024 p n, shapeCast_self b]
  rfl

/-- The block of the result at a point that multiplies, read. -/
theorem outBlk_apply (c : Dev nD) (t : Fin cfg0.N) (ht : 16 ≤ t.val) (j : S1024x1024.Idx) : (outBlk m c t : S1024x1024.Idx → EReal) j
    = gates m c (t.val % 16 * 1024 + (j (0 : Fin 2)).val) ((t.val / 16 - 1) * 1024 + (j (1 : Fin 2)).val) := by
  obtain ⟨p, n, rfl⟩ : ∃ p n : Fin 1024, j = ix2 p n := ⟨j (0 : Fin 2), j (1 : Fin 2), eq_ix2 j⟩
  refine (pay2_apply _ _ _ _ p n (fun k => xAt m c (liveStart (t.val % 16) + p.val) k) fun y hy => ?_).trans ?_
  · rw [xblk m c t ht, hy]
  · rw [bblk m c t ht]
    show _ = gates m c (t.val % 16 * 1024 + p.val) ((t.val / 16 - 1) * 1024 + n.val)
    unfold gates prod
    rw [show (t.val % 16 * 1024 + p.val) / 1024 = t.val % 16 by omega, show (t.val % 16 * 1024 + p.val) % 1024 = p.val by omega]

/-- The result array at the end. -/
theorem final (c : Dev nD) : (dats m 0 c).arrAt 3 cfg0.N = G m c := by
  refine (dats m 0 c).arrAt_eq_of_covers 3 (G m c) (by decide +kernel) fun t hf y => ?_
  have ht : 16 ≤ t.val := (writes_back t).mp hf
  rw [after_3]
  have e0 : (((cfg0.win 3).blk t).view.emb y (0 : Fin 2)).val = t.val % 16 * 1024 + (y (0 : Fin 2)).val := by
    show win0_3.index t 0 * 1024 + 1 * (y (0 : Fin 2)).val = _
    rw [at_out t ht]; show t.val % 16 * 1024 + 1 * _ = _; omega
  have e1 : (((cfg0.win 3).blk t).view.emb y (1 : Fin 2)).val = (t.val / 16 - 1) * 1024 + (y (1 : Fin 2)).val := by
    show win0_3.index t 1 * 1024 + 1 * (y (1 : Fin 2)).val = _
    rw [at_out t ht]; show (t.val / 16 - 1) * 1024 + 1 * _ = _; omega
  show (outBlk m c t : S1024x1024.Idx → EReal) y
    = gates m c (((cfg0.win 3).blk t).view.emb y (0 : Fin 2)).val (((cfg0.win 3).blk t).view.emb y (1 : Fin 2)).val
  rw [outBlk_apply m c t ht, e0, e1]

/-! ## What the host prepares -/

theorem V_x (c : Dev nD) : (V m c main_v2 : S16896x4096.Idx → EReal)
    = shapeCast S16896x4096 (pad S4x4224x4096 ![0, 112, 0] ![0, 0, 0] ![0, 0, 0] (m ((c : Thread nD τ).loc main_arg0) : S4x4112x4096.Idx → EReal)
        (sitofp (F := Ideal) .bf16 (constantI S_ 32 0#32)) pads_S4x4112x4096_S4x4224x4096_000_11200_000 h_S_) shapeCasts_S4x4224x4096_S16896x4096 := by
  show after (List.flatten [hostOps0, hostOps0_1, hostOps0_2]) (fun b => m (c, b)) main_v2 = _
  simp only [hostOps0, hostOps0_1, hostOps0_2, List.flatten_cons, List.flatten_nil, List.append_nil, List.cons_append, List.nil_append]
  after_results <;> rfl

theorem V_w (c : Dev nD) : (V m c main_v3 : S4096x39040.Idx → EReal)
    = shapeCast S4096x39040 (m ((c : Thread nD τ).loc main_arg1) : S1x4096x39040.Idx → EReal) shapeCasts_S1x4096x39040_S4096x39040 := by
  show after (List.flatten [hostOps0, hostOps0_1, hostOps0_2]) (fun b => m (c, b)) main_v3 = _
  simp only [hostOps0, hostOps0_1, hostOps0_2, List.flatten_cons, List.flatten_nil, List.append_nil, List.cons_append, List.nil_append]
  after_results <;> rfl

theorem V_b (c : Dev nD) : (V m c main_v5 : S1x8192.Idx → EReal)
    = shapeCast S1x8192 (shapeCast S8192 (m ((c : Thread nD τ).loc main_arg2) : S1x8192.Idx → EReal) shapeCasts_S1x8192_S8192)
        shapeCasts_S8192_S1x8192 := by
  show after (List.flatten [hostOps0, hostOps0_1, hostOps0_2]) (fun b => m (c, b)) main_v5 = _
  simp only [hostOps0, hostOps0_1, hostOps0_2, List.flatten_cons, List.flatten_nil, List.append_nil, List.cons_append, List.nil_append]
  after_results <;> rfl

/-- The product behind an entry of the result, over the arguments. -/
theorem prod_args (c : Dev nD) (r : Fin 16384) (n : Fin 8192) :
    prod (xAt m c) (wAt m c) (liveStart (r.val / 1024) + r.val % 1024) n.val
      = liveDot (m ((c : Thread nD τ).loc main_arg0) : S4x4112x4096.Idx → EReal) (m ((c : Thread nD τ).loc main_arg1) : S1x4096x39040.Idx → EReal)
          r ⟨30848 + n.val, by omega⟩ := by
  refine prod_live _ _ _ _ r _ _ (fun k => ?_) fun k => ?_
  · unfold xAt; rw [V_x]; exact padded_at _ _ _ _ _ r k
  · show at2 (M := 4096) (N := 39040) (V m c main_v3 : S4096x39040.Idx → EReal) k.val (30848 + n.val) = _
    rw [V_w]; exact mat_at _ _ k ⟨30848 + n.val, by omega⟩

/-! ## The claims -/

/-- The reference's bias, laid along every row, at an entry. -/
theorem bias_ref (b : S1x8192.Idx → EReal) (h1 h2 h3) (i : Fin 4) (r : Fin 4112) (n : Fin 8192) :
    broadcastInDim Cert.ReferenceGatesIdeal.S4x4112x8192 ![0, 1, 2] h1 (broadcastInDim Cert.ReferenceGatesIdeal.S1x1x8192 ![2] h2
      (shapeCast S8192 b h3)) (ix3 i r n) = shapeCast S8192 b h3 (ix1 n) := by
  refine (broadcastInDim_apply _ _ _ _ (ix3 0 0 n) fun a => ?_).trans (broadcastInDim_apply _ _ _ _ _ fun a => ?_)
  · match a with
    | ⟨0, _⟩ => rfl
    | ⟨1, _⟩ => rfl
    | ⟨2, _⟩ => rfl
  · match a with
    | ⟨0, _⟩ => rfl

theorem bAt_eq (c : Dev nD) (n : Fin 8192) : bAt m c 0 n.val
    = shapeCast S8192 (m ((c : Thread nD τ).loc main_arg2) : S1x8192.Idx → EReal) shapeCasts_S1x8192_S8192 (ix1 n) := by
  unfold bAt
  rw [at2_lt _ _ _ Nat.one_pos n.isLt, V_b]
  refine shapeCast_apply _ _ _ _ ?_
  rw [Shape.rowMajor_val_one, Shape.rowMajor_val_two]
  show n.val = 0 * 8192 + n.val
  omega

theorem result : θ_run (defs (F := Ideal)) (onTc (τ := τ) (main (F := Ideal))) ⟨m, fun _ => 0, ρ⟩ fun r => ∀ c : Dev nD,
    r.2.mem ((c.tc : Thread nD τ).loc main_v6) = G m c :=
  (θ_run defs _ _).mono (fun _ h c => ((h.1 c).1 3).trans (final m c)) (runs m ρ)

theorem frame_reference : Cert.quiescent_ReferenceGatesIdeal := fun m ρ _ =>
  (θ_run Cert.ReferenceGatesIdeal.defs _ _).mono
    (fun r h => ⟨fun c => (h c).2, sem_eq_zero_of_no_sems (by decide) r.2⟩) (Cert.ReferenceGatesIdeal.Value.run (F := Ideal) m ρ)

theorem algebraic : Cert.algebraic_KernelGatesIdeal_ReferenceGatesIdeal := by
  intro m ρ m' ρ' _ hargs
  refine ⟨fun c => G m c, ?_, ?_⟩
  · exact (θ_run defs _ _).mono (fun _ h c => ⟨h.1 c, h.2.1 c⟩) (θ_run_and (result m ρ) (frame_run m ρ))
  · refine (θ_run Cert.ReferenceGatesIdeal.defs _ _).mono (fun r h c => ⟨(h c).1.trans ?_, (h c).2⟩)
      (Cert.ReferenceGatesIdeal.Value.run (F := Ideal) m' ρ')
    obtain ⟨e0, e1, e2⟩ := hargs c
    rw [e0, e1, e2]
    funext o
    obtain ⟨r, n, rfl⟩ : ∃ (r : Fin 16384) (n : Fin 8192), o = ix2 r n := ⟨o (0 : Fin 2), o (1 : Fin 2), eq_ix2 o⟩
    refine (cast_at (φ := .f32) (ψ := .bf16) _ Cert.ReferenceGatesIdeal.Gen.bitsLt_bf16_f32 _).trans ?_
    refine (sliced_at (N := 8192) _ Cert.ReferenceGatesIdeal.Gen.slices_S4x4112x8192_S4x4096x8192_0_16_0
      Cert.ReferenceGatesIdeal.Gen.shapeCasts_S4x4096x8192_S16384x8192 r n).trans ?_
    refine (sigmoid_ref _ _ _).trans ?_
    refine congrArg Ideal.logistic (congrArg₂ (· + ·) ?_ ?_)
    · exact (colsDot_at 30848 _ _ _ _ _ r n (by omega)).trans (prod_args m c r n).symm
    · exact (bias_ref _ _ _ _ _ _ n).trans (bAt_eq m c n).symm

end Cert.KernelGatesIdeal.Hand
end
-- ==== Proof.ConvRun.lean ====
/- The launch of the convolution branch's output projection, over any float values: its body as a `point`, the proof data, the run, both
   frames. -/
module

public import proofs.«01_k».proof.Proof.Gen.KernelConvIdeal.Launch
public import proofs.«01_k».proof.Proof.Gen.KernelConvIdeal.Skeleton
public import proofs.«01_k».proof.Proof.Gen.KernelConvIdeal.Points
public import proofs.«01_k».proof.Proof.Gen.KernelConvIdeal.Frame
public import proofs.«01_k».proof.Proof.Gen.KernelConv
public import proofs.«01_k».proof.Proof.Step
public import proofs.«01_k».proof.Defs
public import Idealize.ShloMosaic.Lib.Claim

@[expose] public section

set_option maxRecDepth 16384

noncomputable section

namespace Cert.KernelConvIdeal.Hand

open Cert.KernelConvIdeal.Gen Cert.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The body is a `point`, its epilogue with the gate. -/
theorem body_eq (i : grid0.Coords) (a2 h2 a3 h3 a4 h4 a5 h5 a6 h6) :
    cc0_conv_out_proj (F := F) i a2 h2 a3 h3 a4 h4 a5 h5 a6 h6
      = point (k0_cond1 i = 1#1) (k0_cond2 i = 1#1)
          (fun h => fill a3 a6 (k0_off1 i) inb_S256x1024_S256x1024_0_0 (k0_off1_inb i h) (View.loadsAt_vmem h_S256x1024)
            (View.loadsAt_vmem h_S1x256x1024)
            (View.stores_vmem h_S1x256x1024 (h6.storeExact_slice rfl _ (k0_off1_packedbf16 i h)) (fun _ => rfl)) k0_pay1)
          (fun h => mulWith a2 a4 a5 a6 (k0_off2 i) inb_S1024x4096_S1024x4096_0_0 inb_S1024x1024_S1024x1024_0_0 inb_S1024x1024_S1024x1024_0_0
            (k0_off2_inb i h) (View.loadsAt_vmem h_S1024x4096) (View.loadsAt_vmem h_S1x4096x1024) (View.loadsAt_vmem h_S1024x1024)
            (View.loadsAt_vmem h_S1024x1024)
            (View.stores_vmem h_S1024x1024 (h5.storeExact_slice rfl _ packedbf16_S1024x1024_S1024x1024_0_0) (fun _ => rfl)) k0_pay2) := by
  rw [cc0_conv_out_proj_eq_skeleton]
  unfold cc0_conv_out_proj_skel point
  by_cases p1 : k0_cond1 i = 1#1 <;> by_cases p2 : k0_cond2 i = 1#1 <;> simp only [p1, p2, ↓reduceDIte] <;> rfl

variable (m : (ℓ : Loc nD τ sig) → Buf (Elt F) ℓ) (ρ : Dev nD → PrngReg)

/-! ## The grid's points in closed form -/

theorem fills (t : Fin cfg0.N) : k0_cond1 (grid0.coords t) = 1#1 ↔ t.val < 4 * 16 :=
  (by decide +kernel : ∀ t : Fin grid0.N, k0_cond1 (grid0.coords t) = 1#1 ↔ t.val < 4 * 16) t
theorem multiplies (t : Fin cfg0.N) : k0_cond2 (grid0.coords t) = 1#1 ↔ 16 ≤ t.val :=
  (by decide +kernel : ∀ t : Fin grid0.N, k0_cond2 (grid0.coords t) = 1#1 ↔ 16 ≤ t.val) t
theorem fill_off (t : Fin cfg0.N) : t.val < 4 * 16 → k0_off1 (grid0.coords t) = ![t.val / 16 % 2, 256 * (t.val % 16), 0] :=
  (by decide +kernel : ∀ t : Fin grid0.N, t.val < 4 * 16 → k0_off1 (grid0.coords t) = ![t.val / 16 % 2, 256 * (t.val % 16), 0]) t
theorem read_off (t : Fin cfg0.N) : 16 ≤ t.val → k0_off2 (grid0.coords t) = ![(t.val / 16 + 1) % 2, 0, 0] :=
  (by decide +kernel : ∀ t : Fin grid0.N, 16 ≤ t.val → k0_off2 (grid0.coords t) = ![(t.val / 16 + 1) % 2, 0, 0]) t
theorem writes_back (t : Fin cfg0.N) : (cfg0.win 3).flush t = true ↔ 16 ≤ t.val :=
  (by decide +kernel : ∀ t : Fin grid0.N, win0_3.flush t = true ↔ 16 ≤ t.val) t
theorem at_w (t : Fin cfg0.N) : t.val < 4 * 16 → cc0_transform_1 (grid0.coords t) = ![256 * (t.val % 16), t.val / 16 * 1024] :=
  (by decide +kernel : ∀ t : Fin grid0.N, t.val < 4 * 16 →
    cc0_transform_1 (grid0.coords t) = ![256 * (t.val % 16), t.val / 16 * 1024]) t

/-! ## The cached weight and the proof data -/

/-- The weight, cast as the cache holds them. -/
def wAt (c : Dev nD) (r n : Nat) : F .bf16 :=
  at2 (M := 4096) (N := 4096) (truncf .bf16 (V m c main_v3 : Vec F S4096x4096 .f32) bitsLt_bf16_f32) r n

theorem chunk (c : Dev nD) (t : Fin cfg0.N) (ht : t.val < 4 * 16) (j : Put.Idx) :
    k0_pay1 (iblk m c 1 t) j = wAt m c (256 * (t.val % 16) + (j (1 : Fin 3)).val) (t.val / 16 * 1024 + (j (2 : Fin 3)).val) := by
  refine (chunk_at (iblk m c 1 t) _ _ _ j).trans (at2_of (M := 4096) (N := 4096)
    (truncf .bf16 (V m c main_v3 : Vec F S4096x4096 .f32) bitsLt_bf16_f32) (((cfg0.win 1).blk t).view.emb _) _ _ ?_ ?_)
  · show cc0_transform_1 (grid0.coords t) 0 + 1 * (j (1 : Fin 3)).val = _
    rw [at_w t ht]; show 256 * (t.val % 16) + 1 * _ = _; omega
  · show cc0_transform_1 (grid0.coords t) 1 + 1 * (j (2 : Fin 3)).val = _
    rw [at_w t ht]; show t.val / 16 * 1024 + 1 * _ = _; omega

/-- The block of the result at a point that multiplies. -/
def outBlk (c : Dev nD) (t : Fin cfg0.N) : Vec F S1024x1024 .bf16 :=
  k0_pay2 (iblk m c 0 t) (tile (wAt m c) (t.val / 16 - 1)) (iblk m c 2 t)

/-- The weight cache. -/
abbrev scM : Memref sig .tc .vmem S2x4096x1024 .bf16 := Memref.whole cc0_scratch0

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
  Φ t := Held c scM 4 (wAt m c) t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outBlk m c t := by dsimp only [dats]
theorem Phi_eq (c : Dev nD) (t : Fin (cfg0.N + 1)) : (dats m 0 c).Φ t = Held c scM 4 (wAt m c) t.val := by dsimp only [dats]

abbrev m0 (t : Fin cfg0.N) : Memref sig .tc .vmem S1024x4096 .bf16 := win0_0.stage (cfg0.slots t 0)
abbrev m1 (t : Fin cfg0.N) : Memref sig .tc .vmem S256x1024 .f32 := win0_1.stage (cfg0.slots t 1)
abbrev m2 (t : Fin cfg0.N) : Memref sig .tc .vmem S1024x1024 .bf16 := win0_2.stage (cfg0.slots t 2)
abbrev m3 (t : Fin cfg0.N) : Memref sig .tc .vmem S1024x1024 .bf16 := win0_3.stage (cfg0.slots t 3)

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## One point -/

/-- What a point's body is run with, and what it leaves. -/
def pointPre (c : Dev nD) (t : Fin cfg0.N) : sProp 𝕄 :=
  iprop(Held c scM 4 (wAt m c) t.val ∗ (dats m 0 c).owesAt () t.castSucc
    ∗ (∃ d, owns (c : Thread nD τ) (m0 t) fullShare ((dats m 0 c).before 0 t d))
    ∗ (∃ d, owns (c : Thread nD τ) (m1 t) fullShare ((dats m 0 c).before 1 t d))
    ∗ (∃ d, owns (c : Thread nD τ) (m2 t) fullShare ((dats m 0 c).before 2 t d))
    ∗ (∃ d, owns (c : Thread nD τ) (m3 t) fullShare ((dats m 0 c).before 3 t d)))
def pointPost (c : Dev nD) (t : Fin cfg0.N) : sProp 𝕄 :=
  iprop(Held c scM 4 (wAt m c) (t.val + 1) ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 600000 in
theorem point_body (c : Dev nD) (t : Fin cfg0.N) :
    pointPre m c t ⊢ wp frame (wpE (defs₀ (F := F)) Variants.none c none) Set.univ (bodyAt0 t) (fun _ => pointPost m c t) := by
  have hN : t.val < 4 * 16 + 16 := lt_of_lt_of_eq t.isLt (show cfg0.N = 80 from N_0)
  unfold pointPre pointPost bodyAt0
  rw [body_eq]
  simp only [before_0, before_1, before_2]
  rw [show (dats m 0 c).owesAt () t.succ = (dats m 0 c).owesAt () t.castSucc from rfl, left_in _ 0 t rfl (after_0 m c t),
    left_in _ 1 t rfl (after_1 m c t), left_in _ 2 t rfl (after_2 m c t)]
  iintro ⟨HS, Hd, ⟨%d0, H0⟩, ⟨%d1, H1⟩, ⟨%d2, H2⟩, ⟨%d3, H3⟩⟩
  iapply (pointWith_run (defs₀ (F := F)) c _ _ (m0 t) (m1 t) (m2 t) (m3 t) scM (hstage0_0 _) (hstage0_1 _) (hstage0_2 _) (hstage0_3 _)
    (Memref.isWhole_whole _) _ _ _ _ _ _ _ k0_pay1 _ _ _ _ _ _ _ _ _ k0_pay2 (iblk m c 0 t) (iblk m c 2 t) ((dats m 0 c).before 3 t d3)
    4 t.val (wAt m c) hN (fills t) (multiplies t) (fill_off t) (read_off t) (iblk m c 1 t) (chunk m c t) _)
  isplitl [HS]; · iexact HS
  isplitl [H1]; · iexact H1
  isplitl [H0 H2]
  · isplitl [H0]; · iexact H0
    iexact H2
  isplitl [H3]; · iexact H3
  iintro ⟨HS, H1, ⟨H0, H2⟩, H3⟩
  isplitl [HS]; · iexact HS
  isplitl [Hd]; · iexact Hd
  isplitl [H0]; · iexact H0
  isplitl [H1]; · iexact H1
  isplitl [H2]; · iexact H2
  iapply (left_out (dats m 0 c) 3 t (k0_cond2 (grid0.coords t) = 1#1) rfl (multiplies t) (after_3 m c t) (writes_back t) d3)
  iexact H3

theorem row (t : Fin cfg0.N) : defs₀ (F := F) .tc cfg0.body (cfg0.bodyArgs t (cfg0.slots t)) = bodyAt0 (F := F) t := by
  unfold defs₀; rw [Defs.onTc_tc]

theorem obligation (c : Dev nD) : BodyObligation (dats m 0 c) (defs₀ (F := F)) Variants.none () Set.univ := fun t => by
  rw [bigSep_W0, bigSep_W0, row]
  rw [Phi_eq, Phi_eq]
  exact triple_restated (point_body m c t) rfl .rfl fun _ => .rfl

/-! ## The launch -/

theorem inv_in (c : Dev nD) : (Pipeline.ΦA spec0 c : sProp 𝕄) ⊢ (dats m 0 c).Φ 0 := by
  rw [PhiA_eq, Phi_eq]; exact held_in c scM 4 (wAt m c)
theorem inv_out (c : Dev nD) : (dats m 0 c).Φ (Fin.last cfg0.N) ⊢ (Pipeline.ΦA spec0 c : sProp 𝕄) := by
  rw [PhiA_eq, Phi_eq]; exact held_out c scM 4 (wAt m c) _

set_option backward.isDefEq.respectTransparency.types false in
/-- Every fair run ends, with the arrays as the proof data has them and every counter at zero. -/
theorem runs : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

/-- The arguments end as they began and every counter at zero. -/
theorem frame_run : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  θ_run_and (frame_of m ρ (dats m) (A_eq m) ((θ_run defs _ _).mono (fun _ h => h.1) (runs m ρ)))
    ((θ_run defs _ _).mono (fun _ h => h.2) (runs m ρ))

theorem frame : Cert.quiescent_KernelConvIdeal := fun m ρ _ => frame_run m ρ

/-! ## The kernel over bits: the same text -/

theorem bodies_same : Cert.KernelConv.defs₀ (F := F) = defs₀ := by
  unfold Cert.KernelConv.defs₀ defs₀
  refine congrArg Defs.onTc (funext fun l => ?_)
  match l with
  | ⟨0, _⟩ => rfl

theorem tables_same : Cert.KernelConv.defs (F := F) = defs := by
  unfold Cert.KernelConv.defs defs
  rw [bodies_same]; rfl

theorem frame_bits : Cert.quiescent_KernelConv := fun m ρ _ => by
  have h := frame_run (F := Bits) m ρ
  rw [← tables_same] at h
  exact h

end Cert.KernelConvIdeal.Hand
end
-- ==== Proof.ConvValue.lean ====
/- The convolution branch's output projection against the reference: the two results agree entry by entry. -/
module

public import proofs.«01_k».proof.Proof.ConvRun
public import proofs.«01_k».proof.Proof.Product
public import proofs.«01_k».proof.Proof.Gen.ReferenceConvIdeal.Run

@[expose] public section

set_option maxRecDepth 16384

noncomputable section

namespace Cert.KernelConvIdeal.Hand

open Cert.KernelConvIdeal.Gen Cert.Hand
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The live activations and the gates, read at row and column. -/
def xAt (c : Dev nD) : Nat → Nat → EReal := at2 (M := 16384) (N := 4096) (V m c main_v2)
def gAt (c : Dev nD) : Nat → Nat → EReal := at2 (M := 16384) (N := 8192) (V m c main_v4)

/-- Row `r`, column `n` of the result: the product, gated. -/
def gated (c : Dev nD) (r n : Nat) : EReal := prod (xAt m c) (wAt m c) r n * gAt m c r n

/-- The result array. -/
def G (c : Dev nD) : Buf (Elt Ideal) ((c : Thread nD τ).loc main_v5) :=
  fun o : S16384x4096.Idx => gated m c (o (0 : Fin 2)).val (o (1 : Fin 2)).val

theorem at_x (t : Fin cfg0.N) : 16 ≤ t.val → win0_0.index t = ![t.val % 16, 0] :=
  (by decide +kernel : ∀ t : Fin grid0.N, 16 ≤ t.val → win0_0.index t = ![t.val % 16, 0]) t
theorem at_gate (t : Fin cfg0.N) : 16 ≤ t.val → win0_2.index t = ![t.val % 16, t.val / 16 - 1] :=
  (by decide +kernel : ∀ t : Fin grid0.N, 16 ≤ t.val → win0_2.index t = ![t.val % 16, t.val / 16 - 1]) t
theorem at_out (t : Fin cfg0.N) : 16 ≤ t.val → win0_3.index t = ![t.val % 16, t.val / 16 - 1] :=
  (by decide +kernel : ∀ t : Fin grid0.N, 16 ≤ t.val → win0_3.index t = ![t.val % 16, t.val / 16 - 1]) t

theorem xblk (c : Dev nD) (t : Fin cfg0.N) (ht : 16 ≤ t.val) (j : S1024x4096.Idx) :
    (iblk m c 0 t : S1024x4096.Idx → EReal) j = xAt m c (t.val % 16 * 1024 + (j (0 : Fin 2)).val) (j (1 : Fin 2)).val := by
  unfold iblk
  rw [View.read_apply]
  refine at2_of (M := 16384) (N := 4096) (V m c main_v2) _ _ _ ?_ ?_
  · show win0_0.index t 0 * 1024 + 1 * (j (0 : Fin 2)).val = _
    rw [at_x t ht]; show t.val % 16 * 1024 + 1 * _ = _; omega
  · show win0_0.index t 1 * 4096 + 1 * (j (1 : Fin 2)).val = _
    rw [at_x t ht]; show 0 * 4096 + 1 * _ = _; omega

theorem gblk (c : Dev nD) (t : Fin cfg0.N) (ht : 16 ≤ t.val) (j : S1024x1024.Idx) :
    (iblk m c 2 t : S1024x1024.Idx → EReal) j
      = gAt m c (t.val % 16 * 1024 + (j (0 : Fin 2)).val) ((t.val / 16 - 1) * 1024 + (j (1 : Fin 2)).val) := by
  unfold iblk
  rw [View.read_apply]
  refine at2_of (M := 16384) (N := 8192) (V m c main_v4) _ _ _ ?_ ?_
  · show win0_2.index t 0 * 1024 + 1 * (j (0 : Fin 2)).val = _
    rw [at_gate t ht]; show t.val % 16 * 1024 + 1 * _ = _; omega
  · show win0_2.index t 1 * 1024 + 1 * (j (1 : Fin 2)).val = _
    rw [at_gate t ht]; show (t.val / 16 - 1) * 1024 + 1 * _ = _; omega

/-- The multiplying payload at an entry. -/
theorem pay2_apply (x : S1024x4096.Idx → EReal) (W : Nat → Nat → EReal) (q : Nat) (g : S1024x1024.Idx → EReal) (j : S1024x1024.Idx)
    (L : Nat → EReal) (hl : ∀ y : S1024x4096.Idx, (y (0 : Fin 2)).val = (j (0 : Fin 2)).val → x y = L (y (1 : Fin 2)).val) :
    k0_pay2 (F := Ideal) x (tile W q) g j = (∑ k : Fin 4096, L k.val * W k.val (q * 1024 + (j (1 : Fin 2)).val)) * g j := by
  unfold k0_pay2
  rw [← block_at x shapeCasts_S1024x4096_S1024x4096 shapeCasts_S1x4096x1024_S4096x1024 W q j L hl, shapeCast_self g]
  rfl

/-- The block of the result at a point that multiplies, read. -/
theorem outBlk_apply (c : Dev nD) (t : Fin cfg0.N) (ht : 16 ≤ t.val) (j : S1024x1024.Idx) : (outBlk m c t : S1024x1024.Idx → EReal) j
    = gated m c (t.val % 16 * 1024 + (j (0 : Fin 2)).val) ((t.val / 16 - 1) * 1024 + (j (1 : Fin 2)).val) := by
  refine (pay2_apply _ _ _ _ j (fun k => xAt m c (t.val % 16 * 1024 + (j (0 : Fin 2)).val) k) fun y hy => ?_).trans ?_
  · rw [xblk m c t ht, hy]
  · rw [gblk m c t ht]; rfl

/-- The result array at the end. -/
theorem final (c : Dev nD) : (dats m 0 c).arrAt 3 cfg0.N = G m c := by
  refine (dats m 0 c).arrAt_eq_of_covers 3 (G m c) (by decide +kernel) fun t hf y => ?_
  have ht : 16 ≤ t.val := (writes_back t).mp hf
  rw [after_3]
  have e0 : (((cfg0.win 3).blk t).view.emb y (0 : Fin 2)).val = t.val % 16 * 1024 + (y (0 : Fin 2)).val := by
    show win0_3.index t 0 * 1024 + 1 * (y (0 : Fin 2)).val = _
    rw [at_out t ht]; show t.val % 16 * 1024 + 1 * _ = _; omega
  have e1 : (((cfg0.win 3).blk t).view.emb y (1 : Fin 2)).val = (t.val / 16 - 1) * 1024 + (y (1 : Fin 2)).val := by
    show win0_3.index t 1 * 1024 + 1 * (y (1 : Fin 2)).val = _
    rw [at_out t ht]; show (t.val / 16 - 1) * 1024 + 1 * _ = _; omega
  show (outBlk m c t : S1024x1024.Idx → EReal) y
    = gated m c (((cfg0.win 3).blk t).view.emb y (0 : Fin 2)).val (((cfg0.win 3).blk t).view.emb y (1 : Fin 2)).val
  rw [outBlk_apply m c t ht, e0, e1]

/-! ## What the host prepares -/

theorem V_x (c : Dev nD) : (V m c main_v2 : S16384x4096.Idx → EReal)
    = shapeCast S16384x4096 (extractStridedSlice S4x4096x4096 ![0, 16, 0] (m ((c : Thread nD τ).loc main_arg0) : S4x4112x4096.Idx → EReal)
        slices_S4x4112x4096_S4x4096x4096_0_16_0) shapeCasts_S4x4096x4096_S16384x4096 := by
  show after hostOps0 (fun b => m (c, b)) main_v2 = _
  simp only [hostOps0]
  after_results <;> rfl

theorem V_w (c : Dev nD) : (V m c main_v3 : S4096x4096.Idx → EReal)
    = shapeCast S4096x4096 (m ((c : Thread nD τ).loc main_arg1) : S1x4096x4096.Idx → EReal) shapeCasts_S1x4096x4096_S4096x4096 := by
  show after hostOps0 (fun b => m (c, b)) main_v3 = _
  simp only [hostOps0]
  after_results <;> rfl

theorem V_g (c : Dev nD) : (V m c main_v4 : S16384x8192.Idx → EReal) = m ((c : Thread nD τ).loc main_arg2) := by
  show after hostOps0 (fun b => m (c, b)) main_v4 = _
  simp only [hostOps0]
  after_results <;> rfl

/-- The product behind an entry of the result, over the arguments. -/
theorem prod_args (c : Dev nD) (r : Fin 16384) (n : Fin 4096) :
    prod (xAt m c) (wAt m c) r.val n.val
      = liveDot (m ((c : Thread nD τ).loc main_arg0) : S4x4112x4096.Idx → EReal) (m ((c : Thread nD τ).loc main_arg1) : S1x4096x4096.Idx → EReal)
          r n := by
  refine prod_rows _ _ _ _ _ _ _ _ n (fun k => ?_) fun k => ?_
  · unfold xAt; rw [at2_lt _ _ _ r.isLt k.isLt, V_x]; exact sliced_at _ _ _ r k
  · show at2 (M := 4096) (N := 4096) (V m c main_v3 : S4096x4096.Idx → EReal) k.val n.val = _
    rw [V_w]; exact mat_at _ _ k n

/-! ## The claims -/

theorem result : θ_run (defs (F := Ideal)) (onTc (τ := τ) (main (F := Ideal))) ⟨m, fun _ => 0, ρ⟩ fun r => ∀ c : Dev nD,
    r.2.mem ((c.tc : Thread nD τ).loc main_v5) = G m c :=
  (θ_run defs _ _).mono (fun _ h c => ((h.1 c).1 3).trans (final m c)) (runs m ρ)

theorem frame_reference : Cert.quiescent_ReferenceConvIdeal := fun m ρ _ =>
  (θ_run Cert.ReferenceConvIdeal.defs _ _).mono
    (fun r h => ⟨fun c => (h c).2, sem_eq_zero_of_no_sems (by decide) r.2⟩) (Cert.ReferenceConvIdeal.Value.run (F := Ideal) m ρ)

theorem algebraic : Cert.algebraic_KernelConvIdeal_ReferenceConvIdeal := by
  intro m ρ m' ρ' _ hargs
  refine ⟨fun c => G m c, ?_, ?_⟩
  · exact (θ_run defs _ _).mono (fun _ h c => ⟨h.1 c, h.2.1 c⟩) (θ_run_and (result m ρ) (frame_run m ρ))
  · refine (θ_run Cert.ReferenceConvIdeal.defs _ _).mono (fun r h c => ⟨(h c).1.trans ?_, (h c).2⟩)
      (Cert.ReferenceConvIdeal.Value.run (F := Ideal) m' ρ')
    obtain ⟨e0, e1, e2⟩ := hargs c
    rw [e0, e1, e2]
    funext o
    obtain ⟨r, n, rfl⟩ : ∃ (r : Fin 16384) (n : Fin 4096), o = ix2 r n := ⟨o (0 : Fin 2), o (1 : Fin 2), eq_ix2 o⟩
    refine (cast_at (φ := .f32) (ψ := .bf16) _ Cert.ReferenceConvIdeal.Gen.bitsLt_bf16_f32 _).trans ?_
    show _ = prod (xAt m c) (wAt m c) r.val n.val * gAt m c r.val n.val
    rw [mul_comm]
    refine congrArg₂ (· * ·) ?_ ?_
    · refine (extractStridedSlice_apply _ _ _ _ (ix2 (n0 := 16384) (n1 := 8192) r ⟨n.val, by omega⟩) fun a => ?_).trans ?_
      · match a with
        | ⟨0, _⟩ => show r.val = 0 + r.val; omega
        | ⟨1, _⟩ => show n.val = 0 + n.val; omega
      · unfold gAt; rw [at2_lt _ _ _ r.isLt (by omega), V_g]
    · refine (sliced_at (N := 4096) _ Cert.ReferenceConvIdeal.Gen.slices_S4x4112x4096_S4x4096x4096_0_16_0
        Cert.ReferenceConvIdeal.Gen.shapeCasts_S4x4096x4096_S16384x4096 r n).trans ?_
      exact (rowDot_at _ none _ _ Cert.ReferenceConvIdeal.Gen.shapeCasts_S1x4096x4096_S4096x4096 _ _ n).trans (prod_args m c r n).symm

end Cert.KernelConvIdeal.Hand
end
-- ==== Proof.OutRun.lean ====
/- The launch of the last projection, over any float values: its body as a `point`, the proof data, the run, both
   frames. -/
module

public import proofs.«01_k».proof.Proof.Gen.KernelOutIdeal.Launch
public import proofs.«01_k».proof.Proof.Gen.KernelOutIdeal.Skeleton
public import proofs.«01_k».proof.Proof.Gen.KernelOutIdeal.Points
public import proofs.«01_k».proof.Proof.Gen.KernelOutIdeal.Frame
public import proofs.«01_k».proof.Proof.Gen.KernelOut
public import proofs.«01_k».proof.Proof.Step
public import proofs.«01_k».proof.Defs
public import Idealize.ShloMosaic.Lib.Claim

@[expose] public section

set_option maxRecDepth 16384

noncomputable section

namespace Cert.KernelOutIdeal.Hand

open Cert.KernelOutIdeal.Gen Cert.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The body is a `point`. -/
theorem body_eq (i : grid0.Coords) (a2 h2 a3 h3 a4 h4 a5 h5) :
    cc0_out_proj (F := F) i a2 h2 a3 h3 a4 h4 a5 h5
      = point (k0_cond1 i = 1#1) (k0_cond2 i = 1#1)
          (fun h => fill a3 a5 (k0_off1 i) inb_S256x1024_S256x1024_0_0 (k0_off1_inb i h) (View.loadsAt_vmem h_S256x1024)
            (View.loadsAt_vmem h_S1x256x1024)
            (View.stores_vmem h_S1x256x1024 (h5.storeExact_slice rfl _ (k0_off1_packedbf16 i h)) (fun _ => rfl)) k0_pay1)
          (fun h => mul a2 a4 a5 (k0_off2 i) inb_S1024x4096_S1024x4096_0_0 inb_S1024x1024_S1024x1024_0_0
            (k0_off2_inb i h) (View.loadsAt_vmem h_S1024x4096) (View.loadsAt_vmem h_S1x4096x1024) (View.loadsAt_vmem h_S1024x1024)
            (View.stores_vmem_bits_univ h_S1024x1024 rfl) k0_pay2) := by
  rw [cc0_out_proj_eq_skeleton]
  unfold cc0_out_proj_skel point
  by_cases p1 : k0_cond1 i = 1#1 <;> by_cases p2 : k0_cond2 i = 1#1 <;> simp only [p1, p2, ↓reduceDIte] <;> rfl

variable (m : (ℓ : Loc nD τ sig) → Buf (Elt F) ℓ) (ρ : Dev nD → PrngReg)

/-! ## The grid's points in closed form -/

theorem fills (t : Fin cfg0.N) : k0_cond1 (grid0.coords t) = 1#1 ↔ t.val < 4 * 16 :=
  (by decide +kernel : ∀ t : Fin grid0.N, k0_cond1 (grid0.coords t) = 1#1 ↔ t.val < 4 * 16) t
theorem multiplies (t : Fin cfg0.N) : k0_cond2 (grid0.coords t) = 1#1 ↔ 16 ≤ t.val :=
  (by decide +kernel : ∀ t : Fin grid0.N, k0_cond2 (grid0.coords t) = 1#1 ↔ 16 ≤ t.val) t
theorem fill_off (t : Fin cfg0.N) : t.val < 4 * 16 → k0_off1 (grid0.coords t) = ![t.val / 16 % 2, 256 * (t.val % 16), 0] :=
  (by decide +kernel : ∀ t : Fin grid0.N, t.val < 4 * 16 → k0_off1 (grid0.coords t) = ![t.val / 16 % 2, 256 * (t.val % 16), 0]) t
theorem read_off (t : Fin cfg0.N) : 16 ≤ t.val → k0_off2 (grid0.coords t) = ![(t.val / 16 + 1) % 2, 0, 0] :=
  (by decide +kernel : ∀ t : Fin grid0.N, 16 ≤ t.val → k0_off2 (grid0.coords t) = ![(t.val / 16 + 1) % 2, 0, 0]) t
theorem writes_back (t : Fin cfg0.N) : (cfg0.win 2).flush t = true ↔ 16 ≤ t.val :=
  (by decide +kernel : ∀ t : Fin grid0.N, win0_2.flush t = true ↔ 16 ≤ t.val) t
theorem at_w (t : Fin cfg0.N) : t.val < 4 * 16 → cc0_transform_1 (grid0.coords t) = ![256 * (t.val % 16), t.val / 16 * 1024] :=
  (by decide +kernel : ∀ t : Fin grid0.N, t.val < 4 * 16 →
    cc0_transform_1 (grid0.coords t) = ![256 * (t.val % 16), t.val / 16 * 1024]) t

/-! ## The cached weight and the proof data -/

/-- The weight, cast as the cache holds them. -/
def wAt (c : Dev nD) (r n : Nat) : F .bf16 :=
  at2 (M := 4096) (N := 4096) (truncf .bf16 (V m c main_v2 : Vec F S4096x4096 .f32) bitsLt_bf16_f32) r n

theorem chunk (c : Dev nD) (t : Fin cfg0.N) (ht : t.val < 4 * 16) (j : Put.Idx) :
    k0_pay1 (iblk m c 1 t) j = wAt m c (256 * (t.val % 16) + (j (1 : Fin 3)).val) (t.val / 16 * 1024 + (j (2 : Fin 3)).val) := by
  refine (chunk_at (iblk m c 1 t) _ _ _ j).trans (at2_of (M := 4096) (N := 4096)
    (truncf .bf16 (V m c main_v2 : Vec F S4096x4096 .f32) bitsLt_bf16_f32) (((cfg0.win 1).blk t).view.emb _) _ _ ?_ ?_)
  · show cc0_transform_1 (grid0.coords t) 0 + 1 * (j (1 : Fin 3)).val = _
    rw [at_w t ht]; show 256 * (t.val % 16) + 1 * _ = _; omega
  · show cc0_transform_1 (grid0.coords t) 1 + 1 * (j (2 : Fin 3)).val = _
    rw [at_w t ht]; show t.val / 16 * 1024 + 1 * _ = _; omega

/-- The block of the result at a point that multiplies. -/
def outBlk (c : Dev nD) (t : Fin cfg0.N) : Vec F S1024x1024 .f32 :=
  k0_pay2 (iblk m c 0 t) (tile (wAt m c) (t.val / 16 - 1))

/-- The weight cache. -/
abbrev scM : Memref sig .tc .vmem S2x4096x1024 .bf16 := Memref.whole cc0_scratch0

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk m c t
  Φ t := Held c scM 4 (wAt m c) t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBlk m c t := by dsimp only [dats]
theorem Phi_eq (c : Dev nD) (t : Fin (cfg0.N + 1)) : (dats m 0 c).Φ t = Held c scM 4 (wAt m c) t.val := by dsimp only [dats]

abbrev m0 (t : Fin cfg0.N) : Memref sig .tc .vmem S1024x4096 .bf16 := win0_0.stage (cfg0.slots t 0)
abbrev m1 (t : Fin cfg0.N) : Memref sig .tc .vmem S256x1024 .f32 := win0_1.stage (cfg0.slots t 1)
abbrev m2 (t : Fin cfg0.N) : Memref sig .tc .vmem S1024x1024 .f32 := win0_2.stage (cfg0.slots t 2)

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## One point -/

/-- What a point's body is run with, and what it leaves. -/
def pointPre (c : Dev nD) (t : Fin cfg0.N) : sProp 𝕄 :=
  iprop(Held c scM 4 (wAt m c) t.val ∗ (dats m 0 c).owesAt () t.castSucc
    ∗ (∃ d, owns (c : Thread nD τ) (m0 t) fullShare ((dats m 0 c).before 0 t d))
    ∗ (∃ d, owns (c : Thread nD τ) (m1 t) fullShare ((dats m 0 c).before 1 t d))
    ∗ (∃ d, owns (c : Thread nD τ) (m2 t) fullShare ((dats m 0 c).before 2 t d)))
def pointPost (c : Dev nD) (t : Fin cfg0.N) : sProp 𝕄 :=
  iprop(Held c scM 4 (wAt m c) (t.val + 1) ∗ (dats m 0 c).owesAt () t.succ
    ∗ (dats m 0 c).leavesExact 0 t ∗ (dats m 0 c).leavesExact 1 t ∗ (dats m 0 c).leavesExact 2 t)

set_option maxHeartbeats 600000 in
theorem point_body (c : Dev nD) (t : Fin cfg0.N) :
    pointPre m c t ⊢ wp frame (wpE (defs₀ (F := F)) Variants.none c none) Set.univ (bodyAt0 t) (fun _ => pointPost m c t) := by
  have hN : t.val < 4 * 16 + 16 := lt_of_lt_of_eq t.isLt (show cfg0.N = 80 from N_0)
  unfold pointPre pointPost bodyAt0
  rw [body_eq]
  simp only [before_0, before_1]
  rw [show (dats m 0 c).owesAt () t.succ = (dats m 0 c).owesAt () t.castSucc from rfl, left_in _ 0 t rfl (after_0 m c t),
    left_in _ 1 t rfl (after_1 m c t)]
  iintro ⟨HS, Hd, ⟨%d0, H0⟩, ⟨%d1, H1⟩, ⟨%d2, H2⟩⟩
  iapply (pointMul_run (defs₀ (F := F)) c _ _ (m0 t) (m1 t) (m2 t) scM (hstage0_0 _) (hstage0_1 _) (hstage0_2 _)
    (Memref.isWhole_whole _) _ _ _ _ _ _ _ k0_pay1 _ _ _ _ _ _ _ k0_pay2 (iblk m c 0 t) ((dats m 0 c).before 2 t d2)
    4 t.val (wAt m c) hN (fills t) (multiplies t) (fill_off t) (read_off t) (iblk m c 1 t) (chunk m c t) _)
  isplitl [HS]; · iexact HS
  isplitl [H1]; · iexact H1
  isplitl [H0]; · iexact H0
  isplitl [H2]; · iexact H2
  iintro ⟨HS, H1, H0, H2⟩
  isplitl [HS]; · iexact HS
  isplitl [Hd]; · iexact Hd
  isplitl [H0]; · iexact H0
  isplitl [H1]; · iexact H1
  iapply (left_out (dats m 0 c) 2 t (k0_cond2 (grid0.coords t) = 1#1) rfl (multiplies t) (after_2 m c t) (writes_back t) d2)
  iexact H2

theorem row (t : Fin cfg0.N) : defs₀ (F := F) .tc cfg0.body (cfg0.bodyArgs t (cfg0.slots t)) = bodyAt0 (F := F) t := by
  unfold defs₀; rw [Defs.onTc_tc]

theorem obligation (c : Dev nD) : BodyObligation (dats m 0 c) (defs₀ (F := F)) Variants.none () Set.univ := fun t => by
  rw [bigSep_W0, bigSep_W0, row]
  rw [Phi_eq, Phi_eq]
  exact triple_restated (point_body m c t) rfl .rfl fun _ => .rfl

/-! ## The launch -/

theorem inv_in (c : Dev nD) : (Pipeline.ΦA spec0 c : sProp 𝕄) ⊢ (dats m 0 c).Φ 0 := by
  rw [PhiA_eq, Phi_eq]; exact held_in c scM 4 (wAt m c)
theorem inv_out (c : Dev nD) : (dats m 0 c).Φ (Fin.last cfg0.N) ⊢ (Pipeline.ΦA spec0 c : sProp 𝕄) := by
  rw [PhiA_eq, Phi_eq]; exact held_out c scM 4 (wAt m c) _

set_option backward.isDefEq.respectTransparency.types false in
/-- Every fair run ends, with the arrays as the proof data has them and every counter at zero. -/
theorem runs : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

/-- The arguments end as they began and every counter at zero. -/
theorem frame_run : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  θ_run_and (frame_of m ρ (dats m) (A_eq m) ((θ_run defs _ _).mono (fun _ h => h.1) (runs m ρ)))
    ((θ_run defs _ _).mono (fun _ h => h.2) (runs m ρ))

theorem frame : Cert.quiescent_KernelOutIdeal := fun m ρ _ => frame_run m ρ

/-! ## The kernel over bits: the same text -/

theorem bodies_same : Cert.KernelOut.defs₀ (F := F) = defs₀ := by
  unfold Cert.KernelOut.defs₀ defs₀
  refine congrArg Defs.onTc (funext fun l => ?_)
  match l with
  | ⟨0, _⟩ => rfl

theorem tables_same : Cert.KernelOut.defs (F := F) = defs := by
  unfold Cert.KernelOut.defs defs
  rw [bodies_same]; rfl

theorem frame_bits : Cert.quiescent_KernelOut := fun m ρ _ => by
  have h := frame_run (F := Bits) m ρ
  rw [← tables_same] at h
  exact h

end Cert.KernelOutIdeal.Hand
end
-- ==== Proof.OutValue.lean ====
/- The output projection against the reference: the two results agree entry by entry. -/
module

public import proofs.«01_k».proof.Proof.OutRun
public import proofs.«01_k».proof.Proof.Product
public import proofs.«01_k».proof.Proof.Gen.ReferenceOutIdeal.Run

@[expose] public section

set_option maxRecDepth 16384

noncomputable section

namespace Cert.KernelOutIdeal.Hand

open Cert.KernelOutIdeal.Gen Cert.Hand
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The flattened activations, read at row and column. -/
def xAt (c : Dev nD) : Nat → Nat → EReal := at2 (M := 16384) (N := 4096) (V m c main_v1)

/-- The result array. -/
def G (c : Dev nD) : Buf (Elt Ideal) ((c : Thread nD τ).loc main_v3) :=
  fun o : S16384x4096.Idx => prod (xAt m c) (wAt m c) (o (0 : Fin 2)).val (o (1 : Fin 2)).val

theorem at_x (t : Fin cfg0.N) : 16 ≤ t.val → win0_0.index t = ![t.val % 16, 0] :=
  (by decide +kernel : ∀ t : Fin grid0.N, 16 ≤ t.val → win0_0.index t = ![t.val % 16, 0]) t
theorem at_out (t : Fin cfg0.N) : 16 ≤ t.val → win0_2.index t = ![t.val % 16, t.val / 16 - 1] :=
  (by decide +kernel : ∀ t : Fin grid0.N, 16 ≤ t.val → win0_2.index t = ![t.val % 16, t.val / 16 - 1]) t

theorem xblk (c : Dev nD) (t : Fin cfg0.N) (ht : 16 ≤ t.val) (j : S1024x4096.Idx) :
    (iblk m c 0 t : S1024x4096.Idx → EReal) j = xAt m c (t.val % 16 * 1024 + (j (0 : Fin 2)).val) (j (1 : Fin 2)).val := by
  unfold iblk
  rw [View.read_apply]
  refine at2_of (M := 16384) (N := 4096) (V m c main_v1) _ _ _ ?_ ?_
  · show win0_0.index t 0 * 1024 + 1 * (j (0 : Fin 2)).val = _
    rw [at_x t ht]; show t.val % 16 * 1024 + 1 * _ = _; omega
  · show win0_0.index t 1 * 4096 + 1 * (j (1 : Fin 2)).val = _
    rw [at_x t ht]; show 0 * 4096 + 1 * _ = _; omega

/-- The block of the result at a point that multiplies, read. -/
theorem outBlk_apply (c : Dev nD) (t : Fin cfg0.N) (ht : 16 ≤ t.val) (j : S1024x1024.Idx) : (outBlk m c t : S1024x1024.Idx → EReal) j
    = prod (xAt m c) (wAt m c) (t.val % 16 * 1024 + (j (0 : Fin 2)).val) ((t.val / 16 - 1) * 1024 + (j (1 : Fin 2)).val) :=
  block_at (iblk m c 0 t) shapeCasts_S1024x4096_S1024x4096 shapeCasts_S1x4096x1024_S4096x1024 (wAt m c) _ j _
    fun y hy => (xblk m c t ht y).trans (by rw [hy])

/-- The result array at the end. -/
theorem final (c : Dev nD) : (dats m 0 c).arrAt 2 cfg0.N = G m c := by
  refine (dats m 0 c).arrAt_eq_of_covers 2 (G m c) (by decide +kernel) fun t hf y => ?_
  have ht : 16 ≤ t.val := (writes_back t).mp hf
  rw [after_2]
  have e0 : (((cfg0.win 2).blk t).view.emb y (0 : Fin 2)).val = t.val % 16 * 1024 + (y (0 : Fin 2)).val := by
    show win0_2.index t 0 * 1024 + 1 * (y (0 : Fin 2)).val = _
    rw [at_out t ht]; show t.val % 16 * 1024 + 1 * _ = _; omega
  have e1 : (((cfg0.win 2).blk t).view.emb y (1 : Fin 2)).val = (t.val / 16 - 1) * 1024 + (y (1 : Fin 2)).val := by
    show win0_2.index t 1 * 1024 + 1 * (y (1 : Fin 2)).val = _
    rw [at_out t ht]; show (t.val / 16 - 1) * 1024 + 1 * _ = _; omega
  show (outBlk m c t : S1024x1024.Idx → EReal) y
    = prod (xAt m c) (wAt m c) (((cfg0.win 2).blk t).view.emb y (0 : Fin 2)).val (((cfg0.win 2).blk t).view.emb y (1 : Fin 2)).val
  rw [outBlk_apply m c t ht, e0, e1]

/-! ## What the host prepares -/

theorem V_x (c : Dev nD) : (V m c main_v1 : S16384x4096.Idx → EReal)
    = shapeCast S16384x4096 (m ((c : Thread nD τ).loc main_arg0) : S4x4096x4096.Idx → EReal) shapeCasts_S4x4096x4096_S16384x4096 := by
  show after hostOps0 (fun b => m (c, b)) main_v1 = _
  simp only [hostOps0]
  after_results <;> rfl

theorem V_w (c : Dev nD) : (V m c main_v2 : S4096x4096.Idx → EReal)
    = shapeCast S4096x4096 (m ((c : Thread nD τ).loc main_arg1) : S1x4096x4096.Idx → EReal) shapeCasts_S1x4096x4096_S4096x4096 := by
  show after hostOps0 (fun b => m (c, b)) main_v2 = _
  simp only [hostOps0]
  after_results <;> rfl

/-- An entry of the result, over the arguments. -/
theorem prod_args (c : Dev nD) (r : Fin 16384) (n : Fin 4096) :
    prod (xAt m c) (wAt m c) r.val n.val
      = rowDot (m ((c : Thread nD τ).loc main_arg0) : S4x4096x4096.Idx → EReal) (m ((c : Thread nD τ).loc main_arg1) : S1x4096x4096.Idx → EReal)
          ⟨r.val / 4096, by omega⟩ ⟨r.val % 4096, by omega⟩ n := by
  refine prod_rows _ _ _ _ _ _ _ _ n (fun k => ?_) fun k => ?_
  · unfold xAt; rw [at2_lt _ _ _ r.isLt k.isLt, V_x]; exact flat_at _ _ r k
  · show at2 (M := 4096) (N := 4096) (V m c main_v2 : S4096x4096.Idx → EReal) k.val n.val = _
    rw [V_w]; exact mat_at _ _ k n

/-! ## The claims -/

theorem result : θ_run (defs (F := Ideal)) (onTc (τ := τ) (main (F := Ideal))) ⟨m, fun _ => 0, ρ⟩ fun r => ∀ c : Dev nD,
    r.2.mem ((c.tc : Thread nD τ).loc main_v3) = G m c :=
  (θ_run defs _ _).mono (fun _ h c => ((h.1 c).1 2).trans (final m c)) (runs m ρ)

theorem frame_reference : Cert.quiescent_ReferenceOutIdeal := fun m ρ _ =>
  (θ_run Cert.ReferenceOutIdeal.defs _ _).mono
    (fun r h => ⟨fun c => (h c).2, sem_eq_zero_of_no_sems (by decide) r.2⟩) (Cert.ReferenceOutIdeal.Value.run (F := Ideal) m ρ)

theorem algebraic : Cert.algebraic_KernelOutIdeal_ReferenceOutIdeal := by
  intro m ρ m' ρ' _ hargs
  refine ⟨fun c => G m c, ?_, ?_⟩
  · exact (θ_run defs _ _).mono (fun _ h c => ⟨h.1 c, h.2.1 c⟩) (θ_run_and (result m ρ) (frame_run m ρ))
  · refine (θ_run Cert.ReferenceOutIdeal.defs _ _).mono (fun r h c => ⟨(h c).1.trans ?_, (h c).2⟩)
      (Cert.ReferenceOutIdeal.Value.run (F := Ideal) m' ρ')
    obtain ⟨e0, e1⟩ := hargs c
    rw [e0, e1]
    funext o
    obtain ⟨r, n, rfl⟩ : ∃ (r : Fin 16384) (n : Fin 4096), o = ix2 r n := ⟨o (0 : Fin 2), o (1 : Fin 2), eq_ix2 o⟩
    refine (flat_at (N := 4096) _ Cert.ReferenceOutIdeal.Gen.shapeCasts_S4x4096x4096_S16384x4096 r n).trans ?_
    exact (rowDot_at _ none _ _ Cert.ReferenceOutIdeal.Gen.shapeCasts_S1x4096x4096_S4096x4096 _ _ n).trans (prod_args m c r n).symm

end Cert.KernelOutIdeal.Hand
end
-- ==== Proof.ZRun.lean ====
/- The launch of the projection to the state-space branch's gate, over any float values: its body as a `point`, the proof data, the run, both
   frames. -/
module

public import proofs.«01_k».proof.Proof.Gen.KernelZIdeal.Launch
public import proofs.«01_k».proof.Proof.Gen.KernelZIdeal.Skeleton
public import proofs.«01_k».proof.Proof.Gen.KernelZIdeal.Points
public import proofs.«01_k».proof.Proof.Gen.KernelZIdeal.Frame
public import proofs.«01_k».proof.Proof.Gen.KernelZ
public import proofs.«01_k».proof.Proof.Step
public import proofs.«01_k».proof.Defs
public import Idealize.ShloMosaic.Lib.Claim

@[expose] public section

set_option maxRecDepth 16384

noncomputable section

namespace Cert.KernelZIdeal.Hand

open Cert.KernelZIdeal.Gen Cert.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The body is a `point`. -/
theorem body_eq (i : grid0.Coords) (a2 h2 a3 h3 a4 h4 a5 h5) :
    cc0_in_proj_z (F := F) i a2 h2 a3 h3 a4 h4 a5 h5
      = point (k0_cond1 i = 1#1) (k0_cond2 i = 1#1)
          (fun h => fill a3 a5 (k0_off1 i) inb_S256x1024_S256x1024_0_0 (k0_off1_inb i h) (View.loadsAt_vmem h_S256x1024)
            (View.loadsAt_vmem h_S1x256x1024)
            (View.stores_vmem h_S1x256x1024 (h5.storeExact_slice rfl _ (k0_off1_packedbf16 i h)) (fun _ => rfl)) k0_pay1)
          (fun h => mul a2 a4 a5 (k0_off2 i) inb_S1024x4096_S1024x4096_0_0 inb_S1024x1024_S1024x1024_0_0
            (k0_off2_inb i h) (View.loadsAt_vmem h_S1024x4096) (View.loadsAt_vmem h_S1x4096x1024) (View.loadsAt_vmem h_S1024x1024)
            (View.stores_vmem h_S1024x1024 (h4.storeExact_slice rfl _ packedbf16_S1024x1024_S1024x1024_0_0) (fun _ => rfl)) k0_pay2) := by
  rw [cc0_in_proj_z_eq_skeleton]
  unfold cc0_in_proj_z_skel point
  by_cases p1 : k0_cond1 i = 1#1 <;> by_cases p2 : k0_cond2 i = 1#1 <;> simp only [p1, p2, ↓reduceDIte] <;> rfl

variable (m : (ℓ : Loc nD τ sig) → Buf (Elt F) ℓ) (ρ : Dev nD → PrngReg)

/-! ## The grid's points in closed form -/

theorem fills (t : Fin cfg0.N) : k0_cond1 (grid0.coords t) = 1#1 ↔ t.val < 8 * 16 :=
  (by decide +kernel : ∀ t : Fin grid0.N, k0_cond1 (grid0.coords t) = 1#1 ↔ t.val < 8 * 16) t
theorem multiplies (t : Fin cfg0.N) : k0_cond2 (grid0.coords t) = 1#1 ↔ 16 ≤ t.val :=
  (by decide +kernel : ∀ t : Fin grid0.N, k0_cond2 (grid0.coords t) = 1#1 ↔ 16 ≤ t.val) t
theorem fill_off (t : Fin cfg0.N) : t.val < 8 * 16 → k0_off1 (grid0.coords t) = ![t.val / 16 % 2, 256 * (t.val % 16), 0] :=
  (by decide +kernel : ∀ t : Fin grid0.N, t.val < 8 * 16 → k0_off1 (grid0.coords t) = ![t.val / 16 % 2, 256 * (t.val % 16), 0]) t
theorem read_off (t : Fin cfg0.N) : 16 ≤ t.val → k0_off2 (grid0.coords t) = ![(t.val / 16 + 1) % 2, 0, 0] :=
  (by decide +kernel : ∀ t : Fin grid0.N, 16 ≤ t.val → k0_off2 (grid0.coords t) = ![(t.val / 16 + 1) % 2, 0, 0]) t
theorem writes_back (t : Fin cfg0.N) : (cfg0.win 2).flush t = true ↔ 16 ≤ t.val :=
  (by decide +kernel : ∀ t : Fin grid0.N, win0_2.flush t = true ↔ 16 ≤ t.val) t
theorem at_w (t : Fin cfg0.N) : t.val < 8 * 16 → cc0_transform_1 (grid0.coords t) = ![256 * (t.val % 16), 12288 + t.val / 16 * 1024] :=
  (by decide +kernel : ∀ t : Fin grid0.N, t.val < 8 * 16 →
    cc0_transform_1 (grid0.coords t) = ![256 * (t.val % 16), 12288 + t.val / 16 * 1024]) t

/-! ## The cached weight and the proof data -/

/-- The gate's columns of the weight, cast as the cache holds them. -/
def wAt (c : Dev nD) (r n : Nat) : F .bf16 :=
  at2 (M := 4096) (N := 39040) (truncf .bf16 (V m c main_v3 : Vec F S4096x39040 .f32) bitsLt_bf16_f32) r (12288 + n)

theorem chunk (c : Dev nD) (t : Fin cfg0.N) (ht : t.val < 8 * 16) (j : Put.Idx) :
    k0_pay1 (iblk m c 1 t) j = wAt m c (256 * (t.val % 16) + (j (1 : Fin 3)).val) (t.val / 16 * 1024 + (j (2 : Fin 3)).val) := by
  refine (chunk_at (iblk m c 1 t) _ _ _ j).trans (at2_of (M := 4096) (N := 39040)
    (truncf .bf16 (V m c main_v3 : Vec F S4096x39040 .f32) bitsLt_bf16_f32) (((cfg0.win 1).blk t).view.emb _) _ _ ?_ ?_)
  · show cc0_transform_1 (grid0.coords t) 0 + 1 * (j (1 : Fin 3)).val = _
    rw [at_w t ht]; show 256 * (t.val % 16) + 1 * _ = _; omega
  · show cc0_transform_1 (grid0.coords t) 1 + 1 * (j (2 : Fin 3)).val = _
    rw [at_w t ht]; show 12288 + t.val / 16 * 1024 + 1 * _ = _; omega

/-- The block of the result at a point that multiplies. -/
def outBlk (c : Dev nD) (t : Fin cfg0.N) : Vec F S1024x1024 .bf16 :=
  k0_pay2 (iblk m c 0 t) (tile (wAt m c) (t.val / 16 - 1))

/-- The weight cache. -/
abbrev scM : Memref sig .tc .vmem S2x4096x1024 .bf16 := Memref.whole cc0_scratch0

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk m c t
  Φ t := Held c scM 8 (wAt m c) t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBlk m c t := by dsimp only [dats]
theorem Phi_eq (c : Dev nD) (t : Fin (cfg0.N + 1)) : (dats m 0 c).Φ t = Held c scM 8 (wAt m c) t.val := by dsimp only [dats]

abbrev m0 (t : Fin cfg0.N) : Memref sig .tc .vmem S1024x4096 .bf16 := win0_0.stage (cfg0.slots t 0)
abbrev m1 (t : Fin cfg0.N) : Memref sig .tc .vmem S256x1024 .f32 := win0_1.stage (cfg0.slots t 1)
abbrev m2 (t : Fin cfg0.N) : Memref sig .tc .vmem S1024x1024 .bf16 := win0_2.stage (cfg0.slots t 2)

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## One point -/

/-- What a point's body is run with, and what it leaves. -/
def pointPre (c : Dev nD) (t : Fin cfg0.N) : sProp 𝕄 :=
  iprop(Held c scM 8 (wAt m c) t.val ∗ (dats m 0 c).owesAt () t.castSucc
    ∗ (∃ d, owns (c : Thread nD τ) (m0 t) fullShare ((dats m 0 c).before 0 t d))
    ∗ (∃ d, owns (c : Thread nD τ) (m1 t) fullShare ((dats m 0 c).before 1 t d))
    ∗ (∃ d, owns (c : Thread nD τ) (m2 t) fullShare ((dats m 0 c).before 2 t d)))
def pointPost (c : Dev nD) (t : Fin cfg0.N) : sProp 𝕄 :=
  iprop(Held c scM 8 (wAt m c) (t.val + 1) ∗ (dats m 0 c).owesAt () t.succ
    ∗ (dats m 0 c).leavesExact 0 t ∗ (dats m 0 c).leavesExact 1 t ∗ (dats m 0 c).leavesExact 2 t)

set_option maxHeartbeats 600000 in
theorem point_body (c : Dev nD) (t : Fin cfg0.N) :
    pointPre m c t ⊢ wp frame (wpE (defs₀ (F := F)) Variants.none c none) Set.univ (bodyAt0 t) (fun _ => pointPost m c t) := by
  have hN : t.val < 8 * 16 + 16 := lt_of_lt_of_eq t.isLt (show cfg0.N = 144 from N_0)
  unfold pointPre pointPost bodyAt0
  rw [body_eq]
  simp only [before_0, before_1]
  rw [show (dats m 0 c).owesAt () t.succ = (dats m 0 c).owesAt () t.castSucc from rfl, left_in _ 0 t rfl (after_0 m c t),
    left_in _ 1 t rfl (after_1 m c t)]
  iintro ⟨HS, Hd, ⟨%d0, H0⟩, ⟨%d1, H1⟩, ⟨%d2, H2⟩⟩
  iapply (pointMul_run (defs₀ (F := F)) c _ _ (m0 t) (m1 t) (m2 t) scM (hstage0_0 _) (hstage0_1 _) (hstage0_2 _)
    (Memref.isWhole_whole _) _ _ _ _ _ _ _ k0_pay1 _ _ _ _ _ _ _ k0_pay2 (iblk m c 0 t) ((dats m 0 c).before 2 t d2)
    8 t.val (wAt m c) hN (fills t) (multiplies t) (fill_off t) (read_off t) (iblk m c 1 t) (chunk m c t) _)
  isplitl [HS]; · iexact HS
  isplitl [H1]; · iexact H1
  isplitl [H0]; · iexact H0
  isplitl [H2]; · iexact H2
  iintro ⟨HS, H1, H0, H2⟩
  isplitl [HS]; · iexact HS
  isplitl [Hd]; · iexact Hd
  isplitl [H0]; · iexact H0
  isplitl [H1]; · iexact H1
  iapply (left_out (dats m 0 c) 2 t (k0_cond2 (grid0.coords t) = 1#1) rfl (multiplies t) (after_2 m c t) (writes_back t) d2)
  iexact H2

theorem row (t : Fin cfg0.N) : defs₀ (F := F) .tc cfg0.body (cfg0.bodyArgs t (cfg0.slots t)) = bodyAt0 (F := F) t := by
  unfold defs₀; rw [Defs.onTc_tc]

theorem obligation (c : Dev nD) : BodyObligation (dats m 0 c) (defs₀ (F := F)) Variants.none () Set.univ := fun t => by
  rw [bigSep_W0, bigSep_W0, row]
  rw [Phi_eq, Phi_eq]
  exact triple_restated (point_body m c t) rfl .rfl fun _ => .rfl

/-! ## The launch -/

theorem inv_in (c : Dev nD) : (Pipeline.ΦA spec0 c : sProp 𝕄) ⊢ (dats m 0 c).Φ 0 := by
  rw [PhiA_eq, Phi_eq]; exact held_in c scM 8 (wAt m c)
theorem inv_out (c : Dev nD) : (dats m 0 c).Φ (Fin.last cfg0.N) ⊢ (Pipeline.ΦA spec0 c : sProp 𝕄) := by
  rw [PhiA_eq, Phi_eq]; exact held_out c scM 8 (wAt m c) _

set_option backward.isDefEq.respectTransparency.types false in
/-- Every fair run ends, with the arrays as the proof data has them and every counter at zero. -/
theorem runs : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

/-- The arguments end as they began and every counter at zero. -/
theorem frame_run : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  θ_run_and (frame_of m ρ (dats m) (A_eq m) ((θ_run defs _ _).mono (fun _ h => h.1) (runs m ρ)))
    ((θ_run defs _ _).mono (fun _ h => h.2) (runs m ρ))

theorem frame : Cert.quiescent_KernelZIdeal := fun m ρ _ => frame_run m ρ

/-! ## The kernel over bits: the same text -/

theorem bodies_same : Cert.KernelZ.defs₀ (F := F) = defs₀ := by
  unfold Cert.KernelZ.defs₀ defs₀
  refine congrArg Defs.onTc (funext fun l => ?_)
  match l with
  | ⟨0, _⟩ => rfl

theorem tables_same : Cert.KernelZ.defs (F := F) = defs := by
  unfold Cert.KernelZ.defs defs
  rw [bodies_same]; rfl

theorem frame_bits : Cert.quiescent_KernelZ := fun m ρ _ => by
  have h := frame_run (F := Bits) m ρ
  rw [← tables_same] at h
  exact h

end Cert.KernelZIdeal.Hand
end
-- ==== Proof.ZValue.lean ====
/- The state branch's gate projection against the reference: the two results agree entry by entry where the arguments are
   finite. -/
module

public import proofs.«01_k».proof.Proof.ZRun
public import proofs.«01_k».proof.Proof.Product
public import proofs.«01_k».proof.Proof.Gen.ReferenceZIdeal.Run
public import proofs.«01_k».proof.Proof.Gen.Pre_finite_h

@[expose] public section

set_option maxRecDepth 16384

noncomputable section

namespace Cert.KernelZIdeal.Hand

open Cert.KernelZIdeal.Gen Cert.Hand
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The padded activations, read at row and column. -/
def xAt (c : Dev nD) : Nat → Nat → EReal := at2 (M := 16896) (N := 4096) (V m c main_v2)

/-- Row `r`, column `n` of the result. -/
def gate (c : Dev nD) (r n : Nat) : EReal := silu (prod (xAt m c) (wAt m c) (liveStart (r / 1024) + r % 1024) n)

/-- The result array. -/
def G (c : Dev nD) : Buf (Elt Ideal) ((c : Thread nD τ).loc main_v4) :=
  fun o : S16384x8192.Idx => gate m c (o (0 : Fin 2)).val (o (1 : Fin 2)).val

theorem at_x (t : Fin cfg0.N) : 16 ≤ t.val → cc0_transform_0 (grid0.coords t) = ![liveStart (t.val % 16), 0] :=
  (by decide +kernel : ∀ t : Fin grid0.N, 16 ≤ t.val → cc0_transform_0 (grid0.coords t) = ![liveStart (t.val % 16), 0]) t
theorem at_out (t : Fin cfg0.N) : 16 ≤ t.val → win0_2.index t = ![t.val % 16, t.val / 16 - 1] :=
  (by decide +kernel : ∀ t : Fin grid0.N, 16 ≤ t.val → win0_2.index t = ![t.val % 16, t.val / 16 - 1]) t

theorem xblk (c : Dev nD) (t : Fin cfg0.N) (ht : 16 ≤ t.val) (j : S1024x4096.Idx) :
    (iblk m c 0 t : S1024x4096.Idx → EReal) j = xAt m c (liveStart (t.val % 16) + (j (0 : Fin 2)).val) (j (1 : Fin 2)).val := by
  unfold iblk
  rw [View.read_apply]
  refine at2_of (M := 16896) (N := 4096) (V m c main_v2) _ _ _ ?_ ?_
  · show cc0_transform_0 (grid0.coords t) 0 + 1 * (j (0 : Fin 2)).val = _
    rw [at_x t ht]; show liveStart (t.val % 16) + 1 * _ = _; omega
  · show cc0_transform_0 (grid0.coords t) 1 + 1 * (j (1 : Fin 2)).val = _
    rw [at_x t ht]; show 0 + 1 * _ = _; omega

/-- The multiplying payload at an entry. -/
theorem pay2_apply (x : S1024x4096.Idx → EReal) (W : Nat → Nat → EReal) (q : Nat) (j : S1024x1024.Idx) (L : Nat → EReal)
    (hl : ∀ y : S1024x4096.Idx, (y (0 : Fin 2)).val = (j (0 : Fin 2)).val → x y = L (y (1 : Fin 2)).val) :
    k0_pay2 (F := Ideal) x (tile W q) j = silu (∑ k : Fin 4096, L k.val * W k.val (q * 1024 + (j (1 : Fin 2)).val)) := by
  unfold k0_pay2
  rw [← block_at x shapeCasts_S1024x4096_S1024x4096 shapeCasts_S1x4096x1024_S4096x1024 W q j L hl]
  rfl

/-- The block of the result at a point that multiplies, read. -/
theorem outBlk_apply (c : Dev nD) (t : Fin cfg0.N) (ht : 16 ≤ t.val) (j : S1024x1024.Idx) : (outBlk m c t : S1024x1024.Idx → EReal) j
    = gate m c (t.val % 16 * 1024 + (j (0 : Fin 2)).val) ((t.val / 16 - 1) * 1024 + (j (1 : Fin 2)).val) := by
  have hj : (j (0 : Fin 2)).val < 1024 := (j (0 : Fin 2)).isLt
  refine (pay2_apply _ _ _ j (fun k => xAt m c (liveStart (t.val % 16) + (j (0 : Fin 2)).val) k) fun y hy => ?_).trans ?_
  · rw [xblk m c t ht, hy]
  · unfold gate prod
    rw [show (t.val % 16 * 1024 + (j (0 : Fin 2)).val) / 1024 = t.val % 16 by omega,
      show (t.val % 16 * 1024 + (j (0 : Fin 2)).val) % 1024 = (j (0 : Fin 2)).val by omega]

/-- The result array at the end. -/
theorem final (c : Dev nD) : (dats m 0 c).arrAt 2 cfg0.N = G m c := by
  refine (dats m 0 c).arrAt_eq_of_covers 2 (G m c) (by decide +kernel) fun t hf y => ?_
  have ht : 16 ≤ t.val := (writes_back t).mp hf
  rw [after_2]
  have e0 : (((cfg0.win 2).blk t).view.emb y (0 : Fin 2)).val = t.val % 16 * 1024 + (y (0 : Fin 2)).val := by
    show win0_2.index t 0 * 1024 + 1 * (y (0 : Fin 2)).val = _
    rw [at_out t ht]; show t.val % 16 * 1024 + 1 * _ = _; omega
  have e1 : (((cfg0.win 2).blk t).view.emb y (1 : Fin 2)).val = (t.val / 16 - 1) * 1024 + (y (1 : Fin 2)).val := by
    show win0_2.index t 1 * 1024 + 1 * (y (1 : Fin 2)).val = _
    rw [at_out t ht]; show (t.val / 16 - 1) * 1024 + 1 * _ = _; omega
  show (outBlk m c t : S1024x1024.Idx → EReal) y
    = gate m c (((cfg0.win 2).blk t).view.emb y (0 : Fin 2)).val (((cfg0.win 2).blk t).view.emb y (1 : Fin 2)).val
  rw [outBlk_apply m c t ht, e0, e1]

/-! ## What the host prepares -/

theorem V_x (c : Dev nD) : (V m c main_v2 : S16896x4096.Idx → EReal)
    = shapeCast S16896x4096 (pad S4x4224x4096 ![0, 112, 0] ![0, 0, 0] ![0, 0, 0] (m ((c : Thread nD τ).loc main_arg0) : S4x4112x4096.Idx → EReal)
        (sitofp (F := Ideal) .bf16 (constantI S_ 32 0#32)) pads_S4x4112x4096_S4x4224x4096_000_11200_000 h_S_) shapeCasts_S4x4224x4096_S16896x4096 := by
  show after (List.flatten [hostOps0, hostOps0_1, hostOps0_2]) (fun b => m (c, b)) main_v2 = _
  simp only [hostOps0, hostOps0_1, hostOps0_2, List.flatten_cons, List.flatten_nil, List.append_nil, List.cons_append, List.nil_append]
  after_results <;> rfl

theorem V_w (c : Dev nD) : (V m c main_v3 : S4096x39040.Idx → EReal)
    = shapeCast S4096x39040 (m ((c : Thread nD τ).loc main_arg1) : S1x4096x39040.Idx → EReal) shapeCasts_S1x4096x39040_S4096x39040 := by
  show after (List.flatten [hostOps0, hostOps0_1, hostOps0_2]) (fun b => m (c, b)) main_v3 = _
  simp only [hostOps0, hostOps0_1, hostOps0_2, List.flatten_cons, List.flatten_nil, List.append_nil, List.cons_append, List.nil_append]
  after_results <;> rfl

/-- The product behind an entry of the result, over the arguments. -/
theorem prod_args (c : Dev nD) (r : Fin 16384) (n : Fin 8192) :
    prod (xAt m c) (wAt m c) (liveStart (r.val / 1024) + r.val % 1024) n.val
      = liveDot (m ((c : Thread nD τ).loc main_arg0) : S4x4112x4096.Idx → EReal) (m ((c : Thread nD τ).loc main_arg1) : S1x4096x39040.Idx → EReal)
          r ⟨12288 + n.val, by omega⟩ := by
  refine prod_live _ _ _ _ r _ _ (fun k => ?_) fun k => ?_
  · unfold xAt; rw [V_x]; exact padded_at _ _ _ _ _ r k
  · show at2 (M := 4096) (N := 39040) (V m c main_v3 : S4096x39040.Idx → EReal) k.val (12288 + n.val) = _
    rw [V_w]; exact mat_at _ _ k ⟨12288 + n.val, by omega⟩

/-! ## The claims -/

theorem result : θ_run (defs (F := Ideal)) (onTc (τ := τ) (main (F := Ideal))) ⟨m, fun _ => 0, ρ⟩ fun r => ∀ c : Dev nD,
    r.2.mem ((c.tc : Thread nD τ).loc main_v4) = G m c :=
  (θ_run defs _ _).mono (fun _ h c => ((h.1 c).1 2).trans (final m c)) (runs m ρ)

theorem frame_reference : Cert.quiescent_ReferenceZIdeal := fun m ρ _ =>
  (θ_run Cert.ReferenceZIdeal.defs _ _).mono
    (fun r h => ⟨fun c => (h c).2, sem_eq_zero_of_no_sems (by decide) r.2⟩) (Cert.ReferenceZIdeal.Value.run (F := Ideal) m ρ)

theorem algebraic : Cert.algebraic_KernelZIdeal_ReferenceZIdeal_pre_finite_h := by
  intro m ρ m' ρ' hpre hargs
  refine ⟨fun c => G m c, ?_, ?_⟩
  · exact (θ_run defs _ _).mono (fun _ h c => ⟨h.1 c, h.2.1 c⟩) (θ_run_and (result m ρ) (frame_run m ρ))
  · refine (θ_run Cert.ReferenceZIdeal.defs _ _).mono (fun r h c => ⟨(h c).1.trans ?_, (h c).2⟩)
      (Cert.ReferenceZIdeal.Value.run (F := Ideal) m' ρ')
    obtain ⟨e0, e1⟩ := hargs c
    rw [e0, e1]
    funext o
    obtain ⟨r, n, rfl⟩ : ∃ (r : Fin 16384) (n : Fin 8192), o = ix2 r n := ⟨o (0 : Fin 2), o (1 : Fin 2), eq_ix2 o⟩
    refine (cast_at (φ := .f32) (ψ := .bf16) _ Cert.ReferenceZIdeal.Gen.bitsLt_bf16_f32 _).trans ?_
    refine (silu_ref 12288 _ _ _ _ _ _ Cert.ReferenceZIdeal.Gen.slices_S4x4112x8192_S4x4096x8192_0_16_0
      Cert.ReferenceZIdeal.Gen.shapeCasts_S4x4096x8192_S16384x8192 _ rfl r n (by omega)).trans ?_
    show _ = silu (prod (xAt m c) (wAt m c) (liveStart (r.val / 1024) + r.val % 1024) n.val)
    rw [prod_args m c r n]
    exact (silu_eq _ (liveDot_real _ _ (finite_at _ _ (hpre c).1) (finite_at _ _ (hpre c).2) _ _)).symm

end Cert.KernelZIdeal.Hand
end
-- ==== Proof.GateRun.lean ====
/- The launch of the projection to the convolution branch's gate, over any float values: its body as a `point`, the proof data, the run, both
   frames. -/
module

public import proofs.«01_k».proof.Proof.Gen.KernelGateIdeal.Launch
public import proofs.«01_k».proof.Proof.Gen.KernelGateIdeal.Skeleton
public import proofs.«01_k».proof.Proof.Gen.KernelGateIdeal.Points
public import proofs.«01_k».proof.Proof.Gen.KernelGateIdeal.Frame
public import proofs.«01_k».proof.Proof.Gen.KernelGate
public import proofs.«01_k».proof.Proof.Step
public import proofs.«01_k».proof.Defs
public import Idealize.ShloMosaic.Lib.Claim

@[expose] public section

set_option maxRecDepth 16384

noncomputable section

namespace Cert.KernelGateIdeal.Hand

open Cert.KernelGateIdeal.Gen Cert.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The body is a `point`. -/
theorem body_eq (i : grid0.Coords) (a2 h2 a3 h3 a4 h4 a5 h5) :
    cc0_in_proj_gate (F := F) i a2 h2 a3 h3 a4 h4 a5 h5
      = point (k0_cond1 i = 1#1) (k0_cond2 i = 1#1)
          (fun h => fill a3 a5 (k0_off1 i) inb_S256x1024_S256x1024_0_0 (k0_off1_inb i h) (View.loadsAt_vmem h_S256x1024)
            (View.loadsAt_vmem h_S1x256x1024)
            (View.stores_vmem h_S1x256x1024 (h5.storeExact_slice rfl _ (k0_off1_packedbf16 i h)) (fun _ => rfl)) k0_pay1)
          (fun h => mul a2 a4 a5 (k0_off2 i) inb_S1024x4096_S1024x4096_0_0 inb_S1024x1024_S1024x1024_0_0
            (k0_off2_inb i h) (View.loadsAt_vmem h_S1024x4096) (View.loadsAt_vmem h_S1x4096x1024) (View.loadsAt_vmem h_S1024x1024)
            (View.stores_vmem h_S1024x1024 (h4.storeExact_slice rfl _ packedbf16_S1024x1024_S1024x1024_0_0) (fun _ => rfl)) k0_pay2) := by
  rw [cc0_in_proj_gate_eq_skeleton]
  unfold cc0_in_proj_gate_skel point
  by_cases p1 : k0_cond1 i = 1#1 <;> by_cases p2 : k0_cond2 i = 1#1 <;> simp only [p1, p2, ↓reduceDIte] <;> rfl

variable (m : (ℓ : Loc nD τ sig) → Buf (Elt F) ℓ) (ρ : Dev nD → PrngReg)

/-! ## The grid's points in closed form -/

theorem fills (t : Fin cfg0.N) : k0_cond1 (grid0.coords t) = 1#1 ↔ t.val < 4 * 16 :=
  (by decide +kernel : ∀ t : Fin grid0.N, k0_cond1 (grid0.coords t) = 1#1 ↔ t.val < 4 * 16) t
theorem multiplies (t : Fin cfg0.N) : k0_cond2 (grid0.coords t) = 1#1 ↔ 16 ≤ t.val :=
  (by decide +kernel : ∀ t : Fin grid0.N, k0_cond2 (grid0.coords t) = 1#1 ↔ 16 ≤ t.val) t
theorem fill_off (t : Fin cfg0.N) : t.val < 4 * 16 → k0_off1 (grid0.coords t) = ![t.val / 16 % 2, 256 * (t.val % 16), 0] :=
  (by decide +kernel : ∀ t : Fin grid0.N, t.val < 4 * 16 → k0_off1 (grid0.coords t) = ![t.val / 16 % 2, 256 * (t.val % 16), 0]) t
theorem read_off (t : Fin cfg0.N) : 16 ≤ t.val → k0_off2 (grid0.coords t) = ![(t.val / 16 + 1) % 2, 0, 0] :=
  (by decide +kernel : ∀ t : Fin grid0.N, 16 ≤ t.val → k0_off2 (grid0.coords t) = ![(t.val / 16 + 1) % 2, 0, 0]) t
theorem writes_back (t : Fin cfg0.N) : (cfg0.win 2).flush t = true ↔ 16 ≤ t.val :=
  (by decide +kernel : ∀ t : Fin grid0.N, win0_2.flush t = true ↔ 16 ≤ t.val) t
theorem at_w (t : Fin cfg0.N) : t.val < 4 * 16 → cc0_transform_1 (grid0.coords t) = ![256 * (t.val % 16), 8192 + t.val / 16 * 1024] :=
  (by decide +kernel : ∀ t : Fin grid0.N, t.val < 4 * 16 →
    cc0_transform_1 (grid0.coords t) = ![256 * (t.val % 16), 8192 + t.val / 16 * 1024]) t

/-! ## The cached weight and the proof data -/

/-- The gate's columns of the weight, cast as the cache holds them. -/
def wAt (c : Dev nD) (r n : Nat) : F .bf16 :=
  at2 (M := 4096) (N := 39040) (truncf .bf16 (V m c main_v3 : Vec F S4096x39040 .f32) bitsLt_bf16_f32) r (8192 + n)

theorem chunk (c : Dev nD) (t : Fin cfg0.N) (ht : t.val < 4 * 16) (j : Put.Idx) :
    k0_pay1 (iblk m c 1 t) j = wAt m c (256 * (t.val % 16) + (j (1 : Fin 3)).val) (t.val / 16 * 1024 + (j (2 : Fin 3)).val) := by
  refine (chunk_at (iblk m c 1 t) _ _ _ j).trans (at2_of (M := 4096) (N := 39040)
    (truncf .bf16 (V m c main_v3 : Vec F S4096x39040 .f32) bitsLt_bf16_f32) (((cfg0.win 1).blk t).view.emb _) _ _ ?_ ?_)
  · show cc0_transform_1 (grid0.coords t) 0 + 1 * (j (1 : Fin 3)).val = _
    rw [at_w t ht]; show 256 * (t.val % 16) + 1 * _ = _; omega
  · show cc0_transform_1 (grid0.coords t) 1 + 1 * (j (2 : Fin 3)).val = _
    rw [at_w t ht]; show 8192 + t.val / 16 * 1024 + 1 * _ = _; omega

/-- The block of the result at a point that multiplies. -/
def outBlk (c : Dev nD) (t : Fin cfg0.N) : Vec F S1024x1024 .bf16 :=
  k0_pay2 (iblk m c 0 t) (tile (wAt m c) (t.val / 16 - 1))

/-- The weight cache. -/
abbrev scM : Memref sig .tc .vmem S2x4096x1024 .bf16 := Memref.whole cc0_scratch0

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk m c t
  Φ t := Held c scM 4 (wAt m c) t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBlk m c t := by dsimp only [dats]
theorem Phi_eq (c : Dev nD) (t : Fin (cfg0.N + 1)) : (dats m 0 c).Φ t = Held c scM 4 (wAt m c) t.val := by dsimp only [dats]

abbrev m0 (t : Fin cfg0.N) : Memref sig .tc .vmem S1024x4096 .bf16 := win0_0.stage (cfg0.slots t 0)
abbrev m1 (t : Fin cfg0.N) : Memref sig .tc .vmem S256x1024 .f32 := win0_1.stage (cfg0.slots t 1)
abbrev m2 (t : Fin cfg0.N) : Memref sig .tc .vmem S1024x1024 .bf16 := win0_2.stage (cfg0.slots t 2)

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## One point -/

/-- What a point's body is run with, and what it leaves. -/
def pointPre (c : Dev nD) (t : Fin cfg0.N) : sProp 𝕄 :=
  iprop(Held c scM 4 (wAt m c) t.val ∗ (dats m 0 c).owesAt () t.castSucc
    ∗ (∃ d, owns (c : Thread nD τ) (m0 t) fullShare ((dats m 0 c).before 0 t d))
    ∗ (∃ d, owns (c : Thread nD τ) (m1 t) fullShare ((dats m 0 c).before 1 t d))
    ∗ (∃ d, owns (c : Thread nD τ) (m2 t) fullShare ((dats m 0 c).before 2 t d)))
def pointPost (c : Dev nD) (t : Fin cfg0.N) : sProp 𝕄 :=
  iprop(Held c scM 4 (wAt m c) (t.val + 1) ∗ (dats m 0 c).owesAt () t.succ
    ∗ (dats m 0 c).leavesExact 0 t ∗ (dats m 0 c).leavesExact 1 t ∗ (dats m 0 c).leavesExact 2 t)

set_option maxHeartbeats 600000 in
theorem point_body (c : Dev nD) (t : Fin cfg0.N) :
    pointPre m c t ⊢ wp frame (wpE (defs₀ (F := F)) Variants.none c none) Set.univ (bodyAt0 t) (fun _ => pointPost m c t) := by
  have hN : t.val < 4 * 16 + 16 := lt_of_lt_of_eq t.isLt (show cfg0.N = 80 from N_0)
  unfold pointPre pointPost bodyAt0
  rw [body_eq]
  simp only [before_0, before_1]
  rw [show (dats m 0 c).owesAt () t.succ = (dats m 0 c).owesAt () t.castSucc from rfl, left_in _ 0 t rfl (after_0 m c t),
    left_in _ 1 t rfl (after_1 m c t)]
  iintro ⟨HS, Hd, ⟨%d0, H0⟩, ⟨%d1, H1⟩, ⟨%d2, H2⟩⟩
  iapply (pointMul_run (defs₀ (F := F)) c _ _ (m0 t) (m1 t) (m2 t) scM (hstage0_0 _) (hstage0_1 _) (hstage0_2 _)
    (Memref.isWhole_whole _) _ _ _ _ _ _ _ k0_pay1 _ _ _ _ _ _ _ k0_pay2 (iblk m c 0 t) ((dats m 0 c).before 2 t d2)
    4 t.val (wAt m c) hN (fills t) (multiplies t) (fill_off t) (read_off t) (iblk m c 1 t) (chunk m c t) _)
  isplitl [HS]; · iexact HS
  isplitl [H1]; · iexact H1
  isplitl [H0]; · iexact H0
  isplitl [H2]; · iexact H2
  iintro ⟨HS, H1, H0, H2⟩
  isplitl [HS]; · iexact HS
  isplitl [Hd]; · iexact Hd
  isplitl [H0]; · iexact H0
  isplitl [H1]; · iexact H1
  iapply (left_out (dats m 0 c) 2 t (k0_cond2 (grid0.coords t) = 1#1) rfl (multiplies t) (after_2 m c t) (writes_back t) d2)
  iexact H2

theorem row (t : Fin cfg0.N) : defs₀ (F := F) .tc cfg0.body (cfg0.bodyArgs t (cfg0.slots t)) = bodyAt0 (F := F) t := by
  unfold defs₀; rw [Defs.onTc_tc]

theorem obligation (c : Dev nD) : BodyObligation (dats m 0 c) (defs₀ (F := F)) Variants.none () Set.univ := fun t => by
  rw [bigSep_W0, bigSep_W0, row]
  rw [Phi_eq, Phi_eq]
  exact triple_restated (point_body m c t) rfl .rfl fun _ => .rfl

/-! ## The launch -/

theorem inv_in (c : Dev nD) : (Pipeline.ΦA spec0 c : sProp 𝕄) ⊢ (dats m 0 c).Φ 0 := by
  rw [PhiA_eq, Phi_eq]; exact held_in c scM 4 (wAt m c)
theorem inv_out (c : Dev nD) : (dats m 0 c).Φ (Fin.last cfg0.N) ⊢ (Pipeline.ΦA spec0 c : sProp 𝕄) := by
  rw [PhiA_eq, Phi_eq]; exact held_out c scM 4 (wAt m c) _

set_option backward.isDefEq.respectTransparency.types false in
/-- Every fair run ends, with the arrays as the proof data has them and every counter at zero. -/
theorem runs : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

/-- The arguments end as they began and every counter at zero. -/
theorem frame_run : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  θ_run_and (frame_of m ρ (dats m) (A_eq m) ((θ_run defs _ _).mono (fun _ h => h.1) (runs m ρ)))
    ((θ_run defs _ _).mono (fun _ h => h.2) (runs m ρ))

theorem frame : Cert.quiescent_KernelGateIdeal := fun m ρ _ => frame_run m ρ

/-! ## The kernel over bits: the same text -/

theorem bodies_same : Cert.KernelGate.defs₀ (F := F) = defs₀ := by
  unfold Cert.KernelGate.defs₀ defs₀
  refine congrArg Defs.onTc (funext fun l => ?_)
  match l with
  | ⟨0, _⟩ => rfl

theorem tables_same : Cert.KernelGate.defs (F := F) = defs := by
  unfold Cert.KernelGate.defs defs
  rw [bodies_same]; rfl

theorem frame_bits : Cert.quiescent_KernelGate := fun m ρ _ => by
  have h := frame_run (F := Bits) m ρ
  rw [← tables_same] at h
  exact h

end Cert.KernelGateIdeal.Hand
end
-- ==== Proof.GateValue.lean ====
/- The convolution branch's gate projection against the reference: the two results agree entry by entry where the arguments are
   finite. -/
module

public import proofs.«01_k».proof.Proof.GateRun
public import proofs.«01_k».proof.Proof.Product
public import proofs.«01_k».proof.Proof.Gen.ReferenceGateIdeal.Run
public import proofs.«01_k».proof.Proof.Gen.Pre_finite_h

@[expose] public section

set_option maxRecDepth 16384

noncomputable section

namespace Cert.KernelGateIdeal.Hand

open Cert.KernelGateIdeal.Gen Cert.Hand
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The padded activations, read at row and column. -/
def xAt (c : Dev nD) : Nat → Nat → EReal := at2 (M := 16896) (N := 4096) (V m c main_v2)

/-- Row `r`, column `n` of the result. -/
def gate (c : Dev nD) (r n : Nat) : EReal := silu (prod (xAt m c) (wAt m c) (liveStart (r / 1024) + r % 1024) n)

/-- The result array. -/
def G (c : Dev nD) : Buf (Elt Ideal) ((c : Thread nD τ).loc main_v4) :=
  fun o : S16384x4096.Idx => gate m c (o (0 : Fin 2)).val (o (1 : Fin 2)).val

theorem at_x (t : Fin cfg0.N) : 16 ≤ t.val → cc0_transform_0 (grid0.coords t) = ![liveStart (t.val % 16), 0] :=
  (by decide +kernel : ∀ t : Fin grid0.N, 16 ≤ t.val → cc0_transform_0 (grid0.coords t) = ![liveStart (t.val % 16), 0]) t
theorem at_out (t : Fin cfg0.N) : 16 ≤ t.val → win0_2.index t = ![t.val % 16, t.val / 16 - 1] :=
  (by decide +kernel : ∀ t : Fin grid0.N, 16 ≤ t.val → win0_2.index t = ![t.val % 16, t.val / 16 - 1]) t

theorem xblk (c : Dev nD) (t : Fin cfg0.N) (ht : 16 ≤ t.val) (j : S1024x4096.Idx) :
    (iblk m c 0 t : S1024x4096.Idx → EReal) j = xAt m c (liveStart (t.val % 16) + (j (0 : Fin 2)).val) (j (1 : Fin 2)).val := by
  unfold iblk
  rw [View.read_apply]
  refine at2_of (M := 16896) (N := 4096) (V m c main_v2) _ _ _ ?_ ?_
  · show cc0_transform_0 (grid0.coords t) 0 + 1 * (j (0 : Fin 2)).val = _
    rw [at_x t ht]; show liveStart (t.val % 16) + 1 * _ = _; omega
  · show cc0_transform_0 (grid0.coords t) 1 + 1 * (j (1 : Fin 2)).val = _
    rw [at_x t ht]; show 0 + 1 * _ = _; omega

/-- The multiplying payload at an entry. -/
theorem pay2_apply (x : S1024x4096.Idx → EReal) (W : Nat → Nat → EReal) (q : Nat) (j : S1024x1024.Idx) (L : Nat → EReal)
    (hl : ∀ y : S1024x4096.Idx, (y (0 : Fin 2)).val = (j (0 : Fin 2)).val → x y = L (y (1 : Fin 2)).val) :
    k0_pay2 (F := Ideal) x (tile W q) j = silu (∑ k : Fin 4096, L k.val * W k.val (q * 1024 + (j (1 : Fin 2)).val)) := by
  unfold k0_pay2
  rw [← block_at x shapeCasts_S1024x4096_S1024x4096 shapeCasts_S1x4096x1024_S4096x1024 W q j L hl]
  rfl

/-- The block of the result at a point that multiplies, read. -/
theorem outBlk_apply (c : Dev nD) (t : Fin cfg0.N) (ht : 16 ≤ t.val) (j : S1024x1024.Idx) : (outBlk m c t : S1024x1024.Idx → EReal) j
    = gate m c (t.val % 16 * 1024 + (j (0 : Fin 2)).val) ((t.val / 16 - 1) * 1024 + (j (1 : Fin 2)).val) := by
  have hj : (j (0 : Fin 2)).val < 1024 := (j (0 : Fin 2)).isLt
  refine (pay2_apply _ _ _ j (fun k => xAt m c (liveStart (t.val % 16) + (j (0 : Fin 2)).val) k) fun y hy => ?_).trans ?_
  · rw [xblk m c t ht, hy]
  · unfold gate prod
    rw [show (t.val % 16 * 1024 + (j (0 : Fin 2)).val) / 1024 = t.val % 16 by omega,
      show (t.val % 16 * 1024 + (j (0 : Fin 2)).val) % 1024 = (j (0 : Fin 2)).val by omega]

/-- The result array at the end. -/
theorem final (c : Dev nD) : (dats m 0 c).arrAt 2 cfg0.N = G m c := by
  refine (dats m 0 c).arrAt_eq_of_covers 2 (G m c) (by decide +kernel) fun t hf y => ?_
  have ht : 16 ≤ t.val := (writes_back t).mp hf
  rw [after_2]
  have e0 : (((cfg0.win 2).blk t).view.emb y (0 : Fin 2)).val = t.val % 16 * 1024 + (y (0 : Fin 2)).val := by
    show win0_2.index t 0 * 1024 + 1 * (y (0 : Fin 2)).val = _
    rw [at_out t ht]; show t.val % 16 * 1024 + 1 * _ = _; omega
  have e1 : (((cfg0.win 2).blk t).view.emb y (1 : Fin 2)).val = (t.val / 16 - 1) * 1024 + (y (1 : Fin 2)).val := by
    show win0_2.index t 1 * 1024 + 1 * (y (1 : Fin 2)).val = _
    rw [at_out t ht]; show (t.val / 16 - 1) * 1024 + 1 * _ = _; omega
  show (outBlk m c t : S1024x1024.Idx → EReal) y
    = gate m c (((cfg0.win 2).blk t).view.emb y (0 : Fin 2)).val (((cfg0.win 2).blk t).view.emb y (1 : Fin 2)).val
  rw [outBlk_apply m c t ht, e0, e1]

/-! ## What the host prepares -/

theorem V_x (c : Dev nD) : (V m c main_v2 : S16896x4096.Idx → EReal)
    = shapeCast S16896x4096 (pad S4x4224x4096 ![0, 112, 0] ![0, 0, 0] ![0, 0, 0] (m ((c : Thread nD τ).loc main_arg0) : S4x4112x4096.Idx → EReal)
        (sitofp (F := Ideal) .bf16 (constantI S_ 32 0#32)) pads_S4x4112x4096_S4x4224x4096_000_11200_000 h_S_) shapeCasts_S4x4224x4096_S16896x4096 := by
  show after (List.flatten [hostOps0, hostOps0_1, hostOps0_2]) (fun b => m (c, b)) main_v2 = _
  simp only [hostOps0, hostOps0_1, hostOps0_2, List.flatten_cons, List.flatten_nil, List.append_nil, List.cons_append, List.nil_append]
  after_results <;> rfl

theorem V_w (c : Dev nD) : (V m c main_v3 : S4096x39040.Idx → EReal)
    = shapeCast S4096x39040 (m ((c : Thread nD τ).loc main_arg1) : S1x4096x39040.Idx → EReal) shapeCasts_S1x4096x39040_S4096x39040 := by
  show after (List.flatten [hostOps0, hostOps0_1, hostOps0_2]) (fun b => m (c, b)) main_v3 = _
  simp only [hostOps0, hostOps0_1, hostOps0_2, List.flatten_cons, List.flatten_nil, List.append_nil, List.cons_append, List.nil_append]
  after_results <;> rfl

/-- The product behind an entry of the result, over the arguments. -/
theorem prod_args (c : Dev nD) (r : Fin 16384) (n : Fin 4096) :
    prod (xAt m c) (wAt m c) (liveStart (r.val / 1024) + r.val % 1024) n.val
      = liveDot (m ((c : Thread nD τ).loc main_arg0) : S4x4112x4096.Idx → EReal) (m ((c : Thread nD τ).loc main_arg1) : S1x4096x39040.Idx → EReal)
          r ⟨8192 + n.val, by omega⟩ := by
  refine prod_live _ _ _ _ r _ _ (fun k => ?_) fun k => ?_
  · unfold xAt; rw [V_x]; exact padded_at _ _ _ _ _ r k
  · show at2 (M := 4096) (N := 39040) (V m c main_v3 : S4096x39040.Idx → EReal) k.val (8192 + n.val) = _
    rw [V_w]; exact mat_at _ _ k ⟨8192 + n.val, by omega⟩

/-! ## The claims -/

theorem result : θ_run (defs (F := Ideal)) (onTc (τ := τ) (main (F := Ideal))) ⟨m, fun _ => 0, ρ⟩ fun r => ∀ c : Dev nD,
    r.2.mem ((c.tc : Thread nD τ).loc main_v4) = G m c :=
  (θ_run defs _ _).mono (fun _ h c => ((h.1 c).1 2).trans (final m c)) (runs m ρ)

theorem frame_reference : Cert.quiescent_ReferenceGateIdeal := fun m ρ _ =>
  (θ_run Cert.ReferenceGateIdeal.defs _ _).mono
    (fun r h => ⟨fun c => (h c).2, sem_eq_zero_of_no_sems (by decide) r.2⟩) (Cert.ReferenceGateIdeal.Value.run (F := Ideal) m ρ)

theorem algebraic : Cert.algebraic_KernelGateIdeal_ReferenceGateIdeal_pre_finite_h := by
  intro m ρ m' ρ' hpre hargs
  refine ⟨fun c => G m c, ?_, ?_⟩
  · exact (θ_run defs _ _).mono (fun _ h c => ⟨h.1 c, h.2.1 c⟩) (θ_run_and (result m ρ) (frame_run m ρ))
  · refine (θ_run Cert.ReferenceGateIdeal.defs _ _).mono (fun r h c => ⟨(h c).1.trans ?_, (h c).2⟩)
      (Cert.ReferenceGateIdeal.Value.run (F := Ideal) m' ρ')
    obtain ⟨e0, e1⟩ := hargs c
    rw [e0, e1]
    funext o
    obtain ⟨r, n, rfl⟩ : ∃ (r : Fin 16384) (n : Fin 4096), o = ix2 r n := ⟨o (0 : Fin 2), o (1 : Fin 2), eq_ix2 o⟩
    refine (cast_at (φ := .f32) (ψ := .bf16) _ Cert.ReferenceGateIdeal.Gen.bitsLt_bf16_f32 _).trans ?_
    refine (silu_ref 8192 _ _ _ _ _ _ Cert.ReferenceGateIdeal.Gen.slices_S4x4112x4096_S4x4096x4096_0_16_0
      Cert.ReferenceGateIdeal.Gen.shapeCasts_S4x4096x4096_S16384x4096 _ rfl r n (by omega)).trans ?_
    show _ = silu (prod (xAt m c) (wAt m c) (liveStart (r.val / 1024) + r.val % 1024) n.val)
    rw [prod_args m c r n]
    exact (silu_eq _ (liveDot_real _ _ (finite_at _ _ (hpre c).1) (finite_at _ _ (hpre c).2) _ _)).symm

end Cert.KernelGateIdeal.Hand
end
-- ==== Proof.LnWords.lean ====
/- The last call, over any float values: the words its loop carries in closed form, and the names of its ring slots, its
   completion cells and its blocks. -/
module

public import proofs.«01_k».proof.Proof.Gen.KernelLnIdeal
public import proofs.«01_k».proof.Proof.Gen.KernelLnIdeal.Launch
public import proofs.«01_k».proof.Proof.Gen.KernelLnIdeal.Skeleton
public import proofs.«01_k».proof.Proof.Gen.KernelLnIdeal.Loops
public import Idealize.ShloMosaic.Lib.Ring
public import Idealize.ShloMosaic.Lib.Ring.Trips
public import Idealize.ShloMosaic.Lib.Ring.WriteBehind
public import Idealize.ShloMosaic.Lib.Affine
public import Idealize.ShloMosaic.Lib.Tactic

@[expose] public section

set_option maxRecDepth 16384

noncomputable section

namespace Cert.KernelLnIdeal.Hand

open Cert.KernelLnIdeal.Gen
open Idealize.ShloMosaic Idealize.ShloMosaic.TcCoe Idealize.ShloMosaic.Tactic

/-! ## The carried words -/

/-- The number of the next block to ask for, before trip `k`. -/
def ahead (k : ℕ) : BitVec 32 := BitVec.ofNat 32 (min (k + 2) 128)
/-- The number of the block a trip works on. -/
def here (k : ℕ) : BitVec 32 := BitVec.ofNat 32 k
/-- The number of the block whose result is awaited. -/
def prev (k : ℕ) : BitVec 32 := BitVec.ofNat 32 (k - 1)
/-- The block's first coordinate. -/
def major (k : ℕ) : BitVec 32 := BitVec.ofNat 32 (k / 32 % 4)
/-- The block's second coordinate. -/
def minor (k : ℕ) : BitVec 32 := BitVec.ofNat 32 (k % 32)

/-- What the loop carries. -/
abbrev Words : Type := BitVec 32 × BitVec 32 × BitVec 32 × BitVec 32 × BitVec 32 × BitVec 32 × BitVec 32 × BitVec 32

/-- What it carries before trip `k`. -/
def accAt (k : ℕ) : Words := (ahead k, here k, ahead k, here k, here k, prev k, major k, minor k)

instance : DecidableEq Words := fun a b =>
  decidable_of_iff (a.1 = b.1 ∧ a.2.1 = b.2.1 ∧ a.2.2.1 = b.2.2.1 ∧ a.2.2.2.1 = b.2.2.2.1 ∧ a.2.2.2.2.1 = b.2.2.2.2.1
      ∧ a.2.2.2.2.2.1 = b.2.2.2.2.2.1 ∧ a.2.2.2.2.2.2.1 = b.2.2.2.2.2.2.1 ∧ a.2.2.2.2.2.2.2 = b.2.2.2.2.2.2.2)
    (by simp only [Prod.ext_iff])

/-- A fact of every trip's words, at one trip. -/
theorem words_next (w : Fin k0_t1_loop.trips → Words) (h : ∀ k, w k = accAt (k.val + 1)) (k : Fin k0_t1_loop.trips) : w k = accAt (k.val + 1) := h k

/-! ## Conditions and checks -/

section Facts

variable (k : Fin k0_t1_loop.trips)

theorem cond3_iff : k0_cond3 k (major k) (minor k) = 1#1 ↔ k.val < 126 :=
  (by decide +kernel : ∀ k : Fin k0_t1_loop.trips, k0_cond3 k (major k) (minor k) = 1#1 ↔ k.val < 126) k
theorem cond4_iff : k0_cond4 k (major k) (minor k) = 1#1 ↔ k.val < 126 :=
  (by decide +kernel : ∀ k : Fin k0_t1_loop.trips, k0_cond4 k (major k) (minor k) = 1#1 ↔ k.val < 126) k
theorem cond5_true : k0_cond5 k (major k) (minor k) = 1#1 :=
  (by decide +kernel : ∀ k : Fin k0_t1_loop.trips, k0_cond5 k (major k) (minor k) = 1#1) k
theorem cond6_true : k0_cond6 k (major k) (minor k) = 1#1 :=
  (by decide +kernel : ∀ k : Fin k0_t1_loop.trips, k0_cond6 k (major k) (minor k) = 1#1) k
theorem cond10_true : k0_cond10 k (major k) (minor k) = 1#1 :=
  (by decide +kernel : ∀ k : Fin k0_t1_loop.trips, k0_cond10 k (major k) (minor k) = 1#1) k
theorem cond13_iff : k0_cond13 k (major k) (minor k) = 1#1 ↔ 0 < k.val :=
  (by decide +kernel : ∀ k : Fin k0_t1_loop.trips, k0_cond13 k (major k) (minor k) = 1#1 ↔ 0 < k.val) k

attribute [local instance] k0_chk1.dec k0_chk2.dec k0_chk3.dec k0_chk4.dec k0_chk5.dec k0_chk6.dec

theorem chk1_at : k0_chk1 k (ahead k) (here k) (ahead k) (here k) (here k) (prev k) (major k) (minor k) :=
  (by decide +kernel : ∀ k : Fin k0_t1_loop.trips, k0_chk1 k (ahead k) (here k) (ahead k) (here k) (here k) (prev k) (major k) (minor k)) k
theorem chk2_at : k0_chk2 (here k) := (by decide +kernel : ∀ k : Fin k0_t1_loop.trips, k0_chk2 (here k)) k
theorem chk3_at : k0_chk3 (here k) := (by decide +kernel : ∀ k : Fin k0_t1_loop.trips, k0_chk3 (here k)) k
theorem chk4_at : k0_chk4 (here k) := (by decide +kernel : ∀ k : Fin k0_t1_loop.trips, k0_chk4 (here k)) k

end Facts

attribute [local instance] k0_chk1.dec k0_chk2.dec k0_chk3.dec k0_chk4.dec k0_chk5.dec k0_chk6.dec

theorem chk5_end : k0_chk5 (prev 128) := by decide +kernel
theorem chk6_end : k0_chk6 (minor 128) (major 128) := by decide +kernel
theorem cond1_true : k0_cond1 = 1#1 := by decide +kernel
theorem cond2_true : k0_cond2 = 1#1 := by decide +kernel

/-! ## Slots, cells and blocks -/

/-- Where slot `s` of a ring starts. -/
abbrev slotOff {n : ℕ} (s : Fin n) : Fin 4 → Nat := ![s.val, 0, 0, 0]
theorem slotOff3_inb (s : Fin 3) : ∀ a, slotOff s a + S1x1x128x4096.size a ≤ S3x1x128x4096.size a := by decide +revert
theorem slotOff2_inb (s : Fin 2) : ∀ a, slotOff s a + S1x1x128x4096.size a ≤ S2x1x128x4096.size a := by decide +revert
/-- Where cell `s` stands among its ring's cells. -/
abbrev semOff {n : ℕ} (s : Fin n) : Fin 1 → Nat := ![s.val]
theorem semOff3_inb (s : Fin 3) : ∀ a, semOff s a + S1.size a ≤ S3.size a := by decide +revert
theorem semOff2_inb (s : Fin 2) : ∀ a, semOff s a + S1.size a ≤ S2.size a := by decide +revert
/-- Where block `b` of an array starts. -/
abbrev blkOff (b : Fin 128) : Fin 3 → Nat := ![b.val / 32, 128 * (b.val % 32), 0]
theorem blkOff_inb (b : Fin 128) : ∀ a, blkOff b a + S1x128x4096.size a ≤ S4x4096x4096.size a := by decide +revert

instance {n : ℕ} (s : Fin n) : ClosedOff (slotOff s) := ⟨slotOff s, rfl⟩
instance {n : ℕ} (s : Fin n) : ClosedOff (semOff s) := ⟨semOff s, rfl⟩
instance (b : Fin 128) : ClosedOff (blkOff b) := ⟨blkOff b, rfl⟩

/-- Slot `s` of a three-slot ring. -/
def slot3 (M : Memref sig .tc .vmem S3x1x128x4096 .f32) (s : Fin 3) : Memref sig .tc .vmem S1x128x4096 .f32 :=
  (M.slice (Rect.unit (s := S3x1x128x4096) (slotOff s) S1x1x128x4096.size (slotOff3_inb s)) (fun _ => rfl)).squeeze S1x128x4096
    squeezes_S1x1x128x4096_S1x128x4096
/-- Slot `s` of a two-slot ring. -/
def slot2 (M : Memref sig .tc .vmem S2x1x128x4096 .f32) (s : Fin 2) : Memref sig .tc .vmem S1x128x4096 .f32 :=
  (M.slice (Rect.unit (s := S2x1x128x4096) (slotOff s) S1x1x128x4096.size (slotOff2_inb s)) (fun _ => rfl)).squeeze S1x128x4096
    squeezes_S1x1x128x4096_S1x128x4096
/-- The ring cells. -/
def cell3 (D : DmaSems sig S3) (s : Fin 3) : DmaSems sig S_ :=
  (D.slice (Rect.unit (s := S3) (semOff s) S1.size (semOff3_inb s))).squeeze S_ squeezes_S1_S_
def cell2 (D : DmaSems sig S2) (s : Fin 2) : DmaSems sig S_ :=
  (D.slice (Rect.unit (s := S2) (semOff s) S1.size (semOff2_inb s))).squeeze S_ squeezes_S1_S_
/-- Block `b` of an array. -/
def blk (A : Memref sig .tc .hbm S4x4096x4096 .f32) (b : Fin 128) : Memref sig .tc .hbm S1x128x4096 .f32 :=
  A.slice (Rect.unit (s := S4x4096x4096) (blkOff b) S1x128x4096.size (blkOff_inb b)) (fun _ => rfl)

/-- Any spelling of a slot, a cell or a block at the same offsets is the named one. -/
theorem slot3_congr (M : Memref sig .tc .vmem S3x1x128x4096 .f32) {o : Fin 4 → Nat} {s : Fin 3} (e : o = slotOff s)
    (h : ∀ a, o a + S1x1x128x4096.size a ≤ S3x1x128x4096.size a) (hs) :
    (M.slice (Rect.unit (s := S3x1x128x4096) o S1x1x128x4096.size h) hs).squeeze S1x128x4096 squeezes_S1x1x128x4096_S1x128x4096 = slot3 M s := by
  subst e; rfl
theorem slot2_congr (M : Memref sig .tc .vmem S2x1x128x4096 .f32) {o : Fin 4 → Nat} {s : Fin 2} (e : o = slotOff s)
    (h : ∀ a, o a + S1x1x128x4096.size a ≤ S2x1x128x4096.size a) (hs) :
    (M.slice (Rect.unit (s := S2x1x128x4096) o S1x1x128x4096.size h) hs).squeeze S1x128x4096 squeezes_S1x1x128x4096_S1x128x4096 = slot2 M s := by
  subst e; rfl
theorem cell3_congr (D : DmaSems sig S3) {o : Fin 1 → Nat} {s : Fin 3} (e : o = semOff s) (h : ∀ a, o a + S1.size a ≤ S3.size a) :
    (D.slice (Rect.unit (s := S3) o S1.size h)).squeeze S_ squeezes_S1_S_ = cell3 D s := by
  subst e; rfl
theorem cell2_congr (D : DmaSems sig S2) {o : Fin 1 → Nat} {s : Fin 2} (e : o = semOff s) (h : ∀ a, o a + S1.size a ≤ S2.size a) :
    (D.slice (Rect.unit (s := S2) o S1.size h)).squeeze S_ squeezes_S1_S_ = cell2 D s := by
  subst e; rfl
theorem blk_congr (A : Memref sig .tc .hbm S4x4096x4096 .f32) {o : Fin 3 → Nat} {b : Fin 128} (e : o = blkOff b)
    (h : ∀ a, o a + S1x128x4096.size a ≤ S4x4096x4096.size a) (hs) :
    A.slice (Rect.unit (s := S4x4096x4096) o S1x128x4096.size h) hs = blk A b := by
  subst e; rfl

/-! ## The kernel's spellings -/

section Canon

variable (k : Fin k0_t1_loop.trips)

/-- A fact of every trip, decided trip by trip. -/
theorem off9_eq (h : k.val < 126) : k0_off9 (ahead k) = semOff (Ring.sl 3 (k.val + 2)) :=
  (by decide +kernel : ∀ k : Fin k0_t1_loop.trips, k.val < 126 → k0_off9 (ahead k) = semOff (Ring.sl 3 (k.val + 2))) k h
theorem off10_eq (h : k.val < 126) : k0_off10 (ahead k) = slotOff (Ring.sl 3 (k.val + 2)) :=
  (by decide +kernel : ∀ k : Fin k0_t1_loop.trips, k.val < 126 → k0_off10 (ahead k) = slotOff (Ring.sl 3 (k.val + 2))) k h
theorem off11_eq (h : k.val < 126) : k0_off11 (major k) (minor k) = blkOff (Ring.bk 128 (k.val + 2)) :=
  (by decide +kernel : ∀ k : Fin k0_t1_loop.trips, k.val < 126 → k0_off11 (major k) (minor k) = blkOff (Ring.bk 128 (k.val + 2))) k h
theorem off14_eq (h : k.val < 126) : k0_off14 (major k) (minor k) = blkOff (Ring.bk 128 (k.val + 2)) :=
  (by decide +kernel : ∀ k : Fin k0_t1_loop.trips, k.val < 126 → k0_off14 (major k) (minor k) = blkOff (Ring.bk 128 (k.val + 2))) k h
theorem off15_eq : k0_off15 (here k) = semOff (Ring.sl 3 k.val) :=
  (by decide +kernel : ∀ k : Fin k0_t1_loop.trips, k0_off15 (here k) = semOff (Ring.sl 3 k.val)) k
theorem off16_eq : k0_off16 (here k) = slotOff (Ring.sl 3 k.val) :=
  (by decide +kernel : ∀ k : Fin k0_t1_loop.trips, k0_off16 (here k) = slotOff (Ring.sl 3 k.val)) k
theorem off17_eq : k0_off17 (major k) (minor k) = blkOff (Ring.bk 128 k.val) :=
  (by decide +kernel : ∀ k : Fin k0_t1_loop.trips, k0_off17 (major k) (minor k) = blkOff (Ring.bk 128 k.val)) k
theorem off24_eq : k0_off24 (here k) = semOff (Ring.sl 2 k.val) :=
  (by decide +kernel : ∀ k : Fin k0_t1_loop.trips, k0_off24 (here k) = semOff (Ring.sl 2 k.val)) k
theorem off23_eq : k0_off23 (here k) = slotOff (Ring.sl 2 k.val) :=
  (by decide +kernel : ∀ k : Fin k0_t1_loop.trips, k0_off23 (here k) = slotOff (Ring.sl 2 k.val)) k
theorem off27_eq (h : 0 < k.val) : k0_off27 (prev k) = semOff (Ring.sl 2 (k.val + 1)) :=
  (by decide +kernel : ∀ k : Fin k0_t1_loop.trips, 0 < k.val → k0_off27 (prev k) = semOff (Ring.sl 2 (k.val + 1))) k h
theorem off29_eq (h : 0 < k.val) : k0_off29 (prev k) = slotOff (Ring.sl 2 (k.val + 1)) :=
  (by decide +kernel : ∀ k : Fin k0_t1_loop.trips, 0 < k.val → k0_off29 (prev k) = slotOff (Ring.sl 2 (k.val + 1))) k h
theorem off28_eq (h : 0 < k.val) : k0_off28 (major k) (minor k) = blkOff (Ring.bk 128 (k.val - 1)) :=
  (by decide +kernel : ∀ k : Fin k0_t1_loop.trips, 0 < k.val → k0_off28 (major k) (minor k) = blkOff (Ring.bk 128 (k.val - 1))) k h

variable (M : Memref sig .tc .vmem S3x1x128x4096 .f32) (M' : Memref sig .tc .vmem S2x1x128x4096 .f32)
  (D : DmaSems sig S3) (D' : DmaSems sig S2) (A : Memref sig .tc .hbm S4x4096x4096 .f32)

@[sl_canon] theorem cell_off9 (hk : k.val < 126) (h) :
    (D.slice (Rect.unit (s := S3) (k0_off9 (ahead k)) S1.size h)).squeeze S_ squeezes_S1_S_ = cell3 D (Ring.sl 3 (k.val + 2)) := cell3_congr D (off9_eq k hk) h
@[sl_canon] theorem cell_off12 (hk : k.val < 126) (h) :
    (D.slice (Rect.unit (s := S3) (k0_off12 (ahead k)) S1.size h)).squeeze S_ squeezes_S1_S_ = cell3 D (Ring.sl 3 (k.val + 2)) := cell3_congr D (off9_eq k hk) h
@[sl_canon] theorem cell_off15 (h) :
    (D.slice (Rect.unit (s := S3) (k0_off15 (here k)) S1.size h)).squeeze S_ squeezes_S1_S_ = cell3 D (Ring.sl 3 k.val) := cell3_congr D (off15_eq k) h
@[sl_canon] theorem cell_off18 (h) :
    (D.slice (Rect.unit (s := S3) (k0_off18 (here k)) S1.size h)).squeeze S_ squeezes_S1_S_ = cell3 D (Ring.sl 3 k.val) := cell3_congr D (off15_eq k) h
@[sl_canon] theorem cell_off24 (h) :
    (D'.slice (Rect.unit (s := S2) (k0_off24 (here k)) S1.size h)).squeeze S_ squeezes_S1_S_ = cell2 D' (Ring.sl 2 k.val) := cell2_congr D' (off24_eq k) h
@[sl_canon] theorem cell_off27 (hk : 0 < k.val) (h) :
    (D'.slice (Rect.unit (s := S2) (k0_off27 (prev k)) S1.size h)).squeeze S_ squeezes_S1_S_ = cell2 D' (Ring.sl 2 (k.val + 1)) := cell2_congr D' (off27_eq k hk) h

@[sl_canon] theorem slot_off10 (hk : k.val < 126) (h) (hs) :
    (M.slice (Rect.unit (s := S3x1x128x4096) (k0_off10 (ahead k)) S1x1x128x4096.size h) hs).squeeze S1x128x4096 squeezes_S1x1x128x4096_S1x128x4096
      = slot3 M (Ring.sl 3 (k.val + 2)) := slot3_congr M (off10_eq k hk) h hs
@[sl_canon] theorem slot_off13 (hk : k.val < 126) (h) (hs) :
    (M.slice (Rect.unit (s := S3x1x128x4096) (k0_off13 (ahead k)) S1x1x128x4096.size h) hs).squeeze S1x128x4096 squeezes_S1x1x128x4096_S1x128x4096
      = slot3 M (Ring.sl 3 (k.val + 2)) := slot3_congr M (off10_eq k hk) h hs
@[sl_canon] theorem slot_off16 (h) (hs) :
    (M.slice (Rect.unit (s := S3x1x128x4096) (k0_off16 (here k)) S1x1x128x4096.size h) hs).squeeze S1x128x4096 squeezes_S1x1x128x4096_S1x128x4096
      = slot3 M (Ring.sl 3 k.val) := slot3_congr M (off16_eq k) h hs
@[sl_canon] theorem slot_off19 (h) (hs) :
    (M.slice (Rect.unit (s := S3x1x128x4096) (k0_off19 (here k)) S1x1x128x4096.size h) hs).squeeze S1x128x4096 squeezes_S1x1x128x4096_S1x128x4096
      = slot3 M (Ring.sl 3 k.val) := slot3_congr M (off16_eq k) h hs
@[sl_canon] theorem slot_off21 (h) (hs) :
    (M.slice (Rect.unit (s := S3x1x128x4096) (k0_off21 (here k)) S1x1x128x4096.size h) hs).squeeze S1x128x4096 squeezes_S1x1x128x4096_S1x128x4096
      = slot3 M (Ring.sl 3 k.val) := slot3_congr M (off16_eq k) h hs
@[sl_canon] theorem slot_off22 (h) (hs) :
    (M.slice (Rect.unit (s := S3x1x128x4096) (k0_off22 (here k)) S1x1x128x4096.size h) hs).squeeze S1x128x4096 squeezes_S1x1x128x4096_S1x128x4096
      = slot3 M (Ring.sl 3 k.val) := slot3_congr M (off16_eq k) h hs
@[sl_canon] theorem slot_off23 (h) (hs) :
    (M'.slice (Rect.unit (s := S2x1x128x4096) (k0_off23 (here k)) S1x1x128x4096.size h) hs).squeeze S1x128x4096 squeezes_S1x1x128x4096_S1x128x4096
      = slot2 M' (Ring.sl 2 k.val) := slot2_congr M' (off23_eq k) h hs
@[sl_canon] theorem slot_off26 (h) (hs) :
    (M'.slice (Rect.unit (s := S2x1x128x4096) (k0_off26 (here k)) S1x1x128x4096.size h) hs).squeeze S1x128x4096 squeezes_S1x1x128x4096_S1x128x4096
      = slot2 M' (Ring.sl 2 k.val) := slot2_congr M' (off23_eq k) h hs
@[sl_canon] theorem slot_off29 (hk : 0 < k.val) (h) (hs) :
    (M'.slice (Rect.unit (s := S2x1x128x4096) (k0_off29 (prev k)) S1x1x128x4096.size h) hs).squeeze S1x128x4096 squeezes_S1x1x128x4096_S1x128x4096
      = slot2 M' (Ring.sl 2 (k.val + 1)) := slot2_congr M' (off29_eq k hk) h hs

@[sl_canon] theorem blk_off11 (hk : k.val < 126) (h) (hs) :
    A.slice (Rect.unit (s := S4x4096x4096) (k0_off11 (major k) (minor k)) S1x128x4096.size h) hs = blk A (Ring.bk 128 (k.val + 2)) := blk_congr A (off11_eq k hk) h hs
@[sl_canon] theorem blk_off14 (hk : k.val < 126) (h) (hs) :
    A.slice (Rect.unit (s := S4x4096x4096) (k0_off14 (major k) (minor k)) S1x128x4096.size h) hs = blk A (Ring.bk 128 (k.val + 2)) := blk_congr A (off14_eq k hk) h hs
@[sl_canon] theorem blk_off17 (h) (hs) :
    A.slice (Rect.unit (s := S4x4096x4096) (k0_off17 (major k) (minor k)) S1x128x4096.size h) hs = blk A (Ring.bk 128 k.val) := blk_congr A (off17_eq k) h hs
@[sl_canon] theorem blk_off20 (h) (hs) :
    A.slice (Rect.unit (s := S4x4096x4096) (k0_off20 (major k) (minor k)) S1x128x4096.size h) hs = blk A (Ring.bk 128 k.val) := blk_congr A (off17_eq k) h hs
@[sl_canon] theorem blk_off25 (h) (hs) :
    A.slice (Rect.unit (s := S4x4096x4096) (k0_off25 (major k) (minor k)) S1x128x4096.size h) hs = blk A (Ring.bk 128 k.val) := blk_congr A (off17_eq k) h hs
@[sl_canon] theorem blk_off28 (hk : 0 < k.val) (h) (hs) :
    A.slice (Rect.unit (s := S4x4096x4096) (k0_off28 (major k) (minor k)) S1x128x4096.size h) hs = blk A (Ring.bk 128 (k.val - 1)) := blk_congr A (off28_eq k hk) h hs

/-! Before and after the loop. -/

@[sl_canon] theorem cell_off1 (h) : (D.slice (Rect.unit (s := S3) k0_off1 S1.size h)).squeeze S_ squeezes_S1_S_ = cell3 D 0 := cell3_congr D (by decide +kernel) h
@[sl_canon] theorem cell_off3 (h) : (D.slice (Rect.unit (s := S3) k0_off3 S1.size h)).squeeze S_ squeezes_S1_S_ = cell3 D 1 := cell3_congr D (by decide +kernel) h
@[sl_canon] theorem cell_off6 (h) : (D.slice (Rect.unit (s := S3) k0_off6 S1.size h)).squeeze S_ squeezes_S1_S_ = cell3 D 1 := cell3_congr D (by decide +kernel) h
@[sl_canon] theorem slot_off2 (h) (hs) :
    (M.slice (Rect.unit (s := S3x1x128x4096) k0_off2 S1x1x128x4096.size h) hs).squeeze S1x128x4096 squeezes_S1x1x128x4096_S1x128x4096 = slot3 M 0 := slot3_congr M (by decide +kernel) h hs
@[sl_canon] theorem slot_off4 (h) (hs) :
    (M.slice (Rect.unit (s := S3x1x128x4096) k0_off4 S1x1x128x4096.size h) hs).squeeze S1x128x4096 squeezes_S1x1x128x4096_S1x128x4096 = slot3 M 1 := slot3_congr M (by decide +kernel) h hs
@[sl_canon] theorem slot_off7 (h) (hs) :
    (M.slice (Rect.unit (s := S3x1x128x4096) k0_off7 S1x1x128x4096.size h) hs).squeeze S1x128x4096 squeezes_S1x1x128x4096_S1x128x4096 = slot3 M 1 := slot3_congr M (by decide +kernel) h hs
@[sl_canon] theorem blk_first (h) (hs) :
    A.slice (Rect.unit (s := S4x4096x4096) ![0, 0, 0] S1x128x4096.size h) hs = blk A 0 := blk_congr A (by decide +kernel) h hs
@[sl_canon] theorem blk_off5 (h) (hs) :
    A.slice (Rect.unit (s := S4x4096x4096) k0_off5 S1x128x4096.size h) hs = blk A 1 := blk_congr A (by decide +kernel) h hs
@[sl_canon] theorem blk_off8 (h) (hs) :
    A.slice (Rect.unit (s := S4x4096x4096) k0_off8 S1x128x4096.size h) hs = blk A 1 := blk_congr A (by decide +kernel) h hs
@[sl_canon] theorem cell_off30 (h) :
    (D'.slice (Rect.unit (s := S2) (k0_off30 (prev 128)) S1.size h)).squeeze S_ squeezes_S1_S_ = cell2 D' 1 := cell2_congr D' (by decide +kernel) h
@[sl_canon] theorem slot_off32 (h) (hs) :
    (M'.slice (Rect.unit (s := S2x1x128x4096) (k0_off32 (prev 128)) S1x1x128x4096.size h) hs).squeeze S1x128x4096 squeezes_S1x1x128x4096_S1x128x4096 = slot2 M' 1 := slot2_congr M' (by decide +kernel) h hs
@[sl_canon] theorem blk_off31 (h) (hs) :
    A.slice (Rect.unit (s := S4x4096x4096) (k0_off31 (minor 128) (major 128)) S1x128x4096.size h) hs = blk A 127 := blk_congr A (by decide +kernel) h hs

end Canon

end Cert.KernelLnIdeal.Hand

end
-- ==== Proof.LnTrip.lean ====
/- The last call, over any float values: what its buffers hold between trips, and one trip. -/
module

public import proofs.«01_k».proof.Proof.LnWords
public import Idealize.ShloMosaic.Lib.Pipeline.KitQuiescent
public import Idealize.ShloMosaic.Lib.VecWindow

@[expose] public section

set_option maxRecDepth 16384

noncomputable section

namespace Cert.KernelLnIdeal.Hand

open Cert.KernelLnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters

local notation "𝕄" => MT nD τ sig Unit (Elt F) ℕ (UU nD τ) ℕ

abbrev EP : Emb (UR sig nD τ) (MT nD τ sig Unit (Elt F) ℕ (UU nD τ) ℕ) := embL
abbrev 𝒱₀ : Variants := Variants.none

/-! ## The pieces -/

section Pieces

variable (c : Dev nD)

/-- A cell with nothing under way. -/
abbrev quiet (D : DmaSems sig S_) : sProp 𝕄 := semVal ((c : Thread nD τ), SemLoc.dma D.sem) 0
/-- A memref's own elements. -/
abbrev held {msp : Space} {s : Shape} {e : EltTy} (M : Memref sig Kind.tc msp s e) (f : Buf (Elt F) (M.view.loc (c : Thread nD τ))) : sProp 𝕄 :=
  M.view.loc (c : Thread nD τ) ↦[M.view.set]{fullShare} f

variable (A : Memref sig .tc .hbm S4x4096x4096 .f32) (R : Memref sig .tc .vmem S3x1x128x4096 .f32) (D : DmaSems sig S3)
  (X : Buf (Elt F) (A.view.loc (c : Thread nD τ)))

abbrev rCell (s : Fin 3) : sProp 𝕄 := quiet c (cell3 D s)
abbrev rSlot (s : Fin 3) (f : Buf (Elt F) ((slot3 R s).view.loc (c : Thread nD τ))) : sProp 𝕄 := held c (slot3 R s) f
abbrev rHome (b : Fin 128) : sProp 𝕄 := held c (blk A b) X
/-- A block's values, as a transfer reads them. -/
abbrev blkOf (b : Fin 128) : S1x128x4096.Idx → Elt F .f32 := ReadAs.same.apply ((blk A b).view.read (Elt F) X)
abbrev landed (s : Fin 3) (b : Fin 128) (f : Buf (Elt F) ((slot3 R s).view.loc (c : Thread nD τ))) : Buf (Elt F) ((slot3 R s).view.loc (c : Thread nD τ)) :=
  (slot3 R s).view.writes (Elt F) f [⟨Rect.whole S1x128x4096, blkOf c A X b⟩]
/-- Slot `s` being filled with block `b`. -/
abbrev rFlight (s : Fin 3) (b : Fin 128) (f : Buf (Elt F) ((slot3 R s).view.loc (c : Thread nD τ))) : sProp 𝕄 :=
  Transfers.Flight countersEmb (c : Thread nD τ) (SemLoc.dma (cell3 D s).sem) () 65536 iprop(rSlot c R s (landed c A R X s b f) ∗ rHome c A X b)

/-- A reading ring before trip `k`. -/
abbrev reads (k : ℕ) : sProp 𝕄 := Ring.At 2 (rCell c D) (rSlot c R) (rHome c A X) (rFlight c A R D X) k

/-- A reading ring after a trip that asked for a block: the block just read is home, its slot free, two under way. -/
theorem reads_next (k : ℕ) (hk : k + 2 < 128) (f0 : _) (f1 : _) (f2 : _) :
    iprop(rHome c A X (Ring.bk 128 k) ∗ bigSep ((Ring.homeSet 2 k).erase (Ring.bk 128 (k + 2))) (rHome c A X)
        ∗ rFlight c A R D X (Ring.sl 3 (k + 1)) (Ring.bk 128 (k + 1)) f1 ∗ rFlight c A R D X (Ring.sl 3 (k + 2)) (Ring.bk 128 (k + 2)) f2
        ∗ rCell c D (Ring.sl 3 k) ∗ rSlot c R (Ring.sl 3 k) f0) ⊢ reads c A R D X (k + 1) := by
  unfold reads
  rw [Ring.At3_next _ _ _ _ k hk, Ring.slotAt3_next0 _ _ _ k (by omega), Ring.slotAt3_next1 _ _ _ k hk]
  iintro ⟨HH, HR, H1, H2, HC, HS⟩
  isplitl [HH HR]
  · isplitl [HH] <;> iassumption
  isplitl [H1]; · iexists f1; iexact H1
  isplitl [H2]; · iexists f2; iexact H2
  isplitl [HC]; · iexact HC
  iexists f0; iexact HS

/-- The same after one of the last two trips, which ask for none. -/
theorem reads_tail (k : ℕ) (hk : k < 128) (hk' : 126 ≤ k) (f0 : _) :
    iprop(rHome c A X (Ring.bk 128 k) ∗ bigSep (Ring.homeSet 2 k) (rHome c A X)
        ∗ Ring.slotAt 2 (rCell c D) (rSlot c R) (rFlight c A R D X) k 1 ∗ Ring.free (rCell c D) (rSlot c R) (Ring.sl 3 (k + 2))
        ∗ rCell c D (Ring.sl 3 k) ∗ rSlot c R (Ring.sl 3 k) f0) ⊢ reads c A R D X (k + 1) := by
  unfold reads
  rw [Ring.At3_next_tail _ _ _ _ k (by omega) hk, Ring.slotAt3_tail_role]
  iintro ⟨HH, HR, H1, H2, HC, HS⟩
  isplitl [HH HR]
  · isplitl [HH] <;> iassumption
  isplitl [H1]; · iexact H1
  isplitl [H2]; · iexact H2
  isplitl [HC]; · iexact HC
  iexists f0; iexact HS

variable (R2 : Memref sig .tc .vmem S2x1x128x4096 .f32) (D2 : DmaSems sig S2) (O0 O : Buf (Elt F) (A.view.loc (c : Thread nD τ)))

/-- A free slot of the writing ring. -/
abbrev wFree (s : Fin 2) : sProp 𝕄 := iprop(quiet c (cell2 D2 s) ∗ ∃ f, held c (slot2 R2 s) f)
/-- Slot `s` being written out to block `b`, which then holds the result. -/
abbrev wFlight (s : Fin 2) (b : Fin 128) : sProp 𝕄 :=
  iprop(∃ f, Transfers.Flight countersEmb (c : Thread nD τ) (SemLoc.dma (cell2 D2 s).sem) () 65536 iprop(rHome c A O b ∗ held c (slot2 R2 s) f))
/-- The writing ring before trip `k`. -/
abbrev writes (k : ℕ) : sProp 𝕄 := Ring.AtB 1 (wFree c R2 D2) (wFlight c A R2 D2 O) (rHome c A O0) (rHome c A O) k

end Pieces

section Trip

variable (c : Dev nD)
  (a0 : Memref sig .tc .hbm S4x4096x4096 .f32) (h0 : a0.IsWhole) (a1 : Memref sig .tc .hbm S4x4096x4096 .f32) (h1 : a1.IsWhole)
  (a2 : Memref sig .tc .vmem S1x4096 .f32) (h2 : a2.IsWhole) (a3 : Memref sig .tc .vmem S1x4096 .f32) (h3 : a3.IsWhole)
  (a4 : Memref sig .tc .vmem S1x4096 .f32) (h4 : a4.IsWhole) (a5 : Memref sig .tc .vmem S1x4096 .f32) (h5 : a5.IsWhole)
  (a6 : Memref sig .tc .hbm S4x4096x4096 .f32) (h6 : a6.IsWhole)
  (r0 : Memref sig .tc .vmem S3x1x128x4096 .f32) (hr0 : r0.IsWhole) (d0 : DmaSems sig S3)
  (r1 : Memref sig .tc .vmem S3x1x128x4096 .f32) (hr1 : r1.IsWhole) (d1 : DmaSems sig S3)
  (r2 : Memref sig .tc .vmem S2x1x128x4096 .f32) (hr2 : r2.IsWhole) (d2 : DmaSems sig S2)
  (w17 w18 w45 w52 : BitVec 32) (w56 w57 : BitVec 1)
  (X : Buf (Elt F) (a0.view.loc (c : Thread nD τ))) (S : Buf (Elt F) (a1.view.loc (c : Thread nD τ)))
  (g2 : Buf (Elt F) (a2.view.loc (c : Thread nD τ))) (g3 : Buf (Elt F) (a3.view.loc (c : Thread nD τ)))
  (g4 : Buf (Elt F) (a4.view.loc (c : Thread nD τ))) (g5 : Buf (Elt F) (a5.view.loc (c : Thread nD τ)))
  (O0 O : Buf (Elt F) (a6.view.loc (c : Thread nD τ)))

/-- What the trip working on block `b` stores: the kernel's own arithmetic on the block of each operand and the rows. -/
def stored (b : Fin 128) : S1x128x4096.Idx → Elt F .f32 :=
  k0_pay4 (k0_pay1 (blkOf c a0 X b) (a2.view.read (Elt F) g2) (a3.view.read (Elt F) g3) (blkOf c a1 S b))
    (k0_pay2 (a4.view.read (Elt F) g4)) (k0_pay3 (a5.view.read (Elt F) g5))

/-- The whole of a row, and of a slot, as a load or a store names it. -/
abbrev allRow : Rect S1x4096 := Rect.unit (s := S1x4096) ![0, 0] S1x4096.size inb_S1x4096_S1x4096_0_0
abbrev allSlot : Rect S1x128x4096 := Rect.unit (s := S1x128x4096) ![0, 0, 0] S1x128x4096.size inb_S1x128x4096_S1x128x4096_0_0_0

/-- What the trip's transfer reads back from the slot it stored into is that. -/
theorem sent_eq (s t u : _) (b : Fin 128) (fz : Buf (Elt F) ((slot2 r2 u).view.loc (c : Thread nD τ))) :
    ReadAs.same.apply ((slot2 r2 u).view.read (Elt F) ((slot2 r2 u).view.writes (Elt F) fz [⟨allSlot,
      k0_pay4 (k0_pay1 ((slot3 r0 s).view.readCov [⟨Rect.whole S1x128x4096, blkOf c a0 X b⟩] allSlot.toLoadRect)
          (a2.view.readAt (Elt F) allRow.toLoadRect g2) (a3.view.readAt (Elt F) allRow.toLoadRect g3)
          ((slot3 r1 t).view.readCov [⟨Rect.whole S1x128x4096, blkOf c a1 S b⟩] allSlot.toLoadRect))
        (k0_pay2 (a4.view.readAt (Elt F) allRow.toLoadRect g4)) (k0_pay3 (a5.view.readAt (Elt F) allRow.toLoadRect g5))⟩]))
      = stored c a0 a1 a2 a3 a4 a5 X S g2 g3 g4 g5 b := by
  have e : ∀ (v : View sig Kind.tc Space.vmem S1x128x4096 EltTy.f32) (w : S1x128x4096.Idx → Elt F .f32),
      v.readCov [⟨Rect.whole S1x128x4096, w⟩] allSlot.toLoadRect = w := fun v w => (View.readAt_full v _ _).trans (View.read_writes_whole v _ w)
  show (slot2 r2 u).view.read (Elt F) _ = _
  rw [View.read_writes_full, e, e, View.readAt_full, View.readAt_full, View.readAt_full, View.readAt_full]
  rfl

/-- A memref written whole with what `g` holds there is the memref at `g`. -/
theorem held_of_sent {msp : Space} {sh : Shape} {e : EltTy} (M : Memref sig Kind.tc msp sh e) (f g : Buf (Elt F) (M.view.loc (c : Thread nD τ))) :
    (held c M (M.view.writes (Elt F) f [⟨Rect.whole sh, M.view.read (Elt F) g⟩]) : sProp 𝕄) = held c M g := by
  refine pointsTo_congr fun i hi => ?_
  obtain ⟨z, -, rfl⟩ := Finset.mem_map.mp hi
  rw [← View.write_univ_eq_writes_whole, View.writes_nil, View.write_emb_of_mem _ _ (Finset.mem_univ _), View.read_apply, cast_cast, cast_eq]

/-- A block written whole with what `O` holds there is the block at `O`. -/
theorem home_of_sent (b : Fin 128) (p : S1x128x4096.Idx → Elt F .f32) (hp : (blk a6 b).view.read (Elt F) O = p) :
    (held c (blk a6 b) ((blk a6 b).view.writes (Elt F) O0 [⟨Rect.whole S1x128x4096, p⟩]) : sProp 𝕄) = rHome c a6 O b := by
  subst hp
  exact held_of_sent c (blk a6 b) O0 O

/-- A transfer that sends what `O` holds at a block leaves, when over, that block at `O`. -/
theorem wFlight_intro (s : Fin 2) (b : Fin 128) (p : S1x128x4096.Idx → Elt F .f32) (hp : (blk a6 b).view.read (Elt F) O = p)
    (f : Buf (Elt F) ((slot2 r2 s).view.loc (c : Thread nD τ))) :
    (Transfers.Flight countersEmb (c : Thread nD τ) (SemLoc.dma (cell2 d2 s).sem) () 65536
        iprop(held c (blk a6 b) ((blk a6 b).view.writes (Elt F) O0 [⟨Rect.whole S1x128x4096, p⟩]) ∗ held c (slot2 r2 s) f) : sProp 𝕄)
      ⊢ wFlight c a6 r2 d2 O s b := by
  rw [home_of_sent c a6 O0 O b p hp]
  iintro H
  iexists f
  iexact H

/-- The parameter rows and the account of what is owed: as they are throughout. -/
abbrev rows : sProp 𝕄 := iprop(held c a2 g2 ∗ held c a3 g3 ∗ held c a4 g4 ∗ held c a5 g5 ∗ ∃ W, owes (c : Thread nD τ) 0 W)

/-- Everything before trip `k`. -/
def resAt (k : ℕ) : sProp 𝕄 :=
  iprop(rows c a2 a3 a4 a5 g2 g3 g4 g5 ∗ reads c a0 r0 d0 X k ∗ reads c a1 r1 d1 S k ∗ writes c a6 r2 d2 O0 O k)

/-- The array `O` is the result: every block of it holds what its trip stores. -/
abbrev Result : Prop := ∀ b, (blk a6 b).view.read (Elt F) O = stored c a0 a1 a2 a3 a4 a5 X S g2 g3 g4 g5 b

/-- One trip. -/
abbrev trip (k : Fin k0_t1_loop.trips) : Prog (TpuEff nD τ sig (Elt F) Λ₀ .tc) Words :=
  k0_t1_body (F := F) a0 h0 a1 h1 a2 h2 a3 h3 a4 h4 a5 h5 a6 h6 r0 hr0 d0 r1 hr1 d1 r2 hr2 d2 w17 w18 w45 w52 w56 w57 k
    (ahead k, here k, ahead k, here k, here k, prev k, major k, minor k)

/-- One trip does its share: from everything before it to everything after it, the words moved on. -/
abbrev Moves (k : Fin k0_t1_loop.trips) : Prop :=
  resAt c a0 a1 a2 a3 a4 a5 a6 r0 d0 r1 d1 r2 d2 X S g2 g3 g4 g5 O0 O k.val ⊢ wp frame (wpE (defs₀ (F := F)) 𝒱₀ (c : Thread nD τ) none) Set.univ
    (trip a0 h0 a1 h1 a2 h2 a3 h3 a4 h4 a5 h5 a6 h6 r0 hr0 d0 r1 hr1 d1 r2 hr2 d2 w17 w18 w45 w52 w56 w57 k)
    (fun acc => iprop(⌜acc = accAt (k.val + 1)⌝ ∗ resAt c a0 a1 a2 a3 a4 a5 a6 r0 d0 r1 d1 r2 d2 X S g2 g3 g4 g5 O0 O (k.val + 1)))

/-- The rows, handed on. -/
theorem rows_keep (W : Waits sig Unit) :
    iprop(held c a2 g2 ∗ held c a3 g3 ∗ held c a4 g4 ∗ held c a5 g5 ∗ owes (c : Thread nD τ) 0 W) ⊢ (rows c a2 a3 a4 a5 g2 g3 g4 g5 : sProp 𝕄) := by
  iintro ⟨H2, H3, H4, H5, HW⟩
  isplitl [H2]; · iexact H2
  isplitl [H3]; · iexact H3
  isplitl [H4]; · iexact H4
  isplitl [H5]; · iexact H5
  iexists W; iexact HW

/-- The first trip: it asks for a block and awaits no result. -/
theorem trip_first (k : Fin k0_t1_loop.trips) (hlo : k.val = 0) (hO : Result c a0 a1 a2 a3 a4 a5 a6 X S g2 g3 g4 g5 O) :
    Moves c a0 h0 a1 h1 a2 h2 a3 h3 a4 h4 a5 h5 a6 h6 r0 hr0 d0 r1 hr1 d1 r2 hr2 d2 w17 w18 w45 w52 w56 w57 X S g2 g3 g4 g5 O0 O k := by
  have c3 := (cond3_iff k).mpr (by omega)
  have c4 := (cond4_iff k).mpr (by omega)
  have c13 := mt (cond13_iff k).mp (by omega)
  have hhi : k.val < 126 := by omega
  have c5 := cond5_true k
  have c6 := cond6_true k
  have c10 := cond10_true k
  have q1 := chk1_at k
  have q2 := chk2_at k
  have q3 := chk3_at k
  have q4 := chk4_at k
  unfold Moves resAt
  unfold writes
  conv_lhs => unfold reads
  have hk : k.val < 128 := k.isLt
  rw [Ring.At3_here _ _ _ _ k.val (by omega), Ring.At3_here _ _ _ _ k.val (by omega), Ring.AtB2_zero' _ _ _ _ _ k.val hlo, Ring.AtB21_next_zero' _ _ _ _ k.val hlo]
  iintro ⟨⟨H2, H3, H4, H5, ⟨%W, HW⟩⟩, ⟨⟨Xn, Xr⟩, ⟨%fx0, FX0⟩, ⟨%fx1, FX1⟩, CX, ⟨%fx2, SX⟩⟩, ⟨⟨Yn, Yr⟩, ⟨%fy0, FY0⟩, ⟨%fy1, FY1⟩, CY, ⟨%fy2, SY⟩⟩, ⟨Zn, Zr⟩, ⟨CZ, ⟨%fz, SZ⟩⟩, CZ1⟩
  dsimp only [trip]
  sl_unfold [k0_t1_body]
  sl_exec
  sl_step
  isplitr
  · ipureintro
    exact words_next (fun k => (trip_first.sl.v186_r0 k, trip_first.sl.v318_r0 k, trip_first.sl.v186_r0 k, trip_first.sl.v318_r0 k, trip_first.sl.v318_r0 k, trip_first.sl.v344_r0 k, trip_first.sl.v152_r0 k, trip_first.sl.v148_r0 k)) (by decide +kernel) k
  isplitl [H2 H3 H4 H5 HW]
  · iapply (rows_keep c a2 a3 a4 a5 g2 g3 g4 g5 _)
    isplitl [H2]; · iexact H2
    isplitl [H3]; · iexact H3
    isplitl [H4]; · iexact H4
    isplitl [H5] <;> iassumption
  isplitl [FX0_src Xr FX1 CX FX0 FX0_dst]
  · iapply (reads_next c a0 r0 d0 X k.val (by omega) _ fx1 fx2)
    isplitl [FX0_src]; · iexact FX0_src
    isplitl [Xr]; · iexact Xr
    isplitl [FX1]; · iexact FX1
    isplitl [CX]; · iexact CX
    isplitl [FX0]; · iexact FX0
    iexact FX0_dst
  isplitl [FY0_src Yr FY1 CY FY0 FY0_dst]
  · iapply (reads_next c a1 r1 d1 S k.val (by omega) _ fy1 fy2)
    isplitl [FY0_src]; · iexact FY0_src
    isplitl [Yr]; · iexact Yr
    isplitl [FY1]; · iexact FY1
    isplitl [CY]; · iexact CY
    isplitl [FY0]; · iexact FY0
    iexact FY0_dst
  isplitl [Zr]; · iexact Zr
  isplitl [CZ1]; · iexact CZ1
  iapply (wFlight_intro c a6 r2 d2 O0 O _ _ _ ((hO (Ring.bk 128 k.val)).trans
    (sent_eq c a0 a1 a2 a3 a4 a5 r0 r1 r2 X S g2 g3 g4 g5 (Ring.sl 3 k.val) (Ring.sl 3 k.val) (Ring.sl 2 k.val) (Ring.bk 128 k.val) fz).symm) _)
  iexact CZ

/-- A trip that asks for a block and awaits a result. -/
theorem trip_mid (k : Fin k0_t1_loop.trips) (hlo : 0 < k.val) (hhi : k.val < 126) (hO : Result c a0 a1 a2 a3 a4 a5 a6 X S g2 g3 g4 g5 O) :
    Moves c a0 h0 a1 h1 a2 h2 a3 h3 a4 h4 a5 h5 a6 h6 r0 hr0 d0 r1 hr1 d1 r2 hr2 d2 w17 w18 w45 w52 w56 w57 X S g2 g3 g4 g5 O0 O k := by
  have c3 := (cond3_iff k).mpr hhi
  have c4 := (cond4_iff k).mpr hhi
  have c13 := (cond13_iff k).mpr hlo
  have c5 := cond5_true k
  have c6 := cond6_true k
  have c10 := cond10_true k
  have q1 := chk1_at k
  have q2 := chk2_at k
  have q3 := chk3_at k
  have q4 := chk4_at k
  unfold Moves resAt
  unfold writes
  conv_lhs => unfold reads
  have hk : k.val < 128 := k.isLt
  rw [Ring.At3_here _ _ _ _ k.val (by omega), Ring.At3_here _ _ _ _ k.val (by omega), Ring.AtB21_here _ _ _ _ k.val hlo hk, Ring.AtB21_next _ _ _ _ k.val hlo hk]
  iintro ⟨⟨H2, H3, H4, H5, ⟨%W, HW⟩⟩, ⟨⟨Xn, Xr⟩, ⟨%fx0, FX0⟩, ⟨%fx1, FX1⟩, CX, ⟨%fx2, SX⟩⟩, ⟨⟨Yn, Yr⟩, ⟨%fy0, FY0⟩, ⟨%fy1, FY1⟩, CY, ⟨%fy2, SY⟩⟩, ⟨Zn, Zr⟩, Zb, ⟨CZ, ⟨%fz, SZ⟩⟩, ⟨%fz1, FZ⟩⟩
  dsimp only [trip]
  sl_unfold [k0_t1_body]
  sl_exec
  sl_step
  isplitr
  · ipureintro
    exact words_next (fun k => (trip_mid.sl.v186_r0 k, trip_mid.sl.v318_r0 k, trip_mid.sl.v186_r0 k, trip_mid.sl.v318_r0 k, trip_mid.sl.v318_r0 k, trip_mid.sl.v344_r0 k, trip_mid.sl.v152_r0 k, trip_mid.sl.v148_r0 k)) (by decide +kernel) k
  isplitl [H2 H3 H4 H5 HW]
  · iapply (rows_keep c a2 a3 a4 a5 g2 g3 g4 g5 _)
    isplitl [H2]; · iexact H2
    isplitl [H3]; · iexact H3
    isplitl [H4]; · iexact H4
    isplitl [H5] <;> iassumption
  isplitl [FX0_src Xr FX1 CX FX0 FX0_dst]
  · iapply (reads_next c a0 r0 d0 X k.val (by omega) _ fx1 fx2)
    isplitl [FX0_src]; · iexact FX0_src
    isplitl [Xr]; · iexact Xr
    isplitl [FX1]; · iexact FX1
    isplitl [CX]; · iexact CX
    isplitl [FX0]; · iexact FX0
    iexact FX0_dst
  isplitl [FY0_src Yr FY1 CY FY0 FY0_dst]
  · iapply (reads_next c a1 r1 d1 S k.val (by omega) _ fy1 fy2)
    isplitl [FY0_src]; · iexact FY0_src
    isplitl [Yr]; · iexact Yr
    isplitl [FY1]; · iexact FY1
    isplitl [CY]; · iexact CY
    isplitl [FY0]; · iexact FY0
    iexact FY0_dst
  isplitl [Zr]; · iexact Zr
  isplitl [FZ_dst Zb]
  · isplitl [FZ_dst] <;> iassumption
  isplitl [FZ FZ_src]
  · isplitl [FZ]; · iexact FZ
    iexists _; iexact FZ_src
  iapply (wFlight_intro c a6 r2 d2 O0 O _ _ _ ((hO (Ring.bk 128 k.val)).trans
    (sent_eq c a0 a1 a2 a3 a4 a5 r0 r1 r2 X S g2 g3 g4 g5 (Ring.sl 3 k.val) (Ring.sl 3 k.val) (Ring.sl 2 k.val) (Ring.bk 128 k.val) fz).symm) _)
  iexact CZ

/-- One of the last two trips: it asks for none and awaits a result. -/
theorem trip_last (k : Fin k0_t1_loop.trips) (hhi : 126 ≤ k.val) (hO : Result c a0 a1 a2 a3 a4 a5 a6 X S g2 g3 g4 g5 O) :
    Moves c a0 h0 a1 h1 a2 h2 a3 h3 a4 h4 a5 h5 a6 h6 r0 hr0 d0 r1 hr1 d1 r2 hr2 d2 w17 w18 w45 w52 w56 w57 X S g2 g3 g4 g5 O0 O k := by
  have hlo : 0 < k.val := by omega
  have c3 := mt (cond3_iff k).mp (by omega)
  have c4 := mt (cond4_iff k).mp (by omega)
  have c13 := (cond13_iff k).mpr hlo
  have c5 := cond5_true k
  have c6 := cond6_true k
  have c10 := cond10_true k
  have q1 := chk1_at k
  have q2 := chk2_at k
  have q3 := chk3_at k
  have q4 := chk4_at k
  unfold Moves resAt
  unfold writes
  conv_lhs => unfold reads
  have hk : k.val < 128 := k.isLt
  rw [Ring.At3_here_tail _ _ _ _ k.val hk, Ring.At3_here_tail _ _ _ _ k.val hk, Ring.AtB21_here _ _ _ _ k.val hlo hk, Ring.AtB21_next _ _ _ _ k.val hlo hk]
  iintro ⟨⟨H2, H3, H4, H5, ⟨%W, HW⟩⟩, ⟨Xr, ⟨%fx0, FX0⟩, FX1, CX⟩, ⟨Yr, ⟨%fy0, FY0⟩, FY1, CY⟩, ⟨Zn, Zr⟩, Zb, ⟨CZ, ⟨%fz, SZ⟩⟩, ⟨%fz1, FZ⟩⟩
  dsimp only [trip]
  sl_unfold [k0_t1_body]
  sl_exec
  sl_step
  isplitr
  · ipureintro
    exact words_next (fun k => (trip_last.sl.v186_r0 k, trip_last.sl.v318_r0 k, trip_last.sl.v186_r0 k, trip_last.sl.v318_r0 k, trip_last.sl.v318_r0 k, trip_last.sl.v344_r0 k, trip_last.sl.v152_r0 k, trip_last.sl.v148_r0 k)) (by decide +kernel) k
  isplitl [H2 H3 H4 H5 HW]
  · iapply (rows_keep c a2 a3 a4 a5 g2 g3 g4 g5 _)
    isplitl [H2]; · iexact H2
    isplitl [H3]; · iexact H3
    isplitl [H4]; · iexact H4
    isplitl [H5] <;> iassumption
  isplitl [FX0_src Xr FX1 CX FX0 FX0_dst]
  · iapply (reads_tail c a0 r0 d0 X k.val (by omega) hhi _)
    isplitl [FX0_src]; · iexact FX0_src
    isplitl [Xr]; · iexact Xr
    isplitl [FX1]; · iexact FX1
    isplitl [CX]; · iexact CX
    isplitl [FX0]; · iexact FX0
    iexact FX0_dst
  isplitl [FY0_src Yr FY1 CY FY0 FY0_dst]
  · iapply (reads_tail c a1 r1 d1 S k.val (by omega) hhi _)
    isplitl [FY0_src]; · iexact FY0_src
    isplitl [Yr]; · iexact Yr
    isplitl [FY1]; · iexact FY1
    isplitl [CY]; · iexact CY
    isplitl [FY0]; · iexact FY0
    iexact FY0_dst
  isplitl [Zr]; · iexact Zr
  isplitl [FZ_dst Zb]
  · isplitl [FZ_dst] <;> iassumption
  isplitl [FZ FZ_src]
  · isplitl [FZ]; · iexact FZ
    iexists _; iexact FZ_src
  iapply (wFlight_intro c a6 r2 d2 O0 O _ _ _ ((hO (Ring.bk 128 k.val)).trans
    (sent_eq c a0 a1 a2 a3 a4 a5 r0 r1 r2 X S g2 g3 g4 g5 (Ring.sl 3 k.val) (Ring.sl 3 k.val) (Ring.sl 2 k.val) (Ring.bk 128 k.val) fz).symm) _)
  iexact CZ

/-- Every trip does its share. -/
theorem trip_all (hO : Result c a0 a1 a2 a3 a4 a5 a6 X S g2 g3 g4 g5 O) (k : Fin k0_t1_loop.trips) :
    Moves c a0 h0 a1 h1 a2 h2 a3 h3 a4 h4 a5 h5 a6 h6 r0 hr0 d0 r1 hr1 d1 r2 hr2 d2 w17 w18 w45 w52 w56 w57 X S g2 g3 g4 g5 O0 O k := by
  by_cases hlo : k.val = 0
  · exact trip_first c a0 h0 a1 h1 a2 h2 a3 h3 a4 h4 a5 h5 a6 h6 r0 hr0 d0 r1 hr1 d1 r2 hr2 d2 w17 w18 w45 w52 w56 w57 X S g2 g3 g4 g5 O0 O k hlo hO
  by_cases hhi : k.val < 126
  · exact trip_mid c a0 h0 a1 h1 a2 h2 a3 h3 a4 h4 a5 h5 a6 h6 r0 hr0 d0 r1 hr1 d1 r2 hr2 d2 w17 w18 w45 w52 w56 w57 X S g2 g3 g4 g5 O0 O k (by omega) hhi hO
  · exact trip_last c a0 h0 a1 h1 a2 h2 a3 h3 a4 h4 a5 h5 a6 h6 r0 hr0 d0 r1 hr1 d1 r2 hr2 d2 w17 w18 w45 w52 w56 w57 X S g2 g3 g4 g5 O0 O k (by omega) hO

end Trip

end Cert.KernelLnIdeal.Hand

end
-- ==== Proof.LnBody.lean ====
/- The last call, over any float values: its loop, and the whole body. -/
module

public import proofs.«01_k».proof.Proof.LnTrip

@[expose] public section

set_option maxRecDepth 16384

noncomputable section

namespace Cert.KernelLnIdeal.Hand

open Cert.KernelLnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Ends

variable (c : Dev nD) (A : Memref sig .tc .hbm S4x4096x4096 .f32) (R : Memref sig .tc .vmem S3x1x128x4096 .f32) (D : DmaSems sig S3)
  (X : Buf (Elt F) (A.view.loc (c : Thread nD τ)))
  (R2 : Memref sig .tc .vmem S2x1x128x4096 .f32) (D2 : DmaSems sig S2) (O0 O : Buf (Elt F) (A.view.loc (c : Thread nD τ)))

/-- A reading ring with nothing under way. -/
abbrev readsIdle : sProp 𝕄 :=
  iprop(bigSep Finset.univ (rHome c A X) ∗ Ring.free (rCell c D) (rSlot c R) 0 ∗ Ring.free (rCell c D) (rSlot c R) 1 ∗ Ring.free (rCell c D) (rSlot c R) 2)
/-- The writing ring with nothing under way, its array at `O`. -/
abbrev writesIdle : sProp 𝕄 := iprop(bigSep Finset.univ (rHome c A O) ∗ wFree c R2 D2 0 ∗ wFree c R2 D2 1)

/-- The first two blocks apart. -/
theorem homes_first : (bigSep Finset.univ (rHome c A X) : sProp 𝕄) = iprop(rHome c A X 0 ∗ rHome c A X 1 ∗ bigSep (Ring.homeSet 2 0) (rHome c A X)) := by
  have e : (Finset.univ : Finset (Fin 128)) = insert 0 (insert 1 (Ring.homeSet 2 0)) := by
    ext b
    simp only [Finset.mem_univ, Finset.mem_insert, Ring.mem_homeSet, true_iff, Fin.ext_iff]
    show b.val = 0 ∨ b.val = 1 ∨ _
    omega
  rw [e, bigSep_insert (by simp [Ring.mem_homeSet, Fin.ext_iff]), bigSep_insert (by simp [Ring.mem_homeSet])]
  rfl

/-- A reading ring once its first two blocks are asked for. -/
theorem reads_start (f0 : _) (f1 : _) (f2 : _) :
    iprop(bigSep (Ring.homeSet 2 0) (rHome c A X) ∗ rFlight c A R D X 0 0 f0 ∗ rFlight c A R D X 1 1 f1 ∗ rCell c D 2 ∗ rSlot c R 2 f2)
      ⊢ reads c A R D X 0 := by
  unfold reads Ring.At
  rw [Ring.bigSep_fin3, Ring.slotAt_of_lt _ _ _ _ 0 0 (by decide), Ring.slotAt_of_lt _ _ _ _ 0 1 (by decide), Ring.slotAt_of_not _ _ _ _ 0 2 (by decide)]
  iintro ⟨HH, H0, H1, HC, HS⟩
  isplitl [HH]; · iexact HH
  isplitl [H0]; · iexists f0; iexact H0
  isplitl [H1]; · iexists f1; iexact H1
  isplitl [HC]; · iexact HC
  iexists f2; iexact HS

/-- The writing ring before the first trip. -/
theorem writes_start : (writesIdle c A R2 D2 O0 : sProp 𝕄) ⊢ writes c A R2 D2 O0 O 0 := by
  unfold writes
  rw [Ring.AtB_zero]
  unfold Ring.AtB₀
  rw [Ring.bigSep_fin2]

/-- The writing ring after the last trip: one block under way. -/
theorem writes_end : (writes c A R2 D2 O0 O 128 : sProp 𝕄)
    = iprop(bigSep (Ring.behindSet 1 128) (rHome c A O) ∗ wFree c R2 D2 0 ∗ wFlight c A R2 D2 O 1 127) := by
  unfold writes
  rw [Ring.AtB21_end' _ _ _ _ 128 rfl (by omega)]
  rfl

/-- With that block home the array is the result. -/
theorem writes_done : iprop(rHome c A O 127 ∗ bigSep (Ring.behindSet 1 128) (rHome c A O) ∗ wFree c R2 D2 0 ∗ wFree c R2 D2 1)
    ⊢ (writesIdle c A R2 D2 O : sProp 𝕄) := by
  have e : (writesIdle c A R2 D2 O : sProp 𝕄) = Ring.AtBEnd (wFree c R2 D2) (rHome c A O) := by
    unfold Ring.AtBEnd
    rw [Ring.bigSep_fin2]
  rw [e, Ring.AtB21_epilogue' (NB := 128) (wFree c R2 D2) (rHome c A O) 128 rfl (by omega)]
  iintro ⟨H, HB, H0, H1⟩
  isplitl [H HB]
  · isplitl [H]; · iexact H
    iexact HB
  isplitl [H0]; · iexact H0
  iexact H1

end Ends

section Body

variable (c : Dev nD)
  (a0 : Memref sig .tc .hbm S4x4096x4096 .f32) (h0 : a0.IsWhole) (a1 : Memref sig .tc .hbm S4x4096x4096 .f32) (h1 : a1.IsWhole)
  (a2 : Memref sig .tc .vmem S1x4096 .f32) (h2 : a2.IsWhole) (a3 : Memref sig .tc .vmem S1x4096 .f32) (h3 : a3.IsWhole)
  (a4 : Memref sig .tc .vmem S1x4096 .f32) (h4 : a4.IsWhole) (a5 : Memref sig .tc .vmem S1x4096 .f32) (h5 : a5.IsWhole)
  (a6 : Memref sig .tc .hbm S4x4096x4096 .f32) (h6 : a6.IsWhole)
  (r0 : Memref sig .tc .vmem S3x1x128x4096 .f32) (hr0 : r0.IsWhole) (d0 : DmaSems sig S3)
  (r1 : Memref sig .tc .vmem S3x1x128x4096 .f32) (hr1 : r1.IsWhole) (d1 : DmaSems sig S3)
  (r2 : Memref sig .tc .vmem S2x1x128x4096 .f32) (hr2 : r2.IsWhole) (d2 : DmaSems sig S2)
  (X : Buf (Elt F) (a0.view.loc (c : Thread nD τ))) (S : Buf (Elt F) (a1.view.loc (c : Thread nD τ)))
  (g2 : Buf (Elt F) (a2.view.loc (c : Thread nD τ))) (g3 : Buf (Elt F) (a3.view.loc (c : Thread nD τ)))
  (g4 : Buf (Elt F) (a4.view.loc (c : Thread nD τ))) (g5 : Buf (Elt F) (a5.view.loc (c : Thread nD τ)))
  (O0 O : Buf (Elt F) (a6.view.loc (c : Thread nD τ)))

/-- The body's buffers with nothing under way, the result array at `Z`. -/
def idle (Z : Buf (Elt F) (a6.view.loc (c : Thread nD τ))) : sProp 𝕄 :=
  iprop(rows c a2 a3 a4 a5 g2 g3 g4 g5 ∗ readsIdle c a0 r0 d0 X ∗ readsIdle c a1 r1 d1 S ∗ writesIdle c a6 r2 d2 Z)

/-- Before trip `k`: the carried words in closed form, and everything held. -/
def loopAt (k : ℕ) (acc : Words) : sProp 𝕄 :=
  iprop(⌜acc = accAt k⌝ ∗ resAt c a0 a1 a2 a3 a4 a5 a6 r0 d0 r1 d1 r2 d2 X S g2 g3 g4 g5 O0 O k)

/-- THE BODY: from the given arrays to the result. -/
theorem bodyRun (hO : Result c a0 a1 a2 a3 a4 a5 a6 X S g2 g3 g4 g5 O) :
    idle c a0 a1 a2 a3 a4 a5 a6 r0 d0 r1 d1 r2 d2 X S g2 g3 g4 g5 O0 ⊢ wp frame (wpE (defs₀ (F := F)) 𝒱₀ (c : Thread nD τ) none) Set.univ
      (cc0_ln_out (F := F) a0 h0 a1 h1 a2 h2 a3 h3 a4 h4 a5 h5 a6 h6 r0 hr0 d0 r1 hr1 d1 r2 hr2 d2)
      (fun _ => idle c a0 a1 a2 a3 a4 a5 a6 r0 d0 r1 d1 r2 d2 X S g2 g3 g4 g5 O) := by
  have c1 := cond1_true
  have c2 := cond2_true
  generalize hQ : (fun (_ : PUnit) => idle c a0 a1 a2 a3 a4 a5 a6 r0 d0 r1 d1 r2 d2 X S g2 g3 g4 g5 O) = Q
  unfold idle readsIdle Ring.free
  rw [homes_first c a0 X, homes_first c a1 S]
  iintro ⟨⟨H2, H3, H4, H5, ⟨%W, HW⟩⟩, ⟨⟨X0, X1, Xr⟩, ⟨CX0, ⟨%fx0, SX0⟩⟩, ⟨CX1, ⟨%fx1, SX1⟩⟩, ⟨CX2, ⟨%fx2, SX2⟩⟩⟩, ⟨⟨Y0, Y1, Yr⟩, ⟨CY0, ⟨%fy0, SY0⟩⟩, ⟨CY1, ⟨%fy1, SY1⟩⟩, ⟨CY2, ⟨%fy2, SY2⟩⟩⟩, HZ⟩
  sl_exec
  sl_for (loopAt c a0 a1 a2 a3 a4 a5 a6 r0 d0 r1 d1 r2 d2 X S g2 g3 g4 g5 O0 O) $$ [H2 H3 H4 H5 HW Xr CX0 CX1 CX2 SX2 Yr CY0 CY1 CY2 SY2 HZ]
  case region =>
    intro k acc
    unfold loopAt
    iintro ⟨%e, H⟩
    subst e
    iapply (trip_all c a0 h0 a1 h1 a2 h2 a3 h3 a4 h4 a5 h5 a6 h6 r0 hr0 d0 r1 hr1 d1 r2 hr2 d2 _ _ _ _ _ _ X S g2 g3 g4 g5 O0 O hO k)
    iexact H
  · unfold loopAt
    isplitr
    · ipureintro
      decide +kernel
    unfold resAt
    isplitl [H2 H3 H4 H5 HW]
    · iapply (rows_keep c a2 a3 a4 a5 g2 g3 g4 g5 _)
      isplitl [H2]; · iexact H2
      isplitl [H3]; · iexact H3
      isplitl [H4]; · iexact H4
      isplitl [H5] <;> iassumption
    isplitl [Xr CX0 CX1 CX2 SX2]
    · iapply (reads_start c a0 r0 d0 X fx0 fx1 fx2)
      isplitl [Xr]; · iexact Xr
      isplitl [CX0]; · iexact CX0
      isplitl [CX1]; · iexact CX1
      isplitl [CX2] <;> iassumption
    isplitl [Yr CY0 CY1 CY2 SY2]
    · iapply (reads_start c a1 r1 d1 S fy0 fy1 fy2)
      isplitl [Yr]; · iexact Yr
      isplitl [CY0]; · iexact CY0
      isplitl [CY1]; · iexact CY1
      isplitl [CY2] <;> iassumption
    iapply (writes_start c a6 r2 d2 O0 O)
    iexact HZ
  have hT : Scf.trips k0_t1_loop.lb k0_t1_loop.ub k0_t1_loop.st = 128 := by decide +kernel
  rw [hT]
  iintro %acc H
  unfold loopAt resAt
  rw [writes_end c a6 r2 d2 O0 O]
  icases H with ⟨%e, ⟨H2, H3, H4, H5, ⟨%W, HW⟩⟩, HX, HY, ZB, Z0, ⟨%fz, FZ⟩⟩
  subst e
  have q5 := chk5_end
  have q6 := chk6_end
  dsimp only [accAt]
  sl_exec
  sl_step
  subst hQ
  unfold idle readsIdle
  isplitl [H2 H3 H4 H5 HW]
  · iapply (rows_keep c a2 a3 a4 a5 g2 g3 g4 g5 _)
    isplitl [H2]; · iexact H2
    isplitl [H3]; · iexact H3
    isplitl [H4]; · iexact H4
    isplitl [H5] <;> iassumption
  isplitl [HX]
  · iapply (Ring.free3_of_At_last (NB := 128) (rHome c a0 X) (rCell c d0) (rSlot c r0) (rFlight c a0 r0 d0 X)); iexact HX
  isplitl [HY]
  · iapply (Ring.free3_of_At_last (NB := 128) (rHome c a1 S) (rCell c d1) (rSlot c r1) (rFlight c a1 r1 d1 S)); iexact HY
  iapply (writes_done c a6 r2 d2 O)
  isplitl [FZ_dst]; · iexact FZ_dst
  isplitl [ZB]; · iexact ZB
  isplitl [Z0]; · iexact Z0
  isplitl [FZ]; · iexact FZ
  iexists fz; iexact FZ_src

end Body

end Cert.KernelLnIdeal.Hand

end
-- ==== Proof.LnRun.lean ====
/- The last call's launch, over any float values: the arrays and rings cut up, the proof data, the run, both frames. -/
module

public import proofs.«01_k».proof.Proof.Gen.KernelLnIdeal.Points
public import proofs.«01_k».proof.Proof.Gen.KernelLnIdeal.Frame
public import proofs.«01_k».proof.Proof.Gen.KernelLn
public import proofs.«01_k».proof.Proof.LnBody
public import proofs.«01_k».proof.Defs
public import Idealize.ShloMosaic.Lib.ValueIdxCore
public import Idealize.ShloMosaic.Lib.Claim

@[expose] public section

set_option maxRecDepth 16384

noncomputable section

namespace Cert.KernelLnIdeal.Hand

open Cert.KernelLnIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UU nD τ) ℕ

/-! ## An array is its blocks, a ring its slots -/

section Cuts

variable (c : Dev nD)

/-- Disjoint parts of a rectangle's index set are disjoint parts of any view of it. -/
theorem parts_disjoint {n : ℕ} {sh : Shape} {κ : Kind} {sp : Space} {e : EltTy} (v : View sig κ sp sh e) (P : Fin n → Finset sh.Idx)
    (f : sh.Idx → ℕ) (hf : ∀ b y, y ∈ P b ↔ f y = b.val) (b b' : Fin n) (h : b ≠ b') : Disjoint ((P b).map v.emb) ((P b').map v.emb) := by
  rw [Finset.disjoint_map, Finset.disjoint_left]
  intro y hy hy'
  rw [hf] at hy hy'
  exact h (Fin.ext (hy.symm.trans hy'))

/-- Parts that between them hold every index make up the view. -/
theorem parts_cover {n : ℕ} {sh : Shape} {κ : Kind} {sp : Space} {e : EltTy} (v : View sig κ sp sh e) (P : Fin n → Finset sh.Idx)
    (f : sh.Idx → ℕ) (hf : ∀ b y, y ∈ P b ↔ f y = b.val) (hn : ∀ y, f y < n) : Finset.univ.biUnion (fun b => (P b).map v.emb) = v.set := by
  ext i
  simp only [Finset.mem_biUnion, Finset.mem_univ, true_and, Finset.mem_map, View.set]
  constructor
  · rintro ⟨b, y, -, rfl⟩; exact ⟨y, rfl⟩
  · rintro ⟨y, rfl⟩; exact ⟨⟨f y, hn y⟩, y, (hf _ _).mpr rfl, rfl⟩

abbrev blkPart (b : Fin 128) : Finset S4x4096x4096.Idx := (Rect.unit (s := S4x4096x4096) (blkOff b) S1x128x4096.size (blkOff_inb b)).set
abbrev slotPart3 (s : Fin 3) : Finset S3x1x128x4096.Idx := (Rect.unit (s := S3x1x128x4096) (slotOff s) S1x1x128x4096.size (slotOff3_inb s)).set
abbrev slotPart2 (s : Fin 2) : Finset S2x1x128x4096.Idx := (Rect.unit (s := S2x1x128x4096) (slotOff s) S1x1x128x4096.size (slotOff2_inb s)).set

/-- The number of the block an index lies in. -/
abbrev blkNo (y : S4x4096x4096.Idx) : ℕ := 32 * (y (0 : Fin 3)).val + (y (1 : Fin 3)).val / 128

theorem blkNo_lt (y : S4x4096x4096.Idx) : blkNo y < 128 := by
  have h0 : (y (0 : Fin 3)).val < 4 := (y (0 : Fin 3)).isLt
  have h1 : (y (1 : Fin 3)).val < 4096 := (y (1 : Fin 3)).isLt
  unfold blkNo; omega

theorem mem_blkPart (b : Fin 128) (y : S4x4096x4096.Idx) : y ∈ blkPart b ↔ blkNo y = b.val := by
  rw [Rect.mem_set_unit]
  have h0 : (y (0 : Fin 3)).val < 4 := (y (0 : Fin 3)).isLt
  have h1 : (y (1 : Fin 3)).val < 4096 := (y (1 : Fin 3)).isLt
  have h2 : (y (2 : Fin 3)).val < 4096 := (y (2 : Fin 3)).isLt
  unfold blkNo
  constructor
  · intro H
    have a0 : b.val / 32 ≤ (y (0 : Fin 3)).val ∧ (y (0 : Fin 3)).val < b.val / 32 + 1 := H (0 : Fin 3)
    have a1 : 128 * (b.val % 32) ≤ (y (1 : Fin 3)).val ∧ (y (1 : Fin 3)).val < 128 * (b.val % 32) + 128 := H (1 : Fin 3)
    omega
  · intro H i
    match i with
    | ⟨0, _⟩ => show b.val / 32 ≤ (y (0 : Fin 3)).val ∧ (y (0 : Fin 3)).val < b.val / 32 + 1; omega
    | ⟨1, _⟩ => show 128 * (b.val % 32) ≤ (y (1 : Fin 3)).val ∧ (y (1 : Fin 3)).val < 128 * (b.val % 32) + 128; omega
    | ⟨2, _⟩ => show 0 ≤ (y (2 : Fin 3)).val ∧ (y (2 : Fin 3)).val < 0 + 4096; omega

theorem mem_slotPart3 (s : Fin 3) (y : S3x1x128x4096.Idx) : y ∈ slotPart3 s ↔ (y (0 : Fin 4)).val = s.val := by
  rw [Rect.mem_set_unit]
  have h1 : (y (1 : Fin 4)).val < 1 := (y (1 : Fin 4)).isLt
  have h2 : (y (2 : Fin 4)).val < 128 := (y (2 : Fin 4)).isLt
  have h3 : (y (3 : Fin 4)).val < 4096 := (y (3 : Fin 4)).isLt
  constructor
  · intro H
    have a0 : s.val ≤ (y (0 : Fin 4)).val ∧ (y (0 : Fin 4)).val < s.val + 1 := H (0 : Fin 4)
    omega
  · intro H i
    match i with
    | ⟨0, _⟩ => show s.val ≤ (y (0 : Fin 4)).val ∧ (y (0 : Fin 4)).val < s.val + 1; omega
    | ⟨1, _⟩ => show 0 ≤ (y (1 : Fin 4)).val ∧ (y (1 : Fin 4)).val < 0 + 1; omega
    | ⟨2, _⟩ => show 0 ≤ (y (2 : Fin 4)).val ∧ (y (2 : Fin 4)).val < 0 + 128; omega
    | ⟨3, _⟩ => show 0 ≤ (y (3 : Fin 4)).val ∧ (y (3 : Fin 4)).val < 0 + 4096; omega

theorem mem_slotPart2 (s : Fin 2) (y : S2x1x128x4096.Idx) : y ∈ slotPart2 s ↔ (y (0 : Fin 4)).val = s.val := by
  rw [Rect.mem_set_unit]
  have h1 : (y (1 : Fin 4)).val < 1 := (y (1 : Fin 4)).isLt
  have h2 : (y (2 : Fin 4)).val < 128 := (y (2 : Fin 4)).isLt
  have h3 : (y (3 : Fin 4)).val < 4096 := (y (3 : Fin 4)).isLt
  constructor
  · intro H
    have a0 : s.val ≤ (y (0 : Fin 4)).val ∧ (y (0 : Fin 4)).val < s.val + 1 := H (0 : Fin 4)
    omega
  · intro H i
    match i with
    | ⟨0, _⟩ => show s.val ≤ (y (0 : Fin 4)).val ∧ (y (0 : Fin 4)).val < s.val + 1; omega
    | ⟨1, _⟩ => show 0 ≤ (y (1 : Fin 4)).val ∧ (y (1 : Fin 4)).val < 0 + 1; omega
    | ⟨2, _⟩ => show 0 ≤ (y (2 : Fin 4)).val ∧ (y (2 : Fin 4)).val < 0 + 128; omega
    | ⟨3, _⟩ => show 0 ≤ (y (3 : Fin 4)).val ∧ (y (3 : Fin 4)).val < 0 + 4096; omega

theorem rHome_eq (A : Memref sig .tc .hbm S4x4096x4096 .f32) (X : Buf (Elt F) (A.view.loc (c : Thread nD τ))) (b : Fin 128) :
    (rHome c A X b : sProp 𝕄) = (A.view.loc (c : Thread nD τ) ↦[(blkPart b).map A.view.emb]{fullShare} X) :=
  congrArg (fun S => (A.view.loc (c : Thread nD τ) ↦[S]{fullShare} X : sProp 𝕄)) (View.set_slice _ _)

/-- An array is its blocks. -/
theorem array_eq (A : Memref sig .tc .hbm S4x4096x4096 .f32) (X : Buf (Elt F) (A.view.loc (c : Thread nD τ))) :
    (held c A X : sProp 𝕄) = bigSep Finset.univ (rHome c A X) :=
  (Ring.pointsTo_sub_blocks (ℓ := A.view.loc (c : Thread nD τ)) (fun b : Fin 128 => (blkPart b).map A.view.emb)
    (parts_disjoint A.view blkPart blkNo mem_blkPart) A.view.set (parts_cover A.view blkPart blkNo mem_blkPart blkNo_lt) X).trans
    (bigSep_congr fun b _ => (rHome_eq c A X b).symm)

section Slots
variable (R : Memref sig .tc .vmem S3x1x128x4096 .f32) (hR : R.view.set = Finset.univ)
  (R2 : Memref sig .tc .vmem S2x1x128x4096 .f32) (hR2 : R2.view.set = Finset.univ)

abbrev slotSet3 (s : Fin 3) : Finset R.view.ty.Idx := (slotPart3 s).map R.view.emb
abbrev slotSet2 (s : Fin 2) : Finset R2.view.ty.Idx := (slotPart2 s).map R2.view.emb

theorem rSlot_eq (s : Fin 3) (f : Buf (Elt F) (R.view.loc (c : Thread nD τ))) :
    (rSlot c R s f : sProp 𝕄) = (R.view.loc (c : Thread nD τ) ↦[slotSet3 R s]{fullShare} f) :=
  congrArg (fun S => (R.view.loc (c : Thread nD τ) ↦[S]{fullShare} f : sProp 𝕄)) ((View.set_reshape _ _).trans (View.set_slice _ _))
theorem wSlot_eq (s : Fin 2) (f : Buf (Elt F) (R2.view.loc (c : Thread nD τ))) :
    (held c (slot2 R2 s) f : sProp 𝕄) = (R2.view.loc (c : Thread nD τ) ↦[slotSet2 R2 s]{fullShare} f) :=
  congrArg (fun S => (R2.view.loc (c : Thread nD τ) ↦[S]{fullShare} f : sProp 𝕄)) ((View.set_reshape _ _).trans (View.set_slice _ _))

theorem slot3_disjoint : ∀ s s' : Fin 3, s ≠ s' → Disjoint (slotSet3 R s) (slotSet3 R s') := parts_disjoint R.view slotPart3 _ mem_slotPart3
theorem slot2_disjoint : ∀ s s' : Fin 2, s ≠ s' → Disjoint (slotSet2 R2 s) (slotSet2 R2 s') := parts_disjoint R2.view slotPart2 _ mem_slotPart2
include hR in
theorem slot3_cover : Finset.univ.biUnion (slotSet3 R) = Finset.univ :=
  (parts_cover R.view slotPart3 _ mem_slotPart3 fun y => (y (0 : Fin 4)).isLt).trans hR
include hR2 in
theorem slot2_cover : Finset.univ.biUnion (slotSet2 R2) = Finset.univ :=
  (parts_cover R2.view slotPart2 _ mem_slotPart2 fun y => (y (0 : Fin 4)).isLt).trans hR2

/-- A ring's buffer. -/
abbrev some3 : sProp 𝕄 := iprop(∃ f : Buf (Elt F) (R.view.loc (c : Thread nD τ)), R.view.loc (c : Thread nD τ) ↦{fullShare} f)
abbrev some2 : sProp 𝕄 := iprop(∃ f : Buf (Elt F) (R2.view.loc (c : Thread nD τ)), R2.view.loc (c : Thread nD τ) ↦{fullShare} f)

include hR in
theorem ring3_split : (some3 c R : sProp 𝕄) ⊢ iprop((∃ f, rSlot c R 0 f) ∗ (∃ f, rSlot c R 1 f) ∗ ∃ f, rSlot c R 2 f) :=
  Ring.slots3_split (ℓ := R.view.loc (c : Thread nD τ)) (slotSet3 R) (slot3_disjoint R) (slot3_cover R hR) (rSlot c R 0) (rSlot c R 1) (rSlot c R 2)
    (rSlot_eq c R 0) (rSlot_eq c R 1) (rSlot_eq c R 2)
include hR in
theorem ring3_join : iprop((∃ f, rSlot c R 0 f) ∗ (∃ f, rSlot c R 1 f) ∗ ∃ f, rSlot c R 2 f) ⊢ (some3 c R : sProp 𝕄) :=
  Ring.slots3_join (ℓ := R.view.loc (c : Thread nD τ)) (slotSet3 R) (slot3_disjoint R) (slot3_cover R hR) (rSlot c R 0) (rSlot c R 1) (rSlot c R 2)
    (rSlot_eq c R 0) (rSlot_eq c R 1) (rSlot_eq c R 2)
include hR2 in
theorem ring2_split : (some2 c R2 : sProp 𝕄) ⊢ iprop((∃ f, held c (slot2 R2 0) f) ∗ ∃ f, held c (slot2 R2 1) f) :=
  Ring.slots2_split (ℓ := R2.view.loc (c : Thread nD τ)) (slotSet2 R2) (slot2_disjoint R2) (slot2_cover R2 hR2) (fun f => held c (slot2 R2 0) f) (fun f => held c (slot2 R2 1) f)
    (wSlot_eq c R2 0) (wSlot_eq c R2 1)
include hR2 in
theorem ring2_join : iprop((∃ f, held c (slot2 R2 0) f) ∗ ∃ f, held c (slot2 R2 1) f) ⊢ (some2 c R2 : sProp 𝕄) :=
  Ring.slots2_join (ℓ := R2.view.loc (c : Thread nD τ)) (slotSet2 R2) (slot2_disjoint R2) (slot2_cover R2 hR2) (fun f => held c (slot2 R2 0) f) (fun f => held c (slot2 R2 1) f)
    (wSlot_eq c R2 0) (wSlot_eq c R2 1)

end Slots

/-! ## A ring idle is its array, its buffer and its cells -/

section Idle
variable (A : Memref sig .tc .hbm S4x4096x4096 .f32) (X : Buf (Elt F) (A.view.loc (c : Thread nD τ)))
  (R : Memref sig .tc .vmem S3x1x128x4096 .f32) (hR : R.view.set = Finset.univ) (D : DmaSems sig S3)
  (R2 : Memref sig .tc .vmem S2x1x128x4096 .f32) (hR2 : R2.view.set = Finset.univ) (D2 : DmaSems sig S2)

include hR in
theorem reads_in : iprop(held c A X ∗ some3 c R ∗ rCell c D 0 ∗ rCell c D 1 ∗ rCell c D 2) ⊢ (readsIdle c A R D X : sProp 𝕄) := by
  rw [array_eq]
  unfold readsIdle Ring.free
  iintro ⟨HA, HR, C0, C1, C2⟩
  ihave HS := (ring3_split c R hR) $$ HR
  icases HS with ⟨S0, S1, S2⟩
  isplitl [HA]; · iexact HA
  isplitl [C0 S0]
  · isplitl [C0] <;> iassumption
  isplitl [C1 S1]
  · isplitl [C1] <;> iassumption
  isplitl [C2] <;> iassumption
include hR in
theorem reads_out : (readsIdle c A R D X : sProp 𝕄) ⊢ iprop(held c A X ∗ some3 c R ∗ rCell c D 0 ∗ rCell c D 1 ∗ rCell c D 2) := by
  rw [array_eq]
  unfold readsIdle Ring.free
  iintro ⟨HA, ⟨C0, S0⟩, ⟨C1, S1⟩, ⟨C2, S2⟩⟩
  isplitl [HA]; · iexact HA
  isplitl [S0 S1 S2]
  · iapply (ring3_join c R hR)
    isplitl [S0]; · iexact S0
    isplitl [S1] <;> iassumption
  isplitl [C0]; · iexact C0
  isplitl [C1] <;> iassumption
include hR2 in
theorem writes_in : iprop(held c A X ∗ some2 c R2 ∗ quiet c (cell2 D2 0) ∗ quiet c (cell2 D2 1)) ⊢ (writesIdle c A R2 D2 X : sProp 𝕄) := by
  rw [array_eq]
  unfold writesIdle
  iintro ⟨HA, HR, C0, C1⟩
  ihave HS := (ring2_split c R2 hR2) $$ HR
  icases HS with ⟨S0, S1⟩
  isplitl [HA]; · iexact HA
  isplitl [C0 S0]
  · isplitl [C0] <;> iassumption
  isplitl [C1] <;> iassumption
include hR2 in
theorem writes_out : (writesIdle c A R2 D2 X : sProp 𝕄) ⊢ iprop(held c A X ∗ some2 c R2 ∗ quiet c (cell2 D2 0) ∗ quiet c (cell2 D2 1)) := by
  rw [array_eq]
  unfold writesIdle
  iintro ⟨HA, ⟨C0, S0⟩, ⟨C1, S1⟩⟩
  isplitl [HA]; · iexact HA
  isplitl [S0 S1]
  · iapply (ring2_join c R2 hR2)
    isplitl [S0] <;> iassumption
  isplitl [C0] <;> iassumption

end Idle

end Cuts

/-! ## The launch -/

section Launch

variable (m : (ℓ : Loc nD τ sig) → Buf (Elt F) ℓ) (ρ : Dev nD → PrngReg)

abbrev xM : Memref sig .tc .hbm S4x4096x4096 .f32 := Memref.whole main_arg0
abbrev sM : Memref sig .tc .hbm S4x4096x4096 .f32 := Memref.whole main_arg1
abbrev oM : Memref sig .tc .hbm S4x4096x4096 .f32 := Memref.whole main_v4
abbrev xR : Memref sig .tc .vmem S3x1x128x4096 .f32 := Memref.whole cc0_scoped0
abbrev sR : Memref sig .tc .vmem S3x1x128x4096 .f32 := Memref.whole cc0_scoped2
abbrev oR : Memref sig .tc .vmem S2x1x128x4096 .f32 := Memref.whole cc0_scoped4

/-- The two operands and the result array as the call finds them. -/
abbrev xIn (c : Dev nD) : Buf (Elt F) (xM.view.loc (c : Thread nD τ)) := V m c main_arg0
abbrev sIn (c : Dev nD) : Buf (Elt F) (sM.view.loc (c : Thread nD τ)) := V m c main_arg1
abbrev oIn (c : Dev nD) : Buf (Elt F) (oM.view.loc (c : Thread nD τ)) := V m c main_v4

/-- What block `b` of the result holds. -/
def valueAt (c : Dev nD) (b : Fin 128) : S1x128x4096.Idx → Elt F .f32 :=
  k0_pay4 (k0_pay1 (blkOf c xM (xIn m c) b) (iblk m c 0 t0_0) (iblk m c 1 t0_0) (blkOf c sM (sIn m c) b))
    (k0_pay2 (iblk m c 2 t0_0)) (k0_pay3 (iblk m c 3 t0_0))

/-- Where in its block an index of the array lies. -/
abbrev inBlk (y : S4x4096x4096.Idx) : S1x128x4096.Idx :=
  ix3 (0 : Fin 1) (⟨(y (1 : Fin 3)).val % 128, Nat.mod_lt _ (by decide)⟩ : Fin 128) (y (2 : Fin 3))

/-- The result. -/
def result (c : Dev nD) : Buf (Elt F) (oM.view.loc (c : Thread nD τ)) :=
  fun y : S4x4096x4096.Idx => valueAt m c ⟨blkNo y, blkNo_lt y⟩ (inBlk y)

/-- Its blocks are the blocks stored. -/
theorem result_blk (c : Dev nD) (b : Fin 128) : (blk oM b).view.read (Elt F) (result m c) = valueAt m c b := by
  funext z
  have h0 : (z (0 : Fin 3)).val < 1 := (z (0 : Fin 3)).isLt
  have h1 : (z (1 : Fin 3)).val < 128 := (z (1 : Fin 3)).isLt
  have e0 : (((blk oM b).view.emb z : S4x4096x4096.Idx) (0 : Fin 3)).val = b.val / 32 + 1 * (z (0 : Fin 3)).val := rfl
  have e1 : (((blk oM b).view.emb z : S4x4096x4096.Idx) (1 : Fin 3)).val = 128 * (b.val % 32) + 1 * (z (1 : Fin 3)).val := rfl
  have e2 : (((blk oM b).view.emb z : S4x4096x4096.Idx) (2 : Fin 3)).val = 0 + 1 * (z (2 : Fin 3)).val := rfl
  have hb : (⟨blkNo ((blk oM b).view.emb z), blkNo_lt _⟩ : Fin 128) = b := by
    apply Fin.ext
    show 32 * _ + _ / 128 = _
    rw [e0, e1]; omega
  have hz : inBlk ((blk oM b).view.emb z) = z := by
    funext a
    match a with
    | ⟨0, _⟩ => exact Fin.ext (by show 0 = (z (0 : Fin 3)).val; omega)
    | ⟨1, _⟩ => exact Fin.ext (by show _ % 128 = (z (1 : Fin 3)).val; rw [e1]; omega)
    | ⟨2, _⟩ => exact Fin.ext (by show _ = (z (2 : Fin 3)).val; rw [e2]; omega)
  show valueAt m c ⟨blkNo ((blk oM b).view.emb z), _⟩ (inBlk ((blk oM b).view.emb z)) = _
  rw [hb, hz]

/-- The call's own completion cells. -/
def osem : Fin 8 → SemLoc sig :=
  ![.dma (cell3 cc0_scoped1 0).sem, .dma (cell3 cc0_scoped1 1).sem, .dma (cell3 cc0_scoped1 2).sem,
    .dma (cell3 cc0_scoped3 0).sem, .dma (cell3 cc0_scoped3 1).sem, .dma (cell3 cc0_scoped3 2).sem,
    .dma (cell2 cc0_scoped5 0).sem, .dma (cell2 cc0_scoped5 1).sem]
theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp 𝕄)
    = iprop(rCell c cc0_scoped1 0 ∗ rCell c cc0_scoped1 1 ∗ rCell c cc0_scoped1 2 ∗ rCell c cc0_scoped3 0 ∗ rCell c cc0_scoped3 1 ∗ rCell c cc0_scoped3 2
        ∗ quiet c (cell2 cc0_scoped5 0) ∗ quiet c (cell2 cc0_scoped5 1)) := by
  unfold Pipeline.ownSems0
  rw [bigSep_univ_eq_bigSepL [(0 : Fin 8), 1, 2, 3, 4, 5, 6, 7] (by decide) (by decide)]
  rfl

/-- All but the parameter rows, the result array at `Z`. -/
def Held (c : Dev nD) (Z : Buf (Elt F) (oM.view.loc (c : Thread nD τ))) : sProp 𝕄 :=
  iprop(readsIdle c xM xR cc0_scoped1 (xIn m c) ∗ readsIdle c sM sR cc0_scoped3 (sIn m c) ∗ writesIdle c oM oR cc0_scoped5 Z)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := Held m c (if t.val = 0 then oIn m c else result m c)
  q _ := fullShare
  owed _ := 0

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem before_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_3 (c : Dev nD) (t : Fin cfg0.N) (d) : (dats m 0 c).before 3 t d = iblk m c 3 t := by
  unfold Dat.before; rw [if_pos (fetch0_3 t)]; unfold Dat.fetched Dat.blockOf iblk; dsimp only [dats]; rfl

theorem Phi_first (c : Dev nD) (t : Fin (cfg0.N + 1)) (h : t.val = 0) : (dats m 0 c).Φ t = Held m c (oIn m c) := by
  dsimp only [dats]; rw [if_pos h]
theorem Phi_last (c : Dev nD) (t : Fin (cfg0.N + 1)) (h : ¬ t.val = 0) : (dats m 0 c).Φ t = Held m c (result m c) := by
  dsimp only [dats]; rw [if_neg h]

theorem row (t : Fin cfg0.N) : defs₀ (F := F) .tc cfg0.body (cfg0.bodyArgs t (cfg0.slots t)) = bodyAt0 (F := F) t := by
  unfold defs₀; rw [Defs.onTc_tc]

set_option backward.isDefEq.respectTransparency.types false in
theorem obligation (c : Dev nD) : BodyObligation (dats m 0 c) (defs₀ (F := F)) 𝒱₀ () Set.univ := fun t => by
  obtain rfl := fin_N0 t
  rw [bigSep_W0, bigSep_W0, row]
  dsimp only
  simp only [before_0, before_1, before_2, before_3, after_0, after_1, after_2, after_3]
  rw [Phi_first m c _ (by rfl), Phi_last m c _ (by decide)]
  unfold Dat.owesAt Pipeline.owesWithin
  rw [show (dats m 0 c).owed t0_0.castSucc = 0 from rfl, show (dats m 0 c).owed t0_0.succ = 0 from rfl]
  unfold owns Held
  iintro ⟨⟨HX, HS, HZ⟩, ⟨%W, -, HW⟩, ⟨%d0, %g0, %hg0, H0⟩, ⟨%d1, %g1, %hg1, H1⟩, ⟨%d2, %g2, %hg2, H2⟩, ⟨%d3, %g3, %hg3, H3⟩⟩
  have hO : Result c xM sM (win0_0.stage (cfg0.slots t0_0 0)) (win0_1.stage (cfg0.slots t0_0 1)) (win0_2.stage (cfg0.slots t0_0 2))
      (win0_3.stage (cfg0.slots t0_0 3)) oM (xIn m c) (sIn m c) g0 g1 g2 g3 (result m c) := by
    intro b
    rw [result_blk]
    unfold stored valueAt
    rw [← hg0, ← hg1, ← hg2, ← hg3]
  unfold bodyAt0
  iapply (wp_wand_r Idealize.ShloMosaic.frame (wpE (defs₀ (F := F)) 𝒱₀ (c : Thread nD τ) none) Set.univ)
  isplitl [HX HS HZ HW H0 H1 H2 H3]
  · iapply (bodyRun c xM _ sM _ (win0_0.stage (cfg0.slots t0_0 0)) _ (win0_1.stage (cfg0.slots t0_0 1)) _ (win0_2.stage (cfg0.slots t0_0 2)) _
      (win0_3.stage (cfg0.slots t0_0 3)) _ oM _ xR _ cc0_scoped1 sR _ cc0_scoped3 oR _ cc0_scoped5 (xIn m c) (sIn m c) g0 g1 g2 g3
      (oIn m c) (result m c) hO)
    unfold idle
    isplitl [HW H0 H1 H2 H3]
    · isplitl [H0]; · iexact H0
      isplitl [H1]; · iexact H1
      isplitl [H2]; · iexact H2
      isplitl [H3]; · iexact H3
      iexists W; iexact HW
    isplitl [HX]; · iexact HX
    isplitl [HS]; · iexact HS
    iexact HZ
  · iintro %_ H
    unfold idle
    icases H with ⟨⟨H0, H1, H2, H3, %W', HW⟩, HX, HS, HZ⟩
    isplitl [HX HS HZ]
    · isplitl [HX]; · iexact HX
      isplitl [HS]; · iexact HS
      iexact HZ
    isplitl [HW]
    · iexists W'; isplitr; · ipureintro; exact fun _ _ => Or.inl trivial
      iexact HW
    isplitl [H0]
    · iexists g0; isplitr; · ipureintro; exact hg0
      iexact H0
    isplitl [H1]
    · iexists g1; isplitr; · ipureintro; exact hg1
      iexact H1
    isplitl [H2]
    · iexists g2; isplitr; · ipureintro; exact hg2
      iexact H2
    iexists g3; isplitr; · ipureintro; exact hg3
    iexact H3

/-! ## The call as launched -/

def u₀ : UU nD τ := (initOf (Pipeline.cells cfgs Gen.cellOf_inj) (Pipeline.launchToks cfgs Gen.cellOf_inj), 1)

/-- The arrays the call moves itself, whole, the result at `Z`. -/
def arrays (c : Dev nD) (Z : Buf (Elt F) (oM.view.loc (c : Thread nD τ))) : sProp 𝕄 :=
  iprop((((c : Thread nD τ).loc main_arg0) ↦{fullShare} V m c main_arg0) ∗ (((c : Thread nD τ).loc main_arg1) ↦{fullShare} V m c main_arg1)
    ∗ (((c : Thread nD τ).loc main_v4) ↦{fullShare} Z))
/-- The arguments it does not touch. -/
def others (c : Dev nD) : sProp 𝕄 :=
  iprop((((c : Thread nD τ).loc main_arg2) ↦{fullShare} V m c main_arg2) ∗ (((c : Thread nD τ).loc main_arg3) ↦{fullShare} V m c main_arg3)
    ∗ (((c : Thread nD τ).loc main_arg4) ↦{fullShare} V m c main_arg4) ∗ (((c : Thread nD τ).loc main_arg5) ↦{fullShare} V m c main_arg5))

theorem arrays_eq (c : Dev nD) (Z : Buf (Elt F) (oM.view.loc (c : Thread nD τ))) :
    (arrays m c Z : sProp 𝕄) = iprop(held c xM (xIn m c) ∗ held c sM (sIn m c) ∗ held c oM Z) := by
  unfold arrays held
  rw [show xM.view.set = Finset.univ from View.set_whole _, show sM.view.set = Finset.univ from View.set_whole _,
    show oM.view.set = Finset.univ from View.set_whole _]

/-- The scratch rings and cells with the arrays, as the body takes them. -/
theorem held_in (c : Dev nD) (Z : Buf (Elt F) (oM.view.loc (c : Thread nD τ))) :
    iprop((arrays m c Z ∗ Pipeline.ownSems0 osem c) ∗ some3 c xR ∗ some3 c sR ∗ some2 c oR) ⊢ (Held m c Z : sProp 𝕄) := by
  rw [arrays_eq, ownSems0_eq]
  unfold Held
  iintro ⟨⟨⟨HX, HS, HO⟩, A0, A1, A2, B0, B1, B2, C0, C1⟩, R0, R1, R2⟩
  isplitl [HX R0 A0 A1 A2]
  · iapply (reads_in c xM (xIn m c) xR (View.set_whole _) cc0_scoped1)
    isplitl [HX]; · iexact HX
    isplitl [R0]; · iexact R0
    isplitl [A0]; · iexact A0
    isplitl [A1]; · iexact A1
    iexact A2
  isplitl [HS R1 B0 B1 B2]
  · iapply (reads_in c sM (sIn m c) sR (View.set_whole _) cc0_scoped3)
    isplitl [HS]; · iexact HS
    isplitl [R1]; · iexact R1
    isplitl [B0]; · iexact B0
    isplitl [B1]; · iexact B1
    iexact B2
  iapply (writes_in c oM Z oR (View.set_whole _) cc0_scoped5)
  isplitl [HO]; · iexact HO
  isplitl [R2]; · iexact R2
  isplitl [C0]; · iexact C0
  iexact C1

/-- And as it gives them back. -/
theorem held_out (c : Dev nD) (Z : Buf (Elt F) (oM.view.loc (c : Thread nD τ))) :
    (Held m c Z : sProp 𝕄) ⊢ iprop(arrays m c Z ∗ Pipeline.ownSems0 osem c ∗ some3 c xR ∗ some3 c sR ∗ some2 c oR) := by
  rw [arrays_eq, ownSems0_eq]
  unfold Held
  iintro ⟨HX, HS, HO⟩
  ihave HX := (reads_out c xM (xIn m c) xR (View.set_whole _) cc0_scoped1) $$ HX
  ihave HS := (reads_out c sM (sIn m c) sR (View.set_whole _) cc0_scoped3) $$ HS
  ihave HO := (writes_out c oM Z oR (View.set_whole _) cc0_scoped5) $$ HO
  icases HX with ⟨HX, R0, A0, A1, A2⟩
  icases HS with ⟨HS, R1, B0, B1, B2⟩
  icases HO with ⟨HO, R2, C0, C1⟩
  isplitl [HX HS HO]
  · isplitl [HX]; · iexact HX
    isplitl [HS]; · iexact HS
    iexact HO
  isplitl [A0 A1 A2 B0 B1 B2 C0 C1]
  · isplitl [A0]; · iexact A0
    isplitl [A1]; · iexact A1
    isplitl [A2]; · iexact A2
    isplitl [B0]; · iexact B0
    isplitl [B1]; · iexact B1
    isplitl [B2]; · iexact B2
    isplitl [C0]; · iexact C0
    iexact C1
  isplitl [R0]; · iexact R0
  isplitl [R1]; · iexact R1
  iexact R2

/-- What memory holds at the end: the arguments, and the result. -/
def Ends (c : Dev nD) (s : (ℓ : Loc nD τ sig) → Buf (Elt F) ℓ) : Prop :=
  s ((c : Thread nD τ).loc main_arg0) = m ((c : Thread nD τ).loc main_arg0)
  ∧ s ((c : Thread nD τ).loc main_arg1) = m ((c : Thread nD τ).loc main_arg1)
  ∧ s ((c : Thread nD τ).loc main_arg2) = m ((c : Thread nD τ).loc main_arg2)
  ∧ s ((c : Thread nD τ).loc main_arg3) = m ((c : Thread nD τ).loc main_arg3)
  ∧ s ((c : Thread nD τ).loc main_arg4) = m ((c : Thread nD τ).loc main_arg4)
  ∧ s ((c : Thread nD τ).loc main_arg5) = m ((c : Thread nD τ).loc main_arg5)
  ∧ s ((c : Thread nD τ).loc main_v4) = result m c

set_option backward.isDefEq.respectTransparency.types false in
/-- Every fair run ends, with the arguments and the result as said and every counter at zero. -/
theorem runs : θ_run defs (onTc (τ := τ) (main (F := F))) (s₀ m ρ)
    (fun r => ((∀ c : Dev nD, (∀ w, r.2.mem ((cfg0.win w).arr.view.loc (c : Thread nD τ)) = (dats m 0 c).arrAt w cfg0.N) ∧ Ends m c r.2.mem))
      ∧ r.2.sem = fun _ => 0) :=
  Pipeline.θ_run_region_kit_quiescent cfgs (dats m) () (0 : Fin 1) launch0 ownSemFacts EP defs₀ 𝒱₀ m ρ main
    (hbody := fun c => (obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := fun c => iprop(arrays m c (oIn m c) ∗ Pipeline.ownSems0 osem c)) (Y := fun c => arrays m c (result m c)) (Z := others m)
    (hX := fun c => by
      rw [unscopedRest0_eq]
      unfold arrays others
      iintro ⟨⟨H0, H1, H2, H3, H4, H5, H6⟩, HS, -, -, -⟩; imodintro
      isplitl [H0 H1 H6 HS]
      · isplitl [H0 H1 H6]
        · isplitl [H0]; · iexact H0
          isplitl [H1]; · iexact H1
          iexact H6
        iexact HS
      isplitl [H2]; · iexact H2
      isplitl [H3]; · iexact H3
      isplitl [H4]; · iexact H4
      iexact H5)
    (hin := fun c => by
      rw [scopedRest0_eq, Phi_first m c 0 rfl]
      exact held_in m c (oIn m c))
    (hout := fun c => by
      rw [scopedRest0_eq, Phi_last m c (Fin.last cfg0.N) (by decide)]
      exact held_out m c (result m c))
    (QY := fun c s => Ends m c s.mem)
    (hY := fun c s' => by
      unfold arrays others
      iintro ⟨⟨H0, H1, H6⟩, ⟨H2, H3, H4, H5⟩, HSI⟩
      icombine HSI H0 gives %h0
      icombine HSI H1 gives %h1
      icombine HSI H2 gives %h2
      icombine HSI H3 gives %h3
      icombine HSI H4 gives %h4
      icombine HSI H5 gives %h5
      icombine HSI H6 gives %h6
      imodintro
      isplitr
      · ipureintro
        exact ⟨(Buf.eq_of_forall_mem_univ h0).trans (V_main_arg0 m c), (Buf.eq_of_forall_mem_univ h1).trans (V_main_arg1 m c),
          (Buf.eq_of_forall_mem_univ h2).trans (V_main_arg2 m c), (Buf.eq_of_forall_mem_univ h3).trans (V_main_arg3 m c),
          (Buf.eq_of_forall_mem_univ h4).trans (V_main_arg4 m c), (Buf.eq_of_forall_mem_univ h5).trans (V_main_arg5 m c),
          Buf.eq_of_forall_mem_univ h6⟩
      iexact HSI)
    (hQ := fun _ hh hz => ⟨hh, hz⟩)

/-- The arguments end as they began and every counter at zero. -/
theorem frame_run : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun _ h => ⟨fun c => by
    obtain ⟨-, e0, e1, e2, e3, e4, e5, -⟩ := h.1 c
    exact ⟨e0, e1, e2, e3, e4, e5⟩, h.2⟩) (runs m ρ)

end Launch

theorem frame : Cert.quiescent_KernelLnIdeal := fun m ρ _ => frame_run m ρ

/-! ## The kernel over bits: the same text -/

theorem bodies_same : Cert.KernelLn.defs₀ (F := F) = defs₀ := by
  unfold Cert.KernelLn.defs₀ defs₀
  refine congrArg Defs.onTc (funext fun l => ?_)
  match l with
  | ⟨0, _⟩ => rfl

theorem tables_same : Cert.KernelLn.defs (F := F) = defs := by
  unfold Cert.KernelLn.defs defs
  rw [bodies_same]; rfl

theorem frame_bits : Cert.quiescent_KernelLn := fun m ρ _ => by
  have h := frame_run (F := Bits) m ρ
  rw [← tables_same] at h
  exact h

end Cert.KernelLnIdeal.Hand

end
-- ==== Proof.Norm.lean ====
/- The layer norm of rows of 4096: of one row, and as the kernels write it for a block of any number of rows and the reference
   for a stack of matrices. -/
module

public import proofs.«01_k».proof.Proof.Act
public import Idealize.ShloMosaic.Lib.IdealHost
public import Idealize.ShloMosaic.Lib.KernelVsHost
public import Idealize.ShloMosaic.Lib.ValueLayout
public import Idealize.ShloMosaic.Lib.Pointwise.Reduce

@[expose] public section

noncomputable section

namespace Cert.Hand

open Idealize.ShloMosaic hiding ix1 ix2 ix3
open Idealize.ShloMosaic.ValueIdx

/-! ## One row -/

/-- The mean of a row. -/
def mean (v : Fin 4096 → EReal) : EReal := Ideal.div (∑ k, v k) (Ideal.ofBits .f32 0x45800000#32)

/-- A row less its mean. -/
def off (v : Fin 4096 → EReal) (k : Fin 4096) : EReal := v k - mean v

/-- What a row is scaled by. -/
def scale (v : Fin 4096 → EReal) : EReal := Ideal.rsqrt (mean (fun k => off v k * off v k) + Ideal.ofBits .f32 0x3727C5AC#32)

/-- A row normalised, with weights and offsets. -/
def normed (v g b : Fin 4096 → EReal) (k : Fin 4096) : EReal := off v k * scale v * g k + b k

theorem width_f32 : Ideal.ofBits .f32 0x45800000#32 = ((4096 : ℝ) : EReal) := by
  simp [Ideal.ofBits, Ideal.ieee, -EReal.coe_mul]; norm_num

/-- What is added to the variance is a positive real. -/
theorem epsilon_f32 : ∃ e : ℝ, 0 < e ∧ Ideal.ofBits .f32 0x3727C5AC#32 = (e : EReal) := by
  refine ⟨_, ?_, by simp [Ideal.ofBits, Ideal.ieee, -EReal.coe_mul]; rfl⟩
  norm_num

theorem square_nonneg (x : EReal) : 0 ≤ x * x := by
  induction x with
  | bot => simp
  | top => simp
  | coe r => rw [← EReal.coe_mul]; exact_mod_cast mul_self_nonneg r

/-- A row's entries, less their mean and scaled, are real whatever the row: where the variance is infinite the scale is zero. -/
theorem scaled_real (v : Fin 4096 → EReal) (k : Fin 4096) : ∃ r : ℝ, off v k * scale v = (r : EReal) := by
  obtain ⟨e, he, hE⟩ := epsilon_f32
  have hk : off v k * off v k ≤ ∑ j, off v j * off v j := Finset.single_le_sum (fun j _ => square_nonneg (off v j)) (Finset.mem_univ k)
  have h0 : 0 ≤ ∑ j, off v j * off v j := Finset.sum_nonneg fun j _ => square_nonneg (off v j)
  have hd : ∀ x : EReal, Ideal.div x ((4096 : ℝ) : EReal) = x * (((4096 : ℝ)⁻¹ : ℝ) : EReal) := fun x => by
    unfold Ideal.div
    rw [if_neg (by norm_num), EReal.coe_inv]
  unfold scale mean
  rw [width_f32, hE, hd]
  generalize ∑ j, off v j * off v j = S at hk h0
  induction S with
  | bot => simp at h0
  | top =>
    rw [EReal.top_mul_coe_of_pos (by norm_num), EReal.top_add_coe, Ideal.rsqrt_top, mul_zero]
    exact ⟨0, rfl⟩
  | coe s =>
    have hs : 0 ≤ s := by exact_mod_cast h0
    have hp : 0 < s * (4096 : ℝ)⁻¹ + e := by positivity
    rw [← EReal.coe_mul, ← EReal.coe_add, Ideal.rsqrt_coe, if_neg (not_lt.mpr hp.le), if_neg hp.ne']
    generalize off v k = x at hk
    induction x with
    | bot => simp at hk
    | top => simp at hk
    | coe r => exact ⟨r * (Real.sqrt (s * (4096 : ℝ)⁻¹ + e))⁻¹, (EReal.coe_mul _ _).symm⟩

/-- With real weights and offsets a normalised row is real, and half the weights and offsets give half of it. -/
theorem normed_half (v g b : Fin 4096 → EReal) (k : Fin 4096) (hg : ∃ r : ℝ, g k = (r : EReal)) (hb : ∃ r : ℝ, b k = (r : EReal)) :
    (∃ r : ℝ, normed v g b k = (r : EReal))
    ∧ normed v (fun k => Ideal.ofBits .f32 0x3F000000#32 * g k) (fun k => Ideal.ofBits .f32 0x3F000000#32 * b k) k
      = Ideal.ofBits .f32 0x3F000000#32 * normed v g b k := by
  obtain ⟨x, hx⟩ := scaled_real v k
  obtain ⟨p, hp⟩ := hg
  obtain ⟨q, hq⟩ := hb
  unfold normed
  simp only [hx, hp, hq, half_f32, ← EReal.coe_mul, ← EReal.coe_add]
  exact ⟨⟨_, rfl⟩, congrArg Real.toEReal (by ring)⟩

/-! ## A block of rows -/

section Rows

variable {R : Nat} (hr : (⟨2, ![R, 4096]⟩ : Shape).Reduces [1] ⟨1, ![R]⟩) (hs : (⟨1, ![R]⟩ : Shape).ShapeCasts ⟨2, ![R, 1]⟩)
  (hc : (⟨2, ![R, 1]⟩ : Shape).Broadcasts ⟨2, ![R, 4096]⟩) (hw : (⟨2, ![1, 4096]⟩ : Shape).Broadcasts ⟨2, ![R, 4096]⟩)

/-- The means of a block's rows, as a column. -/
def rowsMean (v : FVec Ideal ⟨2, ![R, 4096]⟩ .f32) : FVec Ideal ⟨2, ![R, 1]⟩ .f32 :=
  divf (shapeCast ⟨2, ![R, 1]⟩ (multiReduction .add [1] ⟨1, ![R]⟩ v 0x00000000#32 hr (.inl rfl) rfl) hs)
    (broadcast ⟨2, ![R, 1]⟩ (Scalar.ofBits .f32 0x45800000#32))
def rowsOff (v : FVec Ideal ⟨2, ![R, 4096]⟩ .f32) : FVec Ideal ⟨2, ![R, 4096]⟩ .f32 := subf v (broadcastTo ⟨2, ![R, 4096]⟩ (rowsMean hr hs v) hc)
def rowsNorm (v : FVec Ideal ⟨2, ![R, 4096]⟩ .f32) (g b : FVec Ideal ⟨2, ![1, 4096]⟩ .f32) : FVec Ideal ⟨2, ![R, 4096]⟩ .f32 :=
  addf (mulf (mulf (rowsOff hr hs hc v) (broadcastTo ⟨2, ![R, 4096]⟩ (rsqrt (addf (rowsMean hr hs (mulf (rowsOff hr hs hc v) (rowsOff hr hs hc v)))
      (broadcast ⟨2, ![R, 1]⟩ (Scalar.ofBits .f32 0x3727C5AC#32)))) hc))
    (broadcastTo ⟨2, ![R, 4096]⟩ g hw)) (broadcastTo ⟨2, ![R, 4096]⟩ b hw)

theorem col_at (x : (⟨2, ![R, 1]⟩ : Shape).Idx → EReal) (r : Fin R) (k : Fin 4096) :
    broadcastTo ⟨2, ![R, 4096]⟩ x hc (ix2 r k) = x (ix2 r (0 : Fin 1)) :=
  broadcastTo_apply x _ _ _ fun a => by
    match a with
    | ⟨0, _⟩ => show r.val = if R = 1 then 0 else r.val; split <;> omega
    | ⟨1, _⟩ => rfl

theorem rowsMean_at (v : FVec Ideal ⟨2, ![R, 4096]⟩ .f32) (r : Fin R) : rowsMean hr hs v (ix2 r (0 : Fin 1)) = mean (fun k => v (ix2 r k)) := by
  unfold rowsMean mean
  show Ideal.div (shapeCast ⟨2, ![R, 1]⟩ (multiReduction (F := Ideal) .add [1] ⟨1, ![R]⟩ v 0x00000000#32 hr (.inl rfl) rfl) hs
    (ix2 r (0 : Fin 1))) (Ideal.ofBits .f32 0x45800000#32) = _
  refine congrArg (fun z => Ideal.div z _) ?_
  refine (shapeCast_apply _ hs _ (ix1 r) ?_).trans ?_
  · rw [Shape.rowMajor_val_one, Shape.rowMajor_val_two]
    show r.val = r.val * 1 + 0
    omega
  · exact Ideal.reduceAdd_r2_a1 hr v (ix1 r)

theorem rowsOff_at (v : FVec Ideal ⟨2, ![R, 4096]⟩ .f32) (r : Fin R) (k : Fin 4096) :
    rowsOff hr hs hc v (ix2 r k) = off (fun k => v (ix2 r k)) k := by
  show (v (ix2 r k) : EReal) - broadcastTo ⟨2, ![R, 4096]⟩ (rowsMean hr hs v) hc (ix2 r k) = _
  rw [col_at, rowsMean_at]; rfl

theorem rowsNorm_at (v : FVec Ideal ⟨2, ![R, 4096]⟩ .f32) (g b : FVec Ideal ⟨2, ![1, 4096]⟩ .f32) (r : Fin R) (k : Fin 4096) :
    rowsNorm hr hs hc hw v g b (ix2 r k) = normed (fun k => v (ix2 r k)) (fun k => g (ix2 (0 : Fin 1) k)) (fun k => b (ix2 (0 : Fin 1) k)) k := by
  unfold rowsNorm
  show (rowsOff hr hs hc v (ix2 r k) : EReal) * broadcastTo ⟨2, ![R, 4096]⟩ _ hc (ix2 r k)
    * broadcastTo ⟨2, ![R, 4096]⟩ g hw (ix2 r k) + broadcastTo ⟨2, ![R, 4096]⟩ b hw (ix2 r k) = _
  rw [col_at, broadcastTo_1b_ab_apply g, broadcastTo_1b_ab_apply b, rowsOff_at]
  show _ * Ideal.rsqrt ((rowsMean hr hs (mulf (rowsOff hr hs hc v) (rowsOff hr hs hc v)) (ix2 r (0 : Fin 1)) : EReal) + Ideal.ofBits .f32 0x3727C5AC#32) * _ + _ = _
  rw [rowsMean_at]
  unfold normed scale
  have e : (fun k => (mulf (rowsOff hr hs hc v) (rowsOff hr hs hc v) (ix2 r k) : EReal))
      = fun k => off (fun k => v (ix2 r k)) k * off (fun k => v (ix2 r k)) k :=
    funext fun k => by show (rowsOff hr hs hc v (ix2 r k) : EReal) * rowsOff hr hs hc v (ix2 r k) = _; rw [rowsOff_at]
  rw [e]

end Rows

/-! ## A stack of matrices, as the reference writes it -/

section Stack

variable {B M : Nat} (hr : (⟨3, ![B, M, 4096]⟩ : Shape).ReducesTo [2] ⟨2, ![B, M]⟩) (hu : 0 < (⟨0, ![]⟩ : Shape).numel)
  (hk : (⟨2, ![B, M]⟩ : Shape).BroadcastsInDim ⟨3, ![B, M, 1]⟩ ![0, 1]) (h0 : (⟨0, ![]⟩ : Shape).BroadcastsInDim ⟨3, ![B, M, 1]⟩ ![])
  (ha : (⟨3, ![B, M, 1]⟩ : Shape).BroadcastsInDim ⟨3, ![B, M, 4096]⟩ ![0, 1, 2])
  (h1 : (⟨1, ![4096]⟩ : Shape).BroadcastsInDim ⟨3, ![1, 1, 4096]⟩ ![2]) (h2 : (⟨3, ![1, 1, 4096]⟩ : Shape).BroadcastsInDim ⟨3, ![B, M, 4096]⟩ ![0, 1, 2])

/-- A row laid over all rows of the stack. -/
abbrev overAll (x : FVec Ideal ⟨1, ![4096]⟩ .f32) : FVec Ideal ⟨3, ![B, M, 4096]⟩ .f32 :=
  broadcastInDim ⟨3, ![B, M, 4096]⟩ ![0, 1, 2] h2 (broadcastInDim ⟨3, ![1, 1, 4096]⟩ ![2] h1 x)

def stackMean (v : FVec Ideal ⟨3, ![B, M, 4096]⟩ .f32) : FVec Ideal ⟨3, ![B, M, 1]⟩ .f32 :=
  Host.divf (broadcastInDim ⟨3, ![B, M, 1]⟩ ![0, 1] hk (Host.reduceAdd v (constant ⟨0, ![]⟩ .f32 0x00000000#32) hr hu))
    (broadcastInDim ⟨3, ![B, M, 1]⟩ ![] h0 (constant ⟨0, ![]⟩ .f32 0x45800000#32))
def stackOff (v : FVec Ideal ⟨3, ![B, M, 4096]⟩ .f32) : FVec Ideal ⟨3, ![B, M, 4096]⟩ .f32 :=
  subf v (broadcastInDim ⟨3, ![B, M, 4096]⟩ ![0, 1, 2] ha (stackMean hr hu hk h0 v))
def stackNorm (v : FVec Ideal ⟨3, ![B, M, 4096]⟩ .f32) (g b : FVec Ideal ⟨1, ![4096]⟩ .f32) : FVec Ideal ⟨3, ![B, M, 4096]⟩ .f32 :=
  addf (mulf (mulf (stackOff hr hu hk h0 ha v) (broadcastInDim ⟨3, ![B, M, 4096]⟩ ![0, 1, 2] ha
      (Host.rsqrt (addf (stackMean hr hu hk h0 (mulf (stackOff hr hu hk h0 ha v) (stackOff hr hu hk h0 ha v)))
        (broadcastInDim ⟨3, ![B, M, 1]⟩ ![] h0 (constant ⟨0, ![]⟩ .f32 0x3727C5AC#32)))))) (overAll h1 h2 g)) (overAll h1 h2 b)

theorem along_at (x : FVec Ideal ⟨3, ![B, M, 1]⟩ .f32) (a : Fin B) (r : Fin M) (k : Fin 4096) :
    broadcastInDim ⟨3, ![B, M, 4096]⟩ ![0, 1, 2] ha x (ix3 a r k) = x (ix3 a r (0 : Fin 1)) :=
  broadcastInDim_apply _ _ x _ _ fun d => by
    match d with
    | ⟨0, _⟩ => show a.val = if B = 1 then 0 else a.val; split <;> omega
    | ⟨1, _⟩ => show r.val = if M = 1 then 0 else r.val; split <;> omega
    | ⟨2, _⟩ => rfl

theorem overAll_at (x : FVec Ideal ⟨1, ![4096]⟩ .f32) (a : Fin B) (r : Fin M) (k : Fin 4096) : overAll h1 h2 x (ix3 a r k) = x (ix1 k) :=
  (broadcastInDim_apply _ h2 _ _ (ix3 (0 : Fin 1) (0 : Fin 1) k) fun d => by
    match d with | ⟨0, _⟩ => rfl | ⟨1, _⟩ => rfl | ⟨2, _⟩ => rfl).trans
  (broadcastInDim_apply _ h1 x _ _ fun d => by match d with | ⟨0, _⟩ => rfl)

theorem stackMean_at (v : FVec Ideal ⟨3, ![B, M, 4096]⟩ .f32) (a : Fin B) (r : Fin M) :
    stackMean hr hu hk h0 v (ix3 a r (0 : Fin 1)) = mean (fun k => v (ix3 a r k)) := by
  unfold stackMean mean
  rw [hostDivf_apply, broadcastInDim_scalar_apply]
  refine congrArg (fun z => Ideal.div z _) ?_
  refine (broadcastInDim_apply _ hk _ _ (ix2 a r) fun d => by
    match d with
    | ⟨0, _⟩ => show a.val = if B = 1 then 0 else a.val; split <;> omega
    | ⟨1, _⟩ => show r.val = if M = 1 then 0 else r.val; split <;> omega).trans ?_
  rw [hostReduceAdd_apply]
  refine (Ideal.hostReduceAdd_r3_a2 hr v _ (ix2 a r)).trans ?_
  show Ideal.ofBits .f32 0x00000000#32 + _ = _
  rw [Ideal.ofBits_zero_f32, zero_add]
  rfl

theorem stackOff_at (v : FVec Ideal ⟨3, ![B, M, 4096]⟩ .f32) (a : Fin B) (r : Fin M) (k : Fin 4096) :
    stackOff hr hu hk h0 ha v (ix3 a r k) = off (fun k => v (ix3 a r k)) k := by
  show (v (ix3 a r k) : EReal) - broadcastInDim ⟨3, ![B, M, 4096]⟩ ![0, 1, 2] ha (stackMean hr hu hk h0 v) (ix3 a r k) = _
  rw [along_at, stackMean_at]; rfl

theorem stackNorm_at (v : FVec Ideal ⟨3, ![B, M, 4096]⟩ .f32) (g b : FVec Ideal ⟨1, ![4096]⟩ .f32) (a : Fin B) (r : Fin M) (k : Fin 4096) :
    stackNorm hr hu hk h0 ha h1 h2 v g b (ix3 a r k) = normed (fun k => v (ix3 a r k)) (fun k => g (ix1 k)) (fun k => b (ix1 k)) k := by
  unfold stackNorm
  show (stackOff hr hu hk h0 ha v (ix3 a r k) : EReal) * broadcastInDim (s := ⟨3, ![B, M, 1]⟩) ⟨3, ![B, M, 4096]⟩ ![0, 1, 2] ha _ (ix3 a r k)
    * overAll h1 h2 g (ix3 a r k) + overAll h1 h2 b (ix3 a r k) = _
  rw [along_at, overAll_at, overAll_at, stackOff_at]
  show _ * Ideal.rsqrt ((stackMean hr hu hk h0 (mulf (stackOff hr hu hk h0 ha v) (stackOff hr hu hk h0 ha v)) (ix3 a r (0 : Fin 1)) : EReal)
    + broadcastInDim ⟨3, ![B, M, 1]⟩ ![] h0 (constant (F := Ideal) ⟨0, ![]⟩ .f32 0x3727C5AC#32) (ix3 a r (0 : Fin 1))) * _ + _ = _
  rw [stackMean_at, broadcastInDim_scalar_apply]
  unfold normed scale
  have e : (fun k => (mulf (stackOff hr hu hk h0 ha v) (stackOff hr hu hk h0 ha v) (ix3 a r k) : EReal))
      = fun k => off (fun k => v (ix3 a r k)) k * off (fun k => v (ix3 a r k)) k :=
    funext fun k => by
      show (stackOff hr hu hk h0 ha v (ix3 a r k) : EReal) * stackOff hr hu hk h0 ha v (ix3 a r k) = _
      rw [stackOff_at]
  rw [e]; rfl

end Stack

end Cert.Hand
end
-- ==== Proof.LnValue.lean ====
/- The last layer norm against the reference: both take every row of `x`, normalise it, add the row of the branches'
   sum and normalise again. -/
module

public import proofs.«01_k».proof.Proof.LnRun
public import proofs.«01_k».proof.Proof.Norm
public import proofs.«01_k».proof.Proof.Gen.ReferenceLnIdeal.Run

@[expose] public section

set_option maxRecDepth 16384

noncomputable section

namespace Cert.KernelLnIdeal.Hand

open Cert.KernelLnIdeal.Gen Cert.Hand
open Idealize.ShloMosaic hiding ix1 ix2 ix3
open Idealize.ShloMosaic.TcCoe Idealize.ShloMosaic.ValueIdx Idealize.ShloMosaic.StableHlo
open Idealize.SL Idealize.SL.Sem

/-! ## One row -/

/-- The row normalised second. -/
def second (v g b s : Fin 4096 → EReal) (k : Fin 4096) : EReal := Ideal.ofBits .f32 0x3F9837F0#32 * normed v g b k + s k

/-! ## The kernel's block, row by row -/

section Kernel

/-- A block of 128 rows normalised. -/
abbrev kNorm (v : FVec Ideal S128x4096 .f32) (g b : FVec Ideal S1x4096 .f32) : FVec Ideal S128x4096 .f32 :=
  rowsNorm reduces_S128x4096_S128 shapeCasts_S128_S128x1 broadcasts_S128x1_S128x4096 broadcasts_S1x4096_S128x4096 v g b

theorem kNorm_at (v : FVec Ideal S128x4096 .f32) (g b : FVec Ideal S1x4096 .f32) (r : Fin 128) (k : Fin 4096) :
    kNorm v g b (ix2 r k) = normed (fun k => v (ix2 r k)) (fun k => g (ix2 (0 : Fin 1) k)) (fun k => b (ix2 (0 : Fin 1) k)) k :=
  rowsNorm_at _ _ _ _ v g b r k

/-- A block stored, entry by entry. -/
theorem stored_at (x s : FVec Ideal S1x128x4096 .f32) (g b g' b' : FVec Ideal S1x4096 .f32) (r : Fin 128) (k : Fin 4096) :
    (k0_pay4 (k0_pay1 x g b s) (k0_pay2 g') (k0_pay3 b') : FVec Ideal S1x128x4096 .f32) (ix3 (0 : Fin 1) r k)
      = normed (second (fun k => x (ix3 (0 : Fin 1) r k)) (fun k => g (ix2 (0 : Fin 1) k)) (fun k => b (ix2 (0 : Fin 1) k))
            (fun k => s (ix3 (0 : Fin 1) r k)))
          (fun k => g' (ix2 (0 : Fin 1) k)) (fun k => b' (ix2 (0 : Fin 1) k)) k := by
  have e4 : ∀ v, (k0_pay4 v (k0_pay2 g') (k0_pay3 b') : FVec Ideal S1x128x4096 .f32)
      = shapeCast S1x128x4096 (kNorm v (shapeCast S1x4096 g' shapeCasts_S1x4096_S1x4096) (shapeCast S1x4096 b' shapeCasts_S1x4096_S1x4096))
          shapeCasts_S128x4096_S1x128x4096 := fun _ => rfl
  have e1 : (k0_pay1 x g b s : FVec Ideal S128x4096 .f32)
      = addf (mulf (broadcast S128x4096 (Scalar.ofBits .f32 0x3F9837F0#32))
          (kNorm (shapeCast S128x4096 x shapeCasts_S1x128x4096_S128x4096) (shapeCast S1x4096 g shapeCasts_S1x4096_S1x4096)
            (shapeCast S1x4096 b shapeCasts_S1x4096_S1x4096))) (shapeCast S128x4096 s shapeCasts_S1x128x4096_S128x4096) := rfl
  have c : ∀ w : FVec Ideal S1x4096 .f32, (shapeCast S1x4096 w shapeCasts_S1x4096_S1x4096 : FVec Ideal S1x4096 .f32) = w := fun w =>
    funext fun j => shapeCast_apply w _ j j rfl
  rw [e4, c, c, shapeCast_ab_1ab_apply, kNorm_at, e1, c, c]
  refine congrArg (fun v => normed v _ _ k) (funext fun k => ?_)
  show Ideal.ofBits .f32 0x3F9837F0#32 * (kNorm _ g b (ix2 r k) : EReal) + shapeCast S128x4096 s shapeCasts_S1x128x4096_S128x4096 (ix2 r k) = _
  rw [kNorm_at, shapeCast_1ab_ab_apply]
  unfold second
  simp only [shapeCast_1ab_ab_apply]

end Kernel
end Cert.KernelLnIdeal.Hand

/-! ## The reference, row by row -/

namespace Cert.ReferenceLnIdeal.Hand

open Cert.ReferenceLnIdeal Cert.ReferenceLnIdeal.Gen
open Cert.Hand
open Cert.KernelLnIdeal.Hand (second)
open Idealize.ShloMosaic hiding ix1 ix2 ix3
open Idealize.ShloMosaic.TcCoe Idealize.ShloMosaic.ValueIdx Idealize.ShloMosaic.StableHlo

/-- The stack normalised. -/
abbrev rNorm (v : FVec Ideal S4x4096x4096 .f32) (g b : FVec Ideal S4096 .f32) : FVec Ideal S4x4096x4096 .f32 :=
  stackNorm reducesTo_S4x4096x4096_S4x4096_d2 h_S_ bcast_S4x4096_S4x4096x1_0_1 bcast_S_S4x4096x1 bcast_S4x4096x1_S4x4096x4096_0_1_2
    bcast_S4096_S1x1x4096_2 bcast_S1x1x4096_S4x4096x4096_0_1_2 v g b

theorem rNorm_at (v : FVec Ideal S4x4096x4096 .f32) (g b : FVec Ideal S4096 .f32) (a : Fin 4) (r k : Fin 4096) :
    rNorm v g b (ix3 a r k) = normed (fun k => v (ix3 a r k)) (fun k => g (ix1 k)) (fun k => b (ix1 k)) k :=
  stackNorm_at _ _ _ _ _ _ _ v g b a r k

/-- The reference's result, entry by entry. -/
theorem result_at (m : (ℓ : Loc nD τ sig) → Buf (Elt Ideal) ℓ) (c : Dev nD) (a : Fin 4) (r k : Fin 4096) :
    (Cert.ReferenceLnIdeal.Value.res_main_v50 m c : FVec Ideal S4x4096x4096 .f32) (ix3 a r k)
      = normed (second (fun k => (m ((c : Thread nD τ).loc main_arg0) : FVec Ideal S4x4096x4096 .f32) (ix3 a r k))
            (fun k => (m ((c : Thread nD τ).loc main_arg2) : FVec Ideal S4096 .f32) (ix1 k))
            (fun k => (m ((c : Thread nD τ).loc main_arg3) : FVec Ideal S4096 .f32) (ix1 k))
            (fun k => (m ((c : Thread nD τ).loc main_arg1) : FVec Ideal S4x4096x4096 .f32) (ix3 a r k)))
          (fun k => (m ((c : Thread nD τ).loc main_arg4) : FVec Ideal S4096 .f32) (ix1 k))
          (fun k => (m ((c : Thread nD τ).loc main_arg5) : FVec Ideal S4096 .f32) (ix1 k)) k := by
  have e : (Cert.ReferenceLnIdeal.Value.res_main_v50 m c : FVec Ideal S4x4096x4096 .f32)
      = rNorm (addf (mulf (broadcastInDim S4x4096x4096 ![] bcast_S_S4x4096x4096 (constant S_ .f32 0x3F9837F0#32))
          (rNorm (m ((c : Thread nD τ).loc main_arg0)) (m ((c : Thread nD τ).loc main_arg2)) (m ((c : Thread nD τ).loc main_arg3))))
          (m ((c : Thread nD τ).loc main_arg1))) (m ((c : Thread nD τ).loc main_arg4)) (m ((c : Thread nD τ).loc main_arg5)) := by
    unfold Cert.ReferenceLnIdeal.Value.res_main_v50 rNorm stackNorm stackOff stackMean
    rfl
  rw [e, rNorm_at]
  refine congrArg (fun v => normed v _ _ k) (funext fun k => ?_)
  show (broadcastInDim S4x4096x4096 ![] bcast_S_S4x4096x4096 (constant (F := Ideal) S_ .f32 0x3F9837F0#32) (ix3 a r k) : EReal) * rNorm _ _ _ (ix3 a r k) + _ = _
  rw [rNorm_at, broadcastInDim_scalar_apply]
  rfl

end Cert.ReferenceLnIdeal.Hand

namespace Cert.KernelLnIdeal.Hand

open Cert.KernelLnIdeal.Gen Cert.Hand
open Idealize.ShloMosaic hiding ix1 ix2 ix3
open Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-! ## What the kernel reads -/

/-- A row of 4096 staged as a matrix of one row. -/
theorem lifted (x : FVec Ideal S4096 .f32) (k : Fin 4096) :
    (shapeCast S1x4096 x shapeCasts_S4096_S1x4096 : FVec Ideal S1x4096 .f32) (ix2 (0 : Fin 1) k) = x (ix1 k) :=
  shapeCast_apply _ shapeCasts_S4096_S1x4096 _ (ix1 k) (by
    rw [Shape.rowMajor_val_one, Shape.rowMajor_val_two]
    show k.val = 0 * 4096 + k.val
    omega)

theorem V_rows (c : Dev nD) :
    ((V m c main_v0 : S1x4096.Idx → EReal) = shapeCast S1x4096 (m ((c : Thread nD τ).loc main_arg2) : S4096.Idx → EReal) shapeCasts_S4096_S1x4096)
    ∧ ((V m c main_v1 : S1x4096.Idx → EReal) = shapeCast S1x4096 (m ((c : Thread nD τ).loc main_arg3) : S4096.Idx → EReal) shapeCasts_S4096_S1x4096)
    ∧ ((V m c main_v2 : S1x4096.Idx → EReal) = shapeCast S1x4096 (m ((c : Thread nD τ).loc main_arg4) : S4096.Idx → EReal) shapeCasts_S4096_S1x4096)
    ∧ ((V m c main_v3 : S1x4096.Idx → EReal) = shapeCast S1x4096 (m ((c : Thread nD τ).loc main_arg5) : S4096.Idx → EReal) shapeCasts_S4096_S1x4096) := by
  refine ⟨?_, ?_, ?_, ?_⟩
  all_goals
    show after hostOps0 (fun b => m (c, b)) _ = _
    simp only [hostOps0]
    after_results <;> rfl

/-- The whole of a row staged: its one block. -/
theorem only (W : S1x4096.Idx → EReal) (k : Fin 4096) (z : S1x4096.Idx) (h0 : (z (0 : Fin 2)).val = 0)
    (h1 : (z (1 : Fin 2)).val = 0 * 4096 + 1 * k.val) : W z = W (ix2 (0 : Fin 1) k) := congrArg W (funext fun a => Fin.ext (by
  match a with
  | ⟨0, _⟩ => exact h0
  | ⟨1, _⟩ => exact h1.trans (by show _ = k.val; omega)))

/-- A staged row is the argument it was staged from. -/
theorem staged (c : Dev nD) :
    ((fun k : Fin 4096 => (iblk m c 0 t0_0 : S1x4096.Idx → EReal) (ix2 (0 : Fin 1) k)) = fun k => (m ((c : Thread nD τ).loc main_arg2) : S4096.Idx → EReal) (ix1 k))
    ∧ ((fun k : Fin 4096 => (iblk m c 1 t0_0 : S1x4096.Idx → EReal) (ix2 (0 : Fin 1) k)) = fun k => (m ((c : Thread nD τ).loc main_arg3) : S4096.Idx → EReal) (ix1 k))
    ∧ ((fun k : Fin 4096 => (iblk m c 2 t0_0 : S1x4096.Idx → EReal) (ix2 (0 : Fin 1) k)) = fun k => (m ((c : Thread nD τ).loc main_arg4) : S4096.Idx → EReal) (ix1 k))
    ∧ ((fun k : Fin 4096 => (iblk m c 3 t0_0 : S1x4096.Idx → EReal) (ix2 (0 : Fin 1) k)) = fun k => (m ((c : Thread nD τ).loc main_arg5) : S4096.Idx → EReal) (ix1 k)) := by
  obtain ⟨e0, e1, e2, e3⟩ := V_rows m c
  exact ⟨funext fun k => (only (V m c main_v0) k ((win0_0.blk t0_0).view.emb (ix2 (0 : Fin 1) k)) rfl rfl).trans ((congrFun e0 _).trans (lifted _ k)),
    funext fun k => (only (V m c main_v1) k ((win0_1.blk t0_0).view.emb (ix2 (0 : Fin 1) k)) rfl rfl).trans ((congrFun e1 _).trans (lifted _ k)),
    funext fun k => (only (V m c main_v2) k ((win0_2.blk t0_0).view.emb (ix2 (0 : Fin 1) k)) rfl rfl).trans ((congrFun e2 _).trans (lifted _ k)),
    funext fun k => (only (V m c main_v3) k ((win0_3.blk t0_0).view.emb (ix2 (0 : Fin 1) k)) rfl rfl).trans ((congrFun e3 _).trans (lifted _ k))⟩

/-- A block of an array, read. -/
theorem block_of (c : Dev nD) (A : Memref sig .tc .hbm S4x4096x4096 .f32) (x : Buf (Elt Ideal) (A.view.loc (c : Thread nD τ)))
    (X : S4x4096x4096.Idx → EReal) (hX : ∀ y, A.view.read (Elt Ideal) x y = X y) (a : Fin 4) (r k : Fin 4096) (b : Fin 128)
    (hb : b.val = 32 * a.val + r.val / 128) :
    (blkOf c A x b : S1x128x4096.Idx → EReal) (ix3 (0 : Fin 1) (⟨r.val % 128, Nat.mod_lt _ (by decide)⟩ : Fin 128) k) = X (ix3 a r k) := by
  have hr : r.val < 4096 := r.isLt
  refine (hX ((Rect.unit (s := S4x4096x4096) (blkOff b) S1x128x4096.size (blkOff_inb b)).emb
    (ix3 (0 : Fin 1) (⟨r.val % 128, Nat.mod_lt _ (by decide)⟩ : Fin 128) k))).trans (congrArg X (funext fun d => Fin.ext ?_))
  match d with
  | ⟨0, _⟩ => show b.val / 32 + 1 * 0 = a.val; omega
  | ⟨1, _⟩ => show 128 * (b.val % 32) + 1 * (r.val % 128) = r.val; omega
  | ⟨2, _⟩ => show 0 + 1 * k.val = k.val; omega

/-- The result, entry by entry. -/
theorem kernel_at (c : Dev nD) (a : Fin 4) (r k : Fin 4096) : (result m c : S4x4096x4096.Idx → EReal) (ix3 a r k)
      = normed (second (fun k => (m ((c : Thread nD τ).loc main_arg0) : S4x4096x4096.Idx → EReal) (ix3 a r k))
            (fun k => (m ((c : Thread nD τ).loc main_arg2) : S4096.Idx → EReal) (ix1 k))
            (fun k => (m ((c : Thread nD τ).loc main_arg3) : S4096.Idx → EReal) (ix1 k))
            (fun k => (m ((c : Thread nD τ).loc main_arg1) : S4x4096x4096.Idx → EReal) (ix3 a r k)))
          (fun k => (m ((c : Thread nD τ).loc main_arg4) : S4096.Idx → EReal) (ix1 k))
          (fun k => (m ((c : Thread nD τ).loc main_arg5) : S4096.Idx → EReal) (ix1 k)) k := by
  show valueAt m c ⟨blkNo (ix3 a r k), blkNo_lt _⟩ (ix3 (0 : Fin 1) (⟨r.val % 128, Nat.mod_lt _ (by decide)⟩ : Fin 128) k) = _
  unfold valueAt
  refine (stored_at _ _ _ _ _ _ _ k).trans ?_
  obtain ⟨e0, e1, e2, e3⟩ := staged m c
  rw [e0, e1, e2, e3]
  have ex : ∀ k : Fin 4096, (blkOf c xM (xIn m c) ⟨blkNo (ix3 a r k), blkNo_lt _⟩ : S1x128x4096.Idx → EReal)
      (ix3 (0 : Fin 1) (⟨r.val % 128, Nat.mod_lt _ (by decide)⟩ : Fin 128) k) = (m ((c : Thread nD τ).loc main_arg0) : S4x4096x4096.Idx → EReal) (ix3 a r k) :=
    fun k => block_of c xM (xIn m c) _ (fun y => congrFun (V_main_arg0 m c) y) a r k _ rfl
  have es : ∀ k : Fin 4096, (blkOf c sM (sIn m c) ⟨blkNo (ix3 a r k), blkNo_lt _⟩ : S1x128x4096.Idx → EReal)
      (ix3 (0 : Fin 1) (⟨r.val % 128, Nat.mod_lt _ (by decide)⟩ : Fin 128) k) = (m ((c : Thread nD τ).loc main_arg1) : S4x4096x4096.Idx → EReal) (ix3 a r k) :=
    fun k => block_of c sM (sIn m c) _ (fun y => congrFun (V_main_arg1 m c) y) a r k _ rfl
  exact congrArg₂ (fun x s => normed (second x _ _ s) _ _ k) (funext ex) (funext es)

/-! ## The claims -/

theorem frame_reference : Cert.quiescent_ReferenceLnIdeal := fun m ρ _ =>
  (θ_run Cert.ReferenceLnIdeal.defs _ _).mono
    (fun r h => ⟨fun c => (h c).2, sem_eq_zero_of_no_sems (by decide) r.2⟩) (Cert.ReferenceLnIdeal.Value.run (F := Ideal) m ρ)

theorem algebraic : Cert.algebraic_KernelLnIdeal_ReferenceLnIdeal := by
  intro m ρ m' ρ' _ hargs
  refine ⟨fun c => result m c, ?_, ?_⟩
  · exact (θ_run defs _ _).mono (fun _ h c => by
      obtain ⟨-, e0, e1, e2, e3, e4, e5, e6⟩ := h.1 c
      exact ⟨e6, e0, e1, e2, e3, e4, e5⟩) (runs m ρ)
  · refine (θ_run Cert.ReferenceLnIdeal.defs _ _).mono (fun r h c => ⟨(h c).1.trans ?_, (h c).2⟩)
      (Cert.ReferenceLnIdeal.Value.run (F := Ideal) m' ρ')
    obtain ⟨e0, e1, e2, e3, e4, e5⟩ := hargs c
    funext o
    obtain ⟨a, r, k, rfl⟩ : ∃ (a : Fin 4) (r k : Fin 4096), o = ix3 a r k := ⟨o (0 : Fin 3), o (1 : Fin 3), o (2 : Fin 3), ValueIdx.eq_ix3 o⟩
    refine (Cert.ReferenceLnIdeal.Hand.result_at m' c a r k).trans ?_
    rw [e0, e1, e2, e3, e4, e5]
    exact (kernel_at m c a r k).symm

end Cert.KernelLnIdeal.Hand

end
-- ==== Proof.DtValue.lean ====
/- The time steps of the state branch against the reference: each padded sequence's rows before its first are zero, the others
   the softplus of a projection with a bias, in both layouts of the result. -/
module

public import proofs.«01_k».proof.Proof.Product
public import proofs.«01_k».proof.Proof.Gen.KernelDt
public import proofs.«01_k».proof.Proof.Gen.KernelDtIdeal.Value
public import proofs.«01_k».proof.Proof.Gen.ReferenceDtIdeal.Run
public import Idealize.ShloMosaic.Lib.WordCmp
public import Idealize.ShloMosaic.Lib.Pipeline.ValueKit.Geometry
public import Idealize.ShloMosaic.Lib.Claim
public import Idealize.ShloMosaic.Lib.ValueLayout
public import proofs.«01_k».proof.Defs

@[expose] public section

set_option maxRecDepth 16384

noncomputable section

namespace Cert.KernelDtIdeal.Hand

open Cert.KernelDtIdeal.Gen Cert.Hand
open Idealize.ShloMosaic Idealize.ShloMosaic.TcCoe Idealize.ShloMosaic.ValueIdx Idealize.ShloMosaic.StableHlo
open Idealize.SL Idealize.SL.Sem

/-! ## One entry -/

/-- The logarithm of `1 + exp x`, as the kernel writes it. -/
def softplus (x : EReal) : EReal :=
  max x (Ideal.ofBits .f32 0x00000000#32) + Ideal.log1p (Ideal.exp (Ideal.ofBits .f32 0x00000000#32 - max x (-x)))

/-- As the reference writes it: no entry differs from itself, so its first branch is not taken. -/
theorem softplus_eq (x : EReal) :
    Scalar.select (Ideal.cmp .une (x - Ideal.ofBits .f32 0x00000000#32) (x - Ideal.ofBits .f32 0x00000000#32)) (x + Ideal.ofBits .f32 0x00000000#32)
      (max x (Ideal.ofBits .f32 0x00000000#32)
        + Ideal.log1p (Ideal.exp (-(max (x - Ideal.ofBits .f32 0x00000000#32) (-(x - Ideal.ofBits .f32 0x00000000#32)))))) = softplus x := by
  unfold softplus
  rw [Ideal.ofBits_zero_f32, sub_zero, zero_sub]
  simp [Ideal.cmp, Scalar.select]

/-- Row `a` of the block at point `t` is row `1408 * (t % 3) + a` of its padded sequence. -/
theorem word (t : Fin cfg0.N) : Scalar.muli (Scalar.remsi (BitVec.ofNat 32 (grid0.coords t 0).val) 3#32) 1408#32 = BitVec.ofNat 32 (t.val % 3 * 1408) :=
  (by decide +kernel : ∀ t : Fin grid0.N, Scalar.muli (Scalar.remsi (BitVec.ofNat 32 (grid0.coords t 0).val) 3#32) 1408#32 = BitVec.ofNat 32 (t.val % 3 * 1408)) t

theorem before_first (t : Fin cfg0.N) (a : Fin 1408) :
    IntOp.cmpi .slt (BitVec.ofNat 32 (t.val % 3 * 1408) + BitVec.ofNat 32 a.val) 112#32 = BitVec.ofBool (decide (t.val % 3 * 1408 + a.val < 112)) := by
  have e : (BitVec.ofNat 32 (t.val % 3 * 1408) + BitVec.ofNat 32 a.val).toNat = t.val % 3 * 1408 + a.val := by
    rw [← BitVec.ofNat_add, BitVec.toNat_ofNat]; omega
  rw [WordCmp.cmpi_slt_of_lt (by rw [e]; norm_num; omega) (by decide), e]; rfl

/-- The kernel's block of time steps at an entry. -/
theorem pay1_apply (t : Fin cfg0.N) (x : S1408x4096.Idx → EReal) (w : S4096x128.Idx → EReal) (b : S1x128.Idx → EReal) (a : Fin 1408) (n : Fin 128)
    (L R : Nat → EReal) (hl : ∀ y : S1408x4096.Idx, (y (0 : Fin 2)).val = a.val → x y = L (y (1 : Fin 2)).val)
    (hr : ∀ y : S4096x128.Idx, (y (1 : Fin 2)).val = n.val → w y = R (y (0 : Fin 2)).val) :
    k0_pay1 (F := Ideal) (grid0.coords t) x w b (ix2 a n)
      = if t.val % 3 * 1408 + a.val < 112 then 0 else softplus ((∑ k : Fin 4096, L k.val * R k.val) + b (ix2 0 n)) := by
  have hm := matmul_at (φ₁ := .bf16) (φ₂ := .bf16) none x w (ix2 a n) L R hl hr
  have hb := broadcastTo_1b_ab_apply b broadcasts_S1x128_S1408x128 a n
  unfold k0_pay1
  rw [shapeCast_self x, shapeCast_self w, shapeCast_self b, word t, ← hm, ← hb]
  show Scalar.select (IntOp.cmpi .slt (BitVec.ofNat 32 (t.val % 3 * 1408) + iota .tc S1408x128 32 [0] iota_S1408x128_d0_w32 (ix2 a n)) 112#32) _ _ = _
  rw [show iota .tc S1408x128 32 [0] iota_S1408x128_d0_w32 (ix2 a n) = BitVec.ofNat 32 a.val from iota_single_apply _ _ _ _ _ _, before_first t a]
  by_cases h : t.val % 3 * 1408 + a.val < 112
  · rw [if_pos h, decide_eq_true h]; exact Ideal.ofBits_zero_f32
  · rw [if_neg h, decide_eq_false h]; rfl

/-! ## The two result arrays -/

variable (m : (ℓ : Loc nD τ sig) → Buf (Elt Ideal) ℓ) (ρ : Dev nD → PrngReg)

/-- The padded activations, the weight and the bias, read at row and column. -/
def xAt (c : Dev nD) : Nat → Nat → EReal := at2 (M := 16896) (N := 4096) (V m c main_v2)
def wAt (c : Dev nD) : Nat → Nat → EReal := at2 (M := 4096) (N := 128) (V m c main_v5)
def bAt (c : Dev nD) : Nat → Nat → EReal := at2 (M := 1) (N := 128) (V m c main_v7)

/-- The time step of padded row `r`, head `n`. -/
def step (c : Dev nD) (r n : Nat) : EReal := if r % 4224 < 112 then 0 else softplus (prod (xAt m c) (wAt m c) r n + bAt m c 0 n)

def G (c : Dev nD) : Buf (Elt Ideal) ((c : Thread nD τ).loc main_v8_0) :=
  fun o : S16896x128.Idx => step m c (o (0 : Fin 2)).val (o (1 : Fin 2)).val
def GT (c : Dev nD) : Buf (Elt Ideal) ((c : Thread nD τ).loc main_v8_1) :=
  fun o : S128x16896.Idx => step m c (o (1 : Fin 2)).val (o (0 : Fin 2)).val

theorem at_x (t : Fin cfg0.N) : win0_0.index t = ![t.val, 0] := (by decide +kernel : ∀ t : Fin grid0.N, win0_0.index t = ![t.val, 0]) t
theorem at_w (t : Fin cfg0.N) : win0_1.index t = ![0, 0] := (by decide +kernel : ∀ t : Fin grid0.N, win0_1.index t = ![0, 0]) t
theorem at_b (t : Fin cfg0.N) : win0_2.index t = ![0, 0] := (by decide +kernel : ∀ t : Fin grid0.N, win0_2.index t = ![0, 0]) t
theorem at_o (t : Fin cfg0.N) : win0_3.index t = ![t.val, 0] := (by decide +kernel : ∀ t : Fin grid0.N, win0_3.index t = ![t.val, 0]) t
theorem at_ot (t : Fin cfg0.N) : win0_4.index t = ![0, t.val] := (by decide +kernel : ∀ t : Fin grid0.N, win0_4.index t = ![0, t.val]) t

theorem xblk (c : Dev nD) (t : Fin cfg0.N) (j : S1408x4096.Idx) :
    (iblk m c 0 t : S1408x4096.Idx → EReal) j = xAt m c (t.val * 1408 + (j (0 : Fin 2)).val) (j (1 : Fin 2)).val := by
  unfold iblk
  rw [View.read_apply]
  refine at2_of (M := 16896) (N := 4096) (V m c main_v2) _ _ _ ?_ ?_
  · show win0_0.index t 0 * 1408 + 1 * (j (0 : Fin 2)).val = _
    rw [at_x t]; show t.val * 1408 + 1 * _ = _; omega
  · show win0_0.index t 1 * 4096 + 1 * (j (1 : Fin 2)).val = _
    rw [at_x t]; show 0 * 4096 + 1 * _ = _; omega

theorem wblk (c : Dev nD) (t : Fin cfg0.N) (j : S4096x128.Idx) :
    (iblk m c 1 t : S4096x128.Idx → EReal) j = wAt m c (j (0 : Fin 2)).val (j (1 : Fin 2)).val := by
  unfold iblk
  rw [View.read_apply]
  refine at2_of (M := 4096) (N := 128) (V m c main_v5) _ _ _ ?_ ?_
  · show win0_1.index t 0 * 4096 + 1 * (j (0 : Fin 2)).val = _
    rw [at_w t]; show 0 * 4096 + 1 * _ = _; omega
  · show win0_1.index t 1 * 128 + 1 * (j (1 : Fin 2)).val = _
    rw [at_w t]; show 0 * 128 + 1 * _ = _; omega

theorem bblk (c : Dev nD) (t : Fin cfg0.N) (n : Fin 128) : (iblk m c 2 t : S1x128.Idx → EReal) (ix2 0 n) = bAt m c 0 n.val := by
  unfold iblk
  rw [View.read_apply]
  refine at2_of (M := 1) (N := 128) (V m c main_v7) _ _ _ ?_ ?_
  · show win0_2.index t 0 * 1 + 1 * 0 = _
    rw [at_b t]; rfl
  · show win0_2.index t 1 * 128 + 1 * n.val = _
    rw [at_b t]; show 0 * 128 + 1 * _ = _; omega

/-- A point's block of time steps. -/
theorem pay1_at (c : Dev nD) (t : Fin cfg0.N) (a : Fin 1408) (n : Fin 128) :
    k0_pay1 (F := Ideal) (grid0.coords t) (iblk m c 0 t) (iblk m c 1 t) (iblk m c 2 t) (ix2 a n) = step m c (t.val * 1408 + a.val) n.val := by
  refine (pay1_apply t _ _ _ a n (fun k => xAt m c (t.val * 1408 + a.val) k) (fun k => wAt m c k n.val) (fun y hy => ?_) fun y hy => ?_).trans ?_
  · rw [xblk m c t, hy]
  · rw [wblk m c t, hy]
  · rw [bblk m c t]
    unfold step prod
    rw [show (t.val * 1408 + a.val) % 4224 = t.val % 3 * 1408 + a.val by omega]

theorem final (c : Dev nD) : (dats m 0 c).arrAt 3 cfg0.N = G m c := by
  refine (dats m 0 c).arrAt_eq_of_covers 3 (G m c) (by decide +kernel) fun t hf y => ?_
  rw [after0_3]
  unfold out0_3
  rw [View.canon_cons_unit_lit _ _ _ (by decide), View.ld_unit_lit _ _ (by decide), View.ld_unit_lit _ _ (by decide), View.ld_unit_lit _ _ (by decide)]
  have e0 : (((cfg0.win 3).blk t).view.emb y (0 : Fin 2)).val = t.val * 1408 + (y (0 : Fin 2)).val := by
    show win0_3.index t 0 * 1408 + 1 * (y (0 : Fin 2)).val = _
    rw [at_o t]; show t.val * 1408 + 1 * _ = _; omega
  have e1 : (((cfg0.win 3).blk t).view.emb y (1 : Fin 2)).val = (y (1 : Fin 2)).val := by
    show win0_3.index t 1 * 128 + 1 * (y (1 : Fin 2)).val = _
    rw [at_o t]; show 0 * 128 + 1 * _ = _; omega
  show k0_pay1 (F := Ideal) (grid0.coords t) (iblk m c 0 t) (iblk m c 1 t) (iblk m c 2 t) y
    = step m c (((cfg0.win 3).blk t).view.emb y (0 : Fin 2)).val (((cfg0.win 3).blk t).view.emb y (1 : Fin 2)).val
  rw [e0, e1]
  exact (congrArg _ (eq_ix2 (n0 := 1408) (n1 := 128) y)).trans (pay1_at m c t _ _)

theorem finalT (c : Dev nD) : (dats m 0 c).arrAt 4 cfg0.N = GT m c := by
  refine (dats m 0 c).arrAt_eq_of_covers 4 (GT m c) (by decide +kernel) fun t hf y => ?_
  rw [after0_4]
  unfold out0_4
  rw [View.canon_cons_unit_lit _ _ _ (by decide), View.ld_unit_lit _ _ (by decide), View.ld_unit_lit _ _ (by decide), View.ld_unit_lit _ _ (by decide)]
  have e0 : (((cfg0.win 4).blk t).view.emb y (0 : Fin 2)).val = (y (0 : Fin 2)).val := by
    show win0_4.index t 0 * 128 + 1 * (y (0 : Fin 2)).val = _
    rw [at_ot t]; show 0 * 128 + 1 * _ = _; omega
  have e1 : (((cfg0.win 4).blk t).view.emb y (1 : Fin 2)).val = t.val * 1408 + (y (1 : Fin 2)).val := by
    show win0_4.index t 1 * 1408 + 1 * (y (1 : Fin 2)).val = _
    rw [at_ot t]; show t.val * 1408 + 1 * _ = _; omega
  show k0_pay2 (F := Ideal) (grid0.coords t) (iblk m c 0 t) (iblk m c 1 t) (iblk m c 2 t) y
    = step m c (((cfg0.win 4).blk t).view.emb y (1 : Fin 2)).val (((cfg0.win 4).blk t).view.emb y (0 : Fin 2)).val
  rw [e0, e1]
  refine (congrArg _ (eq_ix2 (n0 := 128) (n1 := 1408) y)).trans (Eq.trans ?_ (pay1_at m c t _ _))
  unfold k0_pay2
  exact transpose_ix2_apply _ transposes_S1408x128_p1_0_S128x1408 _ _

/-! ## What the host prepares -/

theorem V_x (c : Dev nD) : (V m c main_v2 : S16896x4096.Idx → EReal)
    = shapeCast S16896x4096 (pad S4x4224x4096 ![0, 112, 0] ![0, 0, 0] ![0, 0, 0] (m ((c : Thread nD τ).loc main_arg0) : S4x4112x4096.Idx → EReal)
        (sitofp (F := Ideal) .bf16 (constantI S_ 32 0#32)) pads_S4x4112x4096_S4x4224x4096_000_11200_000 h_S_) shapeCasts_S4x4224x4096_S16896x4096 := by
  show after (List.flatten [hostOps0, hostOps0_1, hostOps0_2]) (fun b => m (c, b)) main_v2 = _
  simp only [hostOps0, hostOps0_1, hostOps0_2, List.flatten_cons, List.flatten_nil, List.append_nil, List.cons_append, List.nil_append]
  after_results <;> rfl

theorem V_w (c : Dev nD) : (V m c main_v5 : S4096x128.Idx → EReal)
    = extractStridedSlice S4096x128 ![0, 30720] (shapeCast S4096x39040 (m ((c : Thread nD τ).loc main_arg1) : S1x4096x39040.Idx → EReal)
        shapeCasts_S1x4096x39040_S4096x39040) slices_S4096x39040_S4096x128_0_30720 := by
  show after (List.flatten [hostOps0, hostOps0_1, hostOps0_2]) (fun b => m (c, b)) main_v5 = _
  simp only [hostOps0, hostOps0_1, hostOps0_2, List.flatten_cons, List.flatten_nil, List.append_nil, List.cons_append, List.nil_append]
  after_results <;> rfl

theorem V_b (c : Dev nD) : (V m c main_v7 : S1x128.Idx → EReal)
    = shapeCast S1x128 (shapeCast S128 (m ((c : Thread nD τ).loc main_arg2) : S1x128.Idx → EReal) shapeCasts_S1x128_S128) shapeCasts_S128_S1x128 := by
  show after (List.flatten [hostOps0, hostOps0_1, hostOps0_2]) (fun b => m (c, b)) main_v7 = _
  simp only [hostOps0, hostOps0_1, hostOps0_2, List.flatten_cons, List.flatten_nil, List.append_nil, List.cons_append, List.nil_append]
  after_results <;> rfl

theorem bAt_eq (c : Dev nD) (n : Fin 128) : bAt m c 0 n.val
    = shapeCast S128 (m ((c : Thread nD τ).loc main_arg2) : S1x128.Idx → EReal) shapeCasts_S1x128_S128 (ix1 n) := by
  unfold bAt
  rw [at2_lt _ _ _ Nat.one_pos n.isLt, V_b]
  exact shapeCast_apply _ _ _ _ (by rw [Shape.rowMajor_val_one, Shape.rowMajor_val_two]; show n.val = 0 * 128 + n.val; omega)

/-- A padded sequence's row `112 + q` is the sequence's row `q`. -/
theorem row_args (c : Dev nD) (b : Fin 4) (q : Fin 4112) (n : Fin 128) : prod (xAt m c) (wAt m c) (b.val * 4224 + (112 + q.val)) n.val
    = rowDot (m ((c : Thread nD τ).loc main_arg0) : S4x4112x4096.Idx → EReal) (m ((c : Thread nD τ).loc main_arg1) : S1x4096x39040.Idx → EReal)
        b q ⟨30720 + n.val, by omega⟩ := by
  refine prod_rows _ _ _ _ _ _ b q _ (fun k => ?_) fun k => ?_
  · unfold xAt
    rw [V_x, at2_lt _ _ _ (by omega) k.isLt]
    refine (shapeCast_apply _ _ _ (ix3 (n0 := 4) (n1 := 4224) (n2 := 4096) b ⟨112 + q.val, by omega⟩ k) ?_).trans ?_
    · rw [Shape.rowMajor_val_three, Shape.rowMajor_val_two]; rfl
    · refine pad_apply_of_inside _ _ _ _ _ _ _ _ _ fun a => ?_
      match a with
      | ⟨0, _⟩ => show b.val = 0 + b.val * (0 + 1); omega
      | ⟨1, _⟩ => show 112 + q.val = 112 + q.val * (0 + 1); omega
      | ⟨2, _⟩ => show k.val = 0 + k.val * (0 + 1); omega
  · unfold wAt
    rw [V_w, at2_lt _ _ _ k.isLt n.isLt]
    refine (extractStridedSlice_apply _ _ _ _ (ix2 k ⟨30720 + n.val, by omega⟩) fun a => ?_).trans (only_at _ _ k _)
    match a with
    | ⟨0, _⟩ => show k.val = 0 + k.val; omega
    | ⟨1, _⟩ => rfl

/-! ## The claims -/

/-- The reference's projection with its bias at an entry. -/
theorem biased_ref (x : FVec Ideal S4x4112x4096 .f32) (w : FVec Ideal S1x4096x39040 .f32) (b : FVec Ideal S1x128 .f32) (hw h1 h2 h3 h4)
    (i : Fin 4) (q : Fin 4112) (n : Fin 128) :
    addf (φ := .f32) (extractStridedSlice Cert.ReferenceDtIdeal.S4x4112x128 ![0, 0, 30720]
        (Host.dotGeneral Cert.ReferenceDtIdeal.dot_S4x4112x4096_S4096x39040_S4x4112x39040_2_0_01_1_n_n none x (shapeCast S4096x39040 w hw)) h1)
      (broadcastInDim Cert.ReferenceDtIdeal.S4x4112x128 ![0, 1, 2] h2 (broadcastInDim Cert.ReferenceDtIdeal.S1x1x128 ![2] h3 (shapeCast S128 b h4)))
      (ix3 i q n) = rowDot x w i q ⟨30720 + n.val, by omega⟩ + shapeCast S128 b h4 (ix1 n) := by
  refine congrArg₂ (· + ·) ((cols_at 30720 _ _ i q n (by omega)).trans (rowDot_at _ none x w _ i q _)) ?_
  refine (broadcastInDim_apply _ _ _ _ (ix3 0 0 n) fun a => ?_).trans (broadcastInDim_apply _ _ _ _ _ fun a => ?_)
  · match a with
    | ⟨0, _⟩ => rfl
    | ⟨1, _⟩ => rfl
    | ⟨2, _⟩ => rfl
  · match a with
    | ⟨0, _⟩ => rfl

/-- The reference's zero rows and softplus of `z`, flattened, at an entry. -/
theorem padded_ref (z : FVec Ideal Cert.ReferenceDtIdeal.S4x4112x128 .f32) (h0 hp hu hs) (r : Fin 16896) (n : Fin 128) (v : EReal)
    (hz : ∀ q : Fin 4112, r.val % 4224 = 112 + q.val → z (ix3 ⟨r.val / 4224, by omega⟩ q n) = v) :
    shapeCast S16896x128 (pad Cert.ReferenceDtIdeal.S4x4224x128 ![0, 112, 0] ![0, 0, 0] ![0, 0, 0]
      (select (cmpf .une (subf z (broadcastInDim Cert.ReferenceDtIdeal.S4x4112x128 ![] h0 (constant S_ .f32 0x00000000#32)))
          (subf z (broadcastInDim Cert.ReferenceDtIdeal.S4x4112x128 ![] h0 (constant S_ .f32 0x00000000#32))))
        (addf z (broadcastInDim Cert.ReferenceDtIdeal.S4x4112x128 ![] h0 (constant S_ .f32 0x00000000#32)))
        (addf (maximumf z (broadcastInDim Cert.ReferenceDtIdeal.S4x4112x128 ![] h0 (constant S_ .f32 0x00000000#32)))
          (Host.log1p (Host.exp (Host.negf (Host.absf (subf z (broadcastInDim Cert.ReferenceDtIdeal.S4x4112x128 ![] h0 (constant S_ .f32 0x00000000#32)))))))))
      (sitofp (F := Ideal) .f32 (constantI S_ 32 0#32)) hp hu) hs (ix2 r n) = if r.val % 4224 < 112 then 0 else softplus v := by
  refine (shapeCast_apply _ _ _ (ix3 (n0 := 4) (n1 := 4224) (n2 := 128) ⟨r.val / 4224, by omega⟩ ⟨r.val % 4224, by omega⟩ n) ?_).trans ?_
  · rw [Shape.rowMajor_val_three, Shape.rowMajor_val_two]
    show (r.val / 4224 * 4224 + r.val % 4224) * 128 + n.val = r.val * 128 + n.val
    omega
  by_cases h : r.val % 4224 < 112
  · rw [if_pos h]
    refine (pad_apply_of_not_inside _ _ _ _ _ _ _ _ (1 : Fin 3) fun hi => ?_).trans ?_
    · have := hi.1
      change 112 ≤ r.val % 4224 at this
      omega
    · show ((((0#32 : BitVec 32).toInt : ℝ)) : EReal) = 0
      simp
  · rw [if_neg h]
    refine (pad_apply_of_inside _ _ _ _ _ _ _ _ (ix3 ⟨r.val / 4224, by omega⟩ ⟨r.val % 4224 - 112, by omega⟩ n) fun a => ?_).trans ?_
    · match a with
      | ⟨0, _⟩ => show r.val / 4224 = 0 + r.val / 4224 * (0 + 1); omega
      | ⟨1, _⟩ => show r.val % 4224 = 112 + (r.val % 4224 - 112) * (0 + 1); omega
      | ⟨2, _⟩ => show n.val = 0 + n.val * (0 + 1); omega
    · rw [← hz ⟨r.val % 4224 - 112, by omega⟩ (by show r.val % 4224 = 112 + (r.val % 4224 - 112); omega)]
      exact softplus_eq _

/-- The kernel's own entry, from the arguments. -/
theorem biased_args (c : Dev nD) (r : Fin 16896) (q : Fin 4112) (n : Fin 128) (hq : r.val % 4224 = 112 + q.val) :
    rowDot (m ((c : Thread nD τ).loc main_arg0) : S4x4112x4096.Idx → EReal) (m ((c : Thread nD τ).loc main_arg1) : S1x4096x39040.Idx → EReal)
        ⟨r.val / 4224, by omega⟩ q ⟨30720 + n.val, by omega⟩
      + shapeCast S128 (m ((c : Thread nD τ).loc main_arg2) : S1x128.Idx → EReal) shapeCasts_S1x128_S128 (ix1 n)
      = prod (xAt m c) (wAt m c) r.val n.val + bAt m c 0 n.val := by
  have e := row_args m c ⟨r.val / 4224, by omega⟩ q n
  rw [show r.val / 4224 * 4224 + (112 + q.val) = r.val by omega] at e
  rw [e, bAt_eq]

theorem bodies_same {F : FTy → Type} [FloatOps F] : Cert.KernelDt.defs₀ (F := F) = defs₀ := by
  unfold Cert.KernelDt.defs₀ defs₀
  refine congrArg Defs.onTc (funext fun l => ?_)
  match l with
  | ⟨0, _⟩ => rfl

theorem tables_same {F : FTy → Type} [FloatOps F] : Cert.KernelDt.defs (F := F) = defs := by
  unfold Cert.KernelDt.defs defs
  rw [bodies_same]; rfl

theorem frame : Cert.quiescent_KernelDtIdeal := fun m ρ _ => Gen.frame (F := Ideal) m ρ

theorem frame_bits : Cert.quiescent_KernelDt := fun m ρ _ => by
  have h := Gen.frame (F := Bits) m ρ
  rw [← tables_same] at h
  exact h

theorem frame_reference : Cert.quiescent_ReferenceDtIdeal := fun m ρ _ =>
  (θ_run Cert.ReferenceDtIdeal.defs _ _).mono
    (fun r h => ⟨fun c => (h c).2.2, sem_eq_zero_of_no_sems (by decide) r.2⟩) (Cert.ReferenceDtIdeal.Value.run (F := Ideal) m ρ)

theorem algebraic : Cert.algebraic_KernelDtIdeal_ReferenceDtIdeal := by
  intro m ρ m' ρ' _ hargs
  refine ⟨fun c => G m c, fun c => GT m c, ?_, ?_⟩
  · exact (θ_run defs _ _).mono (fun _ h c => ⟨(h c).1.trans (final m c), (h c).2.1.trans (finalT m c), (h c).2.2⟩) (Value.run_blocks m ρ)
  · refine (θ_run Cert.ReferenceDtIdeal.defs _ _).mono (fun r h c => ⟨(h c).1.trans ?_, (h c).2.1.trans ?_, (h c).2.2⟩)
      (Cert.ReferenceDtIdeal.Value.run (F := Ideal) m' ρ')
    · obtain ⟨e0, e1, e2⟩ := hargs c
      rw [e0, e1, e2]
      funext o
      obtain ⟨r, n, rfl⟩ : ∃ (r : Fin 16896) (n : Fin 128), o = ix2 r n := ⟨o (0 : Fin 2), o (1 : Fin 2), eq_ix2 o⟩
      exact padded_ref _ _ _ _ _ r n _ fun q hq => (biased_ref _ _ _ _ _ _ _ _ _ q n).trans (biased_args m c r q n hq)
    · obtain ⟨e0, e1, e2⟩ := hargs c
      rw [e0, e1, e2]
      funext o
      obtain ⟨n, r, rfl⟩ : ∃ (n : Fin 128) (r : Fin 16896), o = ix2 n r := ⟨o (0 : Fin 2), o (1 : Fin 2), eq_ix2 o⟩
      exact (transpose_ix2_apply _ Cert.ReferenceDtIdeal.Gen.transposes_S16896x128_S128x16896_1_0 _ _).trans
        (padded_ref _ _ _ _ _ r n _ fun q hq => (biased_ref _ _ _ _ _ _ _ _ _ q n).trans (biased_args m c r q n hq))

end Cert.KernelDtIdeal.Hand
end
-- ==== Proof.ActValue.lean ====
/- The convolution's layer norm and activation against the reference: each live row is normalised, multiplied with its own
   sigmoid and with the gate's row. The two agree where the weights and offsets are finite. -/
module

public import proofs.«01_k».proof.Proof.Norm
public import proofs.«01_k».proof.Proof.Product
public import proofs.«01_k».proof.Proof.Gen.KernelAct
public import proofs.«01_k».proof.Proof.Gen.KernelActIdeal.Value
public import proofs.«01_k».proof.Proof.Gen.ReferenceActIdeal.Run
public import proofs.«01_k».proof.Proof.Gen.Pre_finite_ln
public import Idealize.ShloMosaic.Lib.Pipeline.ValueKit.Geometry
public import Idealize.ShloMosaic.Lib.Claim
public import proofs.«01_k».proof.Defs

@[expose] public section

set_option maxRecDepth 16384

noncomputable section

namespace Cert.KernelActIdeal.Hand

open Cert.KernelActIdeal.Gen Cert.Hand
open Idealize.ShloMosaic hiding ix1 ix2 ix3
open Idealize.ShloMosaic.TcCoe Idealize.ShloMosaic.ValueIdx Idealize.ShloMosaic.StableHlo
open Idealize.SL Idealize.SL.Sem

/-! ## Sixteen rows -/

/-- An entry and its product with the hyperbolic tangent. -/
def gated (t : EReal) : EReal := t + t * Ideal.tanh t

/-- Sixteen rows at an entry: the body writes the same operations for each of its sixteen stretches of rows. -/
theorem rows_at (g b : FVec Ideal S1x4096 .f32) (x s : FVec Ideal S16x4096 .bf16) (a : Fin 16) (k : Fin 4096) :
    (k0_pay5 (F := Ideal) g b x s (ix2 a k) : EReal)
      = gated (normed (fun k => x (ix2 a k)) (fun k => g (ix2 (0 : Fin 1) k)) (fun k => b (ix2 (0 : Fin 1) k)) k) * s (ix2 a k) := by
  have e : (k0_pay5 (F := Ideal) g b x s (ix2 a k) : EReal)
      = gated (rowsNorm reduces_S16x4096_S16 shapeCasts_S16_S16x1 broadcasts_S16x1_S16x4096 broadcasts_S1x4096_S16x4096
          (shapeCast S16x4096 x shapeCasts_S16x4096_S16x4096) g b (ix2 a k)) * shapeCast S16x4096 s shapeCasts_S16x4096_S16x4096 (ix2 a k) := rfl
  rw [e, rowsNorm_at, shapeCast_self s]
  rw [shapeCast_self x]

variable (m : (ℓ : Loc nD τ sig) → Buf (Elt Ideal) ℓ) (ρ : Dev nD → PrngReg)

/-! ## The result array -/

/-- The padded rows, the gate, the weights and the offsets, read at row and column. -/
def xAt (c : Dev nD) : Nat → Nat → EReal := at2 (M := 16896) (N := 4096) (V m c main_v2)
def sAt (c : Dev nD) : Nat → Nat → EReal := at2 (M := 16384) (N := 4096) (V m c main_v3)
def gAt (c : Dev nD) : Nat → Nat → EReal := at2 (M := 1) (N := 4096) (V m c main_v6)
def bAt (c : Dev nD) : Nat → Nat → EReal := at2 (M := 1) (N := 4096) (V m c main_v7)

/-- Row `r` of the live rows normalised with half the weights and half the offsets, at `k`. -/
def halfRow (c : Dev nD) (r : Nat) (k : Fin 4096) : EReal :=
  normed (fun k => xAt m c (r / 4096 * 4224 + (128 + r % 4096)) k.val) (fun k => Ideal.ofBits .f32 0x3F000000#32 * gAt m c 0 k.val)
    (fun k => Ideal.ofBits .f32 0x3F000000#32 * bAt m c 0 k.val) k

def act (c : Dev nD) (r : Nat) (k : Fin 4096) : EReal := gated (halfRow m c r k) * sAt m c r k.val

def G (c : Dev nD) : Buf (Elt Ideal) ((c : Thread nD τ).loc main_v8) :=
  fun o : S16384x4096.Idx => act m c (o (0 : Fin 2)).val (o (1 : Fin 2))

theorem at_x (t : Fin cfg0.N) : cc0_transform_0 (grid0.coords t) = ![t.val / 16 * 4224 + 128 + t.val % 16 * 256, 0] :=
  (by decide +kernel : ∀ t : Fin grid0.N, cc0_transform_0 (grid0.coords t) = ![t.val / 16 * 4224 + 128 + t.val % 16 * 256, 0]) t
theorem at_s (t : Fin cfg0.N) : win0_1.index t = ![t.val, 0] := (by decide +kernel : ∀ t : Fin grid0.N, win0_1.index t = ![t.val, 0]) t
theorem at_g (t : Fin cfg0.N) : win0_2.index t = ![0, 0] := (by decide +kernel : ∀ t : Fin grid0.N, win0_2.index t = ![0, 0]) t
theorem at_b (t : Fin cfg0.N) : win0_3.index t = ![0, 0] := (by decide +kernel : ∀ t : Fin grid0.N, win0_3.index t = ![0, 0]) t
theorem at_o (t : Fin cfg0.N) : win0_4.index t = ![t.val, 0] := (by decide +kernel : ∀ t : Fin grid0.N, win0_4.index t = ![t.val, 0]) t

theorem xblk (c : Dev nD) (t : Fin cfg0.N) (j : S256x4096.Idx) (r : Nat) (hr : r = t.val * 256 + (j (0 : Fin 2)).val) :
    (iblk m c 0 t : S256x4096.Idx → EReal) j = xAt m c (r / 4096 * 4224 + (128 + r % 4096)) (j (1 : Fin 2)).val := by
  have hj : (j (0 : Fin 2)).val < 256 := (j (0 : Fin 2)).isLt
  unfold iblk
  rw [View.read_apply]
  refine at2_of (M := 16896) (N := 4096) (V m c main_v2) _ _ _ ?_ ?_
  · show cc0_transform_0 (grid0.coords t) 0 + 1 * (j (0 : Fin 2)).val = _
    rw [at_x t]; show t.val / 16 * 4224 + 128 + t.val % 16 * 256 + 1 * _ = _; omega
  · show cc0_transform_0 (grid0.coords t) 1 + 1 * (j (1 : Fin 2)).val = _
    rw [at_x t]; show 0 + 1 * _ = _; omega

theorem sblk (c : Dev nD) (t : Fin cfg0.N) (j : S256x4096.Idx) :
    (iblk m c 1 t : S256x4096.Idx → EReal) j = sAt m c (t.val * 256 + (j (0 : Fin 2)).val) (j (1 : Fin 2)).val := by
  unfold iblk
  rw [View.read_apply]
  refine at2_of (M := 16384) (N := 4096) (V m c main_v3) _ _ _ ?_ ?_
  · show win0_1.index t 0 * 256 + 1 * (j (0 : Fin 2)).val = _
    rw [at_s t]; show t.val * 256 + 1 * _ = _; omega
  · show win0_1.index t 1 * 4096 + 1 * (j (1 : Fin 2)).val = _
    rw [at_s t]; show 0 * 4096 + 1 * _ = _; omega

theorem gblk (c : Dev nD) (t : Fin cfg0.N) (k : Fin 4096) : (iblk m c 2 t : S1x4096.Idx → EReal) (ix2 (0 : Fin 1) k) = gAt m c 0 k.val := by
  unfold iblk
  rw [View.read_apply]
  refine at2_of (M := 1) (N := 4096) (V m c main_v6) _ _ _ ?_ ?_
  · show win0_2.index t 0 * 1 + 1 * 0 = _
    rw [at_g t]; rfl
  · show win0_2.index t 1 * 4096 + 1 * k.val = _
    rw [at_g t]; show 0 * 4096 + 1 * _ = _; omega

theorem bblk (c : Dev nD) (t : Fin cfg0.N) (k : Fin 4096) : (iblk m c 3 t : S1x4096.Idx → EReal) (ix2 (0 : Fin 1) k) = bAt m c 0 k.val := by
  unfold iblk
  rw [View.read_apply]
  refine at2_of (M := 1) (N := 4096) (V m c main_v7) _ _ _ ?_ ?_
  · show win0_3.index t 0 * 1 + 1 * 0 = _
    rw [at_b t]; rfl
  · show win0_3.index t 1 * 4096 + 1 * k.val = _
    rw [at_b t]; show 0 * 4096 + 1 * _ = _; omega

/-- The sixteen rows at `o` of a point's block, stored. -/
theorem stretch (c : Dev nD) (t : Fin cfg0.N) (o : Nat) (h : ∀ a, (![o, 0] : Fin 2 → Nat) a + S16x4096.size a ≤ S256x4096.size a) (x : S16x4096.Idx) :
    (k0_pay5 (F := Ideal) (k0_pay2 (View.ld (Val := Elt Ideal) (iblk m c 2 t) r0_0)) (k0_pay3 (View.ld (Val := Elt Ideal) (iblk m c 3 t) r0_0))
        (View.ld (Val := Elt Ideal) (iblk m c 0 t) (Rect.unit (s := S256x4096) ![o, 0] S16x4096.size h))
        (View.ld (Val := Elt Ideal) (iblk m c 1 t) (Rect.unit (s := S256x4096) ![o, 0] S16x4096.size h)) x : EReal)
      = act m c (t.val * 256 + ((Rect.unit (s := S256x4096) ![o, 0] S16x4096.size h).emb x (0 : Fin 2)).val)
          ((Rect.unit (s := S256x4096) ![o, 0] S16x4096.size h).emb x (1 : Fin 2)) := by
  obtain ⟨a, k, rfl⟩ : ∃ (a : Fin 16) (k : Fin 4096), x = ix2 a k := ⟨x (0 : Fin 2), x (1 : Fin 2), ValueIdx.eq_ix2 x⟩
  have e2 : View.ld (Val := Elt Ideal) (iblk m c 2 t) r0_0 = iblk m c 2 t :=
    View.ld_unit_lit (S := S1x4096) _ _ (by decide)
  have e3 : View.ld (Val := Elt Ideal) (iblk m c 3 t) r0_0 = iblk m c 3 t :=
    View.ld_unit_lit (S := S1x4096) _ _ (by decide)
  rw [rows_at, e2, e3]
  have hk : ∀ k : Fin 4096, ((Rect.unit (s := S256x4096) ![o, 0] S16x4096.size h).emb (ix2 a k) (1 : Fin 2)).val = k.val := fun k => by
    show 0 + 1 * k.val = k.val; omega
  have e0 : ((Rect.unit (s := S256x4096) ![o, 0] S16x4096.size h).emb (ix2 a k) (1 : Fin 2)) = k := Fin.ext (hk k)
  rw [e0]
  unfold act halfRow
  refine congrArg₂ (· * ·) (congrArg gated ?_) ?_
  · have ex : (fun k : Fin 4096 => (View.ld (Val := Elt Ideal) (iblk m c 0 t) (Rect.unit (s := S256x4096) ![o, 0] S16x4096.size h) (ix2 a k) : EReal))
        = fun j => xAt m c ((t.val * 256 + ((Rect.unit (s := S256x4096) ![o, 0] S16x4096.size h).emb (ix2 a k) (0 : Fin 2)).val) / 4096 * 4224
            + (128 + (t.val * 256 + ((Rect.unit (s := S256x4096) ![o, 0] S16x4096.size h).emb (ix2 a k) (0 : Fin 2)).val) % 4096)) j.val := funext fun j =>
      (xblk m c t ((Rect.unit (s := S256x4096) ![o, 0] S16x4096.size h).emb (ix2 a j)) _ rfl).trans (congrArg (xAt m c _) (hk j))
    have eg : (fun k : Fin 4096 => (k0_pay2 (F := Ideal) (iblk m c 2 t) (ix2 (0 : Fin 1) k) : EReal))
        = fun k => Ideal.ofBits .f32 0x3F000000#32 * gAt m c 0 k.val := funext fun k => by
      rw [← gblk m c t k]; unfold k0_pay2; rw [shapeCast_self]; rfl
    have eb : (fun k : Fin 4096 => (k0_pay3 (F := Ideal) (iblk m c 3 t) (ix2 (0 : Fin 1) k) : EReal))
        = fun k => Ideal.ofBits .f32 0x3F000000#32 * bAt m c 0 k.val := funext fun k => by
      rw [← bblk m c t k]; unfold k0_pay3; rw [shapeCast_self]; rfl
    rw [ex, eg, eb]
  · exact (sblk m c t ((Rect.unit (s := S256x4096) ![o, 0] S16x4096.size h).emb (ix2 a k))).trans (congrArg (sAt m c _) (hk k))

/-- A point's block. -/
theorem block (c : Dev nD) (t : Fin cfg0.N) (y : S256x4096.Idx) :
    (out0_4 (F := Ideal) (iblk m c 0 t) (iblk m c 1 t) (iblk m c 2 t) (iblk m c 3 t) y : EReal) = act m c (t.val * 256 + (y (0 : Fin 2)).val) (y (1 : Fin 2)) := by
  unfold out0_4
  refine View.canon_apply_of_pieces (Val := Elt Ideal) (e := .bf16) (fun y : S256x4096.Idx => (act m c (t.val * 256 + (y (0 : Fin 2)).val) (y (1 : Fin 2)) : EReal)) _ ?_ y
    (cover0_4 _ _ _ _ _ _ _ _ _ _ _ _ _ _ _ _ y)
  iterate 16 refine List.forall_mem_cons.2 ⟨fun x => stretch m c t _ _ x, ?_⟩
  exact fun p hp => absurd hp List.not_mem_nil

theorem final (c : Dev nD) : (dats m 0 c).arrAt 4 cfg0.N = G m c := by
  refine (dats m 0 c).arrAt_eq_of_covers 4 (G m c) (by decide +kernel) fun t hf y => ?_
  rw [after0_4, show (out0_4 (F := Ideal) (iblk m c 0 t) (iblk m c 1 t) (iblk m c 2 t) (iblk m c 3 t) : S256x4096.Idx → EReal)
    = fun y => act m c (t.val * 256 + (y (0 : Fin 2)).val) (y (1 : Fin 2)) from funext (block m c t)]
  have e0 : (((cfg0.win 4).blk t).view.emb y (0 : Fin 2)).val = t.val * 256 + (y (0 : Fin 2)).val := by
    show win0_4.index t 0 * 256 + 1 * (y (0 : Fin 2)).val = _
    rw [at_o t]; show t.val * 256 + 1 * _ = _; omega
  have e1 : (((cfg0.win 4).blk t).view.emb y (1 : Fin 2)).val = (y (1 : Fin 2)).val := by
    show win0_4.index t 1 * 4096 + 1 * (y (1 : Fin 2)).val = _
    rw [at_o t]; show 0 * 4096 + 1 * _ = _; omega
  show act m c (t.val * 256 + (y (0 : Fin 2)).val) (y (1 : Fin 2))
    = act m c (((cfg0.win 4).blk t).view.emb y (0 : Fin 2)).val (((cfg0.win 4).blk t).view.emb y (1 : Fin 2))
  rw [e0]
  exact congrArg (act m c _) (Fin.ext e1.symm)

/-! ## What the host prepares -/

theorem V_x (c : Dev nD) : (V m c main_v2 : S16896x4096.Idx → EReal)
    = shapeCast S16896x4096 (pad S4x4224x4096 ![0, 112, 0] ![0, 0, 0] ![0, 0, 0] (m ((c : Thread nD τ).loc main_arg0) : S4x4112x4096.Idx → EReal)
        (sitofp (F := Ideal) .bf16 (constantI S_ 32 0#32)) pads_S4x4112x4096_S4x4224x4096_000_11200_000 h_S_) shapeCasts_S4x4224x4096_S16896x4096 := by
  show after (List.flatten [hostOps0, hostOps0_1, hostOps0_2]) (fun b => m (c, b)) main_v2 = _
  simp only [hostOps0, hostOps0_1, hostOps0_2, List.flatten_cons, List.flatten_nil, List.append_nil, List.cons_append, List.nil_append]
  after_results <;> rfl

theorem V_s (c : Dev nD) : (V m c main_v3 : S16384x4096.Idx → EReal) = (m ((c : Thread nD τ).loc main_arg1) : S16384x4096.Idx → EReal) := by
  show after (List.flatten [hostOps0, hostOps0_1, hostOps0_2]) (fun b => m (c, b)) main_v3 = _
  simp only [hostOps0, hostOps0_1, hostOps0_2, List.flatten_cons, List.flatten_nil, List.append_nil, List.cons_append, List.nil_append]
  after_results <;> rfl

theorem V_g (c : Dev nD) : (V m c main_v6 : S1x4096.Idx → EReal)
    = shapeCast S1x4096 (shapeCast S4096 (m ((c : Thread nD τ).loc main_arg2) : S1x4096.Idx → EReal) shapeCasts_S1x4096_S4096) shapeCasts_S4096_S1x4096 := by
  show after (List.flatten [hostOps0, hostOps0_1, hostOps0_2]) (fun b => m (c, b)) main_v6 = _
  simp only [hostOps0, hostOps0_1, hostOps0_2, List.flatten_cons, List.flatten_nil, List.append_nil, List.cons_append, List.nil_append]
  after_results <;> rfl

theorem V_b (c : Dev nD) : (V m c main_v7 : S1x4096.Idx → EReal)
    = shapeCast S1x4096 (shapeCast S4096 (m ((c : Thread nD τ).loc main_arg3) : S1x4096.Idx → EReal) shapeCasts_S1x4096_S4096) shapeCasts_S4096_S1x4096 := by
  show after (List.flatten [hostOps0, hostOps0_1, hostOps0_2]) (fun b => m (c, b)) main_v7 = _
  simp only [hostOps0, hostOps0_1, hostOps0_2, List.flatten_cons, List.flatten_nil, List.append_nil, List.cons_append, List.nil_append]
  after_results <;> rfl

/-- A row of the arguments, flattened and lifted again. -/
theorem lifted (x : S1x4096.Idx → EReal) (k : Fin 4096) :
    at2 (M := 1) (N := 4096) (shapeCast S1x4096 (shapeCast S4096 x shapeCasts_S1x4096_S4096) shapeCasts_S4096_S1x4096) 0 k.val
      = shapeCast S4096 x shapeCasts_S1x4096_S4096 (ix1 k) := by
  rw [at2_lt _ _ _ Nat.one_pos k.isLt]
  exact shapeCast_apply _ _ _ _ (by rw [Shape.rowMajor_val_one, Shape.rowMajor_val_two]; show k.val = 0 * 4096 + k.val; omega)

theorem real_row (x : S1x4096.Idx → EReal) (hx : ∀ i, ∃ r : ℝ, x i = (r : EReal)) (k : Fin 4096) :
    ∃ r : ℝ, shapeCast S4096 x shapeCasts_S1x4096_S4096 (ix1 k) = (r : EReal) := by
  have e : shapeCast S4096 x shapeCasts_S1x4096_S4096 (ix1 k) = x (ix2 (0 : Fin 1) k) := shapeCast_apply _ _ _ _ (by
    rw [Shape.rowMajor_val_one, Shape.rowMajor_val_two]; show 0 * 4096 + k.val = k.val; omega)
  rw [e]; exact hx _

/-- The result from the arguments, with real weights and offsets. -/
theorem act_args (c : Dev nD) (hg : ∀ i, ∃ r : ℝ, (m ((c : Thread nD τ).loc main_arg2) : S1x4096.Idx → EReal) i = (r : EReal))
    (hb : ∀ i, ∃ r : ℝ, (m ((c : Thread nD τ).loc main_arg3) : S1x4096.Idx → EReal) i = (r : EReal)) (r : Fin 16384) (k : Fin 4096) (y : EReal)
    (hy : y = normed (fun k => live (m ((c : Thread nD τ).loc main_arg0) : S4x4112x4096.Idx → EReal) r k)
      (fun k => shapeCast S4096 (m ((c : Thread nD τ).loc main_arg2) : S1x4096.Idx → EReal) shapeCasts_S1x4096_S4096 (ix1 k))
      (fun k => shapeCast S4096 (m ((c : Thread nD τ).loc main_arg3) : S1x4096.Idx → EReal) shapeCasts_S1x4096_S4096 (ix1 k)) k) :
    act m c r.val k = y * Ideal.logistic y * (m ((c : Thread nD τ).loc main_arg1) : S16384x4096.Idx → EReal) (ix2 r k) := by
  have ex : (fun k : Fin 4096 => xAt m c (r.val / 4096 * 4224 + (128 + r.val % 4096)) k.val)
      = fun k => live (m ((c : Thread nD τ).loc main_arg0) : S4x4112x4096.Idx → EReal) r k := funext fun k => by
    unfold xAt; rw [V_x]; exact padded_at _ _ _ _ _ r k
  have eg : ∀ k : Fin 4096, gAt m c 0 k.val = shapeCast S4096 (m ((c : Thread nD τ).loc main_arg2) : S1x4096.Idx → EReal) shapeCasts_S1x4096_S4096 (ix1 k) :=
    fun k => by unfold gAt; rw [V_g]; exact lifted _ k
  have eb : ∀ k : Fin 4096, bAt m c 0 k.val = shapeCast S4096 (m ((c : Thread nD τ).loc main_arg3) : S1x4096.Idx → EReal) shapeCasts_S1x4096_S4096 (ix1 k) :=
    fun k => by unfold bAt; rw [V_b]; exact lifted _ k
  have es : sAt m c r.val k.val = (m ((c : Thread nD τ).loc main_arg1) : S16384x4096.Idx → EReal) (ix2 r k) := by
    unfold sAt; rw [V_s, at2_lt _ _ _ r.isLt k.isLt]
  obtain ⟨hr, hh⟩ := normed_half (fun k => live (m ((c : Thread nD τ).loc main_arg0) : S4x4112x4096.Idx → EReal) r k)
    (fun k => shapeCast S4096 (m ((c : Thread nD τ).loc main_arg2) : S1x4096.Idx → EReal) shapeCasts_S1x4096_S4096 (ix1 k))
    (fun k => shapeCast S4096 (m ((c : Thread nD τ).loc main_arg3) : S1x4096.Idx → EReal) shapeCasts_S1x4096_S4096 (ix1 k)) k
    (real_row _ hg k) (real_row _ hb k)
  unfold act halfRow
  simp only [ex, eg, eb]
  rw [es, hh, ← hy, ← silu_eq y (hy ▸ hr)]
  rfl

/-! ## The claims -/

theorem bodies_same {F : FTy → Type} [FloatOps F] : Cert.KernelAct.defs₀ (F := F) = defs₀ := by
  unfold Cert.KernelAct.defs₀ defs₀
  refine congrArg Defs.onTc (funext fun l => ?_)
  match l with
  | ⟨0, _⟩ => rfl

theorem tables_same {F : FTy → Type} [FloatOps F] : Cert.KernelAct.defs (F := F) = defs := by
  unfold Cert.KernelAct.defs defs
  rw [bodies_same]; rfl

theorem frame : Cert.quiescent_KernelActIdeal := fun m ρ _ => Gen.frame (F := Ideal) m ρ

theorem frame_bits : Cert.quiescent_KernelAct := fun m ρ _ => by
  have h := Gen.frame (F := Bits) m ρ
  rw [← tables_same] at h
  exact h

theorem frame_reference : Cert.quiescent_ReferenceActIdeal := fun m ρ _ =>
  (θ_run Cert.ReferenceActIdeal.defs _ _).mono
    (fun r h => ⟨fun c => (h c).2, sem_eq_zero_of_no_sems (by decide) r.2⟩) (Cert.ReferenceActIdeal.Value.run (F := Ideal) m ρ)

end Cert.KernelActIdeal.Hand

namespace Cert.ReferenceActIdeal.Hand

open Cert.ReferenceActIdeal Cert.ReferenceActIdeal.Gen Cert.Hand
open Idealize.ShloMosaic hiding ix1 ix2 ix3
open Idealize.ShloMosaic.TcCoe Idealize.ShloMosaic.ValueIdx Idealize.ShloMosaic.StableHlo

/-- The stack normalised. -/
abbrev rNorm (v : FVec Ideal S4x4112x4096 .f32) (g b : FVec Ideal S4096 .f32) : FVec Ideal S4x4112x4096 .f32 :=
  stackNorm reducesTo_S4x4112x4096_S4x4112_d2 h_S_ bcast_S4x4112_S4x4112x1_0_1 bcast_S_S4x4112x1 bcast_S4x4112x1_S4x4112x4096_0_1_2
    bcast_S4096_S1x1x4096_2 bcast_S1x1x4096_S4x4112x4096_0_1_2 v g b

/-- The reference's result, entry by entry. -/
theorem result_at (m : (ℓ : Loc nD τ sig) → Buf (Elt Ideal) ℓ) (c : Dev nD) (r : Fin 16384) (k : Fin 4096) (y : EReal)
    (hy : y = normed (fun k => live (m ((c : Thread nD τ).loc main_arg0) : FVec Ideal S4x4112x4096 .f32) r k)
      (fun k => shapeCast S4096 (m ((c : Thread nD τ).loc main_arg2) : FVec Ideal S1x4096 .f32) shapeCasts_S1x4096_S4096 (ix1 k))
      (fun k => shapeCast S4096 (m ((c : Thread nD τ).loc main_arg3) : FVec Ideal S1x4096 .f32) shapeCasts_S1x4096_S4096 (ix1 k)) k) :
    (Cert.ReferenceActIdeal.Value.res_main_v30 m c : FVec Ideal S16384x4096 .bf16) (ix2 r k)
      = y * Ideal.logistic y * (m ((c : Thread nD τ).loc main_arg1) : FVec Ideal S16384x4096 .f32) (ix2 r k) := by
  have e : (Cert.ReferenceActIdeal.Value.res_main_v30 m c : FVec Ideal S16384x4096 .bf16)
      = truncf .bf16 (mulf (shapeCast S16384x4096 (extractStridedSlice S4x4096x4096 ![0, 16, 0]
          (mulf (rNorm (m ((c : Thread nD τ).loc main_arg0)) (shapeCast S4096 (m ((c : Thread nD τ).loc main_arg2)) shapeCasts_S1x4096_S4096)
              (shapeCast S4096 (m ((c : Thread nD τ).loc main_arg3)) shapeCasts_S1x4096_S4096))
            (Host.divf (broadcastInDim S4x4112x4096 ![] bcast_S_S4x4112x4096 (constant S_ .f32 0x3F800000#32))
              (addf (broadcastInDim S4x4112x4096 ![] bcast_S_S4x4112x4096 (constant S_ .f32 0x3F800000#32))
                (Host.exp (Host.negf (rNorm (m ((c : Thread nD τ).loc main_arg0)) (shapeCast S4096 (m ((c : Thread nD τ).loc main_arg2)) shapeCasts_S1x4096_S4096)
                  (shapeCast S4096 (m ((c : Thread nD τ).loc main_arg3)) shapeCasts_S1x4096_S4096)))))))
          slices_S4x4112x4096_S4x4096x4096_0_16_0) shapeCasts_S4x4096x4096_S16384x4096) (m ((c : Thread nD τ).loc main_arg1))) bitsLt_bf16_f32 := by
    unfold Cert.ReferenceActIdeal.Value.res_main_v30 rNorm stackNorm stackOff stackMean
    rfl
  rw [e]
  refine (cast_at (φ := .f32) (ψ := .bf16) _ bitsLt_bf16_f32 _).trans (congrArg₂ (· * ·) ?_ rfl)
  refine (sliced_at (N := 4096) _ slices_S4x4112x4096_S4x4096x4096_0_16_0 shapeCasts_S4x4096x4096_S16384x4096 r k).trans ?_
  refine congrArg₂ (· * ·) ?_ ((sigmoid_ref _ bcast_S_S4x4112x4096 _).trans (congrArg Ideal.logistic ?_))
  all_goals
    rw [hy]
    exact stackNorm_at _ _ _ _ _ _ _ _ _ _ _ _ k

end Cert.ReferenceActIdeal.Hand

namespace Cert.KernelActIdeal.Hand

open Cert.KernelActIdeal.Gen Cert.Hand
open Idealize.ShloMosaic hiding ix1 ix2 ix3
open Idealize.ShloMosaic.TcCoe Idealize.ShloMosaic.ValueIdx Idealize.ShloMosaic.StableHlo
open Idealize.SL Idealize.SL.Sem

theorem algebraic : Cert.algebraic_KernelActIdeal_ReferenceActIdeal_pre_finite_ln := by
  intro m ρ m' ρ' hpre hargs
  refine ⟨fun c => G m c, ?_, ?_⟩
  · exact (θ_run defs _ _).mono (fun _ h c => ⟨(h c).1.trans (final m c), (h c).2⟩) (Value.run_blocks m ρ)
  · refine (θ_run Cert.ReferenceActIdeal.defs _ _).mono (fun r h c => ⟨(h c).1.trans ?_, (h c).2⟩)
      (Cert.ReferenceActIdeal.Value.run (F := Ideal) m' ρ')
    obtain ⟨e0, e1, e2, e3⟩ := hargs c
    funext o
    obtain ⟨r, k, rfl⟩ : ∃ (r : Fin 16384) (k : Fin 4096), o = ix2 r k := ⟨o (0 : Fin 2), o (1 : Fin 2), ValueIdx.eq_ix2 o⟩
    refine (Cert.ReferenceActIdeal.Hand.result_at m' c r k _ rfl).trans ?_
    rw [e0, e1, e2, e3]
    exact (act_args m c (finite_at _ _ (hpre c).1) (finite_at _ _ (hpre c).2) r k _ rfl).symm

end Cert.KernelActIdeal.Hand
end
-- ==== Proof.InValue.lean ====
/- The layer's first norm against the reference: in each sequence 112 rows of zeros, then the leading rows and the argument's rows, normalised. -/
module

public import proofs.«01_k».proof.Proof.Norm
public import proofs.«01_k».proof.Proof.Product
public import proofs.«01_k».proof.Proof.Gen.KernelIn
public import proofs.«01_k».proof.Proof.Gen.KernelInIdeal.Value
public import proofs.«01_k».proof.Proof.Gen.ReferenceInIdeal.Run
public import Idealize.ShloMosaic.Lib.Pipeline.ValueKit
public import Idealize.ShloMosaic.Lib.Claim
public import proofs.«01_k».proof.Defs

@[expose] public section

set_option maxRecDepth 16384

noncomputable section

namespace Cert.KernelInIdeal.Hand

open Cert.KernelInIdeal.Gen Cert.Hand
open Idealize.ShloMosaic hiding ix1 ix2 ix3
open Idealize.ShloMosaic.TcCoe Idealize.ShloMosaic.ValueIdx Idealize.ShloMosaic.StableHlo
open Idealize.SL Idealize.SL.Sem

/-! ## Sixteen rows -/

theorem rows_norm (g b : FVec Ideal S1x4096 .f32) (x : FVec Ideal S16x4096 .f32) (a : Fin 16) (k : Fin 4096) :
    (shapeCast S1x16x4096 (truncf (F := Ideal) .bf16 (rowsNorm reduces_S16x4096_S16 shapeCasts_S16_S16x1 broadcasts_S16x1_S16x4096
        broadcasts_S1x4096_S16x4096 x g b) bitsLt_bf16_f32) shapeCasts_S16x4096_S1x16x4096 (ix3 (0 : Fin 1) a k) : EReal)
      = normed (fun k => x (ix2 a k)) (fun k => g (ix2 (0 : Fin 1) k)) (fun k => b (ix2 (0 : Fin 1) k)) k := by
  refine (shapeCast_apply _ _ _ (ix2 a k) ?_).trans ?_
  · rw [Shape.rowMajor_val_three, Shape.rowMajor_val_two]
    show a.val * 4096 + k.val = (0 * 16 + a.val) * 4096 + k.val
    omega
  · exact rowsNorm_at _ _ _ _ x g b a k

/-- The leading rows. -/
theorem lead_at (g b : FVec Ideal S1x4096 .f32) (x : FVec Ideal S16x4096 .f32) (a : Fin 16) (k : Fin 4096) :
    (k0_pay4 (F := Ideal) g b x (ix3 (0 : Fin 1) a k) : EReal)
      = normed (fun k => x (ix2 a k)) (fun k => g (ix2 (0 : Fin 1) k)) (fun k => b (ix2 (0 : Fin 1) k)) k := by
  refine Eq.trans (?_ : _ = shapeCast S1x16x4096 (truncf (F := Ideal) .bf16 (rowsNorm reduces_S16x4096_S16 shapeCasts_S16_S16x1 broadcasts_S16x1_S16x4096
        broadcasts_S1x4096_S16x4096 x (shapeCast S1x4096 g shapeCasts_S1x4096_S1x4096) (shapeCast S1x4096 b shapeCasts_S1x4096_S1x4096)) bitsLt_bf16_f32)
        shapeCasts_S16x4096_S1x16x4096 (ix3 (0 : Fin 1) a k)) ?_
  · rfl
  · rw [shapeCast_self, shapeCast_self]; exact rows_norm g b x a k

/-- Sixteen of the argument's rows: the body writes the same operations for each of its eight stretches of rows. -/
theorem rows_at (g b : FVec Ideal S1x4096 .f32) (x : FVec Ideal S1x16x4096 .f32) (a : Fin 16) (k : Fin 4096) :
    (k0_pay6 (F := Ideal) (k0_pay1 g) (k0_pay2 b) x (ix3 (0 : Fin 1) a k) : EReal)
      = normed (fun k => x (ix3 (0 : Fin 1) a k)) (fun k => g (ix2 (0 : Fin 1) k)) (fun k => b (ix2 (0 : Fin 1) k)) k := by
  refine Eq.trans (?_ : _ = shapeCast S1x16x4096 (truncf (F := Ideal) .bf16 (rowsNorm reduces_S16x4096_S16 shapeCasts_S16_S16x1 broadcasts_S16x1_S16x4096
        broadcasts_S1x4096_S16x4096 (shapeCast S16x4096 x shapeCasts_S1x16x4096_S16x4096) (shapeCast S1x4096 g shapeCasts_S1x4096_S1x4096)
        (shapeCast S1x4096 b shapeCasts_S1x4096_S1x4096)) bitsLt_bf16_f32) shapeCasts_S16x4096_S1x16x4096 (ix3 (0 : Fin 1) a k)) ?_
  · rfl
  · rw [shapeCast_self, shapeCast_self]
    refine (rows_norm g b _ a k).trans ?_
    refine congrArg (fun v => normed v _ _ k) (funext fun k => shapeCast_apply _ _ _ _ ?_)
    rw [Shape.rowMajor_val_three, Shape.rowMajor_val_two]
    show (0 * 16 + a.val) * 4096 + k.val = a.val * 4096 + k.val
    omega

/-! ## The result array -/

/-- A stack read at natural-number coordinates. -/
def at3 (x : S4x4096x4096.Idx → EReal) (b r k : Nat) : EReal := x (ix3 (Fin.ofNat 4 b) (Fin.ofNat 4096 r) (Fin.ofNat 4096 k))

theorem at3_of (x : S4x4096x4096.Idx → EReal) (y : S4x4096x4096.Idx) (b r k : Nat) (hb : (y (0 : Fin 3)).val = b) (hr : (y (1 : Fin 3)).val = r)
    (hk : (y (2 : Fin 3)).val = k) : x y = at3 x b r k := by
  subst hb hr hk
  unfold at3
  refine congrArg x (funext fun a => Fin.ext ?_)
  match a with
  | ⟨0, _⟩ => exact (Nat.mod_eq_of_lt (y (0 : Fin 3)).isLt).symm
  | ⟨1, _⟩ => exact (Nat.mod_eq_of_lt (y (1 : Fin 3)).isLt).symm
  | ⟨2, _⟩ => exact (Nat.mod_eq_of_lt (y (2 : Fin 3)).isLt).symm

/-- Row `r` of sequence `b` normalised, at `k`: zeros, then the leading rows, then the argument's rows. -/
def normRow (x : S4x4096x4096.Idx → EReal) (top : S16x4096.Idx → EReal) (g e : Fin 4096 → EReal) (b r : Nat) (k : Fin 4096) : EReal :=
  if r < 112 then 0
  else if r < 128 then normed (fun k => at2 (M := 16) (N := 4096) top (r - 112) k.val) g e k
  else normed (fun k => at3 x b (r - 128) k.val) g e k

variable (m : (ℓ : Loc nD τ sig) → Buf (Elt Ideal) ℓ) (ρ : Dev nD → PrngReg)

/-- The weights and the offsets. -/
def gAt (c : Dev nD) (k : Fin 4096) : EReal := (V m c main_v0 : S1x4096.Idx → EReal) (ix2 (0 : Fin 1) k)
def bAt (c : Dev nD) (k : Fin 4096) : EReal := (V m c main_v1 : S1x4096.Idx → EReal) (ix2 (0 : Fin 1) k)

def entry (c : Dev nD) (b r : Nat) (k : Fin 4096) : EReal := normRow (V m c main_arg0) (V m c main_arg1) (gAt m c) (bAt m c) b r k

def G (c : Dev nD) : Buf (Elt Ideal) ((c : Thread nD τ).loc main_v2) :=
  fun o : S4x4224x4096.Idx => entry m c (o (0 : Fin 3)).val (o (1 : Fin 3)).val (o (2 : Fin 3))

theorem at_x (t : Fin cfg0.N) : win0_0.index t = ![t.val / 33, t.val % 33 - 1, 0] :=
  (by decide +kernel : ∀ t : Fin grid0.N, win0_0.index t = ![t.val / 33, t.val % 33 - 1, 0]) t
theorem at_m (t : Fin cfg0.N) : win0_1.index t = ![0, 0] := (by decide +kernel : ∀ t : Fin grid0.N, win0_1.index t = ![0, 0]) t
theorem at_g (t : Fin cfg0.N) : win0_2.index t = ![0, 0] := (by decide +kernel : ∀ t : Fin grid0.N, win0_2.index t = ![0, 0]) t
theorem at_b (t : Fin cfg0.N) : win0_3.index t = ![0, 0] := (by decide +kernel : ∀ t : Fin grid0.N, win0_3.index t = ![0, 0]) t
theorem at_o (t : Fin cfg0.N) : win0_4.index t = ![t.val / 33, t.val % 33, 0] :=
  (by decide +kernel : ∀ t : Fin grid0.N, win0_4.index t = ![t.val / 33, t.val % 33, 0]) t

theorem xblk (c : Dev nD) (t : Fin cfg0.N) (j : S1x128x4096.Idx) :
    (iblk m c 0 t : S1x128x4096.Idx → EReal) j
      = at3 (V m c main_arg0) (t.val / 33) ((t.val % 33 - 1) * 128 + (j (1 : Fin 3)).val) (j (2 : Fin 3)).val := by
  have hj : (j (0 : Fin 3)).val < 1 := (j (0 : Fin 3)).isLt
  unfold iblk
  rw [View.read_apply]
  refine at3_of (V m c main_arg0) _ _ _ _ ?_ ?_ ?_
  · show win0_0.index t 0 * 1 + 1 * (j (0 : Fin 3)).val = _
    rw [at_x t]; show t.val / 33 * 1 + 1 * _ = _; omega
  · show win0_0.index t 1 * 128 + 1 * (j (1 : Fin 3)).val = _
    rw [at_x t]; show (t.val % 33 - 1) * 128 + 1 * _ = _; omega
  · show win0_0.index t 2 * 4096 + 1 * (j (2 : Fin 3)).val = _
    rw [at_x t]; show 0 * 4096 + 1 * _ = _; omega

theorem mblk (c : Dev nD) (t : Fin cfg0.N) (a : Fin 16) (k : Fin 4096) :
    (iblk m c 1 t : S16x4096.Idx → EReal) (ix2 a k) = at2 (M := 16) (N := 4096) (V m c main_arg1) a.val k.val := by
  unfold iblk
  rw [View.read_apply]
  refine at2_of (M := 16) (N := 4096) (V m c main_arg1) _ _ _ ?_ ?_
  · show win0_1.index t 0 * 16 + 1 * a.val = _
    rw [at_m t]; show 0 * 16 + 1 * _ = _; omega
  · show win0_1.index t 1 * 4096 + 1 * k.val = _
    rw [at_m t]; show 0 * 4096 + 1 * _ = _; omega

theorem gblk (c : Dev nD) (t : Fin cfg0.N) (k : Fin 4096) : (iblk m c 2 t : S1x4096.Idx → EReal) (ix2 (0 : Fin 1) k) = gAt m c k := by
  unfold iblk gAt
  rw [View.read_apply]
  refine (at2_of (M := 1) (N := 4096) (V m c main_v0) _ 0 k.val ?_ ?_).trans (at2_lt _ _ _ Nat.one_pos k.isLt)
  · show win0_2.index t 0 * 1 + 1 * 0 = _
    rw [at_g t]; rfl
  · show win0_2.index t 1 * 4096 + 1 * k.val = _
    rw [at_g t]; show 0 * 4096 + 1 * _ = _; omega

theorem bblk (c : Dev nD) (t : Fin cfg0.N) (k : Fin 4096) : (iblk m c 3 t : S1x4096.Idx → EReal) (ix2 (0 : Fin 1) k) = bAt m c k := by
  unfold iblk bAt
  rw [View.read_apply]
  refine (at2_of (M := 1) (N := 4096) (V m c main_v1) _ 0 k.val ?_ ?_).trans (at2_lt _ _ _ Nat.one_pos k.isLt)
  · show win0_3.index t 0 * 1 + 1 * 0 = _
    rw [at_b t]; rfl
  · show win0_3.index t 1 * 4096 + 1 * k.val = _
    rw [at_b t]; show 0 * 4096 + 1 * _ = _; omega

/-- A point's block of the result, at an index of the block. -/
def blockAt (c : Dev nD) (t : Fin cfg0.N) (y : S1x128x4096.Idx) : EReal := entry m c (t.val / 33) (t.val % 33 * 128 + (y (1 : Fin 3)).val) (y (2 : Fin 3))

/-- The sixteen rows at `o` of a later point's block, stored. -/
theorem stretch (c : Dev nD) (t : Fin cfg0.N) (h0 : ¬t.val % 33 = 0) (o : Nat)
    (h : ∀ a, (![0, o, 0] : Fin 3 → Nat) a + (![1, 16, 4096] : Fin 3 → Nat) a ≤ S1x128x4096.size a) (x : S1x16x4096.Idx) :
    (k0_pay6 (F := Ideal) (k0_pay1 (iblk m c 2 t)) (k0_pay2 (iblk m c 3 t))
        (View.ld (Val := Elt Ideal) (iblk m c 0 t) (Rect.unit (s := S1x128x4096) ![0, o, 0] ![1, 16, 4096] h)) x : EReal)
      = blockAt m c t ((Rect.unit (s := S1x128x4096) ![0, o, 0] ![1, 16, 4096] h).emb x) := by
  obtain ⟨z, a, k, rfl⟩ : ∃ (z : Fin 1) (a : Fin 16) (k : Fin 4096), x = ix3 z a k := ⟨x (0 : Fin 3), x (1 : Fin 3), x (2 : Fin 3), ValueIdx.eq_ix3 x⟩
  obtain rfl : z = 0 := Subsingleton.elim _ _
  have hk : ∀ k : Fin 4096, ((Rect.unit (s := S1x128x4096) ![0, o, 0] ![1, 16, 4096] h).emb (ix3 (0 : Fin 1) a k) (2 : Fin 3)) = k := fun k =>
    Fin.ext (by show 0 + 1 * k.val = k.val; omega)
  have hr : ∀ k : Fin 4096, ((Rect.unit (s := S1x128x4096) ![0, o, 0] ![1, 16, 4096] h).emb (ix3 (0 : Fin 1) a k) (1 : Fin 3)).val = o + a.val := fun k => by
    show o + 1 * a.val = o + a.val; omega
  rw [rows_at]
  unfold blockAt entry normRow
  rw [hk, hr, if_neg (by omega), if_neg (by omega)]
  have ex : (fun k : Fin 4096 => (View.ld (Val := Elt Ideal) (iblk m c 0 t) (Rect.unit (s := S1x128x4096) ![0, o, 0] ![1, 16, 4096] h)
        (ix3 (0 : Fin 1) a k) : EReal)) = fun k => at3 (V m c main_arg0) (t.val / 33) (t.val % 33 * 128 + (o + a.val) - 128) k.val := funext fun j => by
    refine (xblk m c t ((Rect.unit (s := S1x128x4096) ![0, o, 0] ![1, 16, 4096] h).emb (ix3 (0 : Fin 1) a j))).trans ?_
    rw [hk, hr, show (t.val % 33 - 1) * 128 + (o + a.val) = t.val % 33 * 128 + (o + a.val) - 128 by omega]
  rw [ex, show (fun k : Fin 4096 => (iblk m c 2 t : S1x4096.Idx → EReal) (ix2 (0 : Fin 1) k)) = gAt m c from funext (gblk m c t),
    show (fun k : Fin 4096 => (iblk m c 3 t : S1x4096.Idx → EReal) (ix2 (0 : Fin 1) k)) = bAt m c from funext (bblk m c t)]

/-- The leading rows, stored at a sequence's first point. -/
theorem lead (c : Dev nD) (t : Fin cfg0.N) (h0 : t.val % 33 = 0)
    (h : ∀ a, (![0, 112, 0] : Fin 3 → Nat) a + (![1, 16, 4096] : Fin 3 → Nat) a ≤ S1x128x4096.size a) (x : S1x16x4096.Idx) :
    (k0_pay4 (F := Ideal) (iblk m c 2 t) (iblk m c 3 t) (iblk m c 1 t) x : EReal)
      = blockAt m c t ((Rect.unit (s := S1x128x4096) ![0, 112, 0] ![1, 16, 4096] h).emb x) := by
  obtain ⟨z, a, k, rfl⟩ : ∃ (z : Fin 1) (a : Fin 16) (k : Fin 4096), x = ix3 z a k := ⟨x (0 : Fin 3), x (1 : Fin 3), x (2 : Fin 3), ValueIdx.eq_ix3 x⟩
  obtain rfl : z = 0 := Subsingleton.elim _ _
  have hk : ((Rect.unit (s := S1x128x4096) ![0, 112, 0] ![1, 16, 4096] h).emb (ix3 (0 : Fin 1) a k) (2 : Fin 3)) = k :=
    Fin.ext (by show 0 + 1 * k.val = k.val; omega)
  have hr : ((Rect.unit (s := S1x128x4096) ![0, 112, 0] ![1, 16, 4096] h).emb (ix3 (0 : Fin 1) a k) (1 : Fin 3)).val = 112 + a.val := by
    show 112 + 1 * a.val = 112 + a.val; omega
  rw [lead_at]
  unfold blockAt entry normRow
  rw [hk, hr, if_neg (by omega), if_pos (by omega), show t.val % 33 * 128 + (112 + a.val) - 112 = a.val by omega]
  rw [show (fun k : Fin 4096 => (iblk m c 1 t : S16x4096.Idx → EReal) (ix2 a k)) = fun k => at2 (M := 16) (N := 4096) (V m c main_arg1) a.val k.val from
      funext (mblk m c t a),
    show (fun k : Fin 4096 => (iblk m c 2 t : S1x4096.Idx → EReal) (ix2 (0 : Fin 1) k)) = gAt m c from funext (gblk m c t),
    show (fun k : Fin 4096 => (iblk m c 3 t : S1x4096.Idx → EReal) (ix2 (0 : Fin 1) k)) = bAt m c from funext (bblk m c t)]

/-- The zeros above them. -/
theorem zeros (c : Dev nD) (t : Fin cfg0.N) (h0 : t.val % 33 = 0)
    (h : ∀ a, (![0, 0, 0] : Fin 3 → Nat) a + (![1, 112, 4096] : Fin 3 → Nat) a ≤ S1x128x4096.size a) (x : S1x112x4096.Idx) :
    (k0_pay3 (F := Ideal) x : EReal) = blockAt m c t ((Rect.unit (s := S1x128x4096) ![0, 0, 0] ![1, 112, 4096] h).emb x) := by
  have hx : (x (1 : Fin 3)).val < 112 := (x (1 : Fin 3)).isLt
  have hr : ((Rect.unit (s := S1x128x4096) ![0, 0, 0] ![1, 112, 4096] h).emb x (1 : Fin 3)).val = (x (1 : Fin 3)).val := by
    show 0 + 1 * (x (1 : Fin 3)).val = _; omega
  unfold blockAt entry normRow
  rw [hr, if_pos (by omega)]
  exact Ideal.ofBits_zero_bf16

theorem first (c : Dev nD) (t : Fin cfg0.N) (h0 : t.val % 33 = 0) : (outsAt0 m c t.val t.isLt : S1x128x4096.Idx → EReal) = blockAt m c t := by
  rw [outsAt0_A m c t h0 (by omega)]
  frame_out
  refine funext fun y => View.canon_apply_of_pieces (Val := Elt Ideal) (e := .bf16) (blockAt m c t) _ ?_ y (View.cover_of_tiledBy _ ![1, 16, 4096] (by sl_kernel_rfl) y)
  exact List.forall_mem_cons.2 ⟨fun x => lead m c t h0 inb_S1x128x4096_S1x16x4096_0_112_0 x,
    List.forall_mem_cons.2 ⟨fun x => zeros m c t h0 inb_S1x128x4096_S1x112x4096_0_0_0 x, fun p hp => absurd hp List.not_mem_nil⟩⟩

theorem later (c : Dev nD) (t : Fin cfg0.N) (h0 : ¬t.val % 33 = 0) : (outsAt0 m c t.val t.isLt : S1x128x4096.Idx → EReal) = blockAt m c t := by
  rw [outsAt0_B m c t h0 (by omega)]
  frame_out
  refine funext fun y => View.canon_apply_of_pieces (Val := Elt Ideal) (e := .bf16) (blockAt m c t) _ ?_ y
    (View.cover_of_tiledBy _ ![1, 16, 4096] (by sl_kernel_rfl) y)
  iterate 8 refine List.forall_mem_cons.2 ⟨fun x => stretch m c t h0 _ _ x, ?_⟩
  exact fun p hp => absurd hp List.not_mem_nil

theorem final (c : Dev nD) : (dats m 0 c).arrAt 4 cfg0.N = G m c := by
  refine (dats m 0 c).arrAt_eq_of_covers 4 (G m c) (by decide +kernel) fun t hf y => ?_
  rw [after0_4, show (outsAt0 m c t.val t.isLt : S1x128x4096.Idx → EReal) = blockAt m c t from
    if h0 : t.val % 33 = 0 then first m c t h0 else later m c t h0]
  have hy : (y (0 : Fin 3)).val < 1 := (y (0 : Fin 3)).isLt
  have e0 : (((cfg0.win 4).blk t).view.emb y (0 : Fin 3)).val = t.val / 33 := by
    show win0_4.index t 0 * 1 + 1 * (y (0 : Fin 3)).val = _
    rw [at_o t]; show t.val / 33 * 1 + 1 * _ = _; omega
  have e1 : (((cfg0.win 4).blk t).view.emb y (1 : Fin 3)).val = t.val % 33 * 128 + (y (1 : Fin 3)).val := by
    show win0_4.index t 1 * 128 + 1 * (y (1 : Fin 3)).val = _
    rw [at_o t]; show t.val % 33 * 128 + 1 * _ = _; omega
  have e2 : (((cfg0.win 4).blk t).view.emb y (2 : Fin 3)).val = (y (2 : Fin 3)).val := by
    show win0_4.index t 2 * 4096 + 1 * (y (2 : Fin 3)).val = _
    rw [at_o t]; show 0 * 4096 + 1 * _ = _; omega
  show entry m c (t.val / 33) (t.val % 33 * 128 + (y (1 : Fin 3)).val) (y (2 : Fin 3))
    = entry m c (((cfg0.win 4).blk t).view.emb y (0 : Fin 3)).val (((cfg0.win 4).blk t).view.emb y (1 : Fin 3)).val (((cfg0.win 4).blk t).view.emb y (2 : Fin 3))
  rw [e0, e1]
  exact congrArg (entry m c _ _) (Fin.ext e2.symm)

/-! ## What the host prepares -/

theorem gAt_eq (c : Dev nD) : gAt m c = fun k => (m ((c : Thread nD τ).loc main_arg2) : S4096.Idx → EReal) (ix1 k) := by
  have e : (V m c main_v0 : S1x4096.Idx → EReal) = shapeCast S1x4096 (m ((c : Thread nD τ).loc main_arg2) : S4096.Idx → EReal) shapeCasts_S4096_S1x4096 := by
    show after hostOps0 (fun b => m (c, b)) main_v0 = _
    simp only [hostOps0]
    after_results <;> rfl
  funext k
  unfold gAt
  rw [e]
  exact shapeCast_apply _ _ _ _ (by
    show (S4096.rowMajor (ix1 k)).val = (S1x4096.rowMajor (ix2 (0 : Fin 1) k)).val; rw [Shape.rowMajor_val_one, Shape.rowMajor_val_two]; show k.val = 0 * 4096 + k.val; omega)

theorem bAt_eq (c : Dev nD) : bAt m c = fun k => (m ((c : Thread nD τ).loc main_arg3) : S4096.Idx → EReal) (ix1 k) := by
  have e : (V m c main_v1 : S1x4096.Idx → EReal) = shapeCast S1x4096 (m ((c : Thread nD τ).loc main_arg3) : S4096.Idx → EReal) shapeCasts_S4096_S1x4096 := by
    show after hostOps0 (fun b => m (c, b)) main_v1 = _
    simp only [hostOps0]
    after_results <;> rfl
  funext k
  unfold bAt
  rw [e]
  exact shapeCast_apply _ _ _ _ (by
    show (S4096.rowMajor (ix1 k)).val = (S1x4096.rowMajor (ix2 (0 : Fin 1) k)).val; rw [Shape.rowMajor_val_one, Shape.rowMajor_val_two]; show k.val = 0 * 4096 + k.val; omega)

/-! ## The claims -/

theorem bodies_same {F : FTy → Type} [FloatOps F] : Cert.KernelIn.defs₀ (F := F) = defs₀ := by
  unfold Cert.KernelIn.defs₀ defs₀
  refine congrArg Defs.onTc (funext fun l => ?_)
  match l with
  | ⟨0, _⟩ => rfl

theorem tables_same {F : FTy → Type} [FloatOps F] : Cert.KernelIn.defs (F := F) = defs := by
  unfold Cert.KernelIn.defs defs
  rw [bodies_same]; rfl

theorem frame : Cert.quiescent_KernelInIdeal := fun m ρ _ => Gen.frame (F := Ideal) m ρ

theorem frame_bits : Cert.quiescent_KernelIn := fun m ρ _ => by
  have h := Gen.frame (F := Bits) m ρ
  rw [← tables_same] at h
  exact h

theorem frame_reference : Cert.quiescent_ReferenceInIdeal := fun m ρ _ =>
  (θ_run Cert.ReferenceInIdeal.defs _ _).mono
    (fun r h => ⟨fun c => (h c).2, sem_eq_zero_of_no_sems (by decide) r.2⟩) (Cert.ReferenceInIdeal.Value.run (F := Ideal) m ρ)

end Cert.KernelInIdeal.Hand

namespace Cert.ReferenceInIdeal.Hand

open Cert.ReferenceInIdeal Cert.ReferenceInIdeal.Gen Cert.Hand Cert.KernelInIdeal.Hand
open Idealize.ShloMosaic hiding ix1 ix2 ix3
open Idealize.ShloMosaic.TcCoe Idealize.ShloMosaic.ValueIdx Idealize.ShloMosaic.StableHlo

/-- The leading rows, once for each sequence. -/
abbrev tops (top : FVec Ideal S16x4096 .f32) : FVec Ideal S4x16x4096 .f32 :=
  broadcastInDim S4x16x4096 ![0, 1, 2] bcast_S1x16x4096_S4x16x4096_0_1_2 (broadcastInDim S1x16x4096 ![1, 2] bcast_S16x4096_S1x16x4096_1_2 top)

/-- The leading rows above each sequence. -/
abbrev joined (x : FVec Ideal S4x4096x4096 .f32) (top : FVec Ideal S16x4096 .f32) : FVec Ideal S4x4112x4096 .f32 :=
  concatenate S4x4112x4096 1 [⟨S4x16x4096, tops top⟩, ⟨S4x4096x4096, x⟩]
    concatenates_S4x16x4096_S4x4096x4096_S4x4112x4096_d1

theorem joined_lead (x : FVec Ideal S4x4096x4096 .f32) (top : FVec Ideal S16x4096 .f32) (b : Fin 4) (q : Fin 4112) (k : Fin 4096) (hq : q.val < 16) :
    joined x top (ix3 b q k) = at2 (M := 16) (N := 4096) top q.val k.val := by
  refine (concatenate_pair_apply_left (t := S4x4112x4096) (1 : Fin 3) (tops top) x
    concatenates_S4x16x4096_S4x4096x4096_S4x4112x4096_d1 (ix3 b q k) rfl (ix3 b (⟨q.val, hq⟩ : Fin 16) k) fun a => ?_).trans ?_
  · match a with | ⟨0, _⟩ => rfl | ⟨1, _⟩ => rfl | ⟨2, _⟩ => rfl
  rw [at2_lt _ _ _ hq k.isLt]
  refine (broadcastInDim_apply _ _ _ _ (ix3 (0 : Fin 1) (⟨q.val, hq⟩ : Fin 16) k) fun a => ?_).trans (broadcastInDim_apply _ _ _ _ _ fun a => ?_)
  · match a with | ⟨0, _⟩ => rfl | ⟨1, _⟩ => rfl | ⟨2, _⟩ => rfl
  · match a with | ⟨0, _⟩ => rfl | ⟨1, _⟩ => rfl

theorem joined_rest (x : FVec Ideal S4x4096x4096 .f32) (top : FVec Ideal S16x4096 .f32) (b : Fin 4) (q : Fin 4112) (k : Fin 4096) (hq : 16 ≤ q.val) :
    joined x top (ix3 b q k) = at3 x b.val (q.val - 16) k.val := by
  refine (concatenate_pair_apply_right (t := S4x4112x4096) (1 : Fin 3) (tops top) x
    concatenates_S4x16x4096_S4x4096x4096_S4x4112x4096_d1 (ix3 b q k) rfl rfl (ix3 b (⟨q.val - 16, by omega⟩ : Fin 4096) k) (fun a ha => ?_) ?_).trans
    (at3_of x _ _ _ _ rfl rfl rfl)
  · match a, ha with
    | ⟨0, _⟩, _ => rfl
    | ⟨1, _⟩, h => exact absurd rfl h
    | ⟨2, _⟩, _ => rfl
  · show q.val - 16 + 16 = q.val; omega

/-- The stack normalised. -/
abbrev rNorm (v : FVec Ideal S4x4112x4096 .f32) (g b : FVec Ideal S4096 .f32) : FVec Ideal S4x4112x4096 .f32 :=
  stackNorm reducesTo_S4x4112x4096_S4x4112_d2 h_S_ bcast_S4x4112_S4x4112x1_0_1 bcast_S_S4x4112x1 bcast_S4x4112x1_S4x4112x4096_0_1_2
    bcast_S4096_S1x1x4096_2 bcast_S1x1x4096_S4x4112x4096_0_1_2 v g b

/-- The reference's result, entry by entry. -/
theorem result_at (x : FVec Ideal S4x4096x4096 .f32) (top : FVec Ideal S16x4096 .f32) (g e : FVec Ideal S4096 .f32) (b : Fin 4) (r : Fin 4224) (k : Fin 4096) :
    truncf .bf16 (pad S4x4224x4096 ![0, 112, 0] ![0, 0, 0] ![0, 0, 0] (rNorm (joined x top) g e)
        (sitofp (F := Ideal) .f32 (constantI S_ 32 0#32)) pads_S4x4112x4096_S4x4224x4096_000_11200_000 h_S_) bitsLt_bf16_f32 (ix3 b r k)
      = normRow x top (fun k => g (ix1 k)) (fun k => e (ix1 k)) b.val r.val k := by
  refine Eq.trans (?_ : _ = pad S4x4224x4096 ![0, 112, 0] ![0, 0, 0] ![0, 0, 0] (rNorm (joined x top) g e)
        (sitofp (F := Ideal) .f32 (constantI S_ 32 0#32)) pads_S4x4112x4096_S4x4224x4096_000_11200_000 h_S_ (ix3 b r k)) ?_
  · rfl
  unfold normRow
  by_cases h : r.val < 112
  · rw [if_pos h]
    refine (pad_apply_of_not_inside _ _ _ _ _ _ _ _ (1 : Fin 3) fun hi => ?_).trans ?_
    · have := hi.1
      change 112 ≤ r.val at this
      omega
    · show ((((0#32 : BitVec 32).toInt : ℝ)) : EReal) = 0
      simp
  · rw [if_neg h]
    refine (pad_apply_of_inside _ _ _ _ _ _ _ _ (ix3 b (⟨r.val - 112, by omega⟩ : Fin 4112) k) fun a => ?_).trans ?_
    · match a with
      | ⟨0, _⟩ => show b.val = 0 + b.val * (0 + 1); omega
      | ⟨1, _⟩ => show r.val = 112 + (r.val - 112) * (0 + 1); omega
      | ⟨2, _⟩ => show k.val = 0 + k.val * (0 + 1); omega
    refine (stackNorm_at _ _ _ _ _ _ _ _ _ _ _ _ k).trans ?_
    by_cases h' : r.val < 128
    · rw [if_pos h']
      refine congrArg (fun v => normed v _ _ k) (funext fun k => joined_lead x top b _ k ?_)
      show r.val - 112 < 16; omega
    · rw [if_neg h']
      refine congrArg (fun v => normed v _ _ k) (funext fun k => (joined_rest x top b _ k ?_).trans ?_)
      · show 16 ≤ r.val - 112; omega
      · show at3 x b.val (r.val - 112 - 16) k.val = _
        rw [show r.val - 112 - 16 = r.val - 128 by omega]

end Cert.ReferenceInIdeal.Hand

namespace Cert.KernelInIdeal.Hand

open Cert.KernelInIdeal.Gen Cert.Hand
open Idealize.ShloMosaic hiding ix1 ix2 ix3
open Idealize.ShloMosaic.TcCoe Idealize.ShloMosaic.ValueIdx Idealize.ShloMosaic.StableHlo
open Idealize.SL Idealize.SL.Sem

theorem algebraic : Cert.algebraic_KernelInIdeal_ReferenceInIdeal := by
  intro m ρ m' ρ' _ hargs
  refine ⟨fun c => G m c, ?_, ?_⟩
  · exact (θ_run defs _ _).mono (fun _ h c => ⟨(h c).1.trans (final m c), (h c).2⟩) (Value.run_blocks m ρ)
  · refine (θ_run Cert.ReferenceInIdeal.defs _ _).mono (fun r h c => ⟨(h c).1.trans ?_, (h c).2⟩)
      (Cert.ReferenceInIdeal.Value.run (F := Ideal) m' ρ')
    obtain ⟨e0, e1, e2, e3⟩ := hargs c
    rw [e0, e1, e2, e3]
    funext o
    obtain ⟨b, r, k, rfl⟩ : ∃ (b : Fin 4) (r : Fin 4224) (k : Fin 4096), o = ix3 b r k := ⟨o (0 : Fin 3), o (1 : Fin 3), o (2 : Fin 3), ValueIdx.eq_ix3 o⟩
    refine (Cert.ReferenceInIdeal.Hand.result_at _ _ _ _ b r k).trans ?_
    show _ = entry m c b.val r.val k
    unfold entry
    rw [gAt_eq, bAt_eq, V_main_arg0, V_main_arg1]

end Cert.KernelInIdeal.Hand
end
-- ==== Proof.lean ====
/- The certificate: each claim from the module that proves it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.KernelGates
public import proofs.«01_k».proof.Proof.Gen.KernelConv
public import proofs.«01_k».proof.Proof.Gen.KernelOut
public import proofs.«01_k».proof.Proof.Gen.KernelZ
public import proofs.«01_k».proof.Proof.Gen.KernelGate
public import proofs.«01_k».proof.Proof.Gen.KernelLn
public import proofs.«01_k».proof.Proof.Gen.KernelDt
public import proofs.«01_k».proof.Proof.Gen.KernelAct
public import proofs.«01_k».proof.Proof.Gen.KernelIn
public import proofs.«01_k».proof.Proof.Gen.KernelInIdeal.Value
public import proofs.«01_k».proof.Proof.Gen.ReferenceInIdeal.Run
public import proofs.«01_k».proof.Proof.Gen.KernelDtIdeal.Value
public import proofs.«01_k».proof.Proof.Gen.KernelActIdeal.Value
public import proofs.«01_k».proof.Proof.Gen.ReferenceDtIdeal.Run
public import proofs.«01_k».proof.Proof.Gen.ReferenceActIdeal.Run
public import proofs.«01_k».proof.Proof.Gen.Pre_finite_ln
public import proofs.«01_k».proof.Proof.MergeValue
public import proofs.«01_k».proof.Proof.SameText
public import proofs.«01_k».proof.Proof.GatesValue
public import proofs.«01_k».proof.Proof.ConvValue
public import proofs.«01_k».proof.Proof.OutValue
public import proofs.«01_k».proof.Proof.ZValue
public import proofs.«01_k».proof.Proof.GateValue
public import proofs.«01_k».proof.Proof.LnValue
public import proofs.«01_k».proof.Proof.DtValue
public import proofs.«01_k».proof.Proof.ActValue
public import proofs.«01_k».proof.Proof.InValue

@[expose] public section

noncomputable section

namespace Cert.Proof

theorem claim : Cert.Claim := ⟨Cert.Kernel.Gen.facts, Cert.KernelIdeal.Gen.facts, Cert.ReferenceIdeal.Gen.facts,
  Cert.KernelGates.Gen.facts, Cert.KernelGatesIdeal.Gen.facts, Cert.ReferenceGatesIdeal.Gen.facts,
  Cert.KernelConv.Gen.facts, Cert.KernelConvIdeal.Gen.facts, Cert.ReferenceConvIdeal.Gen.facts,
  Cert.KernelOut.Gen.facts, Cert.KernelOutIdeal.Gen.facts, Cert.ReferenceOutIdeal.Gen.facts,
  Cert.KernelZ.Gen.facts, Cert.KernelZIdeal.Gen.facts, Cert.ReferenceZIdeal.Gen.facts,
  Cert.KernelGate.Gen.facts, Cert.KernelGateIdeal.Gen.facts, Cert.ReferenceGateIdeal.Gen.facts,
  Cert.KernelLn.Gen.facts, Cert.KernelLnIdeal.Gen.facts, Cert.ReferenceLnIdeal.Gen.facts,
  Cert.KernelDt.Gen.facts, Cert.KernelDtIdeal.Gen.facts, Cert.ReferenceDtIdeal.Gen.facts,
  Cert.KernelAct.Gen.facts, Cert.KernelActIdeal.Gen.facts, Cert.ReferenceActIdeal.Gen.facts,
  Cert.KernelIn.Gen.facts, Cert.KernelInIdeal.Gen.facts, Cert.ReferenceInIdeal.Gen.facts,
  Cert.Pre_finite_h.Gen.facts, Cert.Pre_finite_ln.Gen.facts,
  Cert.KernelIdeal.Hand.frame_kernel, Cert.KernelIdeal.Hand.frame, Cert.KernelIdeal.Hand.frame_reference,
  Cert.KernelGatesIdeal.Hand.frame_bits, Cert.KernelGatesIdeal.Hand.frame, Cert.KernelGatesIdeal.Hand.frame_reference,
  Cert.KernelConvIdeal.Hand.frame_bits, Cert.KernelConvIdeal.Hand.frame, Cert.KernelConvIdeal.Hand.frame_reference,
  Cert.KernelOutIdeal.Hand.frame_bits, Cert.KernelOutIdeal.Hand.frame, Cert.KernelOutIdeal.Hand.frame_reference,
  Cert.KernelZIdeal.Hand.frame_bits, Cert.KernelZIdeal.Hand.frame, fun m ρ _ => Cert.KernelZIdeal.Hand.frame m ρ trivial,
  Cert.KernelZIdeal.Hand.frame_reference, fun m ρ _ => Cert.KernelZIdeal.Hand.frame_reference m ρ trivial,
  Cert.KernelGateIdeal.Hand.frame_bits, Cert.KernelGateIdeal.Hand.frame, fun m ρ _ => Cert.KernelGateIdeal.Hand.frame m ρ trivial,
  Cert.KernelGateIdeal.Hand.frame_reference, fun m ρ _ => Cert.KernelGateIdeal.Hand.frame_reference m ρ trivial,
  Cert.KernelLnIdeal.Hand.frame_bits, Cert.KernelLnIdeal.Hand.frame, Cert.KernelLnIdeal.Hand.frame_reference,
  Cert.KernelDtIdeal.Hand.frame_bits, Cert.KernelDtIdeal.Hand.frame, Cert.KernelDtIdeal.Hand.frame_reference,
  Cert.KernelActIdeal.Hand.frame_bits, Cert.KernelActIdeal.Hand.frame, fun m ρ _ => Cert.KernelActIdeal.Hand.frame m ρ trivial,
  Cert.KernelActIdeal.Hand.frame_reference, fun m ρ _ => Cert.KernelActIdeal.Hand.frame_reference m ρ trivial,
  Cert.KernelInIdeal.Hand.frame_bits, Cert.KernelInIdeal.Hand.frame, Cert.KernelInIdeal.Hand.frame_reference,
  trivial, Cert.KernelIdeal.Hand.algebraic,
  trivial, Cert.KernelGatesIdeal.Hand.algebraic,
  trivial, Cert.KernelConvIdeal.Hand.algebraic,
  trivial, Cert.KernelOutIdeal.Hand.algebraic,
  trivial, Cert.KernelZIdeal.Hand.algebraic,
  trivial, Cert.KernelGateIdeal.Hand.algebraic,
  trivial, Cert.KernelLnIdeal.Hand.algebraic,
  trivial, Cert.KernelDtIdeal.Hand.algebraic,
  trivial, Cert.KernelActIdeal.Hand.algebraic,
  trivial, Cert.KernelInIdeal.Hand.algebraic⟩

end Cert.Proof

end
